-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3)
      ∧ r.2.mem ((c.tc : Thread Cert.MlpF.nD Cert.MlpF.τ).loc Cert.MlpF.main_arg4) = m ((c.tc : Thread Cert.MlpF.nD Cert.MlpF.τ).loc Cert.MlpF.main_arg4)
      ∧ r.2.mem ((c.tc : Thread Cert.MlpF.nD Cert.MlpF.τ).loc Cert.MlpF.main_arg5) = m ((c.tc : Thread Cert.MlpF.nD Cert.MlpF.τ).loc Cert.MlpF.main_arg5))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
      ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4)
      ∧ r.2.mem ((c.tc : Thread Cert.OutF.nD Cert.OutF.τ).loc Cert.OutF.main_arg5) = m ((c.tc : Thread Cert.OutF.nD Cert.OutF.τ).loc Cert.OutF.main_arg5)
      ∧ r.2.mem ((c.tc : Thread Cert.OutF.nD Cert.OutF.τ).loc Cert.OutF.main_arg6) = m ((c.tc : Thread Cert.OutF.nD Cert.OutF.τ).loc Cert.OutF.main_arg6)
      ∧ r.2.mem ((c.tc : Thread Cert.OutF.nD Cert.OutF.τ).loc Cert.OutF.main_arg7) = m ((c.tc : Thread Cert.OutF.nD Cert.OutF.τ).loc Cert.OutF.main_arg7)
      ∧ r.2.mem ((c.tc : Thread Cert.OutF.nD Cert.OutF.τ).loc Cert.OutF.main_arg8) = m ((c.tc : Thread Cert.OutF.nD Cert.OutF.τ).loc Cert.OutF.main_arg8)
      ∧ r.2.mem ((c.tc : Thread Cert.OutF.nD Cert.OutF.τ).loc Cert.OutF.main_arg9) = m ((c.tc : Thread Cert.OutF.nD Cert.OutF.τ).loc Cert.OutF.main_arg9)
      ∧ r.2.mem ((c.tc : Thread Cert.OutF.nD Cert.OutF.τ).loc Cert.OutF.main_arg10) = m ((c.tc : Thread Cert.OutF.nD Cert.OutF.τ).loc Cert.OutF.main_arg10)
      ∧ r.2.mem ((c.tc : Thread Cert.OutF.nD Cert.OutF.τ).loc Cert.OutF.main_arg11) = m ((c.tc : Thread Cert.OutF.nD Cert.OutF.τ).loc Cert.OutF.main_arg11)
      ∧ r.2.mem ((c.tc : Thread Cert.OutF.nD Cert.OutF.τ).loc Cert.OutF.main_arg12) = m ((c.tc : Thread Cert.OutF.nD Cert.OutF.τ).loc Cert.OutF.main_arg12))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
      ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
      ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6)
      ∧ r.2.mem ((c.tc : Thread Cert.OutFIdeal.nD Cert.OutFIdeal.τ).loc Cert.OutFIdeal.main_arg7) = m ((c.tc : Thread Cert.OutFIdeal.nD Cert.OutFIdeal.τ).loc Cert.OutFIdeal.main_arg7)
      ∧ r.2.mem ((c.tc : Thread Cert.OutFIdeal.nD Cert.OutFIdeal.τ).loc Cert.OutFIdeal.main_arg8) = m ((c.tc : Thread Cert.OutFIdeal.nD Cert.OutFIdeal.τ).loc Cert.OutFIdeal.main_arg8)
      ∧ r.2.mem ((c.tc : Thread Cert.OutFIdeal.nD Cert.OutFIdeal.τ).loc Cert.OutFIdeal.main_arg9) = m ((c.tc : Thread Cert.OutFIdeal.nD Cert.OutFIdeal.τ).loc Cert.OutFIdeal.main_arg9)
      ∧ r.2.mem ((c.tc : Thread Cert.OutFIdeal.nD Cert.OutFIdeal.τ).loc Cert.OutFIdeal.main_arg10) = m ((c.tc : Thread Cert.OutFIdeal.nD Cert.OutFIdeal.τ).loc Cert.OutFIdeal.main_arg10)
      ∧ r.2.mem ((c.tc : Thread Cert.OutFIdeal.nD Cert.OutFIdeal.τ).loc Cert.OutFIdeal.main_arg11) = m ((c.tc : Thread Cert.OutFIdeal.nD Cert.OutFIdeal.τ).loc Cert.OutFIdeal.main_arg11)
      ∧ r.2.mem ((c.tc : Thread Cert.OutFIdeal.nD Cert.OutFIdeal.τ).loc Cert.OutFIdeal.main_arg12) = m ((c.tc : Thread Cert.OutFIdeal.nD Cert.OutFIdeal.τ).loc Cert.OutFIdeal.main_arg12))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4)
      ∧ r.2.mem ((c.tc : Thread Cert.OutFRefIdeal.nD Cert.OutFRefIdeal.τ).loc Cert.OutFRefIdeal.main_arg5) = m ((c.tc : Thread Cert.OutFRefIdeal.nD Cert.OutFRefIdeal.τ).loc Cert.OutFRefIdeal.main_arg5)
      ∧ r.2.mem ((c.tc : Thread Cert.OutFRefIdeal.nD Cert.OutFRefIdeal.τ).loc Cert.OutFRefIdeal.main_arg6) = m ((c.tc : Thread Cert.OutFRefIdeal.nD Cert.OutFRefIdeal.τ).loc Cert.OutFRefIdeal.main_arg6)
      ∧ r.2.mem ((c.tc : Thread Cert.OutFRefIdeal.nD Cert.OutFRefIdeal.τ).loc Cert.OutFRefIdeal.main_arg7) = m ((c.tc : Thread Cert.OutFRefIdeal.nD Cert.OutFRefIdeal.τ).loc Cert.OutFRefIdeal.main_arg7)
      ∧ r.2.mem ((c.tc : Thread Cert.OutFRefIdeal.nD Cert.OutFRefIdeal.τ).loc Cert.OutFRefIdeal.main_arg8) = m ((c.tc : Thread Cert.OutFRefIdeal.nD Cert.OutFRefIdeal.τ).loc Cert.OutFRefIdeal.main_arg8)
      ∧ r.2.mem ((c.tc : Thread Cert.OutFRefIdeal.nD Cert.OutFRefIdeal.τ).loc Cert.OutFRefIdeal.main_arg9) = m ((c.tc : Thread Cert.OutFRefIdeal.nD Cert.OutFRefIdeal.τ).loc Cert.OutFRefIdeal.main_arg9)
      ∧ r.2.mem ((c.tc : Thread Cert.OutFRefIdeal.nD Cert.OutFRefIdeal.τ).loc Cert.OutFRefIdeal.main_arg10) = m ((c.tc : Thread Cert.OutFRefIdeal.nD Cert.OutFRefIdeal.τ).loc Cert.OutFRefIdeal.main_arg10)
      ∧ r.2.mem ((c.tc : Thread Cert.OutFRefIdeal.nD Cert.OutFRefIdeal.τ).loc Cert.OutFRefIdeal.main_arg11) = m ((c.tc : Thread Cert.OutFRefIdeal.nD Cert.OutFRefIdeal.τ).loc Cert.OutFRefIdeal.main_arg11)
      ∧ r.2.mem ((c.tc : Thread Cert.OutFRefIdeal.nD Cert.OutFRefIdeal.τ).loc Cert.OutFRefIdeal.main_arg12) = m ((c.tc : Thread Cert.OutFRefIdeal.nD Cert.OutFRefIdeal.τ).loc Cert.OutFRefIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v35_0)) (v1 : (c : Dev Cert.RetIdeal.nD) → Buf (Elt Ideal) ((c.tc : Thread Cert.RetIdeal.nD Cert.RetIdeal.τ).loc Cert.RetIdeal.main_v35_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v35_0) = v0 c
          ∧ r.2.mem ((c.tc : Thread Cert.RetIdeal.nD Cert.RetIdeal.τ).loc Cert.RetIdeal.main_v35_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v554) = v0 c
          ∧ r.2.mem ((c.tc : Thread Cert.RetRefIdeal.nD Cert.RetRefIdeal.τ).loc Cert.RetRefIdeal.main_v565) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v51) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v61) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v96) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_MlpF_MlpFIdeal : Prop :=
  True

def algebraic_MlpFIdeal_MlpFRefIdeal [hMlpFIdeal : Cert.MlpFIdeal.Facts] [hMlpFRefIdeal : Cert.MlpFRefIdeal.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)
      ∧ m' ((c.tc : Thread Cert.MlpFRefIdeal.nD Cert.MlpFRefIdeal.τ).loc Cert.MlpFRefIdeal.main_arg4) = m ((c.tc : Thread Cert.MlpFIdeal.nD Cert.MlpFIdeal.τ).loc Cert.MlpFIdeal.main_arg4)
      ∧ m' ((c.tc : Thread Cert.MlpFRefIdeal.nD Cert.MlpFRefIdeal.τ).loc Cert.MlpFRefIdeal.main_arg5) = m ((c.tc : Thread Cert.MlpFIdeal.nD Cert.MlpFIdeal.τ).loc Cert.MlpFIdeal.main_arg5)) →
    ∃ (v0 : (c : Dev Cert.MlpFIdeal.nD) → Buf (Elt Ideal) ((c.tc : Thread Cert.MlpFIdeal.nD Cert.MlpFIdeal.τ).loc Cert.MlpFIdeal.main_v2)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v2) = v0 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
          ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4)
          ∧ r.2.mem ((c.tc : Thread Cert.MlpFIdeal.nD Cert.MlpFIdeal.τ).loc Cert.MlpFIdeal.main_arg5) = m ((c.tc : Thread Cert.MlpFIdeal.nD Cert.MlpFIdeal.τ).loc Cert.MlpFIdeal.main_arg5))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v76) = v0 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3)
          ∧ r.2.mem ((c.tc : Thread Cert.MlpFRefIdeal.nD Cert.MlpFRefIdeal.τ).loc Cert.MlpFRefIdeal.main_arg4) = m' ((c.tc : Thread Cert.MlpFRefIdeal.nD Cert.MlpFRefIdeal.τ).loc Cert.MlpFRefIdeal.main_arg4)
          ∧ r.2.mem ((c.tc : Thread Cert.MlpFRefIdeal.nD Cert.MlpFRefIdeal.τ).loc Cert.MlpFRefIdeal.main_arg5) = m' ((c.tc : Thread Cert.MlpFRefIdeal.nD Cert.MlpFRefIdeal.τ).loc Cert.MlpFRefIdeal.main_arg5))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)
      ∧ m' ((c.tc : Thread Cert.OutFRefIdeal.nD Cert.OutFRefIdeal.τ).loc Cert.OutFRefIdeal.main_arg5) = m ((c.tc : Thread Cert.OutFIdeal.nD Cert.OutFIdeal.τ).loc Cert.OutFIdeal.main_arg5)
      ∧ m' ((c.tc : Thread Cert.OutFRefIdeal.nD Cert.OutFRefIdeal.τ).loc Cert.OutFRefIdeal.main_arg6) = m ((c.tc : Thread Cert.OutFIdeal.nD Cert.OutFIdeal.τ).loc Cert.OutFIdeal.main_arg6)
      ∧ m' ((c.tc : Thread Cert.OutFRefIdeal.nD Cert.OutFRefIdeal.τ).loc Cert.OutFRefIdeal.main_arg7) = m ((c.tc : Thread Cert.OutFIdeal.nD Cert.OutFIdeal.τ).loc Cert.OutFIdeal.main_arg7)
      ∧ m' ((c.tc : Thread Cert.OutFRefIdeal.nD Cert.OutFRefIdeal.τ).loc Cert.OutFRefIdeal.main_arg8) = m ((c.tc : Thread Cert.OutFIdeal.nD Cert.OutFIdeal.τ).loc Cert.OutFIdeal.main_arg8)
      ∧ m' ((c.tc : Thread Cert.OutFRefIdeal.nD Cert.OutFRefIdeal.τ).loc Cert.OutFRefIdeal.main_arg9) = m ((c.tc : Thread Cert.OutFIdeal.nD Cert.OutFIdeal.τ).loc Cert.OutFIdeal.main_arg9)
      ∧ m' ((c.tc : Thread Cert.OutFRefIdeal.nD Cert.OutFRefIdeal.τ).loc Cert.OutFRefIdeal.main_arg10) = m ((c.tc : Thread Cert.OutFIdeal.nD Cert.OutFIdeal.τ).loc Cert.OutFIdeal.main_arg10)
      ∧ m' ((c.tc : Thread Cert.OutFRefIdeal.nD Cert.OutFRefIdeal.τ).loc Cert.OutFRefIdeal.main_arg11) = m ((c.tc : Thread Cert.OutFIdeal.nD Cert.OutFIdeal.τ).loc Cert.OutFIdeal.main_arg11)
      ∧ m' ((c.tc : Thread Cert.OutFRefIdeal.nD Cert.OutFRefIdeal.τ).loc Cert.OutFRefIdeal.main_arg12) = m ((c.tc : Thread Cert.OutFIdeal.nD Cert.OutFIdeal.τ).loc Cert.OutFIdeal.main_arg12)) →
    ∃ (v0 : (c : Dev Cert.OutFIdeal.nD) → Buf (Elt Ideal) ((c.tc : Thread Cert.OutFIdeal.nD Cert.OutFIdeal.τ).loc Cert.OutFIdeal.main_v5)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v5) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
          ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5)
          ∧ r.2.mem ((c.tc : Thread Cert.OutFIdeal.nD Cert.OutFIdeal.τ).loc Cert.OutFIdeal.main_arg6) = m ((c.tc : Thread Cert.OutFIdeal.nD Cert.OutFIdeal.τ).loc Cert.OutFIdeal.main_arg6)
          ∧ r.2.mem ((c.tc : Thread Cert.OutFIdeal.nD Cert.OutFIdeal.τ).loc Cert.OutFIdeal.main_arg7) = m ((c.tc : Thread Cert.OutFIdeal.nD Cert.OutFIdeal.τ).loc Cert.OutFIdeal.main_arg7)
          ∧ r.2.mem ((c.tc : Thread Cert.OutFIdeal.nD Cert.OutFIdeal.τ).loc Cert.OutFIdeal.main_arg8) = m ((c.tc : Thread Cert.OutFIdeal.nD Cert.OutFIdeal.τ).loc Cert.OutFIdeal.main_arg8)
          ∧ r.2.mem ((c.tc : Thread Cert.OutFIdeal.nD Cert.OutFIdeal.τ).loc Cert.OutFIdeal.main_arg9) = m ((c.tc : Thread Cert.OutFIdeal.nD Cert.OutFIdeal.τ).loc Cert.OutFIdeal.main_arg9)
          ∧ r.2.mem ((c.tc : Thread Cert.OutFIdeal.nD Cert.OutFIdeal.τ).loc Cert.OutFIdeal.main_arg10) = m ((c.tc : Thread Cert.OutFIdeal.nD Cert.OutFIdeal.τ).loc Cert.OutFIdeal.main_arg10)
          ∧ r.2.mem ((c.tc : Thread Cert.OutFIdeal.nD Cert.OutFIdeal.τ).loc Cert.OutFIdeal.main_arg11) = m ((c.tc : Thread Cert.OutFIdeal.nD Cert.OutFIdeal.τ).loc Cert.OutFIdeal.main_arg11)
          ∧ r.2.mem ((c.tc : Thread Cert.OutFIdeal.nD Cert.OutFIdeal.τ).loc Cert.OutFIdeal.main_arg12) = m ((c.tc : Thread Cert.OutFIdeal.nD Cert.OutFIdeal.τ).loc Cert.OutFIdeal.main_arg12))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v98) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4)
          ∧ r.2.mem ((c.tc : Thread Cert.OutFRefIdeal.nD Cert.OutFRefIdeal.τ).loc Cert.OutFRefIdeal.main_arg5) = m' ((c.tc : Thread Cert.OutFRefIdeal.nD Cert.OutFRefIdeal.τ).loc Cert.OutFRefIdeal.main_arg5)
          ∧ r.2.mem ((c.tc : Thread Cert.OutFRefIdeal.nD Cert.OutFRefIdeal.τ).loc Cert.OutFRefIdeal.main_arg6) = m' ((c.tc : Thread Cert.OutFRefIdeal.nD Cert.OutFRefIdeal.τ).loc Cert.OutFRefIdeal.main_arg6)
          ∧ r.2.mem ((c.tc : Thread Cert.OutFRefIdeal.nD Cert.OutFRefIdeal.τ).loc Cert.OutFRefIdeal.main_arg7) = m' ((c.tc : Thread Cert.OutFRefIdeal.nD Cert.OutFRefIdeal.τ).loc Cert.OutFRefIdeal.main_arg7)
          ∧ r.2.mem ((c.tc : Thread Cert.OutFRefIdeal.nD Cert.OutFRefIdeal.τ).loc Cert.OutFRefIdeal.main_arg8) = m' ((c.tc : Thread Cert.OutFRefIdeal.nD Cert.OutFRefIdeal.τ).loc Cert.OutFRefIdeal.main_arg8)
          ∧ r.2.mem ((c.tc : Thread Cert.OutFRefIdeal.nD Cert.OutFRefIdeal.τ).loc Cert.OutFRefIdeal.main_arg9) = m' ((c.tc : Thread Cert.OutFRefIdeal.nD Cert.OutFRefIdeal.τ).loc Cert.OutFRefIdeal.main_arg9)
          ∧ r.2.mem ((c.tc : Thread Cert.OutFRefIdeal.nD Cert.OutFRefIdeal.τ).loc Cert.OutFRefIdeal.main_arg10) = m' ((c.tc : Thread Cert.OutFRefIdeal.nD Cert.OutFRefIdeal.τ).loc Cert.OutFRefIdeal.main_arg10)
          ∧ r.2.mem ((c.tc : Thread Cert.OutFRefIdeal.nD Cert.OutFRefIdeal.τ).loc Cert.OutFRefIdeal.main_arg11) = m' ((c.tc : Thread Cert.OutFRefIdeal.nD Cert.OutFRefIdeal.τ).loc Cert.OutFRefIdeal.main_arg11)
          ∧ r.2.mem ((c.tc : Thread Cert.OutFRefIdeal.nD Cert.OutFRefIdeal.τ).loc Cert.OutFRefIdeal.main_arg12) = m' ((c.tc : Thread Cert.OutFRefIdeal.nD Cert.OutFRefIdeal.τ).loc Cert.OutFRefIdeal.main_arg12))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v25) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hRet : Cert.Ret.Facts) (hRetIdeal : Cert.RetIdeal.Facts) (hRetRefIdeal : Cert.RetRefIdeal.Facts) (hMlp : Cert.Mlp.Facts) (hMlpIdeal : Cert.MlpIdeal.Facts) (hMlpRefIdeal : Cert.MlpRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hMlpF : Cert.MlpF.Facts) (hMlpFIdeal : Cert.MlpFIdeal.Facts) (hMlpFRefIdeal : Cert.MlpFRefIdeal.Facts) (hOutF : Cert.OutF.Facts) (hOutFIdeal : Cert.OutFIdeal.Facts) (hOutFRefIdeal : Cert.OutFRefIdeal.Facts) (hMod : Cert.Mod.Facts) (hModIdeal : Cert.ModIdeal.Facts) (hModRefIdeal : Cert.ModRefIdeal.Facts),
    quiescent_Ret (hRet := hRet)
    ∧ quiescent_RetIdeal (hRetIdeal := hRetIdeal)
    ∧ quiescent_RetRefIdeal (hRetRefIdeal := hRetRefIdeal)
    ∧ quiescent_Mlp (hMlp := hMlp)
    ∧ quiescent_MlpIdeal (hMlpIdeal := hMlpIdeal)
    ∧ quiescent_MlpRefIdeal (hMlpRefIdeal := hMlpRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_MlpF (hMlpF := hMlpF)
    ∧ quiescent_MlpFIdeal (hMlpFIdeal := hMlpFIdeal)
    ∧ quiescent_MlpFRefIdeal (hMlpFRefIdeal := hMlpFRefIdeal)
    ∧ quiescent_OutF (hOutF := hOutF)
    ∧ quiescent_OutFIdeal (hOutFIdeal := hOutFIdeal)
    ∧ quiescent_OutFRefIdeal (hOutFRefIdeal := hOutFRefIdeal)
    ∧ quiescent_Mod (hMod := hMod)
    ∧ quiescent_ModIdeal (hModIdeal := hModIdeal)
    ∧ quiescent_ModRefIdeal (hModRefIdeal := hModRefIdeal)
    ∧ preserves_Ret_RetIdeal
    ∧ algebraic_RetIdeal_RetRefIdeal (hRetIdeal := hRetIdeal) (hRetRefIdeal := hRetRefIdeal)
    ∧ preserves_Mlp_MlpIdeal
    ∧ algebraic_MlpIdeal_MlpRefIdeal (hMlpIdeal := hMlpIdeal) (hMlpRefIdeal := hMlpRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_MlpF_MlpFIdeal
    ∧ algebraic_MlpFIdeal_MlpFRefIdeal (hMlpFIdeal := hMlpFIdeal) (hMlpFRefIdeal := hMlpFRefIdeal)
    ∧ preserves_OutF_OutFIdeal
    ∧ algebraic_OutFIdeal_OutFRefIdeal (hOutFIdeal := hOutFIdeal) (hOutFRefIdeal := hOutFRefIdeal)
    ∧ preserves_Mod_ModIdeal
    ∧ algebraic_ModIdeal_ModRefIdeal (hModIdeal := hModIdeal) (hModRefIdeal := hModRefIdeal)
-- ==== Ret.lean ====
abbrev S9216x7168 : Shape := ⟨2, ![9216, 7168]⟩
abbrev S2x6 : Shape := ⟨2, ![2, 6]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S2x6x1x1 : Shape := ⟨4, ![2, 6, 1, 1]⟩
abbrev S2x6x8x128 : Shape := ⟨4, ![2, 6, 8, 128]⟩
abbrev S9216x768 : Shape := ⟨2, ![9216, 768]⟩
abbrev S128x768 : Shape := ⟨2, ![128, 768]⟩
abbrev S128x128 : Shape := ⟨2, ![128, 128]⟩
abbrev S12x128x128 : Shape := ⟨3, ![12, 128, 128]⟩
abbrev S12x8x128 : Shape := ⟨3, ![12, 8, 128]⟩
abbrev S1x1x8x128 : Shape := ⟨4, ![1, 1, 8, 128]⟩
abbrev S8x128 : Shape := ⟨2, ![8, 128]⟩
abbrev S1x128 : Shape := ⟨2, ![1, 128]⟩
abbrev S1x128x128 : Shape := ⟨3, ![1, 128, 128]⟩
abbrev S1x8x128 : Shape := ⟨3, ![1, 8, 128]⟩

abbrev nBuf : Space → Nat
  | .hbm => 43
  | .vmem => 30
  | .smem => 0
  | _ => 0

abbrev bufTy : (tb : Table) → Fin (tcTables nBuf tb) → BufTy
  | .hbm, ⟨0, _⟩ => ⟨S9216x7168, .f32⟩
  | .hbm, ⟨1, _⟩ => ⟨S2x6, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S2048x64, .f32⟩
  | .hbm, ⟨32, _⟩ => ⟨S2048x128, .f32⟩
  | .hbm, ⟨33, _⟩ => ⟨S_, .f32⟩
  | .hbm, ⟨34, _⟩ => ⟨S256x128, .f32⟩
  | .hbm, ⟨35, _⟩ => ⟨S2304x128, .f32⟩
  | .hbm, ⟨36, _⟩ => ⟨S_, .f32⟩
  | .hbm, ⟨37, _⟩ => ⟨S256x128, .f32⟩
  | .hbm, ⟨38, _⟩ => ⟨S2304x128, .f32⟩
  | .hbm, ⟨39, _⟩ => ⟨S2x6x1x1, .f32⟩
  | .hbm, ⟨40, _⟩ => ⟨S2x6x8x128, .f32⟩
  | .hbm, ⟨41, _⟩ => ⟨S9216x768, .f32⟩
  | .hbm, ⟨42, _⟩ => ⟨S9216x768, .f32⟩
  | .local _ .vmem, ⟨0, _⟩ => ⟨S2x6x8x128, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | .local _ .vmem, ⟨16, _⟩ => ⟨S128x768, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x768, .f32⟩
  | .local _ .vmem, ⟨22, _⟩ => ⟨S128x768, .f32⟩
  | .local _ .vmem, ⟨23, _⟩ => ⟨S128x768, .f32⟩
  | .local _ .vmem, ⟨24, _⟩ => ⟨S128x768, .f32⟩
  | .local _ .vmem, ⟨25, _⟩ => ⟨S12x128x128, .f32⟩
  | .local _ .vmem, ⟨26, _⟩ => ⟨S12x128x128, .f32⟩
  | .local _ .vmem, ⟨27, _⟩ => ⟨S12x128x128, .f32⟩
  | .local _ .vmem, ⟨28, _⟩ => ⟨S12x128x128, .f32⟩
  | .local _ .vmem, ⟨29, _⟩ => ⟨S12x8x128, .f32⟩
  | _, _ => ⟨S9216x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35_0 : Ref sig .tc := ⟨.hbm, 41, rfl⟩
abbrev main_v35_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 18], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c0_i32 : BitVec 32 := 0#32
  let c0_i32_2 : BitVec 32 := 0#32
  ![v12.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c1_i32_2 : BitVec 32 := 1#32
  let c0_i32 : BitVec 32 := 0#32
  ![v12.toNat, c1_i32_2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c2_i32_2 : BitVec 32 := 2#32
  let c0_i32 : BitVec 32 := 0#32
  ![v12.toNat, c2_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c16_i32 : BitVec 32 := 16#32
  let v7 : BitVec 32 := Scalar.addi c16_i32 v6
  let v8 : BitVec 32 := Scalar.select v0 v7 v6
  let c0_i32 : BitVec 32 := 0#32
  let c0_i32_1 : BitVec 32 := 0#32
  ![v8.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c16_i32 : BitVec 32 := 16#32
  let v7 : BitVec 32 := Scalar.addi c16_i32 v6
  let v8 : BitVec 32 := Scalar.select v0 v7 v6
  let c0_i32 : BitVec 32 := 0#32
  let c0_i32_1 : BitVec 32 := 0#32
  ![v8.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c0_i32 : BitVec 32 := 0#32
  let c0_i32_2 : BitVec 32 := 0#32
  ![v12.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c1_i32_2 : BitVec 32 := 1#32
  let c0_i32 : BitVec 32 := 0#32
  ![v12.toNat, c1_i32_2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c2_i32_2 : BitVec 32 := 2#32
  let c0_i32 : BitVec 32 := 0#32
  ![v12.toNat, c2_i32_2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c16_i32 : BitVec 32 := 16#32
  let v7 : BitVec 32 := Scalar.addi c16_i32 v6
  let v8 : BitVec 32 := Scalar.select v0 v7 v6
  let c0_i32 : BitVec 32 := 0#32
  let c0_i32_1 : BitVec 32 := 0#32
  ![v8.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c16_i32 : BitVec 32 := 16#32
  let v7 : BitVec 32 := Scalar.addi c16_i32 v6
  let v8 : BitVec 32 := Scalar.select v0 v7 v6
  let c0_i32 : BitVec 32 := 0#32
  let c0_i32_1 : BitVec 32 := 0#32
  ![v8.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_true : BitVec 1 := 1#1
  let v6 : BitVec 32 := Scalar.select v_true v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c0_i32 : BitVec 32 := 0#32
  let c0_i32_2 : BitVec 32 := 0#32
  ![v12.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.subi arg1 c2_i32_0
  let v2 : BitVec 32 := Scalar.select v0 arg1 v1
  let c1_i32 : BitVec 32 := 1#32
  let v3 : BitVec 32 := Scalar.subi c1_i32 arg1
  let c17_i32 : BitVec 32 := 17#32
  let v4 : BitVec 32 := Scalar.subi c17_i32 arg1
  let v5 : BitVec 32 := Scalar.select v0 v3 v4
  let v_false : BitVec 1 := 0#1
  let v6 : BitVec 32 := Scalar.select v_false v2 v5
  let c2_i32_1 : BitVec 32 := 2#32
  let v7 : BitVec 32 := Scalar.muli arg0 c2_i32_1
  let c64_i32 : BitVec 32 := 64#32
  let v8 : BitVec 32 := Scalar.addi c64_i32 v7
  let v9 : BitVec 32 := Scalar.addi v8 v6
  let c16_i32 : BitVec 32 := 16#32
  let v10 : BitVec 32 := Scalar.muli arg0 c16_i32
  let v11 : BitVec 32 := Scalar.addi v10 v6
  let v12 : BitVec 32 := Scalar.select v0 v9 v11
  let c0_i32 : BitVec 32 := 0#32
  let c0_i32_2 : BitVec 32 := 0#32
  ![v12.toNat, c0_i32.toNat]

abbrev stage0_0 : Fin 1 → Memref sig .tc .vmem S2x6x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RetRefIdeal.lean ====
abbrev S9216x7168 : Shape := ⟨2, ![9216, 7168]⟩
abbrev S2x6 : Shape := ⟨2, ![2, 6]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S9216x2304 : Shape := ⟨2, ![9216, 2304]⟩
abbrev S8192x2304 : Shape := ⟨2, ![8192, 2304]⟩
abbrev S4x2048x2304 : Shape := ⟨3, ![4, 2048, 2304]⟩
abbrev S4x2048x768 : Shape := ⟨3, ![4, 2048, 768]⟩
abbrev S1024x2304 : Shape := ⟨2, ![1024, 2304]⟩
abbrev S4x256x2304 : Shape := ⟨3, ![4, 256, 2304]⟩
abbrev S4x256x768 : Shape := ⟨3, ![4, 256, 768]⟩
abbrev S4x2048x6x128 : Shape := ⟨4, ![4, 2048, 6, 128]⟩
abbrev S4x6x2048x128 : Shape := ⟨4, ![4, 6, 2048, 128]⟩
abbrev S4x6x2048x64 : Shape := ⟨4, ![4, 6, 2048, 64]⟩
abbrev S1x1x2048x64 : Shape := ⟨4, ![1, 1, 2048, 64]⟩
abbrev S4x256x6x128 : Shape := ⟨4, ![4, 256, 6, 128]⟩
abbrev S4x6x256x128 : Shape := ⟨4, ![4, 6, 256, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x1x6x1x1 : Shape := ⟨5, ![2, 1, 6, 1, 1]⟩
abbrev S1x1x1x128x128 : Shape := ⟨5, ![1, 1, 1, 128, 128]⟩
abbrev S2x1x6x128x128 : Shape := ⟨5, ![2, 1, 6, 128, 128]⟩
abbrev S2x6x1 : Shape := ⟨3, ![2, 6, 1]⟩
abbrev S1x1x128 : Shape := ⟨3, ![1, 1, 128]⟩
abbrev S2x6x128 : Shape := ⟨3, ![2, 6, 128]⟩
abbrev S2x1x6x128x1 : Shape := ⟨5, ![2, 1, 6, 128, 1]⟩
abbrev S4x6x2304x128 : Shape := ⟨4, ![4, 6, 2304, 128]⟩
abbrev S1x4x6x2304x128 : Shape := ⟨5, ![1, 4, 6, 2304, 128]⟩
abbrev S2x4x6x2304x128 : Shape := ⟨5, ![2, 4, 6, 2304, 128]⟩
abbrev S2x4x6x18x128x128 : Shape := ⟨6, ![2, 4, 6, 18, 128, 128]⟩
abbrev S18x2x4x6x128x128 : Shape := ⟨6, ![18, 2, 4, 6, 128, 128]⟩
abbrev S2x4x6x128x128 : Shape := ⟨5, ![2, 4, 6, 128, 128]⟩
abbrev S1x2x4x6x128x128 : Shape := ⟨6, ![1, 2, 4, 6, 128, 128]⟩
abbrev S16x2x4x6x128x128 : Shape := ⟨6, ![16, 2, 4, 6, 128, 128]⟩
abbrev S2x2x4x6x128x128 : Shape := ⟨6, ![2, 2, 4, 6, 128, 128]⟩
abbrev S1x4x6x256x128 : Shape := ⟨5, ![1, 4, 6, 256, 128]⟩
abbrev S1x4x6x2048x128 : Shape := ⟨5, ![1, 4, 6, 2048, 128]⟩
abbrev S8192x768 : Shape := ⟨2, ![8192, 768]⟩
abbrev S1024x768 : Shape := ⟨2, ![1024, 768]⟩
abbrev S9216x768 : Shape := ⟨2, ![9216, 768]⟩

abbrev nBuf : Space → Nat
  | .hbm => 583
  | .vmem => 0
  | .smem => 0
  | _ => 0

abbrev hbmTy0_0 (i : Nat) : BufTy := match i % 128 with
  | 0 => ⟨S9216x7168, .f32⟩
  | 1 => ⟨S2x6, .f32⟩
  | 2 => ⟨S32, .f32⟩
  | 3 => ⟨S32x64, .f32⟩
  | 4 => ⟨S2048, .f32⟩
  | 5 => ⟨S64, .f32⟩
  | 6 => ⟨S1x64, .f32⟩
  | 7 => ⟨S32x64, .f32⟩
  | 8 => ⟨S2048, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x64, .f32⟩
  | 28 => ⟨S2048x64, .f32⟩
  | 29 => ⟨S2048x64, .f32⟩
  | 30 => ⟨S9216x2304, .f32⟩
  | 31 => ⟨S8192x2304, .f32⟩
  | 32 => ⟨S4x2048x2304, .f32⟩
  | 33 => ⟨S4x2048x768, .f32⟩
  | 34 => ⟨S4x2048x768, .f32⟩
  | 35 => ⟨S4x2048x768, .f32⟩
  | 36 => ⟨S1024x2304, .f32⟩
  | 37 => ⟨S4x256x2304, .f32⟩
  | 38 => ⟨S4x256x768, .f32⟩
  | 39 => ⟨S4x256x768, .f32⟩
  | 40 => ⟨S4x256x768, .f32⟩
  | 41 => ⟨S4x2048x6x128, .f32⟩
  | 42 => ⟨S4x6x2048x128, .f32⟩
  | 43 => ⟨S4x6x2048x64, .f32⟩
  | 44 => ⟨S4x6x2048x64, .f32⟩
  | 45 => ⟨S1x1x2048x64, .f32⟩
  | 46 => ⟨S4x6x2048x64, .f32⟩
  | 47 => ⟨S4x6x2048x64, .f32⟩
  | 48 => ⟨S1x1x2048x64, .f32⟩
  | 49 => ⟨S4x6x2048x64, .f32⟩
  | 50 => ⟨S4x6x2048x64, .f32⟩
  | 51 => ⟨S4x6x2048x64, .f32⟩
  | 52 => ⟨S1x1x2048x64, .f32⟩
  | 53 => ⟨S4x6x2048x64, .f32⟩
  | 54 => ⟨S4x6x2048x64, .f32⟩
  | 55 => ⟨S1x1x2048x64, .f32⟩
  | 56 => ⟨S4x6x2048x64, .f32⟩
  | 57 => ⟨S4x6x2048x64, .f32⟩
  | 58 => ⟨S4x6x2048x64, .f32⟩
  | 59 => ⟨S4x6x2048x128, .f32⟩
  | 60 => ⟨S4x2048x6x128, .f32⟩
  | 61 => ⟨S4x6x2048x128, .f32⟩
  | 62 => ⟨S4x6x2048x64, .f32⟩
  | 63 => ⟨S4x6x2048x64, .f32⟩
  | 64 => ⟨S1x1x2048x64, .f32⟩
  | 65 => ⟨S4x6x2048x64, .f32⟩
  | 66 => ⟨S4x6x2048x64, .f32⟩
  | 67 => ⟨S1x1x2048x64, .f32⟩
  | 68 => ⟨S4x6x2048x64, .f32⟩
  | 69 => ⟨S4x6x2048x64, .f32⟩
  | 70 => ⟨S4x6x2048x64, .f32⟩
  | 71 => ⟨S1x1x2048x64, .f32⟩
  | 72 => ⟨S4x6x2048x64, .f32⟩
  | 73 => ⟨S4x6x2048x64, .f32⟩
  | 74 => ⟨S1x1x2048x64, .f32⟩
  | 75 => ⟨S4x6x2048x64, .f32⟩
  | 76 => ⟨S4x6x2048x64, .f32⟩
  | 77 => ⟨S4x6x2048x64, .f32⟩
  | 78 => ⟨S4x6x2048x128, .f32⟩
  | 79 => ⟨S4x2048x6x128, .f32⟩
  | 80 => ⟨S4x6x2048x128, .f32⟩
  | 81 => ⟨S4x256x6x128, .f32⟩
  | 82 => ⟨S4x6x256x128, .f32⟩
  | 83 => ⟨S4x256x6x128, .f32⟩
  | 84 => ⟨S4x6x256x128, .f32⟩
  | 85 => ⟨S4x256x6x128, .f32⟩
  | 86 => ⟨S4x6x256x128, .f32⟩
  | 87 => ⟨S_, .f32⟩
  | 88 => ⟨S4x6x2048x128, .f32⟩
  | 89 => ⟨S4x6x2048x128, .f32⟩
  | 90 => ⟨S_, .f32⟩
  | 91 => ⟨S4x6x256x128, .f32⟩
  | 92 => ⟨S4x6x256x128, .f32⟩
  | 93 => ⟨S2x6, .f32⟩
  | 94 => ⟨S_, .f32⟩
  | 95 => ⟨S2x6, .f32⟩
  | 96 => ⟨S2x6, .f32⟩
  | 97 => ⟨S2x6, .f32⟩
  | 98 => ⟨S2x6, .f32⟩
  | 99 => ⟨S2x6, .f32⟩
  | 100 => ⟨S2x6, .f32⟩
  | 101 => ⟨S2x6, .f32⟩
  | 102 => ⟨S2x6, .f32⟩
  | 103 => ⟨S128, .f32⟩
  | 104 => ⟨S128x1, .f32⟩
  | 105 => ⟨S1x128, .f32⟩
  | 106 => ⟨S128x128, .f32⟩
  | 107 => ⟨S128x128, .f32⟩
  | 108 => ⟨S128x128, .f32⟩
  | 109 => ⟨S2x1x6x1x1, .f32⟩
  | 110 => ⟨S_, .f32⟩
  | 111 => ⟨S128x128, .f32⟩
  | 112 => ⟨S128x128, .i1⟩
  | 113 => ⟨S_, .f32⟩
  | 114 => ⟨S128x128, .f32⟩
  | 115 => ⟨S128x128, .f32⟩
  | 116 => ⟨S1x1x1x128x128, .f32⟩
  | 117 => ⟨S2x1x6x128x128, .f32⟩
  | 118 => ⟨S2x1x6x128x128, .f32⟩
  | 119 => ⟨S2x1x6x128x128, .f32⟩
  | 120 => ⟨S2x1x6x128x128, .f32⟩
  | 121 => ⟨S_, .f32⟩
  | 122 => ⟨S_, .f32⟩
  | 123 => ⟨S2x1x6x128x128, .i1⟩
  | 124 => ⟨S2x1x6x128x128, .f32⟩
  | 125 => ⟨S2x1x6x128x128, .f32⟩
  | 126 => ⟨S2x6x1, .f32⟩
  | 127 => ⟨S_, .f32⟩
  | _ => ⟨S9216x7168, .f32⟩

abbrev hbmTy0_1 (i : Nat) : BufTy := match i % 128 with
  | 0 => ⟨S128, .f32⟩
  | 1 => ⟨S128, .f32⟩
  | 2 => ⟨S1x1x128, .f32⟩
  | 3 => ⟨S2x6x128, .f32⟩
  | 4 => ⟨S2x6x128, .f32⟩
  | 5 => ⟨S2x6x128, .f32⟩
  | 6 => ⟨S2x6x128, .f32⟩
  | 7 => ⟨S2x1x6x128x1, .f32⟩
  | 8 => ⟨S2x6x1, .f32⟩
  | 9 => ⟨S_, .f32⟩
  | 10 => ⟨S128, .f32⟩
  | 11 => ⟨S128, .f32⟩
  | 12 => ⟨S1x1x128, .f32⟩
  | 13 => ⟨S2x6x128, .f32⟩
  | 14 => ⟨S2x6x128, .f32⟩
  | 15 => ⟨S2x6x128, .f32⟩
  | 16 => ⟨S2x6x128, .f32⟩
  | 17 => ⟨S2x1x6x128x1, .f32⟩
  | 18 => ⟨S_, .f32⟩
  | 19 => ⟨S2x6, .f32⟩
  | 20 => ⟨S2x6, .f32⟩
  | 21 => ⟨S2x6, .f32⟩
  | 22 => ⟨S2x1x6x1x1, .f32⟩
  | 23 => ⟨S4x6x2304x128, .f32⟩
  | 24 => ⟨S4x6x256x128, .f32⟩
  | 25 => ⟨S4x6x2048x128, .f32⟩
  | 26 => ⟨S4x6x2304x128, .f32⟩
  | 27 => ⟨S1x4x6x2304x128, .f32⟩
  | 28 => ⟨S1x4x6x2304x128, .f32⟩
  | 29 => ⟨S2x4x6x2304x128, .f32⟩
  | 30 => ⟨S2x4x6x18x128x128, .f32⟩
  | 31 => ⟨S18x2x4x6x128x128, .f32⟩
  | 32 => ⟨S4x6x2304x128, .f32⟩
  | 33 => ⟨S4x6x256x128, .f32⟩
  | 34 => ⟨S4x6x2048x128, .f32⟩
  | 35 => ⟨S4x6x2304x128, .f32⟩
  | 36 => ⟨S1x4x6x2304x128, .f32⟩
  | 37 => ⟨S1x4x6x2304x128, .f32⟩
  | 38 => ⟨S2x4x6x2304x128, .f32⟩
  | 39 => ⟨S2x4x6x18x128x128, .f32⟩
  | 40 => ⟨S18x2x4x6x128x128, .f32⟩
  | 41 => ⟨S4x6x2304x128, .f32⟩
  | 42 => ⟨S4x6x256x128, .f32⟩
  | 43 => ⟨S4x6x2048x128, .f32⟩
  | 44 => ⟨S4x6x2304x128, .f32⟩
  | 45 => ⟨S1x4x6x2304x128, .f32⟩
  | 46 => ⟨S1x4x6x2304x128, .f32⟩
  | 47 => ⟨S2x4x6x2304x128, .f32⟩
  | 48 => ⟨S2x4x6x18x128x128, .f32⟩
  | 49 => ⟨S18x2x4x6x128x128, .f32⟩
  | 50 => ⟨S_, .f32⟩
  | 51 => ⟨S2x4x6x128x128, .f32⟩
  | 52 => ⟨S1x2x4x6x128x128, .f32⟩
  | 53 => ⟨S2x4x6x128x128, .f32⟩
  | 54 => ⟨S1x2x4x6x128x128, .f32⟩
  | 55 => ⟨S2x4x6x128x128, .f32⟩
  | 56 => ⟨S1x2x4x6x128x128, .f32⟩
  | 57 => ⟨S2x4x6x128x128, .f32⟩
  | 58 => ⟨S2x4x6x128x128, .f32⟩
  | 59 => ⟨S2x4x6x128x128, .f32⟩
  | 60 => ⟨S2x4x6x128x128, .f32⟩
  | 61 => ⟨S2x4x6x128x128, .f32⟩
  | 62 => ⟨S2x4x6x128x128, .f32⟩
  | 63 => ⟨S2x4x6x128x128, .f32⟩
  | 64 => ⟨S2x4x6x128x128, .f32⟩
  | 65 => ⟨S2x4x6x128x128, .f32⟩
  | 66 => ⟨S2x4x6x128x128, .f32⟩
  | 67 => ⟨S2x4x6x128x128, .f32⟩
  | 68 => ⟨S2x4x6x128x128, .f32⟩
  | 69 => ⟨S2x4x6x128x128, .f32⟩
  | 70 => ⟨S2x4x6x128x128, .f32⟩
  | 71 => ⟨S2x4x6x128x128, .f32⟩
  | 72 => ⟨S1x2x4x6x128x128, .f32⟩
  | 73 => ⟨S2x4x6x128x128, .f32⟩
  | 74 => ⟨S1x2x4x6x128x128, .f32⟩
  | 75 => ⟨S2x4x6x128x128, .f32⟩
  | 76 => ⟨S1x2x4x6x128x128, .f32⟩
  | 77 => ⟨S2x4x6x128x128, .f32⟩
  | 78 => ⟨S2x4x6x128x128, .f32⟩
  | 79 => ⟨S2x4x6x128x128, .f32⟩
  | 80 => ⟨S2x4x6x128x128, .f32⟩
  | 81 => ⟨S2x4x6x128x128, .f32⟩
  | 82 => ⟨S2x4x6x128x128, .f32⟩
  | 83 => ⟨S2x4x6x128x128, .f32⟩
  | 84 => ⟨S2x4x6x128x128, .f32⟩
  | 85 => ⟨S2x4x6x128x128, .f32⟩
  | 86 => ⟨S2x4x6x128x128, .f32⟩
  | 87 => ⟨S2x4x6x128x128, .f32⟩
  | 88 => ⟨S2x4x6x128x128, .f32⟩
  | 89 => ⟨S2x4x6x128x128, .f32⟩
  | 90 => ⟨S2x4x6x128x128, .f32⟩
  | 91 => ⟨S2x4x6x128x128, .f32⟩
  | 92 => ⟨S1x2x4x6x128x128, .f32⟩
  | 93 => ⟨S2x4x6x128x128, .f32⟩
  | 94 => ⟨S1x2x4x6x128x128, .f32⟩
  | 95 => ⟨S2x4x6x128x128, .f32⟩
  | 96 => ⟨S1x2x4x6x128x128, .f32⟩
  | 97 => ⟨S2x4x6x128x128, .f32⟩
  | 98 => ⟨S2x4x6x128x128, .f32⟩
  | 99 => ⟨S2x4x6x128x128, .f32⟩
  | 100 => ⟨S2x4x6x128x128, .f32⟩
  | 101 => ⟨S2x4x6x128x128, .f32⟩
  | 102 => ⟨S2x4x6x128x128, .f32⟩
  | 103 => ⟨S2x4x6x128x128, .f32⟩
  | 104 => ⟨S2x4x6x128x128, .f32⟩
  | 105 => ⟨S2x4x6x128x128, .f32⟩
  | 106 => ⟨S2x4x6x128x128, .f32⟩
  | 107 => ⟨S2x4x6x128x128, .f32⟩
  | 108 => ⟨S2x4x6x128x128, .f32⟩
  | 109 => ⟨S2x4x6x128x128, .f32⟩
  | 110 => ⟨S2x4x6x128x128, .f32⟩
  | 111 => ⟨S2x4x6x128x128, .f32⟩
  | 112 => ⟨S1x2x4x6x128x128, .f32⟩
  | 113 => ⟨S2x4x6x128x128, .f32⟩
  | 114 => ⟨S1x2x4x6x128x128, .f32⟩
  | 115 => ⟨S2x4x6x128x128, .f32⟩
  | 116 => ⟨S1x2x4x6x128x128, .f32⟩
  | 117 => ⟨S2x4x6x128x128, .f32⟩
  | 118 => ⟨S2x4x6x128x128, .f32⟩
  | 119 => ⟨S2x4x6x128x128, .f32⟩
  | 120 => ⟨S2x4x6x128x128, .f32⟩
  | 121 => ⟨S2x4x6x128x128, .f32⟩
  | 122 => ⟨S2x4x6x128x128, .f32⟩
  | 123 => ⟨S2x4x6x128x128, .f32⟩
  | 124 => ⟨S2x4x6x128x128, .f32⟩
  | 125 => ⟨S2x4x6x128x128, .f32⟩
  | 126 => ⟨S2x4x6x128x128, .f32⟩
  | 127 => ⟨S2x4x6x128x128, .f32⟩
  | _ => ⟨S9216x7168, .f32⟩

abbrev hbmTy0_2 (i : Nat) : BufTy := match i % 128 with
  | 0 => ⟨S2x4x6x128x128, .f32⟩
  | 1 => ⟨S2x4x6x128x128, .f32⟩
  | 2 => ⟨S2x4x6x128x128, .f32⟩
  | 3 => ⟨S2x4x6x128x128, .f32⟩
  | 4 => ⟨S1x2x4x6x128x128, .f32⟩
  | 5 => ⟨S2x4x6x128x128, .f32⟩
  | 6 => ⟨S1x2x4x6x128x128, .f32⟩
  | 7 => ⟨S2x4x6x128x128, .f32⟩
  | 8 => ⟨S1x2x4x6x128x128, .f32⟩
  | 9 => ⟨S2x4x6x128x128, .f32⟩
  | 10 => ⟨S2x4x6x128x128, .f32⟩
  | 11 => ⟨S2x4x6x128x128, .f32⟩
  | 12 => ⟨S2x4x6x128x128, .f32⟩
  | 13 => ⟨S2x4x6x128x128, .f32⟩
  | 14 => ⟨S2x4x6x128x128, .f32⟩
  | 15 => ⟨S2x4x6x128x128, .f32⟩
  | 16 => ⟨S2x4x6x128x128, .f32⟩
  | 17 => ⟨S2x4x6x128x128, .f32⟩
  | 18 => ⟨S2x4x6x128x128, .f32⟩
  | 19 => ⟨S2x4x6x128x128, .f32⟩
  | 20 => ⟨S2x4x6x128x128, .f32⟩
  | 21 => ⟨S2x4x6x128x128, .f32⟩
  | 22 => ⟨S2x4x6x128x128, .f32⟩
  | 23 => ⟨S2x4x6x128x128, .f32⟩
  | 24 => ⟨S1x2x4x6x128x128, .f32⟩
  | 25 => ⟨S2x4x6x128x128, .f32⟩
  | 26 => ⟨S1x2x4x6x128x128, .f32⟩
  | 27 => ⟨S2x4x6x128x128, .f32⟩
  | 28 => ⟨S1x2x4x6x128x128, .f32⟩
  | 29 => ⟨S2x4x6x128x128, .f32⟩
  | 30 => ⟨S2x4x6x128x128, .f32⟩
  | 31 => ⟨S2x4x6x128x128, .f32⟩
  | 32 => ⟨S2x4x6x128x128, .f32⟩
  | 33 => ⟨S2x4x6x128x128, .f32⟩
  | 34 => ⟨S2x4x6x128x128, .f32⟩
  | 35 => ⟨S2x4x6x128x128, .f32⟩
  | 36 => ⟨S2x4x6x128x128, .f32⟩
  | 37 => ⟨S2x4x6x128x128, .f32⟩
  | 38 => ⟨S2x4x6x128x128, .f32⟩
  | 39 => ⟨S2x4x6x128x128, .f32⟩
  | 40 => ⟨S2x4x6x128x128, .f32⟩
  | 41 => ⟨S2x4x6x128x128, .f32⟩
  | 42 => ⟨S2x4x6x128x128, .f32⟩
  | 43 => ⟨S2x4x6x128x128, .f32⟩
  | 44 => ⟨S1x2x4x6x128x128, .f32⟩
  | 45 => ⟨S2x4x6x128x128, .f32⟩
  | 46 => ⟨S1x2x4x6x128x128, .f32⟩
  | 47 => ⟨S2x4x6x128x128, .f32⟩
  | 48 => ⟨S1x2x4x6x128x128, .f32⟩
  | 49 => ⟨S2x4x6x128x128, .f32⟩
  | 50 => ⟨S2x4x6x128x128, .f32⟩
  | 51 => ⟨S2x4x6x128x128, .f32⟩
  | 52 => ⟨S2x4x6x128x128, .f32⟩
  | 53 => ⟨S2x4x6x128x128, .f32⟩
  | 54 => ⟨S2x4x6x128x128, .f32⟩
  | 55 => ⟨S2x4x6x128x128, .f32⟩
  | 56 => ⟨S2x4x6x128x128, .f32⟩
  | 57 => ⟨S2x4x6x128x128, .f32⟩
  | 58 => ⟨S2x4x6x128x128, .f32⟩
  | 59 => ⟨S2x4x6x128x128, .f32⟩
  | 60 => ⟨S2x4x6x128x128, .f32⟩
  | 61 => ⟨S2x4x6x128x128, .f32⟩
  | 62 => ⟨S2x4x6x128x128, .f32⟩
  | 63 => ⟨S2x4x6x128x128, .f32⟩
  | 64 => ⟨S1x2x4x6x128x128, .f32⟩
  | 65 => ⟨S2x4x6x128x128, .f32⟩
  | 66 => ⟨S1x2x4x6x128x128, .f32⟩
  | 67 => ⟨S2x4x6x128x128, .f32⟩
  | 68 => ⟨S1x2x4x6x128x128, .f32⟩
  | 69 => ⟨S2x4x6x128x128, .f32⟩
  | 70 => ⟨S2x4x6x128x128, .f32⟩
  | 71 => ⟨S2x4x6x128x128, .f32⟩
  | 72 => ⟨S2x4x6x128x128, .f32⟩
  | 73 => ⟨S2x4x6x128x128, .f32⟩
  | 74 => ⟨S2x4x6x128x128, .f32⟩
  | 75 => ⟨S2x4x6x128x128, .f32⟩
  | 76 => ⟨S2x4x6x128x128, .f32⟩
  | 77 => ⟨S2x4x6x128x128, .f32⟩
  | 78 => ⟨S2x4x6x128x128, .f32⟩
  | 79 => ⟨S2x4x6x128x128, .f32⟩
  | 80 => ⟨S2x4x6x128x128, .f32⟩
  | 81 => ⟨S2x4x6x128x128, .f32⟩
  | 82 => ⟨S2x4x6x128x128, .f32⟩
  | 83 => ⟨S2x4x6x128x128, .f32⟩
  | 84 => ⟨S1x2x4x6x128x128, .f32⟩
  | 85 => ⟨S2x4x6x128x128, .f32⟩
  | 86 => ⟨S1x2x4x6x128x128, .f32⟩
  | 87 => ⟨S2x4x6x128x128, .f32⟩
  | 88 => ⟨S1x2x4x6x128x128, .f32⟩
  | 89 => ⟨S2x4x6x128x128, .f32⟩
  | 90 => ⟨S2x4x6x128x128, .f32⟩
  | 91 => ⟨S2x4x6x128x128, .f32⟩
  | 92 => ⟨S2x4x6x128x128, .f32⟩
  | 93 => ⟨S2x4x6x128x128, .f32⟩
  | 94 => ⟨S2x4x6x128x128, .f32⟩
  | 95 => ⟨S2x4x6x128x128, .f32⟩
  | 96 => ⟨S2x4x6x128x128, .f32⟩
  | 97 => ⟨S2x4x6x128x128, .f32⟩
  | 98 => ⟨S2x4x6x128x128, .f32⟩
  | 99 => ⟨S2x4x6x128x128, .f32⟩
  | 100 => ⟨S2x4x6x128x128, .f32⟩
  | 101 => ⟨S2x4x6x128x128, .f32⟩
  | 102 => ⟨S2x4x6x128x128, .f32⟩
  | 103 => ⟨S2x4x6x128x128, .f32⟩
  | 104 => ⟨S1x2x4x6x128x128, .f32⟩
  | 105 => ⟨S2x4x6x128x128, .f32⟩
  | 106 => ⟨S1x2x4x6x128x128, .f32⟩
  | 107 => ⟨S2x4x6x128x128, .f32⟩
  | 108 => ⟨S1x2x4x6x128x128, .f32⟩
  | 109 => ⟨S2x4x6x128x128, .f32⟩
  | 110 => ⟨S2x4x6x128x128, .f32⟩
  | 111 => ⟨S2x4x6x128x128, .f32⟩
  | 112 => ⟨S2x4x6x128x128, .f32⟩
  | 113 => ⟨S2x4x6x128x128, .f32⟩
  | 114 => ⟨S2x4x6x128x128, .f32⟩
  | 115 => ⟨S2x4x6x128x128, .f32⟩
  | 116 => ⟨S2x4x6x128x128, .f32⟩
  | 117 => ⟨S2x4x6x128x128, .f32⟩
  | 118 => ⟨S2x4x6x128x128, .f32⟩
  | 119 => ⟨S2x4x6x128x128, .f32⟩
  | 120 => ⟨S2x4x6x128x128, .f32⟩
  | 121 => ⟨S2x4x6x128x128, .f32⟩
  | 122 => ⟨S2x4x6x128x128, .f32⟩
  | 123 => ⟨S2x4x6x128x128, .f32⟩
  | 124 => ⟨S1x2x4x6x128x128, .f32⟩
  | 125 => ⟨S2x4x6x128x128, .f32⟩
  | 126 => ⟨S1x2x4x6x128x128, .f32⟩
  | 127 => ⟨S2x4x6x128x128, .f32⟩
  | _ => ⟨S9216x7168, .f32⟩

abbrev hbmTy0_3 (i : Nat) : BufTy := match i % 128 with
  | 0 => ⟨S1x2x4x6x128x128, .f32⟩
  | 1 => ⟨S2x4x6x128x128, .f32⟩
  | 2 => ⟨S2x4x6x128x128, .f32⟩
  | 3 => ⟨S2x4x6x128x128, .f32⟩
  | 4 => ⟨S2x4x6x128x128, .f32⟩
  | 5 => ⟨S2x4x6x128x128, .f32⟩
  | 6 => ⟨S2x4x6x128x128, .f32⟩
  | 7 => ⟨S2x4x6x128x128, .f32⟩
  | 8 => ⟨S2x4x6x128x128, .f32⟩
  | 9 => ⟨S2x4x6x128x128, .f32⟩
  | 10 => ⟨S2x4x6x128x128, .f32⟩
  | 11 => ⟨S2x4x6x128x128, .f32⟩
  | 12 => ⟨S2x4x6x128x128, .f32⟩
  | 13 => ⟨S2x4x6x128x128, .f32⟩
  | 14 => ⟨S2x4x6x128x128, .f32⟩
  | 15 => ⟨S2x4x6x128x128, .f32⟩
  | 16 => ⟨S1x2x4x6x128x128, .f32⟩
  | 17 => ⟨S2x4x6x128x128, .f32⟩
  | 18 => ⟨S1x2x4x6x128x128, .f32⟩
  | 19 => ⟨S2x4x6x128x128, .f32⟩
  | 20 => ⟨S1x2x4x6x128x128, .f32⟩
  | 21 => ⟨S2x4x6x128x128, .f32⟩
  | 22 => ⟨S2x4x6x128x128, .f32⟩
  | 23 => ⟨S2x4x6x128x128, .f32⟩
  | 24 => ⟨S2x4x6x128x128, .f32⟩
  | 25 => ⟨S2x4x6x128x128, .f32⟩
  | 26 => ⟨S2x4x6x128x128, .f32⟩
  | 27 => ⟨S2x4x6x128x128, .f32⟩
  | 28 => ⟨S2x4x6x128x128, .f32⟩
  | 29 => ⟨S2x4x6x128x128, .f32⟩
  | 30 => ⟨S2x4x6x128x128, .f32⟩
  | 31 => ⟨S2x4x6x128x128, .f32⟩
  | 32 => ⟨S2x4x6x128x128, .f32⟩
  | 33 => ⟨S2x4x6x128x128, .f32⟩
  | 34 => ⟨S2x4x6x128x128, .f32⟩
  | 35 => ⟨S2x4x6x128x128, .f32⟩
  | 36 => ⟨S1x2x4x6x128x128, .f32⟩
  | 37 => ⟨S2x4x6x128x128, .f32⟩
  | 38 => ⟨S1x2x4x6x128x128, .f32⟩
  | 39 => ⟨S2x4x6x128x128, .f32⟩
  | 40 => ⟨S1x2x4x6x128x128, .f32⟩
  | 41 => ⟨S2x4x6x128x128, .f32⟩
  | 42 => ⟨S2x4x6x128x128, .f32⟩
  | 43 => ⟨S2x4x6x128x128, .f32⟩
  | 44 => ⟨S2x4x6x128x128, .f32⟩
  | 45 => ⟨S2x4x6x128x128, .f32⟩
  | 46 => ⟨S2x4x6x128x128, .f32⟩
  | 47 => ⟨S2x4x6x128x128, .f32⟩
  | 48 => ⟨S2x4x6x128x128, .f32⟩
  | 49 => ⟨S2x4x6x128x128, .f32⟩
  | 50 => ⟨S2x4x6x128x128, .f32⟩
  | 51 => ⟨S2x4x6x128x128, .f32⟩
  | 52 => ⟨S2x4x6x128x128, .f32⟩
  | 53 => ⟨S2x4x6x128x128, .f32⟩
  | 54 => ⟨S2x4x6x128x128, .f32⟩
  | 55 => ⟨S2x4x6x128x128, .f32⟩
  | 56 => ⟨S1x2x4x6x128x128, .f32⟩
  | 57 => ⟨S2x4x6x128x128, .f32⟩
  | 58 => ⟨S1x2x4x6x128x128, .f32⟩
  | 59 => ⟨S2x4x6x128x128, .f32⟩
  | 60 => ⟨S1x2x4x6x128x128, .f32⟩
  | 61 => ⟨S2x4x6x128x128, .f32⟩
  | 62 => ⟨S2x4x6x128x128, .f32⟩
  | 63 => ⟨S2x4x6x128x128, .f32⟩
  | 64 => ⟨S2x4x6x128x128, .f32⟩
  | 65 => ⟨S2x4x6x128x128, .f32⟩
  | 66 => ⟨S2x4x6x128x128, .f32⟩
  | 67 => ⟨S2x4x6x128x128, .f32⟩
  | 68 => ⟨S2x4x6x128x128, .f32⟩
  | 69 => ⟨S2x4x6x128x128, .f32⟩
  | 70 => ⟨S2x4x6x128x128, .f32⟩
  | 71 => ⟨S2x4x6x128x128, .f32⟩
  | 72 => ⟨S2x4x6x128x128, .f32⟩
  | 73 => ⟨S2x4x6x128x128, .f32⟩
  | 74 => ⟨S2x4x6x128x128, .f32⟩
  | 75 => ⟨S2x4x6x128x128, .f32⟩
  | 76 => ⟨S1x2x4x6x128x128, .f32⟩
  | 77 => ⟨S2x4x6x128x128, .f32⟩
  | 78 => ⟨S1x2x4x6x128x128, .f32⟩
  | 79 => ⟨S2x4x6x128x128, .f32⟩
  | 80 => ⟨S1x2x4x6x128x128, .f32⟩
  | 81 => ⟨S2x4x6x128x128, .f32⟩
  | 82 => ⟨S2x4x6x128x128, .f32⟩
  | 83 => ⟨S2x4x6x128x128, .f32⟩
  | 84 => ⟨S2x4x6x128x128, .f32⟩
  | 85 => ⟨S2x4x6x128x128, .f32⟩
  | 86 => ⟨S2x4x6x128x128, .f32⟩
  | 87 => ⟨S2x4x6x128x128, .f32⟩
  | 88 => ⟨S2x4x6x128x128, .f32⟩
  | 89 => ⟨S2x4x6x128x128, .f32⟩
  | 90 => ⟨S2x4x6x128x128, .f32⟩
  | 91 => ⟨S2x4x6x128x128, .f32⟩
  | 92 => ⟨S2x4x6x128x128, .f32⟩
  | 93 => ⟨S2x4x6x128x128, .f32⟩
  | 94 => ⟨S2x4x6x128x128, .f32⟩
  | 95 => ⟨S2x4x6x128x128, .f32⟩
  | 96 => ⟨S1x2x4x6x128x128, .f32⟩
  | 97 => ⟨S2x4x6x128x128, .f32⟩
  | 98 => ⟨S1x2x4x6x128x128, .f32⟩
  | 99 => ⟨S2x4x6x128x128, .f32⟩
  | 100 => ⟨S1x2x4x6x128x128, .f32⟩
  | 101 => ⟨S2x4x6x128x128, .f32⟩
  | 102 => ⟨S2x4x6x128x128, .f32⟩
  | 103 => ⟨S2x4x6x128x128, .f32⟩
  | 104 => ⟨S2x4x6x128x128, .f32⟩
  | 105 => ⟨S2x4x6x128x128, .f32⟩
  | 106 => ⟨S2x4x6x128x128, .f32⟩
  | 107 => ⟨S2x4x6x128x128, .f32⟩
  | 108 => ⟨S2x4x6x128x128, .f32⟩
  | 109 => ⟨S2x4x6x128x128, .f32⟩
  | 110 => ⟨S2x4x6x128x128, .f32⟩
  | 111 => ⟨S2x4x6x128x128, .f32⟩
  | 112 => ⟨S2x4x6x128x128, .f32⟩
  | 113 => ⟨S2x4x6x128x128, .f32⟩
  | 114 => ⟨S2x4x6x128x128, .f32⟩
  | 115 => ⟨S2x4x6x128x128, .f32⟩
  | 116 => ⟨S1x2x4x6x128x128, .f32⟩
  | 117 => ⟨S2x4x6x128x128, .f32⟩
  | 118 => ⟨S1x2x4x6x128x128, .f32⟩
  | 119 => ⟨S2x4x6x128x128, .f32⟩
  | 120 => ⟨S1x2x4x6x128x128, .f32⟩
  | 121 => ⟨S2x4x6x128x128, .f32⟩
  | 122 => ⟨S2x4x6x128x128, .f32⟩
  | 123 => ⟨S2x4x6x128x128, .f32⟩
  | 124 => ⟨S2x4x6x128x128, .f32⟩
  | 125 => ⟨S2x4x6x128x128, .f32⟩
  | 126 => ⟨S2x4x6x128x128, .f32⟩
  | 127 => ⟨S2x4x6x128x128, .f32⟩
  | _ => ⟨S9216x7168, .f32⟩

abbrev hbmTy0_4 (i : Nat) : BufTy := match i % 128 with
  | 0 => ⟨S2x4x6x128x128, .f32⟩
  | 1 => ⟨S2x4x6x128x128, .f32⟩
  | 2 => ⟨S2x4x6x128x128, .f32⟩
  | 3 => ⟨S2x4x6x128x128, .f32⟩
  | 4 => ⟨S2x4x6x128x128, .f32⟩
  | 5 => ⟨S2x4x6x128x128, .f32⟩
  | 6 => ⟨S2x4x6x128x128, .f32⟩
  | 7 => ⟨S2x4x6x128x128, .f32⟩
  | 8 => ⟨S1x2x4x6x128x128, .f32⟩
  | 9 => ⟨S2x4x6x128x128, .f32⟩
  | 10 => ⟨S1x2x4x6x128x128, .f32⟩
  | 11 => ⟨S2x4x6x128x128, .f32⟩
  | 12 => ⟨S1x2x4x6x128x128, .f32⟩
  | 13 => ⟨S2x4x6x128x128, .f32⟩
  | 14 => ⟨S2x4x6x128x128, .f32⟩
  | 15 => ⟨S2x4x6x128x128, .f32⟩
  | 16 => ⟨S2x4x6x128x128, .f32⟩
  | 17 => ⟨S2x4x6x128x128, .f32⟩
  | 18 => ⟨S2x4x6x128x128, .f32⟩
  | 19 => ⟨S2x4x6x128x128, .f32⟩
  | 20 => ⟨S2x4x6x128x128, .f32⟩
  | 21 => ⟨S2x4x6x128x128, .f32⟩
  | 22 => ⟨S2x4x6x128x128, .f32⟩
  | 23 => ⟨S2x4x6x128x128, .f32⟩
  | 24 => ⟨S2x4x6x128x128, .f32⟩
  | 25 => ⟨S2x4x6x128x128, .f32⟩
  | 26 => ⟨S2x4x6x128x128, .f32⟩
  | 27 => ⟨S2x4x6x128x128, .f32⟩
  | 28 => ⟨S1x2x4x6x128x128, .f32⟩
  | 29 => ⟨S1x2x4x6x128x128, .f32⟩
  | 30 => ⟨S1x2x4x6x128x128, .f32⟩
  | 31 => ⟨S1x2x4x6x128x128, .f32⟩
  | 32 => ⟨S1x2x4x6x128x128, .f32⟩
  | 33 => ⟨S1x2x4x6x128x128, .f32⟩
  | 34 => ⟨S1x2x4x6x128x128, .f32⟩
  | 35 => ⟨S1x2x4x6x128x128, .f32⟩
  | 36 => ⟨S1x2x4x6x128x128, .f32⟩
  | 37 => ⟨S1x2x4x6x128x128, .f32⟩
  | 38 => ⟨S1x2x4x6x128x128, .f32⟩
  | 39 => ⟨S1x2x4x6x128x128, .f32⟩
  | 40 => ⟨S1x2x4x6x128x128, .f32⟩
  | 41 => ⟨S1x2x4x6x128x128, .f32⟩
  | 42 => ⟨S1x2x4x6x128x128, .f32⟩
  | 43 => ⟨S1x2x4x6x128x128, .f32⟩
  | 44 => ⟨S1x2x4x6x128x128, .f32⟩
  | 45 => ⟨S1x2x4x6x128x128, .f32⟩
  | 46 => ⟨S16x2x4x6x128x128, .f32⟩
  | 47 => ⟨S2x2x4x6x128x128, .f32⟩
  | 48 => ⟨S18x2x4x6x128x128, .f32⟩
  | 49 => ⟨S2x4x6x18x128x128, .f32⟩
  | 50 => ⟨S2x4x6x2304x128, .f32⟩
  | 51 => ⟨S1x4x6x256x128, .f32⟩
  | 52 => ⟨S4x6x256x128, .f32⟩
  | 53 => ⟨S1x4x6x2048x128, .f32⟩
  | 54 => ⟨S4x6x2048x128, .f32⟩
  | 55 => ⟨S4x2048x6x128, .f32⟩
  | 56 => ⟨S8192x768, .f32⟩
  | 57 => ⟨S4x256x6x128, .f32⟩
  | 58 => ⟨S1024x768, .f32⟩
  | 59 => ⟨S9216x768, .f32⟩
  | 60 => ⟨S1x4x6x256x128, .f32⟩
  | 61 => ⟨S4x6x256x128, .f32⟩
  | 62 => ⟨S1x4x6x2048x128, .f32⟩
  | 63 => ⟨S4x6x2048x128, .f32⟩
  | 64 => ⟨S4x6x256x128, .f32⟩
  | 65 => ⟨S4x6x2048x128, .f32⟩
  | 66 => ⟨S4x2048x6x128, .f32⟩
  | 67 => ⟨S8192x768, .f32⟩
  | 68 => ⟨S4x256x6x128, .f32⟩
  | 69 => ⟨S1024x768, .f32⟩
  | 70 => ⟨S9216x768, .f32⟩
  | _ => ⟨S9216x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S9216x7168, .f32⟩

abbrev bufTy : (tb : Table) → Fin (tcTables nBuf tb) → BufTy
  | .hbm, ⟨i, _⟩ => hbmTy i
  | _, _ => ⟨S9216x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_cst_1 : Ref sig .tc := ⟨.hbm, 87, rfl⟩
abbrev main_v83 : Ref sig .tc := ⟨.hbm, 88, rfl⟩
abbrev main_v84 : Ref sig .tc := ⟨.hbm, 89, rfl⟩
abbrev main_cst_2 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_cst_3 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_cst_4 : Ref sig .tc := ⟨.hbm, 110, rfl⟩
abbrev main_v103 : Ref sig .tc := ⟨.hbm, 111, rfl⟩
abbrev main_v104 : Ref sig .tc := ⟨.hbm, 112, rfl⟩
abbrev main_cst_5 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_cst_6 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_v112 : Ref sig .tc := ⟨.hbm, 125, rfl⟩
abbrev main_v113 : Ref sig .tc := ⟨.hbm, 126, rfl⟩
abbrev main_cst_7 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_cst_8 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_cst_9 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_cst_10 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_v300 : Ref sig .tc := ⟨.hbm, 317, rfl⟩
abbrev main_v301 : Ref sig .tc := ⟨.hbm, 318, rfl⟩
abbrev main_v302 : Ref sig .tc := ⟨.hbm, 319, rfl⟩
abbrev main_v303 : Ref sig .tc := ⟨.hbm, 320, rfl⟩
abbrev main_v304 : Ref sig .tc := ⟨.hbm, 321, rfl⟩
abbrev main_v305 : Ref sig .tc := ⟨.hbm, 322, rfl⟩
abbrev main_v306 : Ref sig .tc := ⟨.hbm, 323, rfl⟩
abbrev main_v307 : Ref sig .tc := ⟨.hbm, 324, rfl⟩
abbrev main_v308 : Ref sig .tc := ⟨.hbm, 325, rfl⟩
abbrev main_v309 : Ref sig .tc := ⟨.hbm, 326, rfl⟩
abbrev main_v310 : Ref sig .tc := ⟨.hbm, 327, rfl⟩
abbrev main_v311 : Ref sig .tc := ⟨.hbm, 328, rfl⟩
abbrev main_v312 : Ref sig .tc := ⟨.hbm, 329, rfl⟩
abbrev main_v313 : Ref sig .tc := ⟨.hbm, 330, rfl⟩
abbrev main_v314 : Ref sig .tc := ⟨.hbm, 331, rfl⟩
abbrev main_v315 : Ref sig .tc := ⟨.hbm, 332, rfl⟩
abbrev main_v316 : Ref sig .tc := ⟨.hbm, 333, rfl⟩
abbrev main_v317 : Ref sig .tc := ⟨.hbm, 334, rfl⟩
abbrev main_v318 : Ref sig .tc := ⟨.hbm, 335, rfl⟩
abbrev main_v319 : Ref sig .tc := ⟨.hbm, 336, rfl⟩
abbrev main_v320 : Ref sig .tc := ⟨.hbm, 337, rfl⟩
abbrev main_v321 : Ref sig .tc := ⟨.hbm, 338, rfl⟩
abbrev main_v322 : Ref sig .tc := ⟨.hbm, 339, rfl⟩
abbrev main_v323 : Ref sig .tc := ⟨.hbm, 340, rfl⟩
abbrev main_v324 : Ref sig .tc := ⟨.hbm, 341, rfl⟩
abbrev main_v325 : Ref sig .tc := ⟨.hbm, 342, rfl⟩
abbrev main_v326 : Ref sig .tc := ⟨.hbm, 343, rfl⟩
abbrev main_v327 : Ref sig .tc := ⟨.hbm, 344, rfl⟩
abbrev main_v328 : Ref sig .tc := ⟨.hbm, 345, rfl⟩
abbrev main_v329 : Ref sig .tc := ⟨.hbm, 346, rfl⟩
abbrev main_v330 : Ref sig .tc := ⟨.hbm, 347, rfl⟩
abbrev main_v331 : Ref sig .tc := ⟨.hbm, 348, rfl⟩
abbrev main_v332 : Ref sig .tc := ⟨.hbm, 349, rfl⟩
abbrev main_v333 : Ref sig .tc := ⟨.hbm, 350, rfl⟩
abbrev main_v334 : Ref sig .tc := ⟨.hbm, 351, rfl⟩
abbrev main_v335 : Ref sig .tc := ⟨.hbm, 352, rfl⟩
abbrev main_v336 : Ref sig .tc := ⟨.hbm, 353, rfl⟩
abbrev main_v337 : Ref sig .tc := ⟨.hbm, 354, rfl⟩
abbrev main_v338 : Ref sig .tc := ⟨.hbm, 355, rfl⟩
abbrev main_v339 : Ref sig .tc := ⟨.hbm, 356, rfl⟩
abbrev main_v340 : Ref sig .tc := ⟨.hbm, 357, rfl⟩
abbrev main_v341 : Ref sig .tc := ⟨.hbm, 358, rfl⟩
abbrev main_v342 : Ref sig .tc := ⟨.hbm, 359, rfl⟩
abbrev main_v343 : Ref sig .tc := ⟨.hbm, 360, rfl⟩
abbrev main_v344 : Ref sig .tc := ⟨.hbm, 361, rfl⟩
abbrev main_v345 : Ref sig .tc := ⟨.hbm, 362, rfl⟩
abbrev main_v346 : Ref sig .tc := ⟨.hbm, 363, rfl⟩
abbrev main_v347 : Ref sig .tc := ⟨.hbm, 364, rfl⟩
abbrev main_v348 : Ref sig .tc := ⟨.hbm, 365, rfl⟩
abbrev main_v349 : Ref sig .tc := ⟨.hbm, 366, rfl⟩
abbrev main_v350 : Ref sig .tc := ⟨.hbm, 367, rfl⟩
abbrev main_v351 : Ref sig .tc := ⟨.hbm, 368, rfl⟩
abbrev main_v352 : Ref sig .tc := ⟨.hbm, 369, rfl⟩
abbrev main_v353 : Ref sig .tc := ⟨.hbm, 370, rfl⟩
abbrev main_v354 : Ref sig .tc := ⟨.hbm, 371, rfl⟩
abbrev main_v355 : Ref sig .tc := ⟨.hbm, 372, rfl⟩
abbrev main_v356 : Ref sig .tc := ⟨.hbm, 373, rfl⟩
abbrev main_v357 : Ref sig .tc := ⟨.hbm, 374, rfl⟩
abbrev main_v358 : Ref sig .tc := ⟨.hbm, 375, rfl⟩
abbrev main_v359 : Ref sig .tc := ⟨.hbm, 376, rfl⟩
abbrev main_v360 : Ref sig .tc := ⟨.hbm, 377, rfl⟩
abbrev main_v361 : Ref sig .tc := ⟨.hbm, 378, rfl⟩
abbrev main_v362 : Ref sig .tc := ⟨.hbm, 379, rfl⟩
abbrev main_v363 : Ref sig .tc := ⟨.hbm, 380, rfl⟩
abbrev main_v364 : Ref sig .tc := ⟨.hbm, 381, rfl⟩
abbrev main_v365 : Ref sig .tc := ⟨.hbm, 382, rfl⟩
abbrev main_v366 : Ref sig .tc := ⟨.hbm, 383, rfl⟩
abbrev main_v367 : Ref sig .tc := ⟨.hbm, 384, rfl⟩
abbrev main_v368 : Ref sig .tc := ⟨.hbm, 385, rfl⟩
abbrev main_v369 : Ref sig .tc := ⟨.hbm, 386, rfl⟩
abbrev main_v370 : Ref sig .tc := ⟨.hbm, 387, rfl⟩
abbrev main_v371 : Ref sig .tc := ⟨.hbm, 388, rfl⟩
abbrev main_v372 : Ref sig .tc := ⟨.hbm, 389, rfl⟩
abbrev main_v373 : Ref sig .tc := ⟨.hbm, 390, rfl⟩
abbrev main_v374 : Ref sig .tc := ⟨.hbm, 391, rfl⟩
abbrev main_v375 : Ref sig .tc := ⟨.hbm, 392, rfl⟩
abbrev main_v376 : Ref sig .tc := ⟨.hbm, 393, rfl⟩
abbrev main_v377 : Ref sig .tc := ⟨.hbm, 394, rfl⟩
abbrev main_v378 : Ref sig .tc := ⟨.hbm, 395, rfl⟩
abbrev main_v379 : Ref sig .tc := ⟨.hbm, 396, rfl⟩
abbrev main_v380 : Ref sig .tc := ⟨.hbm, 397, rfl⟩
abbrev main_v381 : Ref sig .tc := ⟨.hbm, 398, rfl⟩
abbrev main_v382 : Ref sig .tc := ⟨.hbm, 399, rfl⟩
abbrev main_v383 : Ref sig .tc := ⟨.hbm, 400, rfl⟩
abbrev main_v384 : Ref sig .tc := ⟨.hbm, 401, rfl⟩
abbrev main_v385 : Ref sig .tc := ⟨.hbm, 402, rfl⟩
abbrev main_v386 : Ref sig .tc := ⟨.hbm, 403, rfl⟩
abbrev main_v387 : Ref sig .tc := ⟨.hbm, 404, rfl⟩
abbrev main_v388 : Ref sig .tc := ⟨.hbm, 405, rfl⟩
abbrev main_v389 : Ref sig .tc := ⟨.hbm, 406, rfl⟩
abbrev main_v390 : Ref sig .tc := ⟨.hbm, 407, rfl⟩
abbrev main_v391 : Ref sig .tc := ⟨.hbm, 408, rfl⟩
abbrev main_v392 : Ref sig .tc := ⟨.hbm, 409, rfl⟩
abbrev main_v393 : Ref sig .tc := ⟨.hbm, 410, rfl⟩
abbrev main_v394 : Ref sig .tc := ⟨.hbm, 411, rfl⟩
abbrev main_v395 : Ref sig .tc := ⟨.hbm, 412, rfl⟩
abbrev main_v396 : Ref sig .tc := ⟨.hbm, 413, rfl⟩
abbrev main_v397 : Ref sig .tc := ⟨.hbm, 414, rfl⟩
abbrev main_v398 : Ref sig .tc := ⟨.hbm, 415, rfl⟩
abbrev main_v399 : Ref sig .tc := ⟨.hbm, 416, rfl⟩
abbrev main_v400 : Ref sig .tc := ⟨.hbm, 417, rfl⟩
abbrev main_v401 : Ref sig .tc := ⟨.hbm, 418, rfl⟩
abbrev main_v402 : Ref sig .tc := ⟨.hbm, 419, rfl⟩
abbrev main_v403 : Ref sig .tc := ⟨.hbm, 420, rfl⟩
abbrev main_v404 : Ref sig .tc := ⟨.hbm, 421, rfl⟩
abbrev main_v405 : Ref sig .tc := ⟨.hbm, 422, rfl⟩
abbrev main_v406 : Ref sig .tc := ⟨.hbm, 423, rfl⟩
abbrev main_v407 : Ref sig .tc := ⟨.hbm, 424, rfl⟩
abbrev main_v408 : Ref sig .tc := ⟨.hbm, 425, rfl⟩
abbrev main_v409 : Ref sig .tc := ⟨.hbm, 426, rfl⟩
abbrev main_v410 : Ref sig .tc := ⟨.hbm, 427, rfl⟩
abbrev main_v411 : Ref sig .tc := ⟨.hbm, 428, rfl⟩
abbrev main_v412 : Ref sig .tc := ⟨.hbm, 429, rfl⟩
abbrev main_v413 : Ref sig .tc := ⟨.hbm, 430, rfl⟩
abbrev main_v414 : Ref sig .tc := ⟨.hbm, 431, rfl⟩
abbrev main_v415 : Ref sig .tc := ⟨.hbm, 432, rfl⟩
abbrev main_v416 : Ref sig .tc := ⟨.hbm, 433, rfl⟩
abbrev main_v417 : Ref sig .tc := ⟨.hbm, 434, rfl⟩
abbrev main_v418 : Ref sig .tc := ⟨.hbm, 435, rfl⟩
abbrev main_v419 : Ref sig .tc := ⟨.hbm, 436, rfl⟩
abbrev main_v420 : Ref sig .tc := ⟨.hbm, 437, rfl⟩
abbrev main_v421 : Ref sig .tc := ⟨.hbm, 438, rfl⟩
abbrev main_v422 : Ref sig .tc := ⟨.hbm, 439, rfl⟩
abbrev main_v423 : Ref sig .tc := ⟨.hbm, 440, rfl⟩
abbrev main_v424 : Ref sig .tc := ⟨.hbm, 441, rfl⟩
abbrev main_v425 : Ref sig .tc := ⟨.hbm, 442, rfl⟩
abbrev main_v426 : Ref sig .tc := ⟨.hbm, 443, rfl⟩
abbrev main_v427 : Ref sig .tc := ⟨.hbm, 444, rfl⟩
abbrev main_v428 : Ref sig .tc := ⟨.hbm, 445, rfl⟩
abbrev main_v429 : Ref sig .tc := ⟨.hbm, 446, rfl⟩
abbrev main_v430 : Ref sig .tc := ⟨.hbm, 447, rfl⟩
abbrev main_v431 : Ref sig .tc := ⟨.hbm, 448, rfl⟩
abbrev main_v432 : Ref sig .tc := ⟨.hbm, 449, rfl⟩
abbrev main_v433 : Ref sig .tc := ⟨.hbm, 450, rfl⟩
abbrev main_v434 : Ref sig .tc := ⟨.hbm, 451, rfl⟩
abbrev main_v435 : Ref sig .tc := ⟨.hbm, 452, rfl⟩
abbrev main_v436 : Ref sig .tc := ⟨.hbm, 453, rfl⟩
abbrev main_v437 : Ref sig .tc := ⟨.hbm, 454, rfl⟩
abbrev main_v438 : Ref sig .tc := ⟨.hbm, 455, rfl⟩
abbrev main_v439 : Ref sig .tc := ⟨.hbm, 456, rfl⟩
abbrev main_v440 : Ref sig .tc := ⟨.hbm, 457, rfl⟩
abbrev main_v441 : Ref sig .tc := ⟨.hbm, 458, rfl⟩
abbrev main_v442 : Ref sig .tc := ⟨.hbm, 459, rfl⟩
abbrev main_v443 : Ref sig .tc := ⟨.hbm, 460, rfl⟩
abbrev main_v444 : Ref sig .tc := ⟨.hbm, 461, rfl⟩
abbrev main_v445 : Ref sig .tc := ⟨.hbm, 462, rfl⟩
abbrev main_v446 : Ref sig .tc := ⟨.hbm, 463, rfl⟩
abbrev main_v447 : Ref sig .tc := ⟨.hbm, 464, rfl⟩
abbrev main_v448 : Ref sig .tc := ⟨.hbm, 465, rfl⟩
abbrev main_v449 : Ref sig .tc := ⟨.hbm, 466, rfl⟩
abbrev main_v450 : Ref sig .tc := ⟨.hbm, 467, rfl⟩
abbrev main_v451 : Ref sig .tc := ⟨.hbm, 468, rfl⟩
abbrev main_v452 : Ref sig .tc := ⟨.hbm, 469, rfl⟩
abbrev main_v453 : Ref sig .tc := ⟨.hbm, 470, rfl⟩
abbrev main_v454 : Ref sig .tc := ⟨.hbm, 471, rfl⟩
abbrev main_v455 : Ref sig .tc := ⟨.hbm, 472, rfl⟩
abbrev main_v456 : Ref sig .tc := ⟨.hbm, 473, rfl⟩
abbrev main_v457 : Ref sig .tc := ⟨.hbm, 474, rfl⟩
abbrev main_v458 : Ref sig .tc := ⟨.hbm, 475, rfl⟩
abbrev main_v459 : Ref sig .tc := ⟨.hbm, 476, rfl⟩
abbrev main_v460 : Ref sig .tc := ⟨.hbm, 477, rfl⟩
abbrev main_v461 : Ref sig .tc := ⟨.hbm, 478, rfl⟩
abbrev main_v462 : Ref sig .tc := ⟨.hbm, 479, rfl⟩
abbrev main_v463 : Ref sig .tc := ⟨.hbm, 480, rfl⟩
abbrev main_v464 : Ref sig .tc := ⟨.hbm, 481, rfl⟩
abbrev main_v465 : Ref sig .tc := ⟨.hbm, 482, rfl⟩
abbrev main_v466 : Ref sig .tc := ⟨.hbm, 483, rfl⟩
abbrev main_v467 : Ref sig .tc := ⟨.hbm, 484, rfl⟩
abbrev main_v468 : Ref sig .tc := ⟨.hbm, 485, rfl⟩
abbrev main_v469 : Ref sig .tc := ⟨.hbm, 486, rfl⟩
abbrev main_v470 : Ref sig .tc := ⟨.hbm, 487, rfl⟩
abbrev main_v471 : Ref sig .tc := ⟨.hbm, 488, rfl⟩
abbrev main_v472 : Ref sig .tc := ⟨.hbm, 489, rfl⟩
abbrev main_v473 : Ref sig .tc := ⟨.hbm, 490, rfl⟩
abbrev main_v474 : Ref sig .tc := ⟨.hbm, 491, rfl⟩
abbrev main_v475 : Ref sig .tc := ⟨.hbm, 492, rfl⟩
abbrev main_v476 : Ref sig .tc := ⟨.hbm, 493, rfl⟩
abbrev main_v477 : Ref sig .tc := ⟨.hbm, 494, rfl⟩
abbrev main_v478 : Ref sig .tc := ⟨.hbm, 495, rfl⟩
abbrev main_v479 : Ref sig .tc := ⟨.hbm, 496, rfl⟩
abbrev main_v480 : Ref sig .tc := ⟨.hbm, 497, rfl⟩
abbrev main_v481 : Ref sig .tc := ⟨.hbm, 498, rfl⟩
abbrev main_v482 : Ref sig .tc := ⟨.hbm, 499, rfl⟩
abbrev main_v483 : Ref sig .tc := ⟨.hbm, 500, rfl⟩
abbrev main_v484 : Ref sig .tc := ⟨.hbm, 501, rfl⟩
abbrev main_v485 : Ref sig .tc := ⟨.hbm, 502, rfl⟩
abbrev main_v486 : Ref sig .tc := ⟨.hbm, 503, rfl⟩
abbrev main_v487 : Ref sig .tc := ⟨.hbm, 504, rfl⟩
abbrev main_v488 : Ref sig .tc := ⟨.hbm, 505, rfl⟩
abbrev main_v489 : Ref sig .tc := ⟨.hbm, 506, rfl⟩
abbrev main_v490 : Ref sig .tc := ⟨.hbm, 507, rfl⟩
abbrev main_v491 : Ref sig .tc := ⟨.hbm, 508, rfl⟩
abbrev main_v492 : Ref sig .tc := ⟨.hbm, 509, rfl⟩
abbrev main_v493 : Ref sig .tc := ⟨.hbm, 510, rfl⟩
abbrev main_v494 : Ref sig .tc := ⟨.hbm, 511, rfl⟩
abbrev main_v495 : Ref sig .tc := ⟨.hbm, 512, rfl⟩
abbrev main_v496 : Ref sig .tc := ⟨.hbm, 513, rfl⟩
abbrev main_v497 : Ref sig .tc := ⟨.hbm, 514, rfl⟩
abbrev main_v498 : Ref sig .tc := ⟨.hbm, 515, rfl⟩
abbrev main_v499 : Ref sig .tc := ⟨.hbm, 516, rfl⟩
abbrev main_v500 : Ref sig .tc := ⟨.hbm, 517, rfl⟩
abbrev main_v501 : Ref sig .tc := ⟨.hbm, 518, rfl⟩
abbrev main_v502 : Ref sig .tc := ⟨.hbm, 519, rfl⟩
abbrev main_v503 : Ref sig .tc := ⟨.hbm, 520, rfl⟩
abbrev main_v504 : Ref sig .tc := ⟨.hbm, 521, rfl⟩
abbrev main_v505 : Ref sig .tc := ⟨.hbm, 522, rfl⟩
abbrev main_v506 : Ref sig .tc := ⟨.hbm, 523, rfl⟩
abbrev main_v507 : Ref sig .tc := ⟨.hbm, 524, rfl⟩
abbrev main_v508 : Ref sig .tc := ⟨.hbm, 525, rfl⟩
abbrev main_v509 : Ref sig .tc := ⟨.hbm, 526, rfl⟩
abbrev main_v510 : Ref sig .tc := ⟨.hbm, 527, rfl⟩
abbrev main_v511 : Ref sig .tc := ⟨.hbm, 528, rfl⟩
abbrev main_v512 : Ref sig .tc := ⟨.hbm, 529, rfl⟩
abbrev main_v513 : Ref sig .tc := ⟨.hbm, 530, rfl⟩
abbrev main_v514 : Ref sig .tc := ⟨.hbm, 531, rfl⟩
abbrev main_v515 : Ref sig .tc := ⟨.hbm, 532, rfl⟩
abbrev main_v516 : Ref sig .tc := ⟨.hbm, 533, rfl⟩
abbrev main_v517 : Ref sig .tc := ⟨.hbm, 534, rfl⟩
abbrev main_v518 : Ref sig .tc := ⟨.hbm, 535, rfl⟩
abbrev main_v519 : Ref sig .tc := ⟨.hbm, 536, rfl⟩
abbrev main_v520 : Ref sig .tc := ⟨.hbm, 537, rfl⟩
abbrev main_v521 : Ref sig .tc := ⟨.hbm, 538, rfl⟩
abbrev main_v522 : Ref sig .tc := ⟨.hbm, 539, rfl⟩
abbrev main_v523 : Ref sig .tc := ⟨.hbm, 540, rfl⟩
abbrev main_v524 : Ref sig .tc := ⟨.hbm, 541, rfl⟩
abbrev main_v525 : Ref sig .tc := ⟨.hbm, 542, rfl⟩
abbrev main_v526 : Ref sig .tc := ⟨.hbm, 543, rfl⟩
abbrev main_v527 : Ref sig .tc := ⟨.hbm, 544, rfl⟩
abbrev main_v528 : Ref sig .tc := ⟨.hbm, 545, rfl⟩
abbrev main_v529 : Ref sig .tc := ⟨.hbm, 546, rfl⟩
abbrev main_v530 : Ref sig .tc := ⟨.hbm, 547, rfl⟩
abbrev main_v531 : Ref sig .tc := ⟨.hbm, 548, rfl⟩
abbrev main_v532 : Ref sig .tc := ⟨.hbm, 549, rfl⟩
abbrev main_v533 : Ref sig .tc := ⟨.hbm, 550, rfl⟩
abbrev main_v534 : Ref sig .tc := ⟨.hbm, 551, rfl⟩
abbrev main_v535 : Ref sig .tc := ⟨.hbm, 552, rfl⟩
abbrev main_v536 : Ref sig .tc := ⟨.hbm, 553, rfl⟩
abbrev main_v537 : Ref sig .tc := ⟨.hbm, 554, rfl⟩
abbrev main_v538 : Ref sig .tc := ⟨.hbm, 555, rfl⟩
abbrev main_v539 : Ref sig .tc := ⟨.hbm, 556, rfl⟩
abbrev main_v540 : Ref sig .tc := ⟨.hbm, 557, rfl⟩
abbrev main_v541 : Ref sig .tc := ⟨.hbm, 558, rfl⟩
abbrev main_v542 : Ref sig .tc := ⟨.hbm, 559, rfl⟩
abbrev main_v543 : Ref sig .tc := ⟨.hbm, 560, rfl⟩
abbrev main_v544 : Ref sig .tc := ⟨.hbm, 561, rfl⟩
abbrev main_v545 : Ref sig .tc := ⟨.hbm, 562, rfl⟩
abbrev main_v546 : Ref sig .tc := ⟨.hbm, 563, rfl⟩
abbrev main_v547 : Ref sig .tc := ⟨.hbm, 564, rfl⟩
abbrev main_v548 : Ref sig .tc := ⟨.hbm, 565, rfl⟩
abbrev main_v549 : Ref sig .tc := ⟨.hbm, 566, rfl⟩
abbrev main_v550 : Ref sig .tc := ⟨.hbm, 567, rfl⟩
abbrev main_v551 : Ref sig .tc := ⟨.hbm, 568, rfl⟩
abbrev main_v552 : Ref sig .tc := ⟨.hbm, 569, rfl⟩
abbrev main_v553 : Ref sig .tc := ⟨.hbm, 570, rfl⟩
abbrev main_v554 : Ref sig .tc := ⟨.hbm, 571, rfl⟩
abbrev main_v555 : Ref sig .tc := ⟨.hbm, 572, rfl⟩
abbrev main_v556 : Ref sig .tc := ⟨.hbm, 573, rfl⟩
abbrev main_v557 : Ref sig .tc := ⟨.hbm, 574, rfl⟩
abbrev main_v558 : Ref sig .tc := ⟨.hbm, 575, rfl⟩
abbrev main_v559 : Ref sig .tc := ⟨.hbm, 576, rfl⟩
abbrev main_v560 : Ref sig .tc := ⟨.hbm, 577, rfl⟩
abbrev main_v561 : Ref sig .tc := ⟨.hbm, 578, rfl⟩
abbrev main_v562 : Ref sig .tc := ⟨.hbm, 579, rfl⟩
abbrev main_v563 : Ref sig .tc := ⟨.hbm, 580, rfl⟩
abbrev main_v564 : Ref sig .tc := ⟨.hbm, 581, rfl⟩
abbrev main_v565 : Ref sig .tc := ⟨.hbm, 582, rfl⟩

abbrev nD : Nat := 1
abbrev τ : Topo := Topo.v7x

variable {F : FTy → Type} [FloatOps F]
-- ==== Mlp.lean ====
abbrev S8192x2048 : Shape := ⟨2, ![8192, 2048]⟩
abbrev S2048 : Shape := ⟨1, ![2048]⟩
abbrev S8x1x12288 : Shape := ⟨3, ![8, 1, 12288]⟩
abbrev S2x2048x8192 : Shape := ⟨3, ![2, 2048, 8192]⟩
abbrev S2x8192x2048 : Shape := ⟨3, ![2, 8192, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x1x12288, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .f32⟩
  | .local _ .vmem, ⟨10, _⟩ => ⟨S1x2048x512, .f32⟩
  | .local _ .vmem, ⟨11, _⟩ => ⟨S1x512x2048, .f32⟩
  | .local _ .vmem, ⟨12, _⟩ => ⟨S1x512x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c4_i32_5 : BitVec 32 := 4#32
  let c0_i32_6 : BitVec 32 := 0#32
  ![v18.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MlpRefIdeal.lean ====
abbrev S8192x2048 : Shape := ⟨2, ![8192, 2048]⟩
abbrev S2048 : Shape := ⟨1, ![2048]⟩
abbrev S8x1x12288 : Shape := ⟨3, ![8, 1, 12288]⟩
abbrev S2x2048x8192 : Shape := ⟨3, ![2, 2048, 8192]⟩
abbrev S2x8192x2048 : Shape := ⟨3, ![2, 8192, 2048]⟩
abbrev S4x2048x2048 : Shape := ⟨3, ![4, 2048, 2048]⟩
abbrev S4x1x12288 : Shape := ⟨3, ![4, 1, 12288]⟩
abbrev S4x1x2048 : Shape := ⟨3, ![4, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x1x12288, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S4x2048x2048, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S1x2048x8192, .f32⟩
  | .hbm, ⟨15, _⟩ => ⟨S2048x8192, .f32⟩
  | .hbm, ⟨16, _⟩ => ⟨S1x8192x2048, .f32⟩
  | .hbm, ⟨17, _⟩ => ⟨S8192x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x8192, .f32⟩
  | .hbm, ⟨42, _⟩ => ⟨S_, .f32⟩
  | .hbm, ⟨43, _⟩ => ⟨S4x2048x8192, .f32⟩
  | .hbm, ⟨44, _⟩ => ⟨S4x2048x8192, .f32⟩
  | .hbm, ⟨45, _⟩ => ⟨S4x2048x8192, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1, .f32⟩
  | .hbm, ⟨61, _⟩ => ⟨S4x2048x2048, .f32⟩
  | .hbm, ⟨62, _⟩ => ⟨S4x2048x2048, .f32⟩
  | .hbm, ⟨63, _⟩ => ⟨S1x1x2048, .f32⟩
  | .hbm, ⟨64, _⟩ => ⟨S4x2048x2048, .f32⟩
  | .hbm, ⟨65, _⟩ => ⟨S4x2048x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== In.lean ====
abbrev S9216x2048 : Shape := ⟨2, ![9216, 2048]⟩
abbrev S2048 : Shape := ⟨1, ![2048]⟩
abbrev S8x1x12288 : Shape := ⟨3, ![8, 1, 12288]⟩
abbrev S2048x7168 : Shape := ⟨2, ![2048, 7168]⟩
abbrev S1x2048 : Shape := ⟨2, ![1, 2048]⟩
abbrev S9216x7168 : Shape := ⟨2, ![9216, 7168]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x7168, .bf16⟩
  | .hbm, ⟨4, _⟩ => ⟨S1x2048, .f32⟩
  | .hbm, ⟨5, _⟩ => ⟨S9216x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InRefIdeal.lean ====
abbrev S9216x2048 : Shape := ⟨2, ![9216, 2048]⟩
abbrev S2048 : Shape := ⟨1, ![2048]⟩
abbrev S8x1x12288 : Shape := ⟨3, ![8, 1, 12288]⟩
abbrev S2048x7168 : Shape := ⟨2, ![2048, 7168]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S4x1x12288 : Shape := ⟨3, ![4, 1, 12288]⟩
abbrev S4x1x2048 : Shape := ⟨3, ![4, 1, 2048]⟩
abbrev S1x1x12288 : Shape := ⟨3, ![1, 1, 12288]⟩
abbrev S1x1x2048 : Shape := ⟨3, ![1, 1, 2048]⟩
abbrev S_ : Shape := ⟨0, ![]⟩
abbrev S4x2048 : Shape := ⟨2, ![4, 2048]⟩
abbrev S4x2048x1 : Shape := ⟨3, ![4, 2048, 1]⟩
abbrev S4x2048x7168 : Shape := ⟨3, ![4, 2048, 7168]⟩
abbrev S4x256 : Shape := ⟨2, ![4, 256]⟩
abbrev S4x256x1 : Shape := ⟨3, ![4, 256, 1]⟩
abbrev S4x256x7168 : Shape := ⟨3, ![4, 256, 7168]⟩
abbrev S8192x7168 : Shape := ⟨2, ![8192, 7168]⟩
abbrev S1024x7168 : Shape := ⟨2, ![1024, 7168]⟩
abbrev S9216x7168 : Shape := ⟨2, ![9216, 7168]⟩

abbrev nBuf : Space → Nat
  | .hbm => 74
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x7168, .bf16⟩
  | .hbm, ⟨4, _⟩ => ⟨S8192x2048, .f32⟩
  | .hbm, ⟨5, _⟩ => ⟨S4x2048x2048, .f32⟩
  | .hbm, ⟨6, _⟩ => ⟨S1024x2048, .f32⟩
  | .hbm, ⟨7, _⟩ => ⟨S4x256x2048, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S1x1x12288, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S1x1x2048, .f32⟩
  | .hbm, ⟨22, _⟩ => ⟨S2048x7168, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x1x2048, .f32⟩
  | .hbm, ⟨41, _⟩ => ⟨S4x1x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x7168, .f32⟩
  | .hbm, ⟨47, _⟩ => ⟨S4x256x2048, .f32⟩
  | .hbm, ⟨48, _⟩ => ⟨S_, .f32⟩
  | .hbm, ⟨49, _⟩ => ⟨S4x256, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S_, .f32⟩
  | .hbm, ⟨55, _⟩ => ⟨S4x256x1, .f32⟩
  | .hbm, ⟨56, _⟩ => ⟨S4x256x1, .f32⟩
  | .hbm, ⟨57, _⟩ => ⟨S4x256x1, .f32⟩
  | .hbm, ⟨58, _⟩ => ⟨S4x256x2048, .f32⟩
  | .hbm, ⟨59, _⟩ => ⟨S4x256x2048, .f32⟩
  | .hbm, ⟨60, _⟩ => ⟨S1x1x2048, .f32⟩
  | .hbm, ⟨61, _⟩ => ⟨S4x256x2048, .f32⟩
  | .hbm, ⟨62, _⟩ => ⟨S4x256x2048, .f32⟩
  | .hbm, ⟨63, _⟩ => ⟨S_, .f32⟩
  | .hbm, ⟨64, _⟩ => ⟨S1x1x2048, .f32⟩
  | .hbm, ⟨65, _⟩ => ⟨S1x1x2048, .f32⟩
  | .hbm, ⟨66, _⟩ => ⟨S4x256x2048, .f32⟩
  | .hbm, ⟨67, _⟩ => ⟨S4x256x2048, .f32⟩
  | .hbm, ⟨68, _⟩ => ⟨S4x256x2048, .f32⟩
  | .hbm, ⟨69, _⟩ => ⟨S4x256x2048, .f32⟩
  | .hbm, ⟨70, _⟩ => ⟨S4x256x7168, .f32⟩
  | .hbm, ⟨71, _⟩ => ⟨S8192x7168, .f32⟩
  | .hbm, ⟨72, _⟩ => ⟨S1024x7168, .f32⟩
  | .hbm, ⟨73, _⟩ => ⟨S9216x7168, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Out.lean ====
abbrev S9216x512 : Shape := ⟨2, ![9216, 512]⟩
abbrev S512x1024 : Shape := ⟨2, ![512, 1024]⟩
abbrev S1024 : Shape := ⟨1, ![1024]⟩
abbrev S9216x768 : Shape := ⟨2, ![9216, 768]⟩
abbrev S9216x7168 : Shape := ⟨2, ![9216, 7168]⟩
abbrev S768 : Shape := ⟨1, ![768]⟩
abbrev S9216x2048 : Shape := ⟨2, ![9216, 2048]⟩
abbrev S8x1x12288 : Shape := ⟨3, ![8, 1, 12288]⟩
abbrev S2x2048x2048 : Shape := ⟨3, ![2, 2048, 2048]⟩
abbrev S1x1024 : Shape := ⟨2, ![1, 1024]⟩
abbrev S1x768 : Shape := ⟨2, ![1, 768]⟩
abbrev S8192x2048 : Shape := ⟨2, ![8192, 2048]⟩
abbrev S256x512 : Shape := ⟨2, ![256, 512]⟩
abbrev S256x768 : Shape := ⟨2, ![256, 768]⟩
abbrev S256x2048 : Shape := ⟨2, ![256, 2048]⟩
abbrev S1x1x2048 : Shape := ⟨3, ![1, 1, 2048]⟩
abbrev S1x2048x2048 : Shape := ⟨3, ![1, 2048, 2048]⟩
abbrev S256x1024 : Shape := ⟨2, ![256, 1024]⟩
abbrev S256x256 : Shape := ⟨2, ![256, 256]⟩
abbrev S1x256x2048 : Shape := ⟨3, ![1, 256, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x2048 : Shape := ⟨2, ![1, 2048]⟩

abbrev nBuf : Space → Nat
  | .hbm => 19
  | .vmem => 25
  | .smem => 0
  | _ => 0

abbrev bufTy : (tb : Table) → Fin (tcTables nBuf tb) → BufTy
  | .hbm, ⟨0, _⟩ => ⟨S9216x512, .f32⟩
  | .hbm, ⟨1, _⟩ => ⟨S512x1024, .f32⟩
  | .hbm, ⟨2, _⟩ => ⟨S1024, .f32⟩
  | .hbm, ⟨3, _⟩ => ⟨S9216x768, .f32⟩
  | .hbm, ⟨4, _⟩ => ⟨S9216x768, .f32⟩
  | .hbm, ⟨5, _⟩ => ⟨S9216x768, .f32⟩
  | .hbm, ⟨6, _⟩ => ⟨S9216x768, .f32⟩
  | .hbm, ⟨7, _⟩ => ⟨S9216x7168, .f32⟩
  | .hbm, ⟨8, _⟩ => ⟨S768, .f32⟩
  | .hbm, ⟨9, _⟩ => ⟨S768, .f32⟩
  | .hbm, ⟨10, _⟩ => ⟨S9216x2048, .f32⟩
  | .hbm, ⟨11, _⟩ => ⟨S8x1x12288, .f32⟩
  | .hbm, ⟨12, _⟩ => ⟨S2x2048x2048, .f32⟩
  | .hbm, ⟨13, _⟩ => ⟨S2x2048x2048, .bf16⟩
  | .hbm, ⟨14, _⟩ => ⟨S512x1024, .bf16⟩
  | .hbm, ⟨15, _⟩ => ⟨S1x1024, .f32⟩
  | .hbm, ⟨16, _⟩ => ⟨S1x768, .f32⟩
  | .hbm, ⟨17, _⟩ => ⟨S1x768, .f32⟩
  | .hbm, ⟨18, _⟩ => ⟨S8192x2048, .f32⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S1x1024, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S1x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S1x768, .f32⟩
  | .local _ .vmem, ⟨18, _⟩ => ⟨S256x2048, .f32⟩
  | .local _ .vmem, ⟨19, _⟩ => ⟨S256x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x2048x2048, .bf16⟩
  | .local _ .vmem, ⟨23, _⟩ => ⟨S256x2048, .f32⟩
  | .local _ .vmem, ⟨24, _⟩ => ⟨S256x2048, .f32⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  ![v18.toNat, c0_i32_4.toNat, c2_i32.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutRefIdeal.lean ====
abbrev S9216x512 : Shape := ⟨2, ![9216, 512]⟩
abbrev S512x1024 : Shape := ⟨2, ![512, 1024]⟩
abbrev S1024 : Shape := ⟨1, ![1024]⟩
abbrev S9216x768 : Shape := ⟨2, ![9216, 768]⟩
abbrev S9216x7168 : Shape := ⟨2, ![9216, 7168]⟩
abbrev S768 : Shape := ⟨1, ![768]⟩
abbrev S9216x2048 : Shape := ⟨2, ![9216, 2048]⟩
abbrev S8x1x12288 : Shape := ⟨3, ![8, 1, 12288]⟩
abbrev S2x2048x2048 : Shape := ⟨3, ![2, 2048, 2048]⟩
abbrev S4x1x2048 : Shape := ⟨3, ![4, 1, 2048]⟩
abbrev S8192x768 : Shape := ⟨2, ![8192, 768]⟩
abbrev S8192x512 : Shape := ⟨2, ![8192, 512]⟩
abbrev S_ : Shape := ⟨0, ![]⟩
abbrev S8192x1024 : Shape := ⟨2, ![8192, 1024]⟩
abbrev S1x1024 : Shape := ⟨2, ![1, 1024]⟩
abbrev S8192x6x128 : Shape := ⟨3, ![8192, 6, 128]⟩
abbrev S8192x6 : Shape := ⟨2, ![8192, 6]⟩
abbrev S8192x6x1 : Shape := ⟨3, ![8192, 6, 1]⟩
abbrev S1x768 : Shape := ⟨2, ![1, 768]⟩
abbrev S8192x2048 : Shape := ⟨2, ![8192, 2048]⟩
abbrev S1x2048x2048 : Shape := ⟨3, ![1, 2048, 2048]⟩
abbrev S2048x2048 : Shape := ⟨2, ![2048, 2048]⟩
abbrev S4x2048x2048 : Shape := ⟨3, ![4, 2048, 2048]⟩

abbrev nBuf : Space → Nat
  | .hbm => 128
  | .vmem => 0
  | .smem => 0
  | _ => 0

abbrev bufTy : (tb : Table) → Fin (tcTables nBuf tb) → BufTy
  | .hbm, ⟨0, _⟩ => ⟨S9216x512, .f32⟩
  | .hbm, ⟨1, _⟩ => ⟨S512x1024, .f32⟩
  | .hbm, ⟨2, _⟩ => ⟨S1024, .f32⟩
  | .hbm, ⟨3, _⟩ => ⟨S9216x768, .f32⟩
  | .hbm, ⟨4, _⟩ => ⟨S9216x768, .f32⟩
  | .hbm, ⟨5, _⟩ => ⟨S9216x768, .f32⟩
  | .hbm, ⟨6, _⟩ => ⟨S9216x768, .f32⟩
  | .hbm, ⟨7, _⟩ => ⟨S9216x7168, .f32⟩
  | .hbm, ⟨8, _⟩ => ⟨S768, .f32⟩
  | .hbm, ⟨9, _⟩ => ⟨S768, .f32⟩
  | .hbm, ⟨10, _⟩ => ⟨S9216x2048, .f32⟩
  | .hbm, ⟨11, _⟩ => ⟨S8x1x12288, .f32⟩
  | .hbm, ⟨12, _⟩ => ⟨S2x2048x2048, .f32⟩
  | .hbm, ⟨13, _⟩ => ⟨S4x1x2048, .f32⟩
  | .hbm, ⟨14, _⟩ => ⟨S8192x768, .f32⟩
  | .hbm, ⟨15, _⟩ => ⟨S8192x768, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x768, .f32⟩
  | .hbm, ⟨50, _⟩ => ⟨S8192x768, .f32⟩
  | .hbm, ⟨51, _⟩ => ⟨S8192x768, .f32⟩
  | .hbm, ⟨52, _⟩ => ⟨S8192x6x128, .f32⟩
  | .hbm, ⟨53, _⟩ => ⟨S_, .f32⟩
  | .hbm, ⟨54, _⟩ => ⟨S8192x6, .f32⟩
  | .hbm, ⟨55, _⟩ => ⟨S8192x6x1, .f32⟩
  | .hbm, ⟨56, _⟩ => ⟨S_, .f32⟩
  | .hbm, ⟨57, _⟩ => ⟨S8192x6x1, .f32⟩
  | .hbm, ⟨58, _⟩ => ⟨S8192x6x1, .f32⟩
  | .hbm, ⟨59, _⟩ => ⟨S8192x6x128, .f32⟩
  | .hbm, ⟨60, _⟩ => ⟨S8192x6x128, .f32⟩
  | .hbm, ⟨61, _⟩ => ⟨S8192x6x128, .f32⟩
  | .hbm, ⟨62, _⟩ => ⟨S_, .f32⟩
  | .hbm, ⟨63, _⟩ => ⟨S8192x6, .f32⟩
  | .hbm, ⟨64, _⟩ => ⟨S8192x6x1, .f32⟩
  | .hbm, ⟨65, _⟩ => ⟨S_, .f32⟩
  | .hbm, ⟨66, _⟩ => ⟨S8192x6x1, .f32⟩
  | .hbm, ⟨67, _⟩ => ⟨S8192x6x1, .f32⟩
  | .hbm, ⟨68, _⟩ => ⟨S_, .f32⟩
  | .hbm, ⟨69, _⟩ => ⟨S8192x6x1, .f32⟩
  | .hbm, ⟨70, _⟩ => ⟨S8192x6x1, .f32⟩
  | .hbm, ⟨71, _⟩ => ⟨S8192x6x1, .f32⟩
  | .hbm, ⟨72, _⟩ => ⟨S8192x6x128, .f32⟩
  | .hbm, ⟨73, _⟩ => ⟨S8192x6x128, .f32⟩
  | .hbm, ⟨74, _⟩ => ⟨S8192x768, .f32⟩
  | .hbm, ⟨75, _⟩ => ⟨S1x768, .f32⟩
  | .hbm, ⟨76, _⟩ => ⟨S8192x768, .f32⟩
  | .hbm, ⟨77, _⟩ => ⟨S8192x768, .f32⟩
  | .hbm, ⟨78, _⟩ => ⟨S8192x768, .f32⟩
  | .hbm, ⟨79, _⟩ => ⟨S8192x768, .f32⟩
  | .hbm, ⟨80, _⟩ => ⟨S_, .f32⟩
  | .hbm, ⟨81, _⟩ => ⟨S8192x768, .f32⟩
  | .hbm, ⟨82, _⟩ => ⟨S8192x768, .f32⟩
  | .hbm, ⟨83, _⟩ => ⟨S_, .f32⟩
  | .hbm, ⟨84, _⟩ => ⟨S8192x768, .f32⟩
  | .hbm, ⟨85, _⟩ => ⟨S8192x768, .f32⟩
  | .hbm, ⟨86, _⟩ => ⟨S8192x768, .f32⟩
  | .hbm, ⟨87, _⟩ => ⟨S8192x768, .f32⟩
  | .hbm, ⟨88, _⟩ => ⟨S8192x768, .f32⟩
  | .hbm, ⟨89, _⟩ => ⟨S8192x768, .f32⟩
  | .hbm, ⟨90, _⟩ => ⟨S8192x768, .f32⟩
  | .hbm, ⟨91, _⟩ => ⟨S8192x6x128, .f32⟩
  | .hbm, ⟨92, _⟩ => ⟨S8192x6x128, .f32⟩
  | .hbm, ⟨93, _⟩ => ⟨S_, .f32⟩
  | .hbm, ⟨94, _⟩ => ⟨S8192x6, .f32⟩
  | .hbm, ⟨95, _⟩ => ⟨S8192x6x1, .f32⟩
  | .hbm, ⟨96, _⟩ => ⟨S_, .f32⟩
  | .hbm, ⟨97, _⟩ => ⟨S8192x6x1, .f32⟩
  | .hbm, ⟨98, _⟩ => ⟨S8192x6x1, .f32⟩
  | .hbm, ⟨99, _⟩ => ⟨S_, .f32⟩
  | .hbm, ⟨100, _⟩ => ⟨S8192x6x1, .f32⟩
  | .hbm, ⟨101, _⟩ => ⟨S8192x6x1, .f32⟩
  | .hbm, ⟨102, _⟩ => ⟨S8192x6x1, .f32⟩
  | .hbm, ⟨103, _⟩ => ⟨S8192x6x128, .f32⟩
  | .hbm, ⟨104, _⟩ => ⟨S8192x6x128, .f32⟩
  | .hbm, ⟨105, _⟩ => ⟨S8192x768, .f32⟩
  | .hbm, ⟨106, _⟩ => ⟨S1x768, .f32⟩
  | .hbm, ⟨107, _⟩ => ⟨S8192x768, .f32⟩
  | .hbm, ⟨108, _⟩ => ⟨S8192x768, .f32⟩
  | .hbm, ⟨109, _⟩ => ⟨S8192x768, .f32⟩
  | .hbm, ⟨110, _⟩ => ⟨S8192x768, .f32⟩
  | .hbm, ⟨111, _⟩ => ⟨S_, .f32⟩
  | .hbm, ⟨112, _⟩ => ⟨S8192x768, .f32⟩
  | .hbm, ⟨113, _⟩ => ⟨S8192x768, .f32⟩
  | .hbm, ⟨114, _⟩ => ⟨S_, .f32⟩
  | .hbm, ⟨115, _⟩ => ⟨S8192x768, .f32⟩
  | .hbm, ⟨116, _⟩ => ⟨S8192x768, .f32⟩
  | .hbm, ⟨117, _⟩ => ⟨S8192x768, .f32⟩
  | .hbm, ⟨118, _⟩ => ⟨S8192x2048, .f32⟩
  | .hbm, ⟨119, _⟩ => ⟨S1x2048x2048, .f32⟩
  | .hbm, ⟨120, _⟩ => ⟨S2048x2048, .f32⟩
  | .hbm, ⟨121, _⟩ => ⟨S8192x2048, .f32⟩
  | .hbm, ⟨122, _⟩ => ⟨S4x2048x2048, .f32⟩
  | .hbm, ⟨123, _⟩ => ⟨S8192x2048, .f32⟩
  | .hbm, ⟨124, _⟩ => ⟨S4x2048x2048, .f32⟩
  | .hbm, ⟨125, _⟩ => ⟨S4x2048x2048, .f32⟩
  | .hbm, ⟨126, _⟩ => ⟨S8192x2048, .f32⟩
  | .hbm, ⟨127, _⟩ => ⟨S8192x2048, .f32⟩
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== MlpF.lean ====
abbrev S9216x2048 : Shape := ⟨2, ![9216, 2048]⟩
abbrev S2048 : Shape := ⟨1, ![2048]⟩
abbrev S8x1x12288 : Shape := ⟨3, ![8, 1, 12288]⟩
abbrev S2x2048x8192 : Shape := ⟨3, ![2, 2048, 8192]⟩
abbrev S2x8192x2048 : Shape := ⟨3, ![2, 8192, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 16
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .f32⟩
  | .local _ .vmem, ⟨10, _⟩ => ⟨S1x2048x512, .f32⟩
  | .local _ .vmem, ⟨11, _⟩ => ⟨S1x512x2048, .f32⟩
  | .local _ .vmem, ⟨12, _⟩ => ⟨S1x512x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![9, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c4_i32_5 : BitVec 32 := 4#32
  let c0_i32_6 : BitVec 32 := 0#32
  ![v18.toNat, c0_i32_4.toNat, c4_i32_5.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MlpFRefIdeal.lean ====
abbrev S9216x2048 : Shape := ⟨2, ![9216, 2048]⟩
abbrev S2048 : Shape := ⟨1, ![2048]⟩
abbrev S8x1x12288 : Shape := ⟨3, ![8, 1, 12288]⟩
abbrev S2x2048x8192 : Shape := ⟨3, ![2, 2048, 8192]⟩
abbrev S2x8192x2048 : Shape := ⟨3, ![2, 8192, 2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S4x1x12288 : Shape := ⟨3, ![4, 1, 12288]⟩
abbrev S4x1x2048 : Shape := ⟨3, ![4, 1, 2048]⟩
abbrev S1x1x12288 : Shape := ⟨3, ![1, 1, 12288]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩
abbrev S4x256 : Shape := ⟨2, ![4, 256]⟩
abbrev S4x256x1 : Shape := ⟨3, ![4, 256, 1]⟩
abbrev S4x256x8192 : Shape := ⟨3, ![4, 256, 8192]⟩

abbrev nBuf : Space → Nat
  | .hbm => 95
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S8192x2048, .f32⟩
  | .hbm, ⟨7, _⟩ => ⟨S4x2048x2048, .f32⟩
  | .hbm, ⟨8, _⟩ => ⟨S1024x2048, .f32⟩
  | .hbm, ⟨9, _⟩ => ⟨S4x256x2048, .f32⟩
  | .hbm, ⟨10, _⟩ => ⟨S4x1x12288, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S1x1x12288, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S1x1x2048, .f32⟩
  | .hbm, ⟨22, _⟩ => ⟨S1x1x2048, .f32⟩
  | .hbm, ⟨23, _⟩ => ⟨S1x1x2048, .f32⟩
  | .hbm, ⟨24, _⟩ => ⟨S1x2048x8192, .f32⟩
  | .hbm, ⟨25, _⟩ => ⟨S2048x8192, .f32⟩
  | .hbm, ⟨26, _⟩ => ⟨S1x8192x2048, .f32⟩
  | .hbm, ⟨27, _⟩ => ⟨S8192x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x8192, .f32⟩
  | .hbm, ⟨52, _⟩ => ⟨S_, .f32⟩
  | .hbm, ⟨53, _⟩ => ⟨S4x2048x8192, .f32⟩
  | .hbm, ⟨54, _⟩ => ⟨S4x2048x8192, .f32⟩
  | .hbm, ⟨55, _⟩ => ⟨S4x2048x8192, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x256x2048, .f32⟩
  | .hbm, ⟨61, _⟩ => ⟨S_, .f32⟩
  | .hbm, ⟨62, _⟩ => ⟨S4x256, .f32⟩
  | .hbm, ⟨63, _⟩ => ⟨S4x256x1, .f32⟩
  | .hbm, ⟨64, _⟩ => ⟨S_, .f32⟩
  | .hbm, ⟨65, _⟩ => ⟨S4x256x1, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S4x256x1, .f32⟩
  | .hbm, ⟨71, _⟩ => ⟨S4x256x2048, .f32⟩
  | .hbm, ⟨72, _⟩ => ⟨S4x256x2048, .f32⟩
  | .hbm, ⟨73, _⟩ => ⟨S1x1x2048, .f32⟩
  | .hbm, ⟨74, _⟩ => ⟨S4x256x2048, .f32⟩
  | .hbm, ⟨75, _⟩ => ⟨S4x256x2048, .f32⟩
  | .hbm, ⟨76, _⟩ => ⟨S_, .f32⟩
  | .hbm, ⟨77, _⟩ => ⟨S1x1x2048, .f32⟩
  | .hbm, ⟨78, _⟩ => ⟨S1x1x2048, .f32⟩
  | .hbm, ⟨79, _⟩ => ⟨S4x256x2048, .f32⟩
  | .hbm, ⟨80, _⟩ => ⟨S4x256x2048, .f32⟩
  | .hbm, ⟨81, _⟩ => ⟨S4x256x2048, .f32⟩
  | .hbm, ⟨82, _⟩ => ⟨S4x256x2048, .f32⟩
  | .hbm, ⟨83, _⟩ => ⟨S4x256x8192, .f32⟩
  | .hbm, ⟨84, _⟩ => ⟨S_, .f32⟩
  | .hbm, ⟨85, _⟩ => ⟨S4x256x8192, .f32⟩
  | .hbm, ⟨86, _⟩ => ⟨S4x256x8192, .f32⟩
  | .hbm, ⟨87, _⟩ => ⟨S4x256x8192, .f32⟩
  | .hbm, ⟨88, _⟩ => ⟨S4x256x2048, .f32⟩
  | .hbm, ⟨89, _⟩ => ⟨S4x256x2048, .f32⟩
  | .hbm, ⟨90, _⟩ => ⟨S4x256x2048, .f32⟩
  | .hbm, ⟨91, _⟩ => ⟨S4x256x2048, .f32⟩
  | .hbm, ⟨92, _⟩ => ⟨S8192x2048, .f32⟩
  | .hbm, ⟨93, _⟩ => ⟨S1024x2048, .f32⟩
  | .hbm, ⟨94, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_cst : Ref sig .tc := ⟨.hbm, 52, rfl⟩
abbrev main_call0_v0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call1_cst : Ref sig .tc := ⟨.hbm, 84, rfl⟩
abbrev main_call1_v0 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== OutF.lean ====
abbrev S9216x512 : Shape := ⟨2, ![9216, 512]⟩
abbrev S512x1024 : Shape := ⟨2, ![512, 1024]⟩
abbrev S1024 : Shape := ⟨1, ![1024]⟩
abbrev S9216x768 : Shape := ⟨2, ![9216, 768]⟩
abbrev S9216x7168 : Shape := ⟨2, ![9216, 7168]⟩
abbrev S768 : Shape := ⟨1, ![768]⟩
abbrev S9216x2048 : Shape := ⟨2, ![9216, 2048]⟩
abbrev S8x1x12288 : Shape := ⟨3, ![8, 1, 12288]⟩
abbrev S2x2048x2048 : Shape := ⟨3, ![2, 2048, 2048]⟩
abbrev S1x1024 : Shape := ⟨2, ![1, 1024]⟩
abbrev S1x768 : Shape := ⟨2, ![1, 768]⟩
abbrev S256x512 : Shape := ⟨2, ![256, 512]⟩
abbrev S256x768 : Shape := ⟨2, ![256, 768]⟩
abbrev S256x2048 : Shape := ⟨2, ![256, 2048]⟩
abbrev S1x1x2048 : Shape := ⟨3, ![1, 1, 2048]⟩
abbrev S1x2048x2048 : Shape := ⟨3, ![1, 2048, 2048]⟩
abbrev S256x1024 : Shape := ⟨2, ![256, 1024]⟩
abbrev S256x256 : Shape := ⟨2, ![256, 256]⟩
abbrev S1x256x2048 : Shape := ⟨3, ![1, 256, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x2048 : Shape := ⟨2, ![1, 2048]⟩

abbrev nBuf : Space → Nat
  | .hbm => 19
  | .vmem => 25
  | .smem => 0
  | _ => 0

abbrev bufTy : (tb : Table) → Fin (tcTables nBuf tb) → BufTy
  | .hbm, ⟨0, _⟩ => ⟨S9216x512, .f32⟩
  | .hbm, ⟨1, _⟩ => ⟨S512x1024, .f32⟩
  | .hbm, ⟨2, _⟩ => ⟨S1024, .f32⟩
  | .hbm, ⟨3, _⟩ => ⟨S9216x768, .f32⟩
  | .hbm, ⟨4, _⟩ => ⟨S9216x768, .f32⟩
  | .hbm, ⟨5, _⟩ => ⟨S9216x768, .f32⟩
  | .hbm, ⟨6, _⟩ => ⟨S9216x768, .f32⟩
  | .hbm, ⟨7, _⟩ => ⟨S9216x7168, .f32⟩
  | .hbm, ⟨8, _⟩ => ⟨S768, .f32⟩
  | .hbm, ⟨9, _⟩ => ⟨S768, .f32⟩
  | .hbm, ⟨10, _⟩ => ⟨S9216x2048, .f32⟩
  | .hbm, ⟨11, _⟩ => ⟨S8x1x12288, .f32⟩
  | .hbm, ⟨12, _⟩ => ⟨S2x2048x2048, .f32⟩
  | .hbm, ⟨13, _⟩ => ⟨S2x2048x2048, .bf16⟩
  | .hbm, ⟨14, _⟩ => ⟨S512x1024, .bf16⟩
  | .hbm, ⟨15, _⟩ => ⟨S1x1024, .f32⟩
  | .hbm, ⟨16, _⟩ => ⟨S1x768, .f32⟩
  | .hbm, ⟨17, _⟩ => ⟨S1x768, .f32⟩
  | .hbm, ⟨18, _⟩ => ⟨S9216x2048, .f32⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S1x1024, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S1x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S1x768, .f32⟩
  | .local _ .vmem, ⟨18, _⟩ => ⟨S256x2048, .f32⟩
  | .local _ .vmem, ⟨19, _⟩ => ⟨S256x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x2048x2048, .bf16⟩
  | .local _ .vmem, ⟨23, _⟩ => ⟨S256x2048, .f32⟩
  | .local _ .vmem, ⟨24, _⟩ => ⟨S256x2048, .f32⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  ![v18.toNat, c0_i32_4.toNat, c2_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutFRefIdeal.lean ====
abbrev S9216x512 : Shape := ⟨2, ![9216, 512]⟩
abbrev S512x1024 : Shape := ⟨2, ![512, 1024]⟩
abbrev S1024 : Shape := ⟨1, ![1024]⟩
abbrev S9216x768 : Shape := ⟨2, ![9216, 768]⟩
abbrev S9216x7168 : Shape := ⟨2, ![9216, 7168]⟩
abbrev S768 : Shape := ⟨1, ![768]⟩
abbrev S9216x2048 : Shape := ⟨2, ![9216, 2048]⟩
abbrev S8x1x12288 : Shape := ⟨3, ![8, 1, 12288]⟩
abbrev S2x2048x2048 : Shape := ⟨3, ![2, 2048, 2048]⟩
abbrev S4x1x2048 : Shape := ⟨3, ![4, 1, 2048]⟩
abbrev S1x1x2048 : Shape := ⟨3, ![1, 1, 2048]⟩
abbrev S_ : Shape := ⟨0, ![]⟩
abbrev S9216x1024 : Shape := ⟨2, ![9216, 1024]⟩
abbrev S1x1024 : Shape := ⟨2, ![1, 1024]⟩
abbrev S9216x6x128 : Shape := ⟨3, ![9216, 6, 128]⟩
abbrev S9216x6 : Shape := ⟨2, ![9216, 6]⟩
abbrev S9216x6x1 : Shape := ⟨3, ![9216, 6, 1]⟩
abbrev S1x768 : Shape := ⟨2, ![1, 768]⟩
abbrev S1x2048x2048 : Shape := ⟨3, ![1, 2048, 2048]⟩
abbrev S2048x2048 : Shape := ⟨2, ![2048, 2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩

abbrev nBuf : Space → Nat
  | .hbm => 130
  | .vmem => 0
  | .smem => 0
  | _ => 0

abbrev hbmTy0_0 (i : Nat) : BufTy := match i % 128 with
  | 0 => ⟨S9216x512, .f32⟩
  | 1 => ⟨S512x1024, .f32⟩
  | 2 => ⟨S1024, .f32⟩
  | 3 => ⟨S9216x768, .f32⟩
  | 4 => ⟨S9216x768, .f32⟩
  | 5 => ⟨S9216x768, .f32⟩
  | 6 => ⟨S9216x768, .f32⟩
  | 7 => ⟨S9216x7168, .f32⟩
  | 8 => ⟨S768, .f32⟩
  | 9 => ⟨S768, .f32⟩
  | 10 => ⟨S9216x2048, .f32⟩
  | 11 => ⟨S8x1x12288, .f32⟩
  | 12 => ⟨S2x2048x2048, .f32⟩
  | 13 => ⟨S4x1x2048, .f32⟩
  | 14 => ⟨S1x1x2048, .f32⟩
  | 15 => ⟨S9216x768, .f32⟩
  | 16 => ⟨S9216x768, .f32⟩
  | 17 => ⟨S9216x512, .f32⟩
  | 18 => ⟨S9216x512, .f32⟩
  | 19 => ⟨S_, .f32⟩
  | 20 => ⟨S9216x512, .f32⟩
  | 21 => ⟨S9216x512, .f32⟩
  | 22 => ⟨S9216x512, .f32⟩
  | 23 => ⟨S_, .f32⟩
  | 24 => ⟨S9216x512, .f32⟩
  | 25 => ⟨S9216x512, .f32⟩
  | 26 => ⟨S9216x512, .f32⟩
  | 27 => ⟨S_, .f32⟩
  | 28 => ⟨S9216x512, .f32⟩
  | 29 => ⟨S9216x512, .f32⟩
  | 30 => ⟨S_, .f32⟩
  | 31 => ⟨S9216x512, .f32⟩
  | 32 => ⟨S9216x512, .f32⟩
  | 33 => ⟨S9216x512, .f32⟩
  | 34 => ⟨S9216x1024, .f32⟩
  | 35 => ⟨S1x1024, .f32⟩
  | 36 => ⟨S9216x1024, .f32⟩
  | 37 => ⟨S9216x1024, .f32⟩
  | 38 => ⟨S9216x512, .f32⟩
  | 39 => ⟨S9216x512, .f32⟩
  | 40 => ⟨S9216x512, .f32⟩
  | 41 => ⟨S9216x512, .f32⟩
  | 42 => ⟨S_, .f32⟩
  | 43 => ⟨S9216x512, .f32⟩
  | 44 => ⟨S9216x512, .f32⟩
  | 45 => ⟨S_, .f32⟩
  | 46 => ⟨S9216x512, .f32⟩
  | 47 => ⟨S9216x512, .f32⟩
  | 48 => ⟨S9216x512, .f32⟩
  | 49 => ⟨S9216x768, .f32⟩
  | 50 => ⟨S9216x6x128, .f32⟩
  | 51 => ⟨S_, .f32⟩
  | 52 => ⟨S9216x6, .f32⟩
  | 53 => ⟨S9216x6x1, .f32⟩
  | 54 => ⟨S_, .f32⟩
  | 55 => ⟨S9216x6x1, .f32⟩
  | 56 => ⟨S9216x6x1, .f32⟩
  | 57 => ⟨S9216x6x128, .f32⟩
  | 58 => ⟨S9216x6x128, .f32⟩
  | 59 => ⟨S9216x6x128, .f32⟩
  | 60 => ⟨S_, .f32⟩
  | 61 => ⟨S9216x6, .f32⟩
  | 62 => ⟨S9216x6x1, .f32⟩
  | 63 => ⟨S_, .f32⟩
  | 64 => ⟨S9216x6x1, .f32⟩
  | 65 => ⟨S9216x6x1, .f32⟩
  | 66 => ⟨S_, .f32⟩
  | 67 => ⟨S9216x6x1, .f32⟩
  | 68 => ⟨S9216x6x1, .f32⟩
  | 69 => ⟨S9216x6x1, .f32⟩
  | 70 => ⟨S9216x6x128, .f32⟩
  | 71 => ⟨S9216x6x128, .f32⟩
  | 72 => ⟨S9216x768, .f32⟩
  | 73 => ⟨S1x768, .f32⟩
  | 74 => ⟨S9216x768, .f32⟩
  | 75 => ⟨S9216x768, .f32⟩
  | 76 => ⟨S9216x768, .f32⟩
  | 77 => ⟨S9216x768, .f32⟩
  | 78 => ⟨S_, .f32⟩
  | 79 => ⟨S9216x768, .f32⟩
  | 80 => ⟨S9216x768, .f32⟩
  | 81 => ⟨S_, .f32⟩
  | 82 => ⟨S9216x768, .f32⟩
  | 83 => ⟨S9216x768, .f32⟩
  | 84 => ⟨S9216x768, .f32⟩
  | 85 => ⟨S9216x768, .f32⟩
  | 86 => ⟨S9216x768, .f32⟩
  | 87 => ⟨S9216x6x128, .f32⟩
  | 88 => ⟨S9216x6x128, .f32⟩
  | 89 => ⟨S_, .f32⟩
  | 90 => ⟨S9216x6, .f32⟩
  | 91 => ⟨S9216x6x1, .f32⟩
  | 92 => ⟨S_, .f32⟩
  | 93 => ⟨S9216x6x1, .f32⟩
  | 94 => ⟨S9216x6x1, .f32⟩
  | 95 => ⟨S_, .f32⟩
  | 96 => ⟨S9216x6x1, .f32⟩
  | 97 => ⟨S9216x6x1, .f32⟩
  | 98 => ⟨S9216x6x1, .f32⟩
  | 99 => ⟨S9216x6x128, .f32⟩
  | 100 => ⟨S9216x6x128, .f32⟩
  | 101 => ⟨S9216x768, .f32⟩
  | 102 => ⟨S1x768, .f32⟩
  | 103 => ⟨S9216x768, .f32⟩
  | 104 => ⟨S9216x768, .f32⟩
  | 105 => ⟨S9216x768, .f32⟩
  | 106 => ⟨S9216x768, .f32⟩
  | 107 => ⟨S_, .f32⟩
  | 108 => ⟨S9216x768, .f32⟩
  | 109 => ⟨S9216x768, .f32⟩
  | 110 => ⟨S_, .f32⟩
  | 111 => ⟨S9216x768, .f32⟩
  | 112 => ⟨S9216x768, .f32⟩
  | 113 => ⟨S9216x768, .f32⟩
  | 114 => ⟨S9216x2048, .f32⟩
  | 115 => ⟨S1x2048x2048, .f32⟩
  | 116 => ⟨S2048x2048, .f32⟩
  | 117 => ⟨S9216x2048, .f32⟩
  | 118 => ⟨S8192x2048, .f32⟩
  | 119 => ⟨S4x2048x2048, .f32⟩
  | 120 => ⟨S4x2048x2048, .f32⟩
  | 121 => ⟨S4x2048x2048, .f32⟩
  | 122 => ⟨S1024x2048, .f32⟩
  | 123 => ⟨S4x256x2048, .f32⟩
  | 124 => ⟨S4x256x2048, .f32⟩
  | 125 => ⟨S4x256x2048, .f32⟩
  | 126 => ⟨S8192x2048, .f32⟩
  | 127 => ⟨S1024x2048, .f32⟩
  | _ => ⟨S9216x512, .f32⟩

abbrev hbmTy0_1 (i : Nat) : BufTy := match i % 128 with
  | 0 => ⟨S9216x2048, .f32⟩
  | 1 => ⟨S9216x2048, .f32⟩
  | _ => ⟨S9216x512, .f32⟩

abbrev hbmTy (i : Nat) : BufTy := match i / 128 with
  | 0 => hbmTy0_0 i
  | 1 => hbmTy0_1 i
  | _ => ⟨S9216x512, .f32⟩

abbrev bufTy : (tb : Table) → Fin (tcTables nBuf tb) → BufTy
  | .hbm, ⟨i, _⟩ => hbmTy i
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]
-- ==== Mod.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.RetBody.lean ====
module

public import proofs.«01_k».proof.Defs
public import proofs.«01_k».proof.Proof.Gen.RetIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

/-- Stores that are each a block of `G` and together cover the buffer leave `G`. -/
theorem canon_eq {S : Shape} {e : EltTy} (G : S.Idx → Elt Ideal e) (L : List (View.Piece (Elt Ideal) S e)) (h : View.PiecesOf G L)
    (hc : ∀ y, ∃ p ∈ L, y ∈ p.1.set) : View.canon L = G := funext fun y => by
  have h1 := View.canon_append_of_piecesOf G [] L h y (hc y)
  rwa [List.append_nil] at h1

/-- The same with earlier stores beneath. -/
theorem canon_eq_over {S : Shape} {e : EltTy} (G : S.Idx → Elt Ideal e) (L' L : List (View.Piece (Elt Ideal) S e)) (h : View.PiecesOf G L)
    (hc : ∀ y, ∃ p ∈ L, y ∈ p.1.set) : View.canon (L ++ L') = G := funext fun y => View.canon_append_of_piecesOf G L' L h y (hc y)

/-- The direction (0 forwards, 1 backwards) of chain `x`. -/
def dirOf (x : Fin 12) : Fin 2 := ⟨x.val / 6, by omega⟩

/-- The head of chain `x`. -/
def headOf (x : Fin 12) : Fin 6 := ⟨x.val % 6, by omega⟩

/-- The logarithm of a head's decay, the logit's sigmoid's logarithm as the kernel writes it. -/
def lgK (dl : Vec Ideal S2x6x8x128 .f32) (d : Fin 2) (h : Fin 6) (e : Fin 128) : EReal :=
  min (dl (ix4 d h 0 e)) 0 - Ideal.log1p (Ideal.exp (0 - @FloatOps.absf Ideal _ FTy.f32 (dl (ix4 d h 0 e))))

/-- The position in reading order of row `i` of a block: rows are read upwards in the backward direction. -/
def posK (d : Fin 2) (i : Fin 128) : BitVec 32 :=
  ![BitVec.ofNat 32 i.val, IntOp.subi (127#32) (BitVec.ofNat 32 i.val)] d

/-- The position of a row in the forward direction. -/
theorem posK_0 (i : Fin 128) : posK 0 i = BitVec.ofNat 32 i.val := rfl

/-- The position of a row in the backward direction. -/
theorem posK_1 (i : Fin 128) : posK 1 i = IntOp.subi (127#32) (BitVec.ofNat 32 i.val) := rfl

/-- The decay between two positions of a chunk, its logarithm per step being `g`. -/
def decC (g : EReal) (p q : BitVec 32) : EReal :=
  if 0 ≤ FloatOps.sitofp (F := Ideal) FTy.f32 (IntOp.subi p q) then
    Ideal.exp (g * max (FloatOps.sitofp (F := Ideal) FTy.f32 (IntOp.subi p q)) 0)
  else 0

/-- The decay from the chunk's start to a position. -/
def qdC (g : EReal) (p : BitVec 32) : EReal := Ideal.exp (g * (FloatOps.sitofp (F := Ideal) FTy.f32 p + 1))

/-- The decay from a position to the chunk's end. -/
def kdC (g : EReal) (p : BitVec 32) : EReal :=
  Ideal.exp (g * (Ideal.ofBits FTy.f32 1123942400#32 - FloatOps.sitofp (F := Ideal) FTy.f32 p))

/-- The decay over a whole chunk. -/
def cdC (g : EReal) : EReal := Ideal.exp (g * Ideal.ofBits FTy.f32 1124073472#32)

/-- The entry of the decays between two rows of a chunk, one chain. -/
def decG (dl : Vec Ideal S2x6x8x128 .f32) (x : Fin 12) (i k : Fin 128) : EReal :=
  decC (lgK dl (dirOf x) (headOf x) k) (posK (dirOf x) i) (posK (dirOf x) k)

/-- The decays between two rows of a chunk, every chain. -/
def decK (dl : Vec Ideal S2x6x8x128 .f32) : Vec Ideal S12x128x128 .f32 := fun j => decG dl (j 0) (j 1) (j 2)

/-- The entry of the decays from the chunk's start to each row. -/
def qdG (dl : Vec Ideal S2x6x8x128 .f32) (x : Fin 12) (i k : Fin 128) : EReal :=
  qdC (lgK dl (dirOf x) (headOf x) k) (posK (dirOf x) i)

/-- The decays from the chunk's start to each row. -/
def qdK (dl : Vec Ideal S2x6x8x128 .f32) : Vec Ideal S12x128x128 .f32 := fun j => qdG dl (j 0) (j 1) (j 2)

/-- The entry of the decays from each row to the chunk's end. -/
def kdG (dl : Vec Ideal S2x6x8x128 .f32) (x : Fin 12) (i k : Fin 128) : EReal :=
  kdC (lgK dl (dirOf x) (headOf x) k) (posK (dirOf x) i)

/-- The decays from each row to the chunk's end. -/
def kdK (dl : Vec Ideal S2x6x8x128 .f32) : Vec Ideal S12x128x128 .f32 := fun j => kdG dl (j 0) (j 1) (j 2)

/-- The entry of the decays over a whole chunk. -/
def cdG (dl : Vec Ideal S2x6x8x128 .f32) (x : Fin 12) (i : Fin 8) (k : Fin 128) : EReal :=
  cdC (lgK dl (dirOf x) (headOf x) k)

/-- The decays over a whole chunk. -/
def cdK (dl : Vec Ideal S2x6x8x128 .f32) : Vec Ideal S12x8x128 .f32 := fun j => cdG dl (j 0) (j 1) (j 2)

/-- The decays at a chain of known direction and head. -/
theorem decK_apply (dl : Vec Ideal S2x6x8x128 .f32) (x : Fin 12) (d : Fin 2) (h : Fin 6) (hx : x = ⟨d.val * 6 + h.val, by omega⟩) (i k : Fin 128) :
    decK dl (ix3 x i k) = decC (lgK dl d h k) (posK d i) (posK d k) := by
  subst hx
  have hd : dirOf ⟨d.val * 6 + h.val, by omega⟩ = d := Fin.ext (by show (d.val * 6 + h.val) / 6 = d.val; omega)
  have hh : headOf ⟨d.val * 6 + h.val, by omega⟩ = h := Fin.ext (by show (d.val * 6 + h.val) % 6 = h.val; omega)
  show decG dl (⟨d.val * 6 + h.val, by omega⟩ : Fin 12) i k = _
  unfold decG
  rw [hd, hh]

/-- The decays at a chain of known direction and head. -/
theorem qdK_apply (dl : Vec Ideal S2x6x8x128 .f32) (x : Fin 12) (d : Fin 2) (h : Fin 6) (hx : x = ⟨d.val * 6 + h.val, by omega⟩) (i k : Fin 128) :
    qdK dl (ix3 x i k) = qdC (lgK dl d h k) (posK d i) := by
  subst hx
  have hd : dirOf ⟨d.val * 6 + h.val, by omega⟩ = d := Fin.ext (by show (d.val * 6 + h.val) / 6 = d.val; omega)
  have hh : headOf ⟨d.val * 6 + h.val, by omega⟩ = h := Fin.ext (by show (d.val * 6 + h.val) % 6 = h.val; omega)
  show qdG dl (⟨d.val * 6 + h.val, by omega⟩ : Fin 12) i k = _
  unfold qdG
  rw [hd, hh]

/-- The decays at a chain of known direction and head. -/
theorem kdK_apply (dl : Vec Ideal S2x6x8x128 .f32) (x : Fin 12) (d : Fin 2) (h : Fin 6) (hx : x = ⟨d.val * 6 + h.val, by omega⟩) (i k : Fin 128) :
    kdK dl (ix3 x i k) = kdC (lgK dl d h k) (posK d i) := by
  subst hx
  have hd : dirOf ⟨d.val * 6 + h.val, by omega⟩ = d := Fin.ext (by show (d.val * 6 + h.val) / 6 = d.val; omega)
  have hh : headOf ⟨d.val * 6 + h.val, by omega⟩ = h := Fin.ext (by show (d.val * 6 + h.val) % 6 = h.val; omega)
  show kdG dl (⟨d.val * 6 + h.val, by omega⟩ : Fin 12) i k = _
  unfold kdG
  rw [hd, hh]

/-- The decays at a chain of known direction and head. -/
theorem cdK_apply (dl : Vec Ideal S2x6x8x128 .f32) (x : Fin 12) (d : Fin 2) (h : Fin 6) (hx : x = ⟨d.val * 6 + h.val, by omega⟩) (i : Fin 8) (k : Fin 128) :
    cdK dl (ix3 x i k) = cdC (lgK dl d h k) := by
  subst hx
  have hd : dirOf ⟨d.val * 6 + h.val, by omega⟩ = d := Fin.ext (by show (d.val * 6 + h.val) / 6 = d.val; omega)
  have hh : headOf ⟨d.val * 6 + h.val, by omega⟩ = h := Fin.ext (by show (d.val * 6 + h.val) % 6 = h.val; omega)
  show cdG dl (⟨d.val * 6 + h.val, by omega⟩ : Fin 12) i k = _
  unfold cdG
  rw [hd, hh]

/-- The head whose columns begin at `n`, rotated by the position tables. -/
def rotK (X : Vec Ideal S128x768 .f32) (C S : Vec Ideal S128x128 .f32) (n : ℕ) (hn : n + 128 ≤ 768) (i e : Fin 128) : EReal :=
  X (ix2 i ⟨n + e.val, by omega⟩) * C (ix2 i e) + X (ix2 i ⟨n + (e.val + 128 - 64) % 128, by omega⟩) * S (ix2 i e)

/-- A chain's carried state after a chunk. -/
def rC (K W : Vec Ideal S128x768 .f32) (C S : Vec Ideal S128x128 .f32) (n : ℕ) (hn : n + 128 ≤ 768) (r kd : Fin 128 → Fin 128 → EReal) (cd : Fin 128 → EReal)
    (i v : Fin 128) : EReal :=
  cd v * r i v + ∑ y : Fin 128, rotK K C S n hn y i * Ideal.ofBits FTy.f32 1035273459#32 * kd y i * W (ix2 y ⟨n + v.val, by omega⟩)

/-- A chain's output at row `i`, column `v`. -/
def oC (Q K W : Vec Ideal S128x768 .f32) (C S : Vec Ideal S128x128 .f32) (n : ℕ) (hn : n + 128 ≤ 768) (r dec qd : Fin 128 → Fin 128 → EReal)
    (i v : Fin 128) : EReal :=
  ∑ y : Fin 128, (∑ x : Fin 128, rotK Q C S n hn i x * (rotK K C S n hn y x * Ideal.ofBits FTy.f32 1035273459#32)) *
      dec i y * W (ix2 y ⟨n + v.val, by omega⟩) +
    ∑ x : Fin 128, rotK Q C S n hn i x * qd i x * r x v

/-- The carried states after a chunk, every chain. -/
def rG (K W : Fin 2 → Vec Ideal S128x768 .f32) (C S : Fin 2 → Vec Ideal S128x128 .f32) (r kd : Vec Ideal S12x128x128 .f32)
    (cd : Vec Ideal S12x8x128 .f32) (x : Fin 12) (i v : Fin 128) : EReal :=
  rC (K (dirOf x)) (W (dirOf x)) (C (dirOf x)) (S (dirOf x)) ((headOf x).val * 128) (by omega)
    (fun i v => r (ix3 x i v)) (fun i v => kd (ix3 x i v)) (fun v => cd (ix3 x 0 v)) i v

/-- The carried states after a chunk, every chain, as a buffer. -/
def rK (K W : Fin 2 → Vec Ideal S128x768 .f32) (C S : Fin 2 → Vec Ideal S128x128 .f32) (r kd : Vec Ideal S12x128x128 .f32)
    (cd : Vec Ideal S12x8x128 .f32) : Vec Ideal S12x128x128 .f32 := fun j => rG K W C S r kd cd (j 0) (j 1) (j 2)

/-- The carried states at a chain of known direction and head. -/
theorem rK_apply (K W : Fin 2 → Vec Ideal S128x768 .f32) (C S : Fin 2 → Vec Ideal S128x128 .f32) (r kd : Vec Ideal S12x128x128 .f32)
    (cd : Vec Ideal S12x8x128 .f32) (x : Fin 12) (d : Fin 2) (h : Fin 6) (hx : x = ⟨d.val * 6 + h.val, by omega⟩) (n : ℕ) (hn : n = h.val * 128)
    (K' W' : Vec Ideal S128x768 .f32) (C' S' : Vec Ideal S128x128 .f32) (hK : K d = K') (hW : W d = W') (hC : C d = C') (hS : S d = S') (i v : Fin 128) :
    rK K W C S r kd cd (ix3 x i v) = rC K' W' C' S' n (by omega) (fun i v => r (ix3 x i v)) (fun i v => kd (ix3 x i v)) (fun v => cd (ix3 x 0 v)) i v := by
  subst hx hn hK hW hC hS
  have hd : dirOf ⟨d.val * 6 + h.val, by omega⟩ = d := Fin.ext (by show (d.val * 6 + h.val) / 6 = d.val; omega)
  have hh : headOf ⟨d.val * 6 + h.val, by omega⟩ = h := Fin.ext (by show (d.val * 6 + h.val) % 6 = h.val; omega)
  show rG K W C S r kd cd (⟨d.val * 6 + h.val, by omega⟩ : Fin 12) i v = _
  unfold rG
  simp only [hd, hh]

/-- The chain of direction `d` and head `h`. -/
def chain (d : Fin 2) (h : Fin 6) : Fin 12 := ⟨d.val * 6 + h.val, by omega⟩

/-- A direction's block of outputs. -/
def oG (Q K W : Vec Ideal S128x768 .f32) (C S : Vec Ideal S128x128 .f32) (r dec qd : Vec Ideal S12x128x128 .f32)
    (d : Fin 2) (i : Fin 128) (n : Fin 768) : EReal :=
  oC Q K W C S (n.val / 128 * 128) (by omega) (fun i v => r (ix3 (chain d ⟨n.val / 128, by omega⟩) i v)) (fun i v => dec (ix3 (chain d ⟨n.val / 128, by omega⟩) i v))
    (fun i v => qd (ix3 (chain d ⟨n.val / 128, by omega⟩) i v)) i ⟨n.val % 128, by omega⟩

/-- A direction's block of outputs, as a buffer. -/
def oK (Q K W : Vec Ideal S128x768 .f32) (C S : Vec Ideal S128x128 .f32) (r dec qd : Vec Ideal S12x128x128 .f32)
    (d : Fin 2) : Vec Ideal S128x768 .f32 := fun j => oG Q K W C S r dec qd d (j 0) (j 1)

/-- An output block read at a column of a head. -/
theorem oK_apply (Q K W : Vec Ideal S128x768 .f32) (C S : Vec Ideal S128x128 .f32) (r dec qd : Vec Ideal S12x128x128 .f32)
    (d : Fin 2) (h : Fin 6) (x : Fin 12) (hx : x = ⟨d.val * 6 + h.val, by omega⟩) (n : ℕ) (hn : n = h.val * 128) (i v : Fin 128) (k : ℕ) (hk : k < 768) (e : k = n + v.val) :
    oK Q K W C S r dec qd d (ix2 i ⟨k, hk⟩) = oC Q K W C S n (by omega) (fun i v => r (ix3 x i v)) (fun i v => dec (ix3 x i v)) (fun i v => qd (ix3 x i v)) i v := by
  subst hx e hn
  have e1 : (h.val * 128 + v.val) / 128 = h.val := by omega
  have e2 : (h.val * 128 + v.val) % 128 = v.val := by omega
  show oG Q K W C S r dec qd d i (⟨h.val * 128 + v.val, hk⟩ : Fin 768) = _
  unfold oG
  simp only [e1, e2]
  rfl

/-- The query blocks of a grid point, by direction. -/
def BQ (c : Dev nD) (t : Fin cfg0.N) : Fin 2 → Vec Ideal S128x768 .f32 := ![X0_1 m c t, X0_6 m c t]
/-- The key blocks. -/
def BK (c : Dev nD) (t : Fin cfg0.N) : Fin 2 → Vec Ideal S128x768 .f32 := ![X0_2 m c t, X0_7 m c t]
/-- The value blocks. -/
def BV (c : Dev nD) (t : Fin cfg0.N) : Fin 2 → Vec Ideal S128x768 .f32 := ![X0_3 m c t, X0_8 m c t]
/-- The cosine blocks. -/
def BC (c : Dev nD) (t : Fin cfg0.N) : Fin 2 → Vec Ideal S128x128 .f32 := ![iblk m c 4 t, iblk m c 9 t]
/-- The sine blocks. -/
def BS (c : Dev nD) (t : Fin cfg0.N) : Fin 2 → Vec Ideal S128x128 .f32 := ![iblk m c 5 t, iblk m c 10 t]
/-- The block of decay logits. -/
abbrev BD (c : Dev nD) (t : Fin cfg0.N) : Vec Ideal S2x6x8x128 .f32 := iblk m c 0 t
/-- What the point before left in the carried buffers. -/
abbrev prev (c : Dev nD) (t : Fin cfg0.N) := outsAt0 m c (t.val - 1) (Nat.lt_of_le_of_lt (Nat.sub_le _ _) t.isLt)

end Cert.RetIdeal.Hand

end
-- ==== Proof.RetRefA.lean ====
module

public import proofs.«01_k».proof.Defs
public import proofs.«01_k».proof.Proof.Gen.RetRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.RetRefIdeal.Hand

open Cert.RetRefIdeal Cert.RetRefIdeal.Read

variable (x0 : Vec Ideal S9216x7168 .f32) (x1 : Vec Ideal S2x6 .f32)

/-- The query heads of the latent tokens. -/
theorem v38_apply (b : Fin 4) (hh : Fin 6) (i : Fin 2048) (e : Fin 128) : val_main_v38 (F := Ideal) x0 (ix4 b hh i e) =
    x0 (ix2 ⟨b.val * 2048 + i.val, by omega⟩ ⟨0 + (hh.val * 128 + e.val), by omega⟩) := by
  have e1 : val_main_v38 (F := Ideal) x0 (ix4 b hh i e) = val_main_v29 (F := Ideal) x0 (ix3 b i ⟨hh.val * 128 + e.val, by omega⟩) := by
    unfold val_main_v38 val_main_v37
    pointwise
  have e2 : val_main_v29 (F := Ideal) x0 (ix3 b i ⟨hh.val * 128 + e.val, by omega⟩) = val_main_v28 (F := Ideal) x0 (ix3 b i ⟨0 + (hh.val * 128 + e.val), by omega⟩) :=
    (val_main_v29_apply x0 _).trans (congrArg _ (by blk_ext))
  have e3 : val_main_v28 (F := Ideal) x0 (ix3 b i ⟨0 + (hh.val * 128 + e.val), by omega⟩) = val_main_v27 (F := Ideal) x0 (ix2 ⟨b.val * 2048 + i.val, by omega⟩ ⟨0 + (hh.val * 128 + e.val), by omega⟩) := by
    unfold val_main_v28
    pointwise
  have e4 : val_main_v27 (F := Ideal) x0 (ix2 ⟨b.val * 2048 + i.val, by omega⟩ ⟨0 + (hh.val * 128 + e.val), by omega⟩) = val_main_v26 (F := Ideal) x0 (ix2 ⟨b.val * 2048 + i.val, by omega⟩ ⟨0 + (hh.val * 128 + e.val), by omega⟩) :=
    (val_main_v27_apply x0 _).trans (congrArg _ (by blk_ext))
  have e5 : val_main_v26 (F := Ideal) x0 (ix2 ⟨b.val * 2048 + i.val, by omega⟩ ⟨0 + (hh.val * 128 + e.val), by omega⟩) = x0 (ix2 ⟨b.val * 2048 + i.val, by omega⟩ ⟨0 + (hh.val * 128 + e.val), by omega⟩) :=
    (val_main_v26_apply x0 _).trans (congrArg _ (by blk_ext))
  exact e1.trans (e2.trans (e3.trans (e4.trans e5)))

/-- The query heads of the context. -/
theorem v78_apply (b : Fin 4) (hh : Fin 6) (i : Fin 256) (e : Fin 128) : val_main_v78 (F := Ideal) x0 (ix4 b hh i e) =
    x0 (ix2 ⟨8192 + (b.val * 256 + i.val), by omega⟩ ⟨0 + (hh.val * 128 + e.val), by omega⟩) := by
  have e1 : val_main_v78 (F := Ideal) x0 (ix4 b hh i e) = val_main_v34 (F := Ideal) x0 (ix3 b i ⟨hh.val * 128 + e.val, by omega⟩) := by
    unfold val_main_v78 val_main_v77
    pointwise
  have e2 : val_main_v34 (F := Ideal) x0 (ix3 b i ⟨hh.val * 128 + e.val, by omega⟩) = val_main_v33 (F := Ideal) x0 (ix3 b i ⟨0 + (hh.val * 128 + e.val), by omega⟩) :=
    (val_main_v34_apply x0 _).trans (congrArg _ (by blk_ext))
  have e3 : val_main_v33 (F := Ideal) x0 (ix3 b i ⟨0 + (hh.val * 128 + e.val), by omega⟩) = val_main_v32 (F := Ideal) x0 (ix2 ⟨b.val * 256 + i.val, by omega⟩ ⟨0 + (hh.val * 128 + e.val), by omega⟩) := by
    unfold val_main_v33
    pointwise
  have e4 : val_main_v32 (F := Ideal) x0 (ix2 ⟨b.val * 256 + i.val, by omega⟩ ⟨0 + (hh.val * 128 + e.val), by omega⟩) = val_main_v26 (F := Ideal) x0 (ix2 ⟨8192 + (b.val * 256 + i.val), by omega⟩ ⟨0 + (hh.val * 128 + e.val), by omega⟩) :=
    (val_main_v32_apply x0 _).trans (congrArg _ (by blk_ext))
  have e5 : val_main_v26 (F := Ideal) x0 (ix2 ⟨8192 + (b.val * 256 + i.val), by omega⟩ ⟨0 + (hh.val * 128 + e.val), by omega⟩) = x0 (ix2 ⟨8192 + (b.val * 256 + i.val), by omega⟩ ⟨0 + (hh.val * 128 + e.val), by omega⟩) :=
    (val_main_v26_apply x0 _).trans (congrArg _ (by blk_ext))
  exact e1.trans (e2.trans (e3.trans (e4.trans e5)))

/-- The key heads of the latent tokens. -/
theorem v57_apply (b : Fin 4) (hh : Fin 6) (i : Fin 2048) (e : Fin 128) : val_main_v57 (F := Ideal) x0 (ix4 b hh i e) =
    x0 (ix2 ⟨b.val * 2048 + i.val, by omega⟩ ⟨768 + (hh.val * 128 + e.val), by omega⟩) := by
  have e1 : val_main_v57 (F := Ideal) x0 (ix4 b hh i e) = val_main_v30 (F := Ideal) x0 (ix3 b i ⟨hh.val * 128 + e.val, by omega⟩) := by
    unfold val_main_v57 val_main_v56
    pointwise
  have e2 : val_main_v30 (F := Ideal) x0 (ix3 b i ⟨hh.val * 128 + e.val, by omega⟩) = val_main_v28 (F := Ideal) x0 (ix3 b i ⟨768 + (hh.val * 128 + e.val), by omega⟩) :=
    (val_main_v30_apply x0 _).trans (congrArg _ (by blk_ext))
  have e3 : val_main_v28 (F := Ideal) x0 (ix3 b i ⟨768 + (hh.val * 128 + e.val), by omega⟩) = val_main_v27 (F := Ideal) x0 (ix2 ⟨b.val * 2048 + i.val, by omega⟩ ⟨768 + (hh.val * 128 + e.val), by omega⟩) := by
    unfold val_main_v28
    pointwise
  have e4 : val_main_v27 (F := Ideal) x0 (ix2 ⟨b.val * 2048 + i.val, by omega⟩ ⟨768 + (hh.val * 128 + e.val), by omega⟩) = val_main_v26 (F := Ideal) x0 (ix2 ⟨b.val * 2048 + i.val, by omega⟩ ⟨768 + (hh.val * 128 + e.val), by omega⟩) :=
    (val_main_v27_apply x0 _).trans (congrArg _ (by blk_ext))
  have e5 : val_main_v26 (F := Ideal) x0 (ix2 ⟨b.val * 2048 + i.val, by omega⟩ ⟨768 + (hh.val * 128 + e.val), by omega⟩) = x0 (ix2 ⟨b.val * 2048 + i.val, by omega⟩ ⟨768 + (hh.val * 128 + e.val), by omega⟩) :=
    (val_main_v26_apply x0 _).trans (congrArg _ (by blk_ext))
  exact e1.trans (e2.trans (e3.trans (e4.trans e5)))

/-- The key heads of the context. -/
theorem v80_apply (b : Fin 4) (hh : Fin 6) (i : Fin 256) (e : Fin 128) : val_main_v80 (F := Ideal) x0 (ix4 b hh i e) =
    x0 (ix2 ⟨8192 + (b.val * 256 + i.val), by omega⟩ ⟨768 + (hh.val * 128 + e.val), by omega⟩) := by
  have e1 : val_main_v80 (F := Ideal) x0 (ix4 b hh i e) = val_main_v35 (F := Ideal) x0 (ix3 b i ⟨hh.val * 128 + e.val, by omega⟩) := by
    unfold val_main_v80 val_main_v79
    pointwise
  have e2 : val_main_v35 (F := Ideal) x0 (ix3 b i ⟨hh.val * 128 + e.val, by omega⟩) = val_main_v33 (F := Ideal) x0 (ix3 b i ⟨768 + (hh.val * 128 + e.val), by omega⟩) :=
    (val_main_v35_apply x0 _).trans (congrArg _ (by blk_ext))
  have e3 : val_main_v33 (F := Ideal) x0 (ix3 b i ⟨768 + (hh.val * 128 + e.val), by omega⟩) = val_main_v32 (F := Ideal) x0 (ix2 ⟨b.val * 256 + i.val, by omega⟩ ⟨768 + (hh.val * 128 + e.val), by omega⟩) := by
    unfold val_main_v33
    pointwise
  have e4 : val_main_v32 (F := Ideal) x0 (ix2 ⟨b.val * 256 + i.val, by omega⟩ ⟨768 + (hh.val * 128 + e.val), by omega⟩) = val_main_v26 (F := Ideal) x0 (ix2 ⟨8192 + (b.val * 256 + i.val), by omega⟩ ⟨768 + (hh.val * 128 + e.val), by omega⟩) :=
    (val_main_v32_apply x0 _).trans (congrArg _ (by blk_ext))
  have e5 : val_main_v26 (F := Ideal) x0 (ix2 ⟨8192 + (b.val * 256 + i.val), by omega⟩ ⟨768 + (hh.val * 128 + e.val), by omega⟩) = x0 (ix2 ⟨8192 + (b.val * 256 + i.val), by omega⟩ ⟨768 + (hh.val * 128 + e.val), by omega⟩) :=
    (val_main_v26_apply x0 _).trans (congrArg _ (by blk_ext))
  exact e1.trans (e2.trans (e3.trans (e4.trans e5)))

/-- The value heads of the latent tokens. -/
theorem v76_apply (b : Fin 4) (hh : Fin 6) (i : Fin 2048) (e : Fin 128) : val_main_v76 (F := Ideal) x0 (ix4 b hh i e) =
    x0 (ix2 ⟨b.val * 2048 + i.val, by omega⟩ ⟨1536 + (hh.val * 128 + e.val), by omega⟩) := by
  have e1 : val_main_v76 (F := Ideal) x0 (ix4 b hh i e) = val_main_v31 (F := Ideal) x0 (ix3 b i ⟨hh.val * 128 + e.val, by omega⟩) := by
    unfold val_main_v76 val_main_v75
    pointwise
  have e2 : val_main_v31 (F := Ideal) x0 (ix3 b i ⟨hh.val * 128 + e.val, by omega⟩) = val_main_v28 (F := Ideal) x0 (ix3 b i ⟨1536 + (hh.val * 128 + e.val), by omega⟩) :=
    (val_main_v31_apply x0 _).trans (congrArg _ (by blk_ext))
  have e3 : val_main_v28 (F := Ideal) x0 (ix3 b i ⟨1536 + (hh.val * 128 + e.val), by omega⟩) = val_main_v27 (F := Ideal) x0 (ix2 ⟨b.val * 2048 + i.val, by omega⟩ ⟨1536 + (hh.val * 128 + e.val), by omega⟩) := by
    unfold val_main_v28
    pointwise
  have e4 : val_main_v27 (F := Ideal) x0 (ix2 ⟨b.val * 2048 + i.val, by omega⟩ ⟨1536 + (hh.val * 128 + e.val), by omega⟩) = val_main_v26 (F := Ideal) x0 (ix2 ⟨b.val * 2048 + i.val, by omega⟩ ⟨1536 + (hh.val * 128 + e.val), by omega⟩) :=
    (val_main_v27_apply x0 _).trans (congrArg _ (by blk_ext))
  have e5 : val_main_v26 (F := Ideal) x0 (ix2 ⟨b.val * 2048 + i.val, by omega⟩ ⟨1536 + (hh.val * 128 + e.val), by omega⟩) = x0 (ix2 ⟨b.val * 2048 + i.val, by omega⟩ ⟨1536 + (hh.val * 128 + e.val), by omega⟩) :=
    (val_main_v26_apply x0 _).trans (congrArg _ (by blk_ext))
  exact e1.trans (e2.trans (e3.trans (e4.trans e5)))

/-- The value heads of the context. -/
theorem v82_apply (b : Fin 4) (hh : Fin 6) (i : Fin 256) (e : Fin 128) : val_main_v82 (F := Ideal) x0 (ix4 b hh i e) =
    x0 (ix2 ⟨8192 + (b.val * 256 + i.val), by omega⟩ ⟨1536 + (hh.val * 128 + e.val), by omega⟩) := by
  have e1 : val_main_v82 (F := Ideal) x0 (ix4 b hh i e) = val_main_v36 (F := Ideal) x0 (ix3 b i ⟨hh.val * 128 + e.val, by omega⟩) := by
    unfold val_main_v82 val_main_v81
    pointwise
  have e2 : val_main_v36 (F := Ideal) x0 (ix3 b i ⟨hh.val * 128 + e.val, by omega⟩) = val_main_v33 (F := Ideal) x0 (ix3 b i ⟨1536 + (hh.val * 128 + e.val), by omega⟩) :=
    (val_main_v36_apply x0 _).trans (congrArg _ (by blk_ext))
  have e3 : val_main_v33 (F := Ideal) x0 (ix3 b i ⟨1536 + (hh.val * 128 + e.val), by omega⟩) = val_main_v32 (F := Ideal) x0 (ix2 ⟨b.val * 256 + i.val, by omega⟩ ⟨1536 + (hh.val * 128 + e.val), by omega⟩) := by
    unfold val_main_v33
    pointwise
  have e4 : val_main_v32 (F := Ideal) x0 (ix2 ⟨b.val * 256 + i.val, by omega⟩ ⟨1536 + (hh.val * 128 + e.val), by omega⟩) = val_main_v26 (F := Ideal) x0 (ix2 ⟨8192 + (b.val * 256 + i.val), by omega⟩ ⟨1536 + (hh.val * 128 + e.val), by omega⟩) :=
    (val_main_v32_apply x0 _).trans (congrArg _ (by blk_ext))
  have e5 : val_main_v26 (F := Ideal) x0 (ix2 ⟨8192 + (b.val * 256 + i.val), by omega⟩ ⟨1536 + (hh.val * 128 + e.val), by omega⟩) = x0 (ix2 ⟨8192 + (b.val * 256 + i.val), by omega⟩ ⟨1536 + (hh.val * 128 + e.val), by omega⟩) :=
    (val_main_v26_apply x0 _).trans (congrArg _ (by blk_ext))
  exact e1.trans (e2.trans (e3.trans (e4.trans e5)))

/-- The rotated query heads of the latent tokens. -/
theorem v55_apply (b : Fin 4) (hh : Fin 6) (i : Fin 2048) (e : Fin 128) : val_main_v55 (F := Ideal) x0 (ix4 b hh i e) =
    if h : e.val < 64 then val_main_v38 (F := Ideal) x0 (ix4 b hh i e) * val_main_v24 (F := Ideal) (ix2 i ⟨e.val, h⟩)
        - val_main_v38 (F := Ideal) x0 (ix4 b hh i ⟨64 + e.val, by omega⟩) * val_main_v25 (F := Ideal) (ix2 i ⟨e.val, h⟩)
    else val_main_v38 (F := Ideal) x0 (ix4 b hh i ⟨e.val - 64, by omega⟩) * val_main_v25 (F := Ideal) (ix2 i ⟨e.val - 64, by omega⟩)
        + val_main_v38 (F := Ideal) x0 (ix4 b hh i ⟨64 + (e.val - 64), by omega⟩) * val_main_v24 (F := Ideal) (ix2 i ⟨e.val - 64, by omega⟩) := by
  have l : ∀ k : Fin 64, val_main_v39 (F := Ideal) x0 (ix4 b hh i k) = val_main_v38 (F := Ideal) x0 (ix4 b hh i ⟨k.val, by omega⟩) := fun k =>
    (val_main_v39_apply x0 _).trans (congrArg _ (by blk_ext))
  have r : ∀ k : Fin 64, val_main_v40 (F := Ideal) x0 (ix4 b hh i k) = val_main_v38 (F := Ideal) x0 (ix4 b hh i ⟨64 + k.val, by omega⟩) := fun k =>
    (val_main_v40_apply x0 _).trans (congrArg _ (by blk_ext))
  unfold val_main_v55 val_main_v54 val_main_v53 val_main_v52 val_main_v51 val_main_v50 val_main_v49 val_main_v48 val_main_v47 val_main_v46 val_main_v45 val_main_v44 val_main_v43 val_main_v42 val_main_v41
  pointwise
  simp only [l, r]

/-- The rotated key heads of the latent tokens. -/
theorem v74_apply (b : Fin 4) (hh : Fin 6) (i : Fin 2048) (e : Fin 128) : val_main_v74 (F := Ideal) x0 (ix4 b hh i e) =
    if h : e.val < 64 then val_main_v57 (F := Ideal) x0 (ix4 b hh i e) * val_main_v24 (F := Ideal) (ix2 i ⟨e.val, h⟩)
        - val_main_v57 (F := Ideal) x0 (ix4 b hh i ⟨64 + e.val, by omega⟩) * val_main_v25 (F := Ideal) (ix2 i ⟨e.val, h⟩)
    else val_main_v57 (F := Ideal) x0 (ix4 b hh i ⟨e.val - 64, by omega⟩) * val_main_v25 (F := Ideal) (ix2 i ⟨e.val - 64, by omega⟩)
        + val_main_v57 (F := Ideal) x0 (ix4 b hh i ⟨64 + (e.val - 64), by omega⟩) * val_main_v24 (F := Ideal) (ix2 i ⟨e.val - 64, by omega⟩) := by
  have l : ∀ k : Fin 64, val_main_v58 (F := Ideal) x0 (ix4 b hh i k) = val_main_v57 (F := Ideal) x0 (ix4 b hh i ⟨k.val, by omega⟩) := fun k =>
    (val_main_v58_apply x0 _).trans (congrArg _ (by blk_ext))
  have r : ∀ k : Fin 64, val_main_v59 (F := Ideal) x0 (ix4 b hh i k) = val_main_v57 (F := Ideal) x0 (ix4 b hh i ⟨64 + k.val, by omega⟩) := fun k =>
    (val_main_v59_apply x0 _).trans (congrArg _ (by blk_ext))
  unfold val_main_v74 val_main_v73 val_main_v72 val_main_v71 val_main_v70 val_main_v69 val_main_v68 val_main_v67 val_main_v66 val_main_v65 val_main_v64 val_main_v63 val_main_v62 val_main_v61 val_main_v60
  pointwise
  simp only [l, r]

/-- The latent token that a direction's chunk `n` (from the third on) reads at place `p`. -/
def lat (d : Fin 2) (n : Fin 18) (p : Fin 128) : Fin 2048 :=
  ⟨if d.val = 0 then (n.val - 2) * 128 + p.val else 2047 - ((n.val - 2) * 128 + p.val), by split_ifs <;> omega⟩

/-- The row of the residual stream that a direction's chunk `n` of batch `b` reads at place `p`: the context's two
chunks come first, each part read backwards in the second direction. -/
def row (d : Fin 2) (b : Fin 4) (n : Fin 18) (p : Fin 128) : Fin 9216 :=
  ⟨if n.val < 2 then 8192 + b.val * 256 + (if d.val = 0 then n.val * 128 + p.val else 255 - (n.val * 128 + p.val))
    else b.val * 2048 + (lat d n p).val, by have := (lat d n p).isLt; split_ifs <;> omega⟩

/-- The cosine a place of a chunk is rotated by: one in the context. -/
def cosT (d : Fin 2) (n : Fin 18) (p e : Fin 128) : EReal :=
  if n.val < 2 then 1 else val_main_v24 (F := Ideal) (ix2 (lat d n p) ⟨e.val % 64, by omega⟩)

/-- The signed sine a place of a chunk is rotated by: zero in the context. -/
def sinT (d : Fin 2) (n : Fin 18) (p e : Fin 128) : EReal :=
  if n.val < 2 then 0 else if e.val < 64 then - val_main_v25 (F := Ideal) (ix2 (lat d n p) ⟨e.val % 64, by omega⟩)
    else val_main_v25 (F := Ideal) (ix2 (lat d n p) ⟨e.val % 64, by omega⟩)

/-- A head's rotated entry at place `p` of a chunk, the head's columns starting at `col + 128 h`. -/
def rope (col : ℕ) (hc : col ≤ 1536) (d : Fin 2) (b : Fin 4) (hh : Fin 6) (n : Fin 18) (p e : Fin 128) : EReal :=
  x0 (ix2 (row d b n p) ⟨col + (hh.val * 128 + e.val), by omega⟩) * cosT d n p e
    + x0 (ix2 (row d b n p) ⟨col + (hh.val * 128 + (e.val + 64) % 128), by omega⟩) * sinT d n p e

/-- The two halves' rotation as a product with the cosine and with the signed sine. -/
theorem mix (X : Fin 128 → EReal) (c s : Fin 64 → EReal) (e : Fin 128) :
    (if h : e.val < 64 then X e * c ⟨e.val, h⟩ - X ⟨64 + e.val, by omega⟩ * s ⟨e.val, h⟩
      else X ⟨e.val - 64, by omega⟩ * s ⟨e.val - 64, by omega⟩ + X ⟨64 + (e.val - 64), by omega⟩ * c ⟨e.val - 64, by omega⟩) =
    X e * c ⟨e.val % 64, by omega⟩ + X ⟨(e.val + 64) % 128, by omega⟩ *
      (if e.val < 64 then - s ⟨e.val % 64, by omega⟩ else s ⟨e.val % 64, by omega⟩) := by
  by_cases h : e.val < 64
  · rw [dif_pos h, if_pos h]
    have e1 : (⟨64 + e.val, by omega⟩ : Fin 128) = ⟨(e.val + 64) % 128, by omega⟩ := Fin.ext (by show 64 + e.val = (e.val + 64) % 128; omega)
    have e2 : (⟨e.val, h⟩ : Fin 64) = ⟨e.val % 64, by omega⟩ := Fin.ext (by show e.val = e.val % 64; omega)
    rw [e1, e2, sub_eq_add_neg, ← mul_neg]
  · rw [dif_neg h, if_neg h]
    have e1 : (⟨e.val - 64, by omega⟩ : Fin 128) = ⟨(e.val + 64) % 128, by omega⟩ := Fin.ext (by show e.val - 64 = (e.val + 64) % 128; omega)
    have e2 : (⟨e.val - 64, by omega⟩ : Fin 64) = ⟨e.val % 64, by omega⟩ := Fin.ext (by show e.val - 64 = e.val % 64; omega)
    have e3 : (⟨64 + (e.val - 64), by omega⟩ : Fin 128) = e := Fin.ext (by show 64 + (e.val - 64) = e.val; omega)
    rw [e1, e2, e3, add_comm]

/-- The part read backwards. -/
theorem v136_apply (b : Fin 4) (hh : Fin 6) (i : Fin 256) (v : Fin 128) : val_main_v136 (F := Ideal) x0 (ix4 b hh i v) =
    val_main_v78 (F := Ideal) x0 (ix4 b hh ⟨255 - i.val, by omega⟩ v) := by
  unfold val_main_v136
  pointwise
  refine congrArg _ ?_
  blk_ext
  · rfl
  · rfl
  · show (Fin.rev i).val = 255 - i.val
    rw [Fin.val_rev]
    omega
  · rfl

/-- The part read backwards. -/
theorem v137_apply (b : Fin 4) (hh : Fin 6) (i : Fin 2048) (v : Fin 128) : val_main_v137 (F := Ideal) x0 (ix4 b hh i v) =
    val_main_v55 (F := Ideal) x0 (ix4 b hh ⟨2047 - i.val, by omega⟩ v) := by
  unfold val_main_v137
  pointwise
  refine congrArg _ ?_
  blk_ext
  · rfl
  · rfl
  · show (Fin.rev i).val = 2047 - i.val
    rw [Fin.val_rev]
    omega
  · rfl

/-- The chunks of the queries, both directions. -/
theorem v143_apply (n : Fin 18) (d : Fin 2) (b : Fin 4) (hh : Fin 6) (p e : Fin 128) : val_main_v143 (F := Ideal) x0 (ix6 n d b hh p e) =
    if d.val = 0 then (if h : n.val < 2 then val_main_v78 (F := Ideal) x0 (ix4 b hh ⟨n.val * 128 + p.val, by omega⟩ e)
      else val_main_v55 (F := Ideal) x0 (ix4 b hh ⟨(n.val - 2) * 128 + p.val, by omega⟩ e))
    else (if h : n.val < 2 then val_main_v78 (F := Ideal) x0 (ix4 b hh ⟨255 - (n.val * 128 + p.val), by omega⟩ e)
      else val_main_v55 (F := Ideal) x0 (ix4 b hh ⟨2047 - ((n.val - 2) * 128 + p.val), by omega⟩ e)) := by
  have e1 : val_main_v143 (F := Ideal) x0 (ix6 n d b hh p e) = val_main_v142 (F := Ideal) x0 (ix6 d b hh n p e) :=
    (val_main_v143_apply x0 _).trans (congrArg _ (by blk_ext))
  have e2 : val_main_v142 (F := Ideal) x0 (ix6 d b hh n p e) = val_main_v141 (F := Ideal) x0 (ix5 d b hh ⟨n.val * 128 + p.val, by omega⟩ e) := by
    unfold val_main_v142
    pointwise
  rw [e1, e2]
  unfold val_main_v141 val_main_v140 val_main_v139 val_main_v138 val_main_v135
  pointwise
  by_cases hn : n.val < 2
  · have h1 : n.val * 128 + p.val < 256 := by omega
    simp only [hn, h1, dif_pos, v136_apply]
    by_cases hd : d.val = 0
    · rw [dif_pos (by omega), if_pos hd]
    · rw [dif_neg (by omega), if_neg hd]
  · have h1 : ¬ n.val * 128 + p.val < 256 := by omega
    have e3 : n.val * 128 + p.val - 256 = (n.val - 2) * 128 + p.val := by omega
    simp only [hn, h1, dif_neg, not_false_eq_true, v137_apply, e3]
    by_cases hd : d.val = 0
    · rw [dif_pos (by omega), if_pos hd]
    · rw [dif_neg (by omega), if_neg hd]

/-- The part read backwards. -/
theorem v145_apply (b : Fin 4) (hh : Fin 6) (i : Fin 256) (v : Fin 128) : val_main_v145 (F := Ideal) x0 (ix4 b hh i v) =
    val_main_v86 (F := Ideal) x0 (ix4 b hh ⟨255 - i.val, by omega⟩ v) := by
  unfold val_main_v145
  pointwise
  refine congrArg _ ?_
  blk_ext
  · rfl
  · rfl
  · show (Fin.rev i).val = 255 - i.val
    rw [Fin.val_rev]
    omega
  · rfl

/-- The part read backwards. -/
theorem v146_apply (b : Fin 4) (hh : Fin 6) (i : Fin 2048) (v : Fin 128) : val_main_v146 (F := Ideal) x0 (ix4 b hh i v) =
    val_main_v84 (F := Ideal) x0 (ix4 b hh ⟨2047 - i.val, by omega⟩ v) := by
  unfold val_main_v146
  pointwise
  refine congrArg _ ?_
  blk_ext
  · rfl
  · rfl
  · show (Fin.rev i).val = 2047 - i.val
    rw [Fin.val_rev]
    omega
  · rfl

/-- The chunks of the keys, both directions. -/
theorem v152_apply (n : Fin 18) (d : Fin 2) (b : Fin 4) (hh : Fin 6) (p e : Fin 128) : val_main_v152 (F := Ideal) x0 (ix6 n d b hh p e) =
    if d.val = 0 then (if h : n.val < 2 then val_main_v86 (F := Ideal) x0 (ix4 b hh ⟨n.val * 128 + p.val, by omega⟩ e)
      else val_main_v84 (F := Ideal) x0 (ix4 b hh ⟨(n.val - 2) * 128 + p.val, by omega⟩ e))
    else (if h : n.val < 2 then val_main_v86 (F := Ideal) x0 (ix4 b hh ⟨255 - (n.val * 128 + p.val), by omega⟩ e)
      else val_main_v84 (F := Ideal) x0 (ix4 b hh ⟨2047 - ((n.val - 2) * 128 + p.val), by omega⟩ e)) := by
  have e1 : val_main_v152 (F := Ideal) x0 (ix6 n d b hh p e) = val_main_v151 (F := Ideal) x0 (ix6 d b hh n p e) :=
    (val_main_v152_apply x0 _).trans (congrArg _ (by blk_ext))
  have e2 : val_main_v151 (F := Ideal) x0 (ix6 d b hh n p e) = val_main_v150 (F := Ideal) x0 (ix5 d b hh ⟨n.val * 128 + p.val, by omega⟩ e) := by
    unfold val_main_v151
    pointwise
  rw [e1, e2]
  unfold val_main_v150 val_main_v149 val_main_v148 val_main_v147 val_main_v144
  pointwise
  by_cases hn : n.val < 2
  · have h1 : n.val * 128 + p.val < 256 := by omega
    simp only [hn, h1, dif_pos, v145_apply]
    by_cases hd : d.val = 0
    · rw [dif_pos (by omega), if_pos hd]
    · rw [dif_neg (by omega), if_neg hd]
  · have h1 : ¬ n.val * 128 + p.val < 256 := by omega
    have e3 : n.val * 128 + p.val - 256 = (n.val - 2) * 128 + p.val := by omega
    simp only [hn, h1, dif_neg, not_false_eq_true, v146_apply, e3]
    by_cases hd : d.val = 0
    · rw [dif_pos (by omega), if_pos hd]
    · rw [dif_neg (by omega), if_neg hd]

/-- The part read backwards. -/
theorem v154_apply (b : Fin 4) (hh : Fin 6) (i : Fin 256) (v : Fin 128) : val_main_v154 (F := Ideal) x0 (ix4 b hh i v) =
    val_main_v82 (F := Ideal) x0 (ix4 b hh ⟨255 - i.val, by omega⟩ v) := by
  unfold val_main_v154
  pointwise
  refine congrArg _ ?_
  blk_ext
  · rfl
  · rfl
  · show (Fin.rev i).val = 255 - i.val
    rw [Fin.val_rev]
    omega
  · rfl

/-- The part read backwards. -/
theorem v155_apply (b : Fin 4) (hh : Fin 6) (i : Fin 2048) (v : Fin 128) : val_main_v155 (F := Ideal) x0 (ix4 b hh i v) =
    val_main_v76 (F := Ideal) x0 (ix4 b hh ⟨2047 - i.val, by omega⟩ v) := by
  unfold val_main_v155
  pointwise
  refine congrArg _ ?_
  blk_ext
  · rfl
  · rfl
  · show (Fin.rev i).val = 2047 - i.val
    rw [Fin.val_rev]
    omega
  · rfl

/-- The chunks of the values, both directions. -/
theorem v161_apply (n : Fin 18) (d : Fin 2) (b : Fin 4) (hh : Fin 6) (p e : Fin 128) : val_main_v161 (F := Ideal) x0 (ix6 n d b hh p e) =
    if d.val = 0 then (if h : n.val < 2 then val_main_v82 (F := Ideal) x0 (ix4 b hh ⟨n.val * 128 + p.val, by omega⟩ e)
      else val_main_v76 (F := Ideal) x0 (ix4 b hh ⟨(n.val - 2) * 128 + p.val, by omega⟩ e))
    else (if h : n.val < 2 then val_main_v82 (F := Ideal) x0 (ix4 b hh ⟨255 - (n.val * 128 + p.val), by omega⟩ e)
      else val_main_v76 (F := Ideal) x0 (ix4 b hh ⟨2047 - ((n.val - 2) * 128 + p.val), by omega⟩ e)) := by
  have e1 : val_main_v161 (F := Ideal) x0 (ix6 n d b hh p e) = val_main_v160 (F := Ideal) x0 (ix6 d b hh n p e) :=
    (val_main_v161_apply x0 _).trans (congrArg _ (by blk_ext))
  have e2 : val_main_v160 (F := Ideal) x0 (ix6 d b hh n p e) = val_main_v159 (F := Ideal) x0 (ix5 d b hh ⟨n.val * 128 + p.val, by omega⟩ e) := by
    unfold val_main_v160
    pointwise
  rw [e1, e2]
  unfold val_main_v159 val_main_v158 val_main_v157 val_main_v156 val_main_v153
  pointwise
  by_cases hn : n.val < 2
  · have h1 : n.val * 128 + p.val < 256 := by omega
    simp only [hn, h1, dif_pos, v154_apply]
    by_cases hd : d.val = 0
    · rw [dif_pos (by omega), if_pos hd]
    · rw [dif_neg (by omega), if_neg hd]
  · have h1 : ¬ n.val * 128 + p.val < 256 := by omega
    have e3 : n.val * 128 + p.val - 256 = (n.val - 2) * 128 + p.val := by omega
    simp only [hn, h1, dif_neg, not_false_eq_true, v155_apply, e3]
    by_cases hd : d.val = 0
    · rw [dif_pos (by omega), if_pos hd]
    · rw [dif_neg (by omega), if_neg hd]

/-- A row or token in one of the cases. -/
theorem row_fc (d : Fin 2) (b : Fin 4) (n : Fin 18) (p : Fin 128) (hn : n.val < 2) (hd : d.val = 0) :
    row d b n p = ⟨8192 + (b.val * 256 + (n.val * 128 + p.val)), by omega⟩ := Fin.ext (by unfold row; simp only [hn, hd, if_true]; omega)
/-- A row or token in one of the cases. -/
theorem row_bc (d : Fin 2) (b : Fin 4) (n : Fin 18) (p : Fin 128) (hn : n.val < 2) (hd : ¬ d.val = 0) :
    row d b n p = ⟨8192 + (b.val * 256 + (255 - (n.val * 128 + p.val))), by omega⟩ := Fin.ext (by unfold row; simp only [hn, hd, if_true, if_false]; omega)
/-- A row or token in one of the cases. -/
theorem row_l (d : Fin 2) (b : Fin 4) (n : Fin 18) (p : Fin 128) (hn : ¬ n.val < 2) :
    row d b n p = ⟨b.val * 2048 + (lat d n p).val, by omega⟩ := Fin.ext (by unfold row; simp only [hn, if_false])
/-- A row or token in one of the cases. -/
theorem lat_f (d : Fin 2) (n : Fin 18) (p : Fin 128) (hd : d.val = 0) : lat d n p = ⟨(n.val - 2) * 128 + p.val, by omega⟩ :=
  Fin.ext (by unfold lat; simp only [hd, if_true])
/-- A row or token in one of the cases. -/
theorem lat_b (d : Fin 2) (n : Fin 18) (p : Fin 128) (hd : ¬ d.val = 0) : lat d n p = ⟨2047 - ((n.val - 2) * 128 + p.val), by omega⟩ :=
  Fin.ext (by unfold lat; simp only [hd, if_false])

/-- The queries a chunk reads. -/
theorem q_apply (n : Fin 18) (d : Fin 2) (b : Fin 4) (hh : Fin 6) (p e : Fin 128) : val_main_v143 (F := Ideal) x0 (ix6 n d b hh p e) =
    rope x0 0 (by decide) d b hh n p e := by
  rw [v143_apply]
  by_cases hn : n.val < 2
  · unfold rope cosT sinT
    rw [if_pos hn, if_pos hn, mul_one, mul_zero, add_zero]
    by_cases hd : d.val = 0
    · rw [if_pos hd, dif_pos hn, v78_apply, row_fc d b n p hn hd]
    · rw [if_neg hd, dif_pos hn, v78_apply, row_bc d b n p hn hd]
  · unfold rope cosT sinT
    rw [if_neg hn, if_neg hn]
    have ho : val_main_v55 (F := Ideal) x0 (ix4 b hh (lat d n p) e) = _ := (v55_apply x0 b hh (lat d n p) e).trans
      (mix (fun e => val_main_v38 (F := Ideal) x0 (ix4 b hh (lat d n p) e)) (fun k => val_main_v24 (F := Ideal) (ix2 (lat d n p) k)) (fun k => val_main_v25 (F := Ideal) (ix2 (lat d n p) k)) e)
    simp only [v38_apply, ← row_l d b n p hn] at ho
    rw [← ho]
    by_cases hd : d.val = 0
    · rw [if_pos hd, dif_neg hn, lat_f d n p hd]
    · rw [if_neg hd, dif_neg hn, lat_b d n p hd]

/-- The scaled rotated keys of the latent tokens. -/
theorem v84_apply (b : Fin 4) (hh : Fin 6) (i : Fin 2048) (e : Fin 128) : val_main_v84 (F := Ideal) x0 (ix4 b hh i e) =
    val_main_v74 (F := Ideal) x0 (ix4 b hh i e) * Ideal.ofBits FTy.f32 1035273459#32 := by
  unfold val_main_v84 val_main_v83 val_main_cst_1
  pointwise

/-- The scaled keys of the context. -/
theorem v86_apply (b : Fin 4) (hh : Fin 6) (i : Fin 256) (e : Fin 128) : val_main_v86 (F := Ideal) x0 (ix4 b hh i e) =
    val_main_v80 (F := Ideal) x0 (ix4 b hh i e) * Ideal.ofBits FTy.f32 1035273459#32 := by
  unfold val_main_v86 val_main_v85 val_main_cst_2
  pointwise

/-- The scaled keys a chunk reads. -/
theorem k_apply (n : Fin 18) (d : Fin 2) (b : Fin 4) (hh : Fin 6) (p e : Fin 128) : val_main_v152 (F := Ideal) x0 (ix6 n d b hh p e) =
    rope x0 768 (by decide) d b hh n p e * Ideal.ofBits FTy.f32 1035273459#32 := by
  rw [v152_apply]
  by_cases hn : n.val < 2
  · unfold rope cosT sinT
    rw [if_pos hn, if_pos hn, mul_one, mul_zero, add_zero]
    by_cases hd : d.val = 0
    · rw [if_pos hd, dif_pos hn, v86_apply, v80_apply, row_fc d b n p hn hd]
    · rw [if_neg hd, dif_pos hn, v86_apply, v80_apply, row_bc d b n p hn hd]
  · unfold rope cosT sinT
    rw [if_neg hn, if_neg hn]
    have ho : val_main_v74 (F := Ideal) x0 (ix4 b hh (lat d n p) e) = _ := (v74_apply x0 b hh (lat d n p) e).trans
      (mix (fun e => val_main_v57 (F := Ideal) x0 (ix4 b hh (lat d n p) e)) (fun k => val_main_v24 (F := Ideal) (ix2 (lat d n p) k)) (fun k => val_main_v25 (F := Ideal) (ix2 (lat d n p) k)) e)
    simp only [v57_apply, ← row_l d b n p hn] at ho
    rw [← ho]
    by_cases hd : d.val = 0
    · rw [if_pos hd, dif_neg hn, lat_f d n p hd, v84_apply]
    · rw [if_neg hd, dif_neg hn, lat_b d n p hd, v84_apply]

/-- The values a chunk reads. -/
theorem v_apply (n : Fin 18) (d : Fin 2) (b : Fin 4) (hh : Fin 6) (p e : Fin 128) : val_main_v161 (F := Ideal) x0 (ix6 n d b hh p e) =
    x0 (ix2 (row d b n p) ⟨1536 + (hh.val * 128 + e.val), by omega⟩) := by
  rw [v161_apply]
  by_cases hn : n.val < 2 <;> by_cases hd : d.val = 0
  · rw [if_pos hd, dif_pos hn, v82_apply, row_fc d b n p hn hd]
  · rw [if_neg hd, dif_pos hn, v82_apply, row_bc d b n p hn hd]
  · rw [if_pos hd, dif_neg hn, v76_apply, row_l d b n p hn]; simp only [lat_f d n p hd]
  · rw [if_neg hd, dif_neg hn, v76_apply, row_l d b n p hn]; simp only [lat_b d n p hd]

end Cert.RetRefIdeal.Hand

end
-- ==== Proof.RetRefB.lean ====
module

public import proofs.«01_k».proof.Defs
public import proofs.«01_k».proof.Proof.Gen.RetRefIdeal.Read
public import proofs.«01_k».proof.Proof.RetRefA
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.RetRefIdeal.Hand

open Cert.RetRefIdeal Cert.RetRefIdeal.Read

variable (x0 : Vec Ideal S9216x7168 .f32) (x1 : Vec Ideal S2x6 .f32)

/-- The logarithm of a head's decay: the log of the sigmoid of its parameter. -/
def lgR (d : Fin 2) (hh : Fin 6) : EReal :=
  -(max (-x1 (ix2 d hh)) 0 + Ideal.log1p (Ideal.exp (-@FloatOps.absf Ideal _ FTy.f32 (x1 (ix2 d hh)))))

/-- A place of a chunk as a number. -/
def fi (i : Fin 128) : EReal := FloatOps.sitofp (F := Ideal) FTy.f32 (BitVec.ofNat 32 i.val)

/-- The decay between two places of a chunk. -/
def decR (g : EReal) (i k : Fin 128) : EReal := if 0 ≤ fi i - fi k then Ideal.exp (g * max (fi i - fi k) 0) else 0

/-- A table of the decays, as arithmetic on its parameter. -/
theorem v95_apply (d : Fin 2) (hh : Fin 6) : val_main_v95 (F := Ideal) x1 (ix2 d hh) = lgR x1 d hh := by
  unfold val_main_v95 val_main_v94 val_main_v93 val_main_v92 val_main_v91 val_main_v90 val_main_v89 val_main_v88 val_main_v87 val_main_cst_3 lgR
  pointwise

/-- A table of the decays, as arithmetic on its parameter. -/
theorem qd_apply (d : Fin 2) (hh : Fin 6) (i : Fin 128) : val_main_v121 (F := Ideal) x1 (ix5 d 0 hh i 0) = Ideal.exp (lgR x1 d hh * (fi i + 1)) := by
  rw [← v95_apply]
  unfold val_main_v121 val_main_v120 val_main_v119 val_main_v118 val_main_v117 val_main_v116 val_main_v115 val_main_v114 val_main_v113 val_main_v96 val_main_cst_7 fi
  pointwise

/-- A table of the decays, as arithmetic on its parameter. -/
theorem kd_apply (d : Fin 2) (hh : Fin 6) (i : Fin 128) : val_main_v130 (F := Ideal) x1 (ix5 d 0 hh i 0) = Ideal.exp (lgR x1 d hh * (Ideal.ofBits FTy.f32 1123942400#32 - fi i)) := by
  rw [← v95_apply]
  unfold val_main_v130 val_main_v129 val_main_v128 val_main_v127 val_main_v126 val_main_v125 val_main_v124 val_main_v123 val_main_v122 val_main_v96 val_main_cst_8 fi
  pointwise

/-- A table of the decays, as arithmetic on its parameter. -/
theorem cd_apply (d : Fin 2) (hh : Fin 6) : val_main_v134 (F := Ideal) x1 (ix5 d 0 hh 0 0) = Ideal.exp (lgR x1 d hh * Ideal.ofBits FTy.f32 1124073472#32) := by
  rw [← v95_apply]
  unfold val_main_v134 val_main_v133 val_main_v132 val_main_v131 val_main_cst_9
  pointwise

/-- A table of the decays, as arithmetic on its parameter. -/
theorem v101_apply (i k : Fin 128) : val_main_v101 (F := Ideal) (ix2 i k) = fi i - fi k := by
  unfold val_main_v101 val_main_v100 val_main_v99 val_main_v98 val_main_v97 val_main_v96 fi
  pointwise

/-- A table of the decays, as arithmetic on its parameter. -/
theorem v102_apply (d : Fin 2) (hh : Fin 6) : val_main_v102 (F := Ideal) x1 (ix5 d 0 hh 0 0) = lgR x1 d hh := by
  rw [← v95_apply]
  unfold val_main_v102
  pointwise

/-- A table of the decays, as arithmetic on its parameter. -/
theorem dec_apply (d : Fin 2) (hh : Fin 6) (i k : Fin 128) : val_main_v112 (F := Ideal) x1 (ix5 d 0 hh i k) = decR (lgR x1 d hh) i k := by
  unfold val_main_v112 val_main_v111 val_main_v110 val_main_v109 val_main_v108 val_main_v107 val_main_v106 val_main_v105 val_main_cst_5 val_main_call0_v1 val_main_call0_v2 val_main_call0_v0 val_main_cst_6 val_main_v104 val_main_v103 val_main_cst_4
  pointwise
  rw [v101_apply, v102_apply]
  unfold decR
  refine if_congr Iff.rfl rfl ?_
  show Ideal.ofBits FTy.f32 0#32 = 0
  exact Ideal.ofBits_zero FTy.f32

/-- A head's products of queries and keys. -/
theorem qk_gen (q k : FVec Ideal S2x4x6x128x128 .f32) (d : Fin 2) (b : Fin 4) (hh : Fin 6) (i v : Fin 128) :
    Host.dotGeneral dot_S2x4x6x128x128_S2x4x6x128x128_S2x4x6x128x128_4_4_3_3_012_012 none q k (ix5 d b hh i v) = ∑ x : Fin 128, q (ix5 d b hh i x) * k (ix5 d b hh v x) := by
  pointwise

/-- A head's product of rows with columns. -/
theorem av_gen (q k : FVec Ideal S2x4x6x128x128 .f32) (d : Fin 2) (b : Fin 4) (hh : Fin 6) (i v : Fin 128) :
    Host.dotGeneral dot_S2x4x6x128x128_S2x4x6x128x128_S2x4x6x128x128_4_3_3_4_012_012 none q k (ix5 d b hh i v) = ∑ x : Fin 128, q (ix5 d b hh i x) * k (ix5 d b hh x v) := by
  pointwise

/-- A head's product of columns with columns. -/
theorem kv_gen (q k : FVec Ideal S2x4x6x128x128 .f32) (d : Fin 2) (b : Fin 4) (hh : Fin 6) (i v : Fin 128) :
    Host.dotGeneral dot_S2x4x6x128x128_S2x4x6x128x128_S2x4x6x128x128_3_3_4_4_012_012 none q k (ix5 d b hh i v) = ∑ x : Fin 128, q (ix5 d b hh x i) * k (ix5 d b hh x v) := by
  pointwise

/-- A table spread over the batch. -/
theorem dec_gen (q : Vec Ideal S2x1x6x128x128 .f32) (d : Fin 2) (b : Fin 4) (hh : Fin 6) (i v : Fin 128) :
    broadcastInDim S2x4x6x128x128 ![0, 1, 2, 3, 4] Gen.bcast_S2x1x6x128x128_S2x4x6x128x128_0_1_2_3_4 q (ix5 d b hh i v) = q (ix5 d 0 hh i v) := by
  pointwise

/-- A table of rows spread over the batch and the columns. -/
theorem col_gen (q : Vec Ideal S2x1x6x128x1 .f32) (d : Fin 2) (b : Fin 4) (hh : Fin 6) (i v : Fin 128) :
    broadcastInDim S2x4x6x128x128 ![0, 1, 2, 3, 4] Gen.bcast_S2x1x6x128x1_S2x4x6x128x128_0_1_2_3_4 q (ix5 d b hh i v) = q (ix5 d 0 hh i 0) := by
  pointwise

/-- A number per head spread over the batch, rows and columns. -/
theorem one_gen (q : Vec Ideal S2x1x6x1x1 .f32) (d : Fin 2) (b : Fin 4) (hh : Fin 6) (i v : Fin 128) :
    broadcastInDim S2x4x6x128x128 ![0, 1, 2, 3, 4] Gen.bcast_S2x1x6x1x1_S2x4x6x128x128_0_1_2_3_4 q (ix5 d b hh i v) = q (ix5 d 0 hh 0 0) := by
  pointwise

/-- A chunk's outputs from its queries, keys, values, carried states and decays. -/
theorem o_gen (q k w r : FVec Ideal S2x4x6x128x128 .f32) (dec : Vec Ideal S2x1x6x128x128 .f32) (qd : Vec Ideal S2x1x6x128x1 .f32)
    (d : Fin 2) (b : Fin 4) (hh : Fin 6) (i v : Fin 128) :
    addf (F := Ideal) (φ := .f32) (Host.dotGeneral dot_S2x4x6x128x128_S2x4x6x128x128_S2x4x6x128x128_4_3_3_4_012_012 none (mulf (F := Ideal) (φ := .f32) (Host.dotGeneral dot_S2x4x6x128x128_S2x4x6x128x128_S2x4x6x128x128_4_4_3_3_012_012 none q k)
        (broadcastInDim S2x4x6x128x128 ![0, 1, 2, 3, 4] Gen.bcast_S2x1x6x128x128_S2x4x6x128x128_0_1_2_3_4 dec)) w)
      (Host.dotGeneral dot_S2x4x6x128x128_S2x4x6x128x128_S2x4x6x128x128_4_3_3_4_012_012 none (mulf (F := Ideal) (φ := .f32) q
        (broadcastInDim S2x4x6x128x128 ![0, 1, 2, 3, 4] Gen.bcast_S2x1x6x128x1_S2x4x6x128x128_0_1_2_3_4 qd)) r) (ix5 d b hh i v) =
    ∑ y : Fin 128, (∑ x : Fin 128, q (ix5 d b hh i x) * k (ix5 d b hh y x)) * dec (ix5 d 0 hh i y) * w (ix5 d b hh y v) +
      ∑ x : Fin 128, q (ix5 d b hh i x) * qd (ix5 d 0 hh i 0) * r (ix5 d b hh x v) := by
  show Host.dotGeneral dot_S2x4x6x128x128_S2x4x6x128x128_S2x4x6x128x128_4_3_3_4_012_012 none _ w (ix5 d b hh i v) + Host.dotGeneral dot_S2x4x6x128x128_S2x4x6x128x128_S2x4x6x128x128_4_3_3_4_012_012 none _ r (ix5 d b hh i v) = _
  rw [av_gen, av_gen]
  refine congrArg₂ (· + ·) (Finset.sum_congr rfl fun y _ => ?_) (Finset.sum_congr rfl fun x _ => ?_)
  · show Host.dotGeneral dot_S2x4x6x128x128_S2x4x6x128x128_S2x4x6x128x128_4_4_3_3_012_012 none q k (ix5 d b hh i y) *
      broadcastInDim S2x4x6x128x128 ![0, 1, 2, 3, 4] Gen.bcast_S2x1x6x128x128_S2x4x6x128x128_0_1_2_3_4 dec (ix5 d b hh i y) * w (ix5 d b hh y v) = _
    rw [qk_gen, dec_gen]
  · show q (ix5 d b hh i x) * broadcastInDim S2x4x6x128x128 ![0, 1, 2, 3, 4] Gen.bcast_S2x1x6x128x1_S2x4x6x128x128_0_1_2_3_4 qd (ix5 d b hh i x) * r (ix5 d b hh x v) = _
    rw [col_gen]

/-- The states a chunk leaves, from its keys, values, carried states and decays. -/
theorem r_gen (k w r : FVec Ideal S2x4x6x128x128 .f32) (cd : Vec Ideal S2x1x6x1x1 .f32) (kd : Vec Ideal S2x1x6x128x1 .f32)
    (d : Fin 2) (b : Fin 4) (hh : Fin 6) (i v : Fin 128) :
    addf (F := Ideal) (φ := .f32) (mulf (F := Ideal) (φ := .f32) (broadcastInDim S2x4x6x128x128 ![0, 1, 2, 3, 4] Gen.bcast_S2x1x6x1x1_S2x4x6x128x128_0_1_2_3_4 cd) r)
      (Host.dotGeneral dot_S2x4x6x128x128_S2x4x6x128x128_S2x4x6x128x128_3_3_4_4_012_012 none (mulf (F := Ideal) (φ := .f32) k
        (broadcastInDim S2x4x6x128x128 ![0, 1, 2, 3, 4] Gen.bcast_S2x1x6x128x1_S2x4x6x128x128_0_1_2_3_4 kd)) w) (ix5 d b hh i v) =
    cd (ix5 d 0 hh 0 0) * r (ix5 d b hh i v) + ∑ y : Fin 128, k (ix5 d b hh y i) * kd (ix5 d 0 hh y 0) * w (ix5 d b hh y v) := by
  show broadcastInDim S2x4x6x128x128 ![0, 1, 2, 3, 4] Gen.bcast_S2x1x6x1x1_S2x4x6x128x128_0_1_2_3_4 cd (ix5 d b hh i v) * r (ix5 d b hh i v) +
    Host.dotGeneral dot_S2x4x6x128x128_S2x4x6x128x128_S2x4x6x128x128_3_3_4_4_012_012 none _ w (ix5 d b hh i v) = _
  rw [kv_gen, one_gen]
  refine congrArg₂ (· + ·) rfl (Finset.sum_congr rfl fun y _ => ?_)
  show k (ix5 d b hh y i) * broadcastInDim S2x4x6x128x128 ![0, 1, 2, 3, 4] Gen.bcast_S2x1x6x128x1_S2x4x6x128x128_0_1_2_3_4 kd (ix5 d b hh y i) * w (ix5 d b hh y v) = _
  rw [col_gen]

/-- What a chunk gives, its carried state being `r`. -/
def oS (n : Fin 18) (d : Fin 2) (b : Fin 4) (hh : Fin 6) (r : Fin 128 → Fin 128 → EReal) (p v : Fin 128) : EReal :=
  ∑ y : Fin 128, (∑ x : Fin 128, rope x0 0 (by decide) d b hh n p x * (rope x0 768 (by decide) d b hh n y x * Ideal.ofBits FTy.f32 1035273459#32)) *
      decR (lgR x1 d hh) p y * x0 (ix2 (row d b n y) ⟨1536 + (hh.val * 128 + v.val), by omega⟩) +
    ∑ x : Fin 128, rope x0 0 (by decide) d b hh n p x * Ideal.exp (lgR x1 d hh * (fi p + 1)) * r x v

/-- The state a chunk leaves, its carried state being `r`. -/
def rS (n : Fin 18) (d : Fin 2) (b : Fin 4) (hh : Fin 6) (r : Fin 128 → Fin 128 → EReal) (i v : Fin 128) : EReal :=
  Ideal.exp (lgR x1 d hh * Ideal.ofBits FTy.f32 1124073472#32) * r i v +
    ∑ y : Fin 128, rope x0 768 (by decide) d b hh n y i * Ideal.ofBits FTy.f32 1035273459#32 *
      Ideal.exp (lgR x1 d hh * (Ideal.ofBits FTy.f32 1123942400#32 - fi y)) * x0 (ix2 (row d b n y) ⟨1536 + (hh.val * 128 + v.val), by omega⟩)

/-- The state before a chunk. -/
def RR (d : Fin 2) (b : Fin 4) (hh : Fin 6) : ℕ → Fin 128 → Fin 128 → EReal
  | 0 => fun _ _ => 0
  | k + 1 => if h : k < 18 then rS x0 x1 ⟨k, h⟩ d b hh (RR d b hh k) else fun _ _ => 0

/-- The state after a chunk. -/
theorem RR_succ (d : Fin 2) (b : Fin 4) (hh : Fin 6) (n : Fin 18) (j k : ℕ) (hj : j = n.val) (hk : k = n.val + 1) :
    RR x0 x1 d b hh k = rS x0 x1 n d b hh (RR x0 x1 d b hh j) := by
  subst hj hk
  show (if h : n.val < 18 then rS x0 x1 ⟨n.val, h⟩ d b hh (RR x0 x1 d b hh n.val) else fun _ _ => 0) = _
  rw [dif_pos n.isLt]

/-- The state before the first chunk. -/
theorem r0_apply (d : Fin 2) (b : Fin 4) (hh : Fin 6) (i v : Fin 128) : val_main_v162 (F := Ideal) (ix5 d b hh i v) = RR x0 x1 d b hh 0 i v := by
  unfold val_main_v162 val_main_cst_10
  pointwise
  rfl

/-- Chunk 0's queries. -/
theorem q0_apply (d : Fin 2) (b : Fin 4) (hh : Fin 6) (p e : Fin 128) : val_main_v164 (F := Ideal) x0 (ix5 d b hh p e) =
    rope x0 0 (by decide) d b hh (0 : Fin 18) p e := by
  have e1 : val_main_v164 (F := Ideal) x0 (ix5 d b hh p e) = val_main_v163 (F := Ideal) x0 (ix6 0 d b hh p e) := by
    unfold val_main_v164
    pointwise
  have e2 : val_main_v163 (F := Ideal) x0 (ix6 0 d b hh p e) = val_main_v143 (F := Ideal) x0 (ix6 (0 : Fin 18) d b hh p e) :=
    (val_main_v163_apply x0 _).trans (congrArg _ (by blk_ext))
  exact e1.trans (e2.trans (q_apply x0 0 d b hh p e))

/-- Chunk 0's scaled keys. -/
theorem k0_apply (d : Fin 2) (b : Fin 4) (hh : Fin 6) (p e : Fin 128) : val_main_v166 (F := Ideal) x0 (ix5 d b hh p e) =
    rope x0 768 (by decide) d b hh (0 : Fin 18) p e * Ideal.ofBits FTy.f32 1035273459#32 := by
  have e1 : val_main_v166 (F := Ideal) x0 (ix5 d b hh p e) = val_main_v165 (F := Ideal) x0 (ix6 0 d b hh p e) := by
    unfold val_main_v166
    pointwise
  have e2 : val_main_v165 (F := Ideal) x0 (ix6 0 d b hh p e) = val_main_v152 (F := Ideal) x0 (ix6 (0 : Fin 18) d b hh p e) :=
    (val_main_v165_apply x0 _).trans (congrArg _ (by blk_ext))
  exact e1.trans (e2.trans (k_apply x0 0 d b hh p e))

/-- Chunk 0's values. -/
theorem v0_apply (d : Fin 2) (b : Fin 4) (hh : Fin 6) (p e : Fin 128) : val_main_v168 (F := Ideal) x0 (ix5 d b hh p e) =
    x0 (ix2 (row d b (0 : Fin 18) p) ⟨1536 + (hh.val * 128 + e.val), by omega⟩) := by
  have e1 : val_main_v168 (F := Ideal) x0 (ix5 d b hh p e) = val_main_v167 (F := Ideal) x0 (ix6 0 d b hh p e) := by
    unfold val_main_v168
    pointwise
  have e2 : val_main_v167 (F := Ideal) x0 (ix6 0 d b hh p e) = val_main_v161 (F := Ideal) x0 (ix6 (0 : Fin 18) d b hh p e) :=
    (val_main_v167_apply x0 _).trans (congrArg _ (by blk_ext))
  exact e1.trans (e2.trans (v_apply x0 0 d b hh p e))

/-- What chunk 0 gives. -/
theorem o0_apply (d : Fin 2) (b : Fin 4) (hh : Fin 6) (p v : Fin 128) : val_main_v176 (F := Ideal) x0 x1 (ix5 d b hh p v) =
    oS x0 x1 0 d b hh (RR x0 x1 d b hh 0) p v := by
  refine (o_gen (val_main_v164 (F := Ideal) x0) (val_main_v166 (F := Ideal) x0) (val_main_v168 (F := Ideal) x0) (val_main_v162 (F := Ideal)) (val_main_v112 (F := Ideal) x1) (val_main_v121 (F := Ideal) x1) d b hh p v).trans ?_
  simp only [q0_apply, k0_apply, v0_apply, r0_apply x0 x1, dec_apply, qd_apply]
  unfold oS
  with_reducible rfl

/-- The state after chunk 0. -/
theorem r1_apply (d : Fin 2) (b : Fin 4) (hh : Fin 6) (i v : Fin 128) : val_main_v182 (F := Ideal) x0 x1 (ix5 d b hh i v) =
    RR x0 x1 d b hh 1 i v := by
  rw [RR_succ x0 x1 d b hh 0 0 1 rfl rfl]
  refine (r_gen (val_main_v166 (F := Ideal) x0) (val_main_v168 (F := Ideal) x0) (val_main_v162 (F := Ideal)) (val_main_v134 (F := Ideal) x1) (val_main_v130 (F := Ideal) x1) d b hh i v).trans ?_
  simp only [k0_apply, v0_apply, r0_apply x0 x1, kd_apply, cd_apply]
  unfold rS
  with_reducible rfl

/-- Chunk 1's queries. -/
theorem q1_apply (d : Fin 2) (b : Fin 4) (hh : Fin 6) (p e : Fin 128) : val_main_v184 (F := Ideal) x0 (ix5 d b hh p e) =
    rope x0 0 (by decide) d b hh (1 : Fin 18) p e := by
  have e1 : val_main_v184 (F := Ideal) x0 (ix5 d b hh p e) = val_main_v183 (F := Ideal) x0 (ix6 0 d b hh p e) := by
    unfold val_main_v184
    pointwise
  have e2 : val_main_v183 (F := Ideal) x0 (ix6 0 d b hh p e) = val_main_v143 (F := Ideal) x0 (ix6 (1 : Fin 18) d b hh p e) :=
    (val_main_v183_apply x0 _).trans (congrArg _ (by blk_ext))
  exact e1.trans (e2.trans (q_apply x0 1 d b hh p e))

/-- Chunk 1's scaled keys. -/
theorem k1_apply (d : Fin 2) (b : Fin 4) (hh : Fin 6) (p e : Fin 128) : val_main_v186 (F := Ideal) x0 (ix5 d b hh p e) =
    rope x0 768 (by decide) d b hh (1 : Fin 18) p e * Ideal.ofBits FTy.f32 1035273459#32 := by
  have e1 : val_main_v186 (F := Ideal) x0 (ix5 d b hh p e) = val_main_v185 (F := Ideal) x0 (ix6 0 d b hh p e) := by
    unfold val_main_v186
    pointwise
  have e2 : val_main_v185 (F := Ideal) x0 (ix6 0 d b hh p e) = val_main_v152 (F := Ideal) x0 (ix6 (1 : Fin 18) d b hh p e) :=
    (val_main_v185_apply x0 _).trans (congrArg _ (by blk_ext))
  exact e1.trans (e2.trans (k_apply x0 1 d b hh p e))

/-- Chunk 1's values. -/
theorem v1_apply (d : Fin 2) (b : Fin 4) (hh : Fin 6) (p e : Fin 128) : val_main_v188 (F := Ideal) x0 (ix5 d b hh p e) =
    x0 (ix2 (row d b (1 : Fin 18) p) ⟨1536 + (hh.val * 128 + e.val), by omega⟩) := by
  have e1 : val_main_v188 (F := Ideal) x0 (ix5 d b hh p e) = val_main_v187 (F := Ideal) x0 (ix6 0 d b hh p e) := by
    unfold val_main_v188
    pointwise
  have e2 : val_main_v187 (F := Ideal) x0 (ix6 0 d b hh p e) = val_main_v161 (F := Ideal) x0 (ix6 (1 : Fin 18) d b hh p e) :=
    (val_main_v187_apply x0 _).trans (congrArg _ (by blk_ext))
  exact e1.trans (e2.trans (v_apply x0 1 d b hh p e))

/-- What chunk 1 gives. -/
theorem o1_apply (d : Fin 2) (b : Fin 4) (hh : Fin 6) (p v : Fin 128) : val_main_v196 (F := Ideal) x0 x1 (ix5 d b hh p v) =
    oS x0 x1 1 d b hh (RR x0 x1 d b hh 1) p v := by
  refine (o_gen (val_main_v184 (F := Ideal) x0) (val_main_v186 (F := Ideal) x0) (val_main_v188 (F := Ideal) x0) (val_main_v182 (F := Ideal) x0 x1) (val_main_v112 (F := Ideal) x1) (val_main_v121 (F := Ideal) x1) d b hh p v).trans ?_
  simp only [q1_apply, k1_apply, v1_apply, r1_apply x0 x1, dec_apply, qd_apply]
  unfold oS
  with_reducible rfl

/-- The state after chunk 1. -/
theorem r2_apply (d : Fin 2) (b : Fin 4) (hh : Fin 6) (i v : Fin 128) : val_main_v202 (F := Ideal) x0 x1 (ix5 d b hh i v) =
    RR x0 x1 d b hh 2 i v := by
  rw [RR_succ x0 x1 d b hh 1 1 2 rfl rfl]
  refine (r_gen (val_main_v186 (F := Ideal) x0) (val_main_v188 (F := Ideal) x0) (val_main_v182 (F := Ideal) x0 x1) (val_main_v134 (F := Ideal) x1) (val_main_v130 (F := Ideal) x1) d b hh i v).trans ?_
  simp only [k1_apply, v1_apply, r1_apply x0 x1, kd_apply, cd_apply]
  unfold rS
  with_reducible rfl

/-- Chunk 2's queries. -/
theorem q2_apply (d : Fin 2) (b : Fin 4) (hh : Fin 6) (p e : Fin 128) : val_main_v204 (F := Ideal) x0 (ix5 d b hh p e) =
    rope x0 0 (by decide) d b hh (2 : Fin 18) p e := by
  have e1 : val_main_v204 (F := Ideal) x0 (ix5 d b hh p e) = val_main_v203 (F := Ideal) x0 (ix6 0 d b hh p e) := by
    unfold val_main_v204
    pointwise
  have e2 : val_main_v203 (F := Ideal) x0 (ix6 0 d b hh p e) = val_main_v143 (F := Ideal) x0 (ix6 (2 : Fin 18) d b hh p e) :=
    (val_main_v203_apply x0 _).trans (congrArg _ (by blk_ext))
  exact e1.trans (e2.trans (q_apply x0 2 d b hh p e))

/-- Chunk 2's scaled keys. -/
theorem k2_apply (d : Fin 2) (b : Fin 4) (hh : Fin 6) (p e : Fin 128) : val_main_v206 (F := Ideal) x0 (ix5 d b hh p e) =
    rope x0 768 (by decide) d b hh (2 : Fin 18) p e * Ideal.ofBits FTy.f32 1035273459#32 := by
  have e1 : val_main_v206 (F := Ideal) x0 (ix5 d b hh p e) = val_main_v205 (F := Ideal) x0 (ix6 0 d b hh p e) := by
    unfold val_main_v206
    pointwise
  have e2 : val_main_v205 (F := Ideal) x0 (ix6 0 d b hh p e) = val_main_v152 (F := Ideal) x0 (ix6 (2 : Fin 18) d b hh p e) :=
    (val_main_v205_apply x0 _).trans (congrArg _ (by blk_ext))
  exact e1.trans (e2.trans (k_apply x0 2 d b hh p e))

/-- Chunk 2's values. -/
theorem v2_apply (d : Fin 2) (b : Fin 4) (hh : Fin 6) (p e : Fin 128) : val_main_v208 (F := Ideal) x0 (ix5 d b hh p e) =
    x0 (ix2 (row d b (2 : Fin 18) p) ⟨1536 + (hh.val * 128 + e.val), by omega⟩) := by
  have e1 : val_main_v208 (F := Ideal) x0 (ix5 d b hh p e) = val_main_v207 (F := Ideal) x0 (ix6 0 d b hh p e) := by
    unfold val_main_v208
    pointwise
  have e2 : val_main_v207 (F := Ideal) x0 (ix6 0 d b hh p e) = val_main_v161 (F := Ideal) x0 (ix6 (2 : Fin 18) d b hh p e) :=
    (val_main_v207_apply x0 _).trans (congrArg _ (by blk_ext))
  exact e1.trans (e2.trans (v_apply x0 2 d b hh p e))

/-- What chunk 2 gives. -/
theorem o2_apply (d : Fin 2) (b : Fin 4) (hh : Fin 6) (p v : Fin 128) : val_main_v216 (F := Ideal) x0 x1 (ix5 d b hh p v) =
    oS x0 x1 2 d b hh (RR x0 x1 d b hh 2) p v := by
  refine (o_gen (val_main_v204 (F := Ideal) x0) (val_main_v206 (F := Ideal) x0) (val_main_v208 (F := Ideal) x0) (val_main_v202 (F := Ideal) x0 x1) (val_main_v112 (F := Ideal) x1) (val_main_v121 (F := Ideal) x1) d b hh p v).trans ?_
  simp only [q2_apply, k2_apply, v2_apply, r2_apply x0 x1, dec_apply, qd_apply]
  unfold oS
  with_reducible rfl

/-- The state after chunk 2. -/
theorem r3_apply (d : Fin 2) (b : Fin 4) (hh : Fin 6) (i v : Fin 128) : val_main_v222 (F := Ideal) x0 x1 (ix5 d b hh i v) =
    RR x0 x1 d b hh 3 i v := by
  rw [RR_succ x0 x1 d b hh 2 2 3 rfl rfl]
  refine (r_gen (val_main_v206 (F := Ideal) x0) (val_main_v208 (F := Ideal) x0) (val_main_v202 (F := Ideal) x0 x1) (val_main_v134 (F := Ideal) x1) (val_main_v130 (F := Ideal) x1) d b hh i v).trans ?_
  simp only [k2_apply, v2_apply, r2_apply x0 x1, kd_apply, cd_apply]
  unfold rS
  with_reducible rfl

/-- Chunk 3's queries. -/
theorem q3_apply (d : Fin 2) (b : Fin 4) (hh : Fin 6) (p e : Fin 128) : val_main_v224 (F := Ideal) x0 (ix5 d b hh p e) =
    rope x0 0 (by decide) d b hh (3 : Fin 18) p e := by
  have e1 : val_main_v224 (F := Ideal) x0 (ix5 d b hh p e) = val_main_v223 (F := Ideal) x0 (ix6 0 d b hh p e) := by
    unfold val_main_v224
    pointwise
  have e2 : val_main_v223 (F := Ideal) x0 (ix6 0 d b hh p e) = val_main_v143 (F := Ideal) x0 (ix6 (3 : Fin 18) d b hh p e) :=
    (val_main_v223_apply x0 _).trans (congrArg _ (by blk_ext))
  exact e1.trans (e2.trans (q_apply x0 3 d b hh p e))

/-- Chunk 3's scaled keys. -/
theorem k3_apply (d : Fin 2) (b : Fin 4) (hh : Fin 6) (p e : Fin 128) : val_main_v226 (F := Ideal) x0 (ix5 d b hh p e) =
    rope x0 768 (by decide) d b hh (3 : Fin 18) p e * Ideal.ofBits FTy.f32 1035273459#32 := by
  have e1 : val_main_v226 (F := Ideal) x0 (ix5 d b hh p e) = val_main_v225 (F := Ideal) x0 (ix6 0 d b hh p e) := by
    unfold val_main_v226
    pointwise
  have e2 : val_main_v225 (F := Ideal) x0 (ix6 0 d b hh p e) = val_main_v152 (F := Ideal) x0 (ix6 (3 : Fin 18) d b hh p e) :=
    (val_main_v225_apply x0 _).trans (congrArg _ (by blk_ext))
  exact e1.trans (e2.trans (k_apply x0 3 d b hh p e))

/-- Chunk 3's values. -/
theorem v3_apply (d : Fin 2) (b : Fin 4) (hh : Fin 6) (p e : Fin 128) : val_main_v228 (F := Ideal) x0 (ix5 d b hh p e) =
    x0 (ix2 (row d b (3 : Fin 18) p) ⟨1536 + (hh.val * 128 + e.val), by omega⟩) := by
  have e1 : val_main_v228 (F := Ideal) x0 (ix5 d b hh p e) = val_main_v227 (F := Ideal) x0 (ix6 0 d b hh p e) := by
    unfold val_main_v228
    pointwise
  have e2 : val_main_v227 (F := Ideal) x0 (ix6 0 d b hh p e) = val_main_v161 (F := Ideal) x0 (ix6 (3 : Fin 18) d b hh p e) :=
    (val_main_v227_apply x0 _).trans (congrArg _ (by blk_ext))
  exact e1.trans (e2.trans (v_apply x0 3 d b hh p e))

/-- What chunk 3 gives. -/
theorem o3_apply (d : Fin 2) (b : Fin 4) (hh : Fin 6) (p v : Fin 128) : val_main_v236 (F := Ideal) x0 x1 (ix5 d b hh p v) =
    oS x0 x1 3 d b hh (RR x0 x1 d b hh 3) p v := by
  refine (o_gen (val_main_v224 (F := Ideal) x0) (val_main_v226 (F := Ideal) x0) (val_main_v228 (F := Ideal) x0) (val_main_v222 (F := Ideal) x0 x1) (val_main_v112 (F := Ideal) x1) (val_main_v121 (F := Ideal) x1) d b hh p v).trans ?_
  simp only [q3_apply, k3_apply, v3_apply, r3_apply x0 x1, dec_apply, qd_apply]
  unfold oS
  with_reducible rfl

/-- The state after chunk 3. -/
theorem r4_apply (d : Fin 2) (b : Fin 4) (hh : Fin 6) (i v : Fin 128) : val_main_v242 (F := Ideal) x0 x1 (ix5 d b hh i v) =
    RR x0 x1 d b hh 4 i v := by
  rw [RR_succ x0 x1 d b hh 3 3 4 rfl rfl]
  refine (r_gen (val_main_v226 (F := Ideal) x0) (val_main_v228 (F := Ideal) x0) (val_main_v222 (F := Ideal) x0 x1) (val_main_v134 (F := Ideal) x1) (val_main_v130 (F := Ideal) x1) d b hh i v).trans ?_
  simp only [k3_apply, v3_apply, r3_apply x0 x1, kd_apply, cd_apply]
  unfold rS
  with_reducible rfl

/-- Chunk 4's queries. -/
theorem q4_apply (d : Fin 2) (b : Fin 4) (hh : Fin 6) (p e : Fin 128) : val_main_v244 (F := Ideal) x0 (ix5 d b hh p e) =
    rope x0 0 (by decide) d b hh (4 : Fin 18) p e := by
  have e1 : val_main_v244 (F := Ideal) x0 (ix5 d b hh p e) = val_main_v243 (F := Ideal) x0 (ix6 0 d b hh p e) := by
    unfold val_main_v244
    pointwise
  have e2 : val_main_v243 (F := Ideal) x0 (ix6 0 d b hh p e) = val_main_v143 (F := Ideal) x0 (ix6 (4 : Fin 18) d b hh p e) :=
    (val_main_v243_apply x0 _).trans (congrArg _ (by blk_ext))
  exact e1.trans (e2.trans (q_apply x0 4 d b hh p e))

/-- Chunk 4's scaled keys. -/
theorem k4_apply (d : Fin 2) (b : Fin 4) (hh : Fin 6) (p e : Fin 128) : val_main_v246 (F := Ideal) x0 (ix5 d b hh p e) =
    rope x0 768 (by decide) d b hh (4 : Fin 18) p e * Ideal.ofBits FTy.f32 1035273459#32 := by
  have e1 : val_main_v246 (F := Ideal) x0 (ix5 d b hh p e) = val_main_v245 (F := Ideal) x0 (ix6 0 d b hh p e) := by
    unfold val_main_v246
    pointwise
  have e2 : val_main_v245 (F := Ideal) x0 (ix6 0 d b hh p e) = val_main_v152 (F := Ideal) x0 (ix6 (4 : Fin 18) d b hh p e) :=
    (val_main_v245_apply x0 _).trans (congrArg _ (by blk_ext))
  exact e1.trans (e2.trans (k_apply x0 4 d b hh p e))

/-- Chunk 4's values. -/
theorem v4_apply (d : Fin 2) (b : Fin 4) (hh : Fin 6) (p e : Fin 128) : val_main_v248 (F := Ideal) x0 (ix5 d b hh p e) =
    x0 (ix2 (row d b (4 : Fin 18) p) ⟨1536 + (hh.val * 128 + e.val), by omega⟩) := by
  have e1 : val_main_v248 (F := Ideal) x0 (ix5 d b hh p e) = val_main_v247 (F := Ideal) x0 (ix6 0 d b hh p e) := by
    unfold val_main_v248
    pointwise
  have e2 : val_main_v247 (F := Ideal) x0 (ix6 0 d b hh p e) = val_main_v161 (F := Ideal) x0 (ix6 (4 : Fin 18) d b hh p e) :=
    (val_main_v247_apply x0 _).trans (congrArg _ (by blk_ext))
  exact e1.trans (e2.trans (v_apply x0 4 d b hh p e))

/-- What chunk 4 gives. -/
theorem o4_apply (d : Fin 2) (b : Fin 4) (hh : Fin 6) (p v : Fin 128) : val_main_v256 (F := Ideal) x0 x1 (ix5 d b hh p v) =
    oS x0 x1 4 d b hh (RR x0 x1 d b hh 4) p v := by
  refine (o_gen (val_main_v244 (F := Ideal) x0) (val_main_v246 (F := Ideal) x0) (val_main_v248 (F := Ideal) x0) (val_main_v242 (F := Ideal) x0 x1) (val_main_v112 (F := Ideal) x1) (val_main_v121 (F := Ideal) x1) d b hh p v).trans ?_
  simp only [q4_apply, k4_apply, v4_apply, r4_apply x0 x1, dec_apply, qd_apply]
  unfold oS
  with_reducible rfl

/-- The state after chunk 4. -/
theorem r5_apply (d : Fin 2) (b : Fin 4) (hh : Fin 6) (i v : Fin 128) : val_main_v262 (F := Ideal) x0 x1 (ix5 d b hh i v) =
    RR x0 x1 d b hh 5 i v := by
  rw [RR_succ x0 x1 d b hh 4 4 5 rfl rfl]
  refine (r_gen (val_main_v246 (F := Ideal) x0) (val_main_v248 (F := Ideal) x0) (val_main_v242 (F := Ideal) x0 x1) (val_main_v134 (F := Ideal) x1) (val_main_v130 (F := Ideal) x1) d b hh i v).trans ?_
  simp only [k4_apply, v4_apply, r4_apply x0 x1, kd_apply, cd_apply]
  unfold rS
  with_reducible rfl

/-- Chunk 5's queries. -/
theorem q5_apply (d : Fin 2) (b : Fin 4) (hh : Fin 6) (p e : Fin 128) : val_main_v264 (F := Ideal) x0 (ix5 d b hh p e) =
    rope x0 0 (by decide) d b hh (5 : Fin 18) p e := by
  have e1 : val_main_v264 (F := Ideal) x0 (ix5 d b hh p e) = val_main_v263 (F := Ideal) x0 (ix6 0 d b hh p e) := by
    unfold val_main_v264
    pointwise
  have e2 : val_main_v263 (F := Ideal) x0 (ix6 0 d b hh p e) = val_main_v143 (F := Ideal) x0 (ix6 (5 : Fin 18) d b hh p e) :=
    (val_main_v263_apply x0 _).trans (congrArg _ (by blk_ext))
  exact e1.trans (e2.trans (q_apply x0 5 d b hh p e))

/-- Chunk 5's scaled keys. -/
theorem k5_apply (d : Fin 2) (b : Fin 4) (hh : Fin 6) (p e : Fin 128) : val_main_v266 (F := Ideal) x0 (ix5 d b hh p e) =
    rope x0 768 (by decide) d b hh (5 : Fin 18) p e * Ideal.ofBits FTy.f32 1035273459#32 := by
  have e1 : val_main_v266 (F := Ideal) x0 (ix5 d b hh p e) = val_main_v265 (F := Ideal) x0 (ix6 0 d b hh p e) := by
    unfold val_main_v266
    pointwise
  have e2 : val_main_v265 (F := Ideal) x0 (ix6 0 d b hh p e) = val_main_v152 (F := Ideal) x0 (ix6 (5 : Fin 18) d b hh p e) :=
    (val_main_v265_apply x0 _).trans (congrArg _ (by blk_ext))
  exact e1.trans (e2.trans (k_apply x0 5 d b hh p e))

/-- Chunk 5's values. -/
theorem v5_apply (d : Fin 2) (b : Fin 4) (hh : Fin 6) (p e : Fin 128) : val_main_v268 (F := Ideal) x0 (ix5 d b hh p e) =
    x0 (ix2 (row d b (5 : Fin 18) p) ⟨1536 + (hh.val * 128 + e.val), by omega⟩) := by
  have e1 : val_main_v268 (F := Ideal) x0 (ix5 d b hh p e) = val_main_v267 (F := Ideal) x0 (ix6 0 d b hh p e) := by
    unfold val_main_v268
    pointwise
  have e2 : val_main_v267 (F := Ideal) x0 (ix6 0 d b hh p e) = val_main_v161 (F := Ideal) x0 (ix6 (5 : Fin 18) d b hh p e) :=
    (val_main_v267_apply x0 _).trans (congrArg _ (by blk_ext))
  exact e1.trans (e2.trans (v_apply x0 5 d b hh p e))

/-- What chunk 5 gives. -/
theorem o5_apply (d : Fin 2) (b : Fin 4) (hh : Fin 6) (p v : Fin 128) : val_main_v276 (F := Ideal) x0 x1 (ix5 d b hh p v) =
    oS x0 x1 5 d b hh (RR x0 x1 d b hh 5) p v := by
  refine (o_gen (val_main_v264 (F := Ideal) x0) (val_main_v266 (F := Ideal) x0) (val_main_v268 (F := Ideal) x0) (val_main_v262 (F := Ideal) x0 x1) (val_main_v112 (F := Ideal) x1) (val_main_v121 (F := Ideal) x1) d b hh p v).trans ?_
  simp only [q5_apply, k5_apply, v5_apply, r5_apply x0 x1, dec_apply, qd_apply]
  unfold oS
  with_reducible rfl

/-- The state after chunk 5. -/
theorem r6_apply (d : Fin 2) (b : Fin 4) (hh : Fin 6) (i v : Fin 128) : val_main_v282 (F := Ideal) x0 x1 (ix5 d b hh i v) =
    RR x0 x1 d b hh 6 i v := by
  rw [RR_succ x0 x1 d b hh 5 5 6 rfl rfl]
  refine (r_gen (val_main_v266 (F := Ideal) x0) (val_main_v268 (F := Ideal) x0) (val_main_v262 (F := Ideal) x0 x1) (val_main_v134 (F := Ideal) x1) (val_main_v130 (F := Ideal) x1) d b hh i v).trans ?_
  simp only [k5_apply, v5_apply, r5_apply x0 x1, kd_apply, cd_apply]
  unfold rS
  with_reducible rfl

/-- Chunk 6's queries. -/
theorem q6_apply (d : Fin 2) (b : Fin 4) (hh : Fin 6) (p e : Fin 128) : val_main_v284 (F := Ideal) x0 (ix5 d b hh p e) =
    rope x0 0 (by decide) d b hh (6 : Fin 18) p e := by
  have e1 : val_main_v284 (F := Ideal) x0 (ix5 d b hh p e) = val_main_v283 (F := Ideal) x0 (ix6 0 d b hh p e) := by
    unfold val_main_v284
    pointwise
  have e2 : val_main_v283 (F := Ideal) x0 (ix6 0 d b hh p e) = val_main_v143 (F := Ideal) x0 (ix6 (6 : Fin 18) d b hh p e) :=
    (val_main_v283_apply x0 _).trans (congrArg _ (by blk_ext))
  exact e1.trans (e2.trans (q_apply x0 6 d b hh p e))

/-- Chunk 6's scaled keys. -/
theorem k6_apply (d : Fin 2) (b : Fin 4) (hh : Fin 6) (p e : Fin 128) : val_main_v286 (F := Ideal) x0 (ix5 d b hh p e) =
    rope x0 768 (by decide) d b hh (6 : Fin 18) p e * Ideal.ofBits FTy.f32 1035273459#32 := by
  have e1 : val_main_v286 (F := Ideal) x0 (ix5 d b hh p e) = val_main_v285 (F := Ideal) x0 (ix6 0 d b hh p e) := by
    unfold val_main_v286
    pointwise
  have e2 : val_main_v285 (F := Ideal) x0 (ix6 0 d b hh p e) = val_main_v152 (F := Ideal) x0 (ix6 (6 : Fin 18) d b hh p e) :=
    (val_main_v285_apply x0 _).trans (congrArg _ (by blk_ext))
  exact e1.trans (e2.trans (k_apply x0 6 d b hh p e))

/-- Chunk 6's values. -/
theorem v6_apply (d : Fin 2) (b : Fin 4) (hh : Fin 6) (p e : Fin 128) : val_main_v288 (F := Ideal) x0 (ix5 d b hh p e) =
    x0 (ix2 (row d b (6 : Fin 18) p) ⟨1536 + (hh.val * 128 + e.val), by omega⟩) := by
  have e1 : val_main_v288 (F := Ideal) x0 (ix5 d b hh p e) = val_main_v287 (F := Ideal) x0 (ix6 0 d b hh p e) := by
    unfold val_main_v288
    pointwise
  have e2 : val_main_v287 (F := Ideal) x0 (ix6 0 d b hh p e) = val_main_v161 (F := Ideal) x0 (ix6 (6 : Fin 18) d b hh p e) :=
    (val_main_v287_apply x0 _).trans (congrArg _ (by blk_ext))
  exact e1.trans (e2.trans (v_apply x0 6 d b hh p e))

/-- What chunk 6 gives. -/
theorem o6_apply (d : Fin 2) (b : Fin 4) (hh : Fin 6) (p v : Fin 128) : val_main_v296 (F := Ideal) x0 x1 (ix5 d b hh p v) =
    oS x0 x1 6 d b hh (RR x0 x1 d b hh 6) p v := by
  refine (o_gen (val_main_v284 (F := Ideal) x0) (val_main_v286 (F := Ideal) x0) (val_main_v288 (F := Ideal) x0) (val_main_v282 (F := Ideal) x0 x1) (val_main_v112 (F := Ideal) x1) (val_main_v121 (F := Ideal) x1) d b hh p v).trans ?_
  simp only [q6_apply, k6_apply, v6_apply, r6_apply x0 x1, dec_apply, qd_apply]
  unfold oS
  with_reducible rfl

/-- The state after chunk 6. -/
theorem r7_apply (d : Fin 2) (b : Fin 4) (hh : Fin 6) (i v : Fin 128) : val_main_v302 (F := Ideal) x0 x1 (ix5 d b hh i v) =
    RR x0 x1 d b hh 7 i v := by
  rw [RR_succ x0 x1 d b hh 6 6 7 rfl rfl]
  refine (r_gen (val_main_v286 (F := Ideal) x0) (val_main_v288 (F := Ideal) x0) (val_main_v282 (F := Ideal) x0 x1) (val_main_v134 (F := Ideal) x1) (val_main_v130 (F := Ideal) x1) d b hh i v).trans ?_
  simp only [k6_apply, v6_apply, r6_apply x0 x1, kd_apply, cd_apply]
  unfold rS
  with_reducible rfl

/-- Chunk 7's queries. -/
theorem q7_apply (d : Fin 2) (b : Fin 4) (hh : Fin 6) (p e : Fin 128) : val_main_v304 (F := Ideal) x0 (ix5 d b hh p e) =
    rope x0 0 (by decide) d b hh (7 : Fin 18) p e := by
  have e1 : val_main_v304 (F := Ideal) x0 (ix5 d b hh p e) = val_main_v303 (F := Ideal) x0 (ix6 0 d b hh p e) := by
    unfold val_main_v304
    pointwise
  have e2 : val_main_v303 (F := Ideal) x0 (ix6 0 d b hh p e) = val_main_v143 (F := Ideal) x0 (ix6 (7 : Fin 18) d b hh p e) :=
    (val_main_v303_apply x0 _).trans (congrArg _ (by blk_ext))
  exact e1.trans (e2.trans (q_apply x0 7 d b hh p e))

/-- Chunk 7's scaled keys. -/
theorem k7_apply (d : Fin 2) (b : Fin 4) (hh : Fin 6) (p e : Fin 128) : val_main_v306 (F := Ideal) x0 (ix5 d b hh p e) =
    rope x0 768 (by decide) d b hh (7 : Fin 18) p e * Ideal.ofBits FTy.f32 1035273459#32 := by
  have e1 : val_main_v306 (F := Ideal) x0 (ix5 d b hh p e) = val_main_v305 (F := Ideal) x0 (ix6 0 d b hh p e) := by
    unfold val_main_v306
    pointwise
  have e2 : val_main_v305 (F := Ideal) x0 (ix6 0 d b hh p e) = val_main_v152 (F := Ideal) x0 (ix6 (7 : Fin 18) d b hh p e) :=
    (val_main_v305_apply x0 _).trans (congrArg _ (by blk_ext))
  exact e1.trans (e2.trans (k_apply x0 7 d b hh p e))

/-- Chunk 7's values. -/
theorem v7_apply (d : Fin 2) (b : Fin 4) (hh : Fin 6) (p e : Fin 128) : val_main_v308 (F := Ideal) x0 (ix5 d b hh p e) =
    x0 (ix2 (row d b (7 : Fin 18) p) ⟨1536 + (hh.val * 128 + e.val), by omega⟩) := by
  have e1 : val_main_v308 (F := Ideal) x0 (ix5 d b hh p e) = val_main_v307 (F := Ideal) x0 (ix6 0 d b hh p e) := by
    unfold val_main_v308
    pointwise
  have e2 : val_main_v307 (F := Ideal) x0 (ix6 0 d b hh p e) = val_main_v161 (F := Ideal) x0 (ix6 (7 : Fin 18) d b hh p e) :=
    (val_main_v307_apply x0 _).trans (congrArg _ (by blk_ext))
  exact e1.trans (e2.trans (v_apply x0 7 d b hh p e))

/-- What chunk 7 gives. -/
theorem o7_apply (d : Fin 2) (b : Fin 4) (hh : Fin 6) (p v : Fin 128) : val_main_v316 (F := Ideal) x0 x1 (ix5 d b hh p v) =
    oS x0 x1 7 d b hh (RR x0 x1 d b hh 7) p v := by
  refine (o_gen (val_main_v304 (F := Ideal) x0) (val_main_v306 (F := Ideal) x0) (val_main_v308 (F := Ideal) x0) (val_main_v302 (F := Ideal) x0 x1) (val_main_v112 (F := Ideal) x1) (val_main_v121 (F := Ideal) x1) d b hh p v).trans ?_
  simp only [q7_apply, k7_apply, v7_apply, r7_apply x0 x1, dec_apply, qd_apply]
  unfold oS
  with_reducible rfl

/-- The state after chunk 7. -/
theorem r8_apply (d : Fin 2) (b : Fin 4) (hh : Fin 6) (i v : Fin 128) : val_main_v322 (F := Ideal) x0 x1 (ix5 d b hh i v) =
    RR x0 x1 d b hh 8 i v := by
  rw [RR_succ x0 x1 d b hh 7 7 8 rfl rfl]
  refine (r_gen (val_main_v306 (F := Ideal) x0) (val_main_v308 (F := Ideal) x0) (val_main_v302 (F := Ideal) x0 x1) (val_main_v134 (F := Ideal) x1) (val_main_v130 (F := Ideal) x1) d b hh i v).trans ?_
  simp only [k7_apply, v7_apply, r7_apply x0 x1, kd_apply, cd_apply]
  unfold rS
  with_reducible rfl

/-- Chunk 8's queries. -/
theorem q8_apply (d : Fin 2) (b : Fin 4) (hh : Fin 6) (p e : Fin 128) : val_main_v324 (F := Ideal) x0 (ix5 d b hh p e) =
    rope x0 0 (by decide) d b hh (8 : Fin 18) p e := by
  have e1 : val_main_v324 (F := Ideal) x0 (ix5 d b hh p e) = val_main_v323 (F := Ideal) x0 (ix6 0 d b hh p e) := by
    unfold val_main_v324
    pointwise
  have e2 : val_main_v323 (F := Ideal) x0 (ix6 0 d b hh p e) = val_main_v143 (F := Ideal) x0 (ix6 (8 : Fin 18) d b hh p e) :=
    (val_main_v323_apply x0 _).trans (congrArg _ (by blk_ext))
  exact e1.trans (e2.trans (q_apply x0 8 d b hh p e))

/-- Chunk 8's scaled keys. -/
theorem k8_apply (d : Fin 2) (b : Fin 4) (hh : Fin 6) (p e : Fin 128) : val_main_v326 (F := Ideal) x0 (ix5 d b hh p e) =
    rope x0 768 (by decide) d b hh (8 : Fin 18) p e * Ideal.ofBits FTy.f32 1035273459#32 := by
  have e1 : val_main_v326 (F := Ideal) x0 (ix5 d b hh p e) = val_main_v325 (F := Ideal) x0 (ix6 0 d b hh p e) := by
    unfold val_main_v326
    pointwise
  have e2 : val_main_v325 (F := Ideal) x0 (ix6 0 d b hh p e) = val_main_v152 (F := Ideal) x0 (ix6 (8 : Fin 18) d b hh p e) :=
    (val_main_v325_apply x0 _).trans (congrArg _ (by blk_ext))
  exact e1.trans (e2.trans (k_apply x0 8 d b hh p e))

/-- Chunk 8's values. -/
theorem v8_apply (d : Fin 2) (b : Fin 4) (hh : Fin 6) (p e : Fin 128) : val_main_v328 (F := Ideal) x0 (ix5 d b hh p e) =
    x0 (ix2 (row d b (8 : Fin 18) p) ⟨1536 + (hh.val * 128 + e.val), by omega⟩) := by
  have e1 : val_main_v328 (F := Ideal) x0 (ix5 d b hh p e) = val_main_v327 (F := Ideal) x0 (ix6 0 d b hh p e) := by
    unfold val_main_v328
    pointwise
  have e2 : val_main_v327 (F := Ideal) x0 (ix6 0 d b hh p e) = val_main_v161 (F := Ideal) x0 (ix6 (8 : Fin 18) d b hh p e) :=
    (val_main_v327_apply x0 _).trans (congrArg _ (by blk_ext))
  exact e1.trans (e2.trans (v_apply x0 8 d b hh p e))

/-- What chunk 8 gives. -/
theorem o8_apply (d : Fin 2) (b : Fin 4) (hh : Fin 6) (p v : Fin 128) : val_main_v336 (F := Ideal) x0 x1 (ix5 d b hh p v) =
    oS x0 x1 8 d b hh (RR x0 x1 d b hh 8) p v := by
  refine (o_gen (val_main_v324 (F := Ideal) x0) (val_main_v326 (F := Ideal) x0) (val_main_v328 (F := Ideal) x0) (val_main_v322 (F := Ideal) x0 x1) (val_main_v112 (F := Ideal) x1) (val_main_v121 (F := Ideal) x1) d b hh p v).trans ?_
  simp only [q8_apply, k8_apply, v8_apply, r8_apply x0 x1, dec_apply, qd_apply]
  unfold oS
  with_reducible rfl

/-- The state after chunk 8. -/
theorem r9_apply (d : Fin 2) (b : Fin 4) (hh : Fin 6) (i v : Fin 128) : val_main_v342 (F := Ideal) x0 x1 (ix5 d b hh i v) =
    RR x0 x1 d b hh 9 i v := by
  rw [RR_succ x0 x1 d b hh 8 8 9 rfl rfl]
  refine (r_gen (val_main_v326 (F := Ideal) x0) (val_main_v328 (F := Ideal) x0) (val_main_v322 (F := Ideal) x0 x1) (val_main_v134 (F := Ideal) x1) (val_main_v130 (F := Ideal) x1) d b hh i v).trans ?_
  simp only [k8_apply, v8_apply, r8_apply x0 x1, kd_apply, cd_apply]
  unfold rS
  with_reducible rfl

/-- Chunk 9's queries. -/
theorem q9_apply (d : Fin 2) (b : Fin 4) (hh : Fin 6) (p e : Fin 128) : val_main_v344 (F := Ideal) x0 (ix5 d b hh p e) =
    rope x0 0 (by decide) d b hh (9 : Fin 18) p e := by
  have e1 : val_main_v344 (F := Ideal) x0 (ix5 d b hh p e) = val_main_v343 (F := Ideal) x0 (ix6 0 d b hh p e) := by
    unfold val_main_v344
    pointwise
  have e2 : val_main_v343 (F := Ideal) x0 (ix6 0 d b hh p e) = val_main_v143 (F := Ideal) x0 (ix6 (9 : Fin 18) d b hh p e) :=
    (val_main_v343_apply x0 _).trans (congrArg _ (by blk_ext))
  exact e1.trans (e2.trans (q_apply x0 9 d b hh p e))

/-- Chunk 9's scaled keys. -/
theorem k9_apply (d : Fin 2) (b : Fin 4) (hh : Fin 6) (p e : Fin 128) : val_main_v346 (F := Ideal) x0 (ix5 d b hh p e) =
    rope x0 768 (by decide) d b hh (9 : Fin 18) p e * Ideal.ofBits FTy.f32 1035273459#32 := by
  have e1 : val_main_v346 (F := Ideal) x0 (ix5 d b hh p e) = val_main_v345 (F := Ideal) x0 (ix6 0 d b hh p e) := by
    unfold val_main_v346
    pointwise
  have e2 : val_main_v345 (F := Ideal) x0 (ix6 0 d b hh p e) = val_main_v152 (F := Ideal) x0 (ix6 (9 : Fin 18) d b hh p e) :=
    (val_main_v345_apply x0 _).trans (congrArg _ (by blk_ext))
  exact e1.trans (e2.trans (k_apply x0 9 d b hh p e))

/-- Chunk 9's values. -/
theorem v9_apply (d : Fin 2) (b : Fin 4) (hh : Fin 6) (p e : Fin 128) : val_main_v348 (F := Ideal) x0 (ix5 d b hh p e) =
    x0 (ix2 (row d b (9 : Fin 18) p) ⟨1536 + (hh.val * 128 + e.val), by omega⟩) := by
  have e1 : val_main_v348 (F := Ideal) x0 (ix5 d b hh p e) = val_main_v347 (F := Ideal) x0 (ix6 0 d b hh p e) := by
    unfold val_main_v348
    pointwise
  have e2 : val_main_v347 (F := Ideal) x0 (ix6 0 d b hh p e) = val_main_v161 (F := Ideal) x0 (ix6 (9 : Fin 18) d b hh p e) :=
    (val_main_v347_apply x0 _).trans (congrArg _ (by blk_ext))
  exact e1.trans (e2.trans (v_apply x0 9 d b hh p e))

/-- What chunk 9 gives. -/
theorem o9_apply (d : Fin 2) (b : Fin 4) (hh : Fin 6) (p v : Fin 128) : val_main_v356 (F := Ideal) x0 x1 (ix5 d b hh p v) =
    oS x0 x1 9 d b hh (RR x0 x1 d b hh 9) p v := by
  refine (o_gen (val_main_v344 (F := Ideal) x0) (val_main_v346 (F := Ideal) x0) (val_main_v348 (F := Ideal) x0) (val_main_v342 (F := Ideal) x0 x1) (val_main_v112 (F := Ideal) x1) (val_main_v121 (F := Ideal) x1) d b hh p v).trans ?_
  simp only [q9_apply, k9_apply, v9_apply, r9_apply x0 x1, dec_apply, qd_apply]
  unfold oS
  with_reducible rfl

/-- The state after chunk 9. -/
theorem r10_apply (d : Fin 2) (b : Fin 4) (hh : Fin 6) (i v : Fin 128) : val_main_v362 (F := Ideal) x0 x1 (ix5 d b hh i v) =
    RR x0 x1 d b hh 10 i v := by
  rw [RR_succ x0 x1 d b hh 9 9 10 rfl rfl]
  refine (r_gen (val_main_v346 (F := Ideal) x0) (val_main_v348 (F := Ideal) x0) (val_main_v342 (F := Ideal) x0 x1) (val_main_v134 (F := Ideal) x1) (val_main_v130 (F := Ideal) x1) d b hh i v).trans ?_
  simp only [k9_apply, v9_apply, r9_apply x0 x1, kd_apply, cd_apply]
  unfold rS
  with_reducible rfl

/-- Chunk 10's queries. -/
theorem q10_apply (d : Fin 2) (b : Fin 4) (hh : Fin 6) (p e : Fin 128) : val_main_v364 (F := Ideal) x0 (ix5 d b hh p e) =
    rope x0 0 (by decide) d b hh (10 : Fin 18) p e := by
  have e1 : val_main_v364 (F := Ideal) x0 (ix5 d b hh p e) = val_main_v363 (F := Ideal) x0 (ix6 0 d b hh p e) := by
    unfold val_main_v364
    pointwise
  have e2 : val_main_v363 (F := Ideal) x0 (ix6 0 d b hh p e) = val_main_v143 (F := Ideal) x0 (ix6 (10 : Fin 18) d b hh p e) :=
    (val_main_v363_apply x0 _).trans (congrArg _ (by blk_ext))
  exact e1.trans (e2.trans (q_apply x0 10 d b hh p e))

/-- Chunk 10's scaled keys. -/
theorem k10_apply (d : Fin 2) (b : Fin 4) (hh : Fin 6) (p e : Fin 128) : val_main_v366 (F := Ideal) x0 (ix5 d b hh p e) =
    rope x0 768 (by decide) d b hh (10 : Fin 18) p e * Ideal.ofBits FTy.f32 1035273459#32 := by
  have e1 : val_main_v366 (F := Ideal) x0 (ix5 d b hh p e) = val_main_v365 (F := Ideal) x0 (ix6 0 d b hh p e) := by
    unfold val_main_v366
    pointwise
  have e2 : val_main_v365 (F := Ideal) x0 (ix6 0 d b hh p e) = val_main_v152 (F := Ideal) x0 (ix6 (10 : Fin 18) d b hh p e) :=
    (val_main_v365_apply x0 _).trans (congrArg _ (by blk_ext))
  exact e1.trans (e2.trans (k_apply x0 10 d b hh p e))

/-- Chunk 10's values. -/
theorem v10_apply (d : Fin 2) (b : Fin 4) (hh : Fin 6) (p e : Fin 128) : val_main_v368 (F := Ideal) x0 (ix5 d b hh p e) =
    x0 (ix2 (row d b (10 : Fin 18) p) ⟨1536 + (hh.val * 128 + e.val), by omega⟩) := by
  have e1 : val_main_v368 (F := Ideal) x0 (ix5 d b hh p e) = val_main_v367 (F := Ideal) x0 (ix6 0 d b hh p e) := by
    unfold val_main_v368
    pointwise
  have e2 : val_main_v367 (F := Ideal) x0 (ix6 0 d b hh p e) = val_main_v161 (F := Ideal) x0 (ix6 (10 : Fin 18) d b hh p e) :=
    (val_main_v367_apply x0 _).trans (congrArg _ (by blk_ext))
  exact e1.trans (e2.trans (v_apply x0 10 d b hh p e))

/-- What chunk 10 gives. -/
theorem o10_apply (d : Fin 2) (b : Fin 4) (hh : Fin 6) (p v : Fin 128) : val_main_v376 (F := Ideal) x0 x1 (ix5 d b hh p v) =
    oS x0 x1 10 d b hh (RR x0 x1 d b hh 10) p v := by
  refine (o_gen (val_main_v364 (F := Ideal) x0) (val_main_v366 (F := Ideal) x0) (val_main_v368 (F := Ideal) x0) (val_main_v362 (F := Ideal) x0 x1) (val_main_v112 (F := Ideal) x1) (val_main_v121 (F := Ideal) x1) d b hh p v).trans ?_
  simp only [q10_apply, k10_apply, v10_apply, r10_apply x0 x1, dec_apply, qd_apply]
  unfold oS
  with_reducible rfl

/-- The state after chunk 10. -/
theorem r11_apply (d : Fin 2) (b : Fin 4) (hh : Fin 6) (i v : Fin 128) : val_main_v382 (F := Ideal) x0 x1 (ix5 d b hh i v) =
    RR x0 x1 d b hh 11 i v := by
  rw [RR_succ x0 x1 d b hh 10 10 11 rfl rfl]
  refine (r_gen (val_main_v366 (F := Ideal) x0) (val_main_v368 (F := Ideal) x0) (val_main_v362 (F := Ideal) x0 x1) (val_main_v134 (F := Ideal) x1) (val_main_v130 (F := Ideal) x1) d b hh i v).trans ?_
  simp only [k10_apply, v10_apply, r10_apply x0 x1, kd_apply, cd_apply]
  unfold rS
  with_reducible rfl

/-- Chunk 11's queries. -/
theorem q11_apply (d : Fin 2) (b : Fin 4) (hh : Fin 6) (p e : Fin 128) : val_main_v384 (F := Ideal) x0 (ix5 d b hh p e) =
    rope x0 0 (by decide) d b hh (11 : Fin 18) p e := by
  have e1 : val_main_v384 (F := Ideal) x0 (ix5 d b hh p e) = val_main_v383 (F := Ideal) x0 (ix6 0 d b hh p e) := by
    unfold val_main_v384
    pointwise
  have e2 : val_main_v383 (F := Ideal) x0 (ix6 0 d b hh p e) = val_main_v143 (F := Ideal) x0 (ix6 (11 : Fin 18) d b hh p e) :=
    (val_main_v383_apply x0 _).trans (congrArg _ (by blk_ext))
  exact e1.trans (e2.trans (q_apply x0 11 d b hh p e))

/-- Chunk 11's scaled keys. -/
theorem k11_apply (d : Fin 2) (b : Fin 4) (hh : Fin 6) (p e : Fin 128) : val_main_v386 (F := Ideal) x0 (ix5 d b hh p e) =
    rope x0 768 (by decide) d b hh (11 : Fin 18) p e * Ideal.ofBits FTy.f32 1035273459#32 := by
  have e1 : val_main_v386 (F := Ideal) x0 (ix5 d b hh p e) = val_main_v385 (F := Ideal) x0 (ix6 0 d b hh p e) := by
    unfold val_main_v386
    pointwise
  have e2 : val_main_v385 (F := Ideal) x0 (ix6 0 d b hh p e) = val_main_v152 (F := Ideal) x0 (ix6 (11 : Fin 18) d b hh p e) :=
    (val_main_v385_apply x0 _).trans (congrArg _ (by blk_ext))
  exact e1.trans (e2.trans (k_apply x0 11 d b hh p e))

/-- Chunk 11's values. -/
theorem v11_apply (d : Fin 2) (b : Fin 4) (hh : Fin 6) (p e : Fin 128) : val_main_v388 (F := Ideal) x0 (ix5 d b hh p e) =
    x0 (ix2 (row d b (11 : Fin 18) p) ⟨1536 + (hh.val * 128 + e.val), by omega⟩) := by
  have e1 : val_main_v388 (F := Ideal) x0 (ix5 d b hh p e) = val_main_v387 (F := Ideal) x0 (ix6 0 d b hh p e) := by
    unfold val_main_v388
    pointwise
  have e2 : val_main_v387 (F := Ideal) x0 (ix6 0 d b hh p e) = val_main_v161 (F := Ideal) x0 (ix6 (11 : Fin 18) d b hh p e) :=
    (val_main_v387_apply x0 _).trans (congrArg _ (by blk_ext))
  exact e1.trans (e2.trans (v_apply x0 11 d b hh p e))

/-- What chunk 11 gives. -/
theorem o11_apply (d : Fin 2) (b : Fin 4) (hh : Fin 6) (p v : Fin 128) : val_main_v396 (F := Ideal) x0 x1 (ix5 d b hh p v) =
    oS x0 x1 11 d b hh (RR x0 x1 d b hh 11) p v := by
  refine (o_gen (val_main_v384 (F := Ideal) x0) (val_main_v386 (F := Ideal) x0) (val_main_v388 (F := Ideal) x0) (val_main_v382 (F := Ideal) x0 x1) (val_main_v112 (F := Ideal) x1) (val_main_v121 (F := Ideal) x1) d b hh p v).trans ?_
  simp only [q11_apply, k11_apply, v11_apply, r11_apply x0 x1, dec_apply, qd_apply]
  unfold oS
  with_reducible rfl

/-- The state after chunk 11. -/
theorem r12_apply (d : Fin 2) (b : Fin 4) (hh : Fin 6) (i v : Fin 128) : val_main_v402 (F := Ideal) x0 x1 (ix5 d b hh i v) =
    RR x0 x1 d b hh 12 i v := by
  rw [RR_succ x0 x1 d b hh 11 11 12 rfl rfl]
  refine (r_gen (val_main_v386 (F := Ideal) x0) (val_main_v388 (F := Ideal) x0) (val_main_v382 (F := Ideal) x0 x1) (val_main_v134 (F := Ideal) x1) (val_main_v130 (F := Ideal) x1) d b hh i v).trans ?_
  simp only [k11_apply, v11_apply, r11_apply x0 x1, kd_apply, cd_apply]
  unfold rS
  with_reducible rfl

/-- Chunk 12's queries. -/
theorem q12_apply (d : Fin 2) (b : Fin 4) (hh : Fin 6) (p e : Fin 128) : val_main_v404 (F := Ideal) x0 (ix5 d b hh p e) =
    rope x0 0 (by decide) d b hh (12 : Fin 18) p e := by
  have e1 : val_main_v404 (F := Ideal) x0 (ix5 d b hh p e) = val_main_v403 (F := Ideal) x0 (ix6 0 d b hh p e) := by
    unfold val_main_v404
    pointwise
  have e2 : val_main_v403 (F := Ideal) x0 (ix6 0 d b hh p e) = val_main_v143 (F := Ideal) x0 (ix6 (12 : Fin 18) d b hh p e) :=
    (val_main_v403_apply x0 _).trans (congrArg _ (by blk_ext))
  exact e1.trans (e2.trans (q_apply x0 12 d b hh p e))

/-- Chunk 12's scaled keys. -/
theorem k12_apply (d : Fin 2) (b : Fin 4) (hh : Fin 6) (p e : Fin 128) : val_main_v406 (F := Ideal) x0 (ix5 d b hh p e) =
    rope x0 768 (by decide) d b hh (12 : Fin 18) p e * Ideal.ofBits FTy.f32 1035273459#32 := by
  have e1 : val_main_v406 (F := Ideal) x0 (ix5 d b hh p e) = val_main_v405 (F := Ideal) x0 (ix6 0 d b hh p e) := by
    unfold val_main_v406
    pointwise
  have e2 : val_main_v405 (F := Ideal) x0 (ix6 0 d b hh p e) = val_main_v152 (F := Ideal) x0 (ix6 (12 : Fin 18) d b hh p e) :=
    (val_main_v405_apply x0 _).trans (congrArg _ (by blk_ext))
  exact e1.trans (e2.trans (k_apply x0 12 d b hh p e))

/-- Chunk 12's values. -/
theorem v12_apply (d : Fin 2) (b : Fin 4) (hh : Fin 6) (p e : Fin 128) : val_main_v408 (F := Ideal) x0 (ix5 d b hh p e) =
    x0 (ix2 (row d b (12 : Fin 18) p) ⟨1536 + (hh.val * 128 + e.val), by omega⟩) := by
  have e1 : val_main_v408 (F := Ideal) x0 (ix5 d b hh p e) = val_main_v407 (F := Ideal) x0 (ix6 0 d b hh p e) := by
    unfold val_main_v408
    pointwise
  have e2 : val_main_v407 (F := Ideal) x0 (ix6 0 d b hh p e) = val_main_v161 (F := Ideal) x0 (ix6 (12 : Fin 18) d b hh p e) :=
    (val_main_v407_apply x0 _).trans (congrArg _ (by blk_ext))
  exact e1.trans (e2.trans (v_apply x0 12 d b hh p e))

/-- What chunk 12 gives. -/
theorem o12_apply (d : Fin 2) (b : Fin 4) (hh : Fin 6) (p v : Fin 128) : val_main_v416 (F := Ideal) x0 x1 (ix5 d b hh p v) =
    oS x0 x1 12 d b hh (RR x0 x1 d b hh 12) p v := by
  refine (o_gen (val_main_v404 (F := Ideal) x0) (val_main_v406 (F := Ideal) x0) (val_main_v408 (F := Ideal) x0) (val_main_v402 (F := Ideal) x0 x1) (val_main_v112 (F := Ideal) x1) (val_main_v121 (F := Ideal) x1) d b hh p v).trans ?_
  simp only [q12_apply, k12_apply, v12_apply, r12_apply x0 x1, dec_apply, qd_apply]
  unfold oS
  with_reducible rfl

/-- The state after chunk 12. -/
theorem r13_apply (d : Fin 2) (b : Fin 4) (hh : Fin 6) (i v : Fin 128) : val_main_v422 (F := Ideal) x0 x1 (ix5 d b hh i v) =
    RR x0 x1 d b hh 13 i v := by
  rw [RR_succ x0 x1 d b hh 12 12 13 rfl rfl]
  refine (r_gen (val_main_v406 (F := Ideal) x0) (val_main_v408 (F := Ideal) x0) (val_main_v402 (F := Ideal) x0 x1) (val_main_v134 (F := Ideal) x1) (val_main_v130 (F := Ideal) x1) d b hh i v).trans ?_
  simp only [k12_apply, v12_apply, r12_apply x0 x1, kd_apply, cd_apply]
  unfold rS
  with_reducible rfl

/-- Chunk 13's queries. -/
theorem q13_apply (d : Fin 2) (b : Fin 4) (hh : Fin 6) (p e : Fin 128) : val_main_v424 (F := Ideal) x0 (ix5 d b hh p e) =
    rope x0 0 (by decide) d b hh (13 : Fin 18) p e := by
  have e1 : val_main_v424 (F := Ideal) x0 (ix5 d b hh p e) = val_main_v423 (F := Ideal) x0 (ix6 0 d b hh p e) := by
    unfold val_main_v424
    pointwise
  have e2 : val_main_v423 (F := Ideal) x0 (ix6 0 d b hh p e) = val_main_v143 (F := Ideal) x0 (ix6 (13 : Fin 18) d b hh p e) :=
    (val_main_v423_apply x0 _).trans (congrArg _ (by blk_ext))
  exact e1.trans (e2.trans (q_apply x0 13 d b hh p e))

/-- Chunk 13's scaled keys. -/
theorem k13_apply (d : Fin 2) (b : Fin 4) (hh : Fin 6) (p e : Fin 128) : val_main_v426 (F := Ideal) x0 (ix5 d b hh p e) =
    rope x0 768 (by decide) d b hh (13 : Fin 18) p e * Ideal.ofBits FTy.f32 1035273459#32 := by
  have e1 : val_main_v426 (F := Ideal) x0 (ix5 d b hh p e) = val_main_v425 (F := Ideal) x0 (ix6 0 d b hh p e) := by
    unfold val_main_v426
    pointwise
  have e2 : val_main_v425 (F := Ideal) x0 (ix6 0 d b hh p e) = val_main_v152 (F := Ideal) x0 (ix6 (13 : Fin 18) d b hh p e) :=
    (val_main_v425_apply x0 _).trans (congrArg _ (by blk_ext))
  exact e1.trans (e2.trans (k_apply x0 13 d b hh p e))

/-- Chunk 13's values. -/
theorem v13_apply (d : Fin 2) (b : Fin 4) (hh : Fin 6) (p e : Fin 128) : val_main_v428 (F := Ideal) x0 (ix5 d b hh p e) =
    x0 (ix2 (row d b (13 : Fin 18) p) ⟨1536 + (hh.val * 128 + e.val), by omega⟩) := by
  have e1 : val_main_v428 (F := Ideal) x0 (ix5 d b hh p e) = val_main_v427 (F := Ideal) x0 (ix6 0 d b hh p e) := by
    unfold val_main_v428
    pointwise
  have e2 : val_main_v427 (F := Ideal) x0 (ix6 0 d b hh p e) = val_main_v161 (F := Ideal) x0 (ix6 (13 : Fin 18) d b hh p e) :=
    (val_main_v427_apply x0 _).trans (congrArg _ (by blk_ext))
  exact e1.trans (e2.trans (v_apply x0 13 d b hh p e))

/-- What chunk 13 gives. -/
theorem o13_apply (d : Fin 2) (b : Fin 4) (hh : Fin 6) (p v : Fin 128) : val_main_v436 (F := Ideal) x0 x1 (ix5 d b hh p v) =
    oS x0 x1 13 d b hh (RR x0 x1 d b hh 13) p v := by
  refine (o_gen (val_main_v424 (F := Ideal) x0) (val_main_v426 (F := Ideal) x0) (val_main_v428 (F := Ideal) x0) (val_main_v422 (F := Ideal) x0 x1) (val_main_v112 (F := Ideal) x1) (val_main_v121 (F := Ideal) x1) d b hh p v).trans ?_
  simp only [q13_apply, k13_apply, v13_apply, r13_apply x0 x1, dec_apply, qd_apply]
  unfold oS
  with_reducible rfl

/-- The state after chunk 13. -/
theorem r14_apply (d : Fin 2) (b : Fin 4) (hh : Fin 6) (i v : Fin 128) : val_main_v442 (F := Ideal) x0 x1 (ix5 d b hh i v) =
    RR x0 x1 d b hh 14 i v := by
  rw [RR_succ x0 x1 d b hh 13 13 14 rfl rfl]
  refine (r_gen (val_main_v426 (F := Ideal) x0) (val_main_v428 (F := Ideal) x0) (val_main_v422 (F := Ideal) x0 x1) (val_main_v134 (F := Ideal) x1) (val_main_v130 (F := Ideal) x1) d b hh i v).trans ?_
  simp only [k13_apply, v13_apply, r13_apply x0 x1, kd_apply, cd_apply]
  unfold rS
  with_reducible rfl

/-- Chunk 14's queries. -/
theorem q14_apply (d : Fin 2) (b : Fin 4) (hh : Fin 6) (p e : Fin 128) : val_main_v444 (F := Ideal) x0 (ix5 d b hh p e) =
    rope x0 0 (by decide) d b hh (14 : Fin 18) p e := by
  have e1 : val_main_v444 (F := Ideal) x0 (ix5 d b hh p e) = val_main_v443 (F := Ideal) x0 (ix6 0 d b hh p e) := by
    unfold val_main_v444
    pointwise
  have e2 : val_main_v443 (F := Ideal) x0 (ix6 0 d b hh p e) = val_main_v143 (F := Ideal) x0 (ix6 (14 : Fin 18) d b hh p e) :=
    (val_main_v443_apply x0 _).trans (congrArg _ (by blk_ext))
  exact e1.trans (e2.trans (q_apply x0 14 d b hh p e))

/-- Chunk 14's scaled keys. -/
theorem k14_apply (d : Fin 2) (b : Fin 4) (hh : Fin 6) (p e : Fin 128) : val_main_v446 (F := Ideal) x0 (ix5 d b hh p e) =
    rope x0 768 (by decide) d b hh (14 : Fin 18) p e * Ideal.ofBits FTy.f32 1035273459#32 := by
  have e1 : val_main_v446 (F := Ideal) x0 (ix5 d b hh p e) = val_main_v445 (F := Ideal) x0 (ix6 0 d b hh p e) := by
    unfold val_main_v446
    pointwise
  have e2 : val_main_v445 (F := Ideal) x0 (ix6 0 d b hh p e) = val_main_v152 (F := Ideal) x0 (ix6 (14 : Fin 18) d b hh p e) :=
    (val_main_v445_apply x0 _).trans (congrArg _ (by blk_ext))
  exact e1.trans (e2.trans (k_apply x0 14 d b hh p e))

/-- Chunk 14's values. -/
theorem v14_apply (d : Fin 2) (b : Fin 4) (hh : Fin 6) (p e : Fin 128) : val_main_v448 (F := Ideal) x0 (ix5 d b hh p e) =
    x0 (ix2 (row d b (14 : Fin 18) p) ⟨1536 + (hh.val * 128 + e.val), by omega⟩) := by
  have e1 : val_main_v448 (F := Ideal) x0 (ix5 d b hh p e) = val_main_v447 (F := Ideal) x0 (ix6 0 d b hh p e) := by
    unfold val_main_v448
    pointwise
  have e2 : val_main_v447 (F := Ideal) x0 (ix6 0 d b hh p e) = val_main_v161 (F := Ideal) x0 (ix6 (14 : Fin 18) d b hh p e) :=
    (val_main_v447_apply x0 _).trans (congrArg _ (by blk_ext))
  exact e1.trans (e2.trans (v_apply x0 14 d b hh p e))

/-- What chunk 14 gives. -/
theorem o14_apply (d : Fin 2) (b : Fin 4) (hh : Fin 6) (p v : Fin 128) : val_main_v456 (F := Ideal) x0 x1 (ix5 d b hh p v) =
    oS x0 x1 14 d b hh (RR x0 x1 d b hh 14) p v := by
  refine (o_gen (val_main_v444 (F := Ideal) x0) (val_main_v446 (F := Ideal) x0) (val_main_v448 (F := Ideal) x0) (val_main_v442 (F := Ideal) x0 x1) (val_main_v112 (F := Ideal) x1) (val_main_v121 (F := Ideal) x1) d b hh p v).trans ?_
  simp only [q14_apply, k14_apply, v14_apply, r14_apply x0 x1, dec_apply, qd_apply]
  unfold oS
  with_reducible rfl

/-- The state after chunk 14. -/
theorem r15_apply (d : Fin 2) (b : Fin 4) (hh : Fin 6) (i v : Fin 128) : val_main_v462 (F := Ideal) x0 x1 (ix5 d b hh i v) =
    RR x0 x1 d b hh 15 i v := by
  rw [RR_succ x0 x1 d b hh 14 14 15 rfl rfl]
  refine (r_gen (val_main_v446 (F := Ideal) x0) (val_main_v448 (F := Ideal) x0) (val_main_v442 (F := Ideal) x0 x1) (val_main_v134 (F := Ideal) x1) (val_main_v130 (F := Ideal) x1) d b hh i v).trans ?_
  simp only [k14_apply, v14_apply, r14_apply x0 x1, kd_apply, cd_apply]
  unfold rS
  with_reducible rfl

/-- Chunk 15's queries. -/
theorem q15_apply (d : Fin 2) (b : Fin 4) (hh : Fin 6) (p e : Fin 128) : val_main_v464 (F := Ideal) x0 (ix5 d b hh p e) =
    rope x0 0 (by decide) d b hh (15 : Fin 18) p e := by
  have e1 : val_main_v464 (F := Ideal) x0 (ix5 d b hh p e) = val_main_v463 (F := Ideal) x0 (ix6 0 d b hh p e) := by
    unfold val_main_v464
    pointwise
  have e2 : val_main_v463 (F := Ideal) x0 (ix6 0 d b hh p e) = val_main_v143 (F := Ideal) x0 (ix6 (15 : Fin 18) d b hh p e) :=
    (val_main_v463_apply x0 _).trans (congrArg _ (by blk_ext))
  exact e1.trans (e2.trans (q_apply x0 15 d b hh p e))

/-- Chunk 15's scaled keys. -/
theorem k15_apply (d : Fin 2) (b : Fin 4) (hh : Fin 6) (p e : Fin 128) : val_main_v466 (F := Ideal) x0 (ix5 d b hh p e) =
    rope x0 768 (by decide) d b hh (15 : Fin 18) p e * Ideal.ofBits FTy.f32 1035273459#32 := by
  have e1 : val_main_v466 (F := Ideal) x0 (ix5 d b hh p e) = val_main_v465 (F := Ideal) x0 (ix6 0 d b hh p e) := by
    unfold val_main_v466
    pointwise
  have e2 : val_main_v465 (F := Ideal) x0 (ix6 0 d b hh p e) = val_main_v152 (F := Ideal) x0 (ix6 (15 : Fin 18) d b hh p e) :=
    (val_main_v465_apply x0 _).trans (congrArg _ (by blk_ext))
  exact e1.trans (e2.trans (k_apply x0 15 d b hh p e))

/-- Chunk 15's values. -/
theorem v15_apply (d : Fin 2) (b : Fin 4) (hh : Fin 6) (p e : Fin 128) : val_main_v468 (F := Ideal) x0 (ix5 d b hh p e) =
    x0 (ix2 (row d b (15 : Fin 18) p) ⟨1536 + (hh.val * 128 + e.val), by omega⟩) := by
  have e1 : val_main_v468 (F := Ideal) x0 (ix5 d b hh p e) = val_main_v467 (F := Ideal) x0 (ix6 0 d b hh p e) := by
    unfold val_main_v468
    pointwise
  have e2 : val_main_v467 (F := Ideal) x0 (ix6 0 d b hh p e) = val_main_v161 (F := Ideal) x0 (ix6 (15 : Fin 18) d b hh p e) :=
    (val_main_v467_apply x0 _).trans (congrArg _ (by blk_ext))
  exact e1.trans (e2.trans (v_apply x0 15 d b hh p e))

/-- What chunk 15 gives. -/
theorem o15_apply (d : Fin 2) (b : Fin 4) (hh : Fin 6) (p v : Fin 128) : val_main_v476 (F := Ideal) x0 x1 (ix5 d b hh p v) =
    oS x0 x1 15 d b hh (RR x0 x1 d b hh 15) p v := by
  refine (o_gen (val_main_v464 (F := Ideal) x0) (val_main_v466 (F := Ideal) x0) (val_main_v468 (F := Ideal) x0) (val_main_v462 (F := Ideal) x0 x1) (val_main_v112 (F := Ideal) x1) (val_main_v121 (F := Ideal) x1) d b hh p v).trans ?_
  simp only [q15_apply, k15_apply, v15_apply, r15_apply x0 x1, dec_apply, qd_apply]
  unfold oS
  with_reducible rfl

/-- The state after chunk 15. -/
theorem r16_apply (d : Fin 2) (b : Fin 4) (hh : Fin 6) (i v : Fin 128) : val_main_v482 (F := Ideal) x0 x1 (ix5 d b hh i v) =
    RR x0 x1 d b hh 16 i v := by
  rw [RR_succ x0 x1 d b hh 15 15 16 rfl rfl]
  refine (r_gen (val_main_v466 (F := Ideal) x0) (val_main_v468 (F := Ideal) x0) (val_main_v462 (F := Ideal) x0 x1) (val_main_v134 (F := Ideal) x1) (val_main_v130 (F := Ideal) x1) d b hh i v).trans ?_
  simp only [k15_apply, v15_apply, r15_apply x0 x1, kd_apply, cd_apply]
  unfold rS
  with_reducible rfl

/-- Chunk 16's queries. -/
theorem q16_apply (d : Fin 2) (b : Fin 4) (hh : Fin 6) (p e : Fin 128) : val_main_v484 (F := Ideal) x0 (ix5 d b hh p e) =
    rope x0 0 (by decide) d b hh (16 : Fin 18) p e := by
  have e1 : val_main_v484 (F := Ideal) x0 (ix5 d b hh p e) = val_main_v483 (F := Ideal) x0 (ix6 0 d b hh p e) := by
    unfold val_main_v484
    pointwise
  have e2 : val_main_v483 (F := Ideal) x0 (ix6 0 d b hh p e) = val_main_v143 (F := Ideal) x0 (ix6 (16 : Fin 18) d b hh p e) :=
    (val_main_v483_apply x0 _).trans (congrArg _ (by blk_ext))
  exact e1.trans (e2.trans (q_apply x0 16 d b hh p e))

/-- Chunk 16's scaled keys. -/
theorem k16_apply (d : Fin 2) (b : Fin 4) (hh : Fin 6) (p e : Fin 128) : val_main_v486 (F := Ideal) x0 (ix5 d b hh p e) =
    rope x0 768 (by decide) d b hh (16 : Fin 18) p e * Ideal.ofBits FTy.f32 1035273459#32 := by
  have e1 : val_main_v486 (F := Ideal) x0 (ix5 d b hh p e) = val_main_v485 (F := Ideal) x0 (ix6 0 d b hh p e) := by
    unfold val_main_v486
    pointwise
  have e2 : val_main_v485 (F := Ideal) x0 (ix6 0 d b hh p e) = val_main_v152 (F := Ideal) x0 (ix6 (16 : Fin 18) d b hh p e) :=
    (val_main_v485_apply x0 _).trans (congrArg _ (by blk_ext))
  exact e1.trans (e2.trans (k_apply x0 16 d b hh p e))

/-- Chunk 16's values. -/
theorem v16_apply (d : Fin 2) (b : Fin 4) (hh : Fin 6) (p e : Fin 128) : val_main_v488 (F := Ideal) x0 (ix5 d b hh p e) =
    x0 (ix2 (row d b (16 : Fin 18) p) ⟨1536 + (hh.val * 128 + e.val), by omega⟩) := by
  have e1 : val_main_v488 (F := Ideal) x0 (ix5 d b hh p e) = val_main_v487 (F := Ideal) x0 (ix6 0 d b hh p e) := by
    unfold val_main_v488
    pointwise
  have e2 : val_main_v487 (F := Ideal) x0 (ix6 0 d b hh p e) = val_main_v161 (F := Ideal) x0 (ix6 (16 : Fin 18) d b hh p e) :=
    (val_main_v487_apply x0 _).trans (congrArg _ (by blk_ext))
  exact e1.trans (e2.trans (v_apply x0 16 d b hh p e))

/-- What chunk 16 gives. -/
theorem o16_apply (d : Fin 2) (b : Fin 4) (hh : Fin 6) (p v : Fin 128) : val_main_v496 (F := Ideal) x0 x1 (ix5 d b hh p v) =
    oS x0 x1 16 d b hh (RR x0 x1 d b hh 16) p v := by
  refine (o_gen (val_main_v484 (F := Ideal) x0) (val_main_v486 (F := Ideal) x0) (val_main_v488 (F := Ideal) x0) (val_main_v482 (F := Ideal) x0 x1) (val_main_v112 (F := Ideal) x1) (val_main_v121 (F := Ideal) x1) d b hh p v).trans ?_
  simp only [q16_apply, k16_apply, v16_apply, r16_apply x0 x1, dec_apply, qd_apply]
  unfold oS
  with_reducible rfl

/-- The state after chunk 16. -/
theorem r17_apply (d : Fin 2) (b : Fin 4) (hh : Fin 6) (i v : Fin 128) : val_main_v502 (F := Ideal) x0 x1 (ix5 d b hh i v) =
    RR x0 x1 d b hh 17 i v := by
  rw [RR_succ x0 x1 d b hh 16 16 17 rfl rfl]
  refine (r_gen (val_main_v486 (F := Ideal) x0) (val_main_v488 (F := Ideal) x0) (val_main_v482 (F := Ideal) x0 x1) (val_main_v134 (F := Ideal) x1) (val_main_v130 (F := Ideal) x1) d b hh i v).trans ?_
  simp only [k16_apply, v16_apply, r16_apply x0 x1, kd_apply, cd_apply]
  unfold rS
  with_reducible rfl

/-- Chunk 17's queries. -/
theorem q17_apply (d : Fin 2) (b : Fin 4) (hh : Fin 6) (p e : Fin 128) : val_main_v504 (F := Ideal) x0 (ix5 d b hh p e) =
    rope x0 0 (by decide) d b hh (17 : Fin 18) p e := by
  have e1 : val_main_v504 (F := Ideal) x0 (ix5 d b hh p e) = val_main_v503 (F := Ideal) x0 (ix6 0 d b hh p e) := by
    unfold val_main_v504
    pointwise
  have e2 : val_main_v503 (F := Ideal) x0 (ix6 0 d b hh p e) = val_main_v143 (F := Ideal) x0 (ix6 (17 : Fin 18) d b hh p e) :=
    (val_main_v503_apply x0 _).trans (congrArg _ (by blk_ext))
  exact e1.trans (e2.trans (q_apply x0 17 d b hh p e))

/-- Chunk 17's scaled keys. -/
theorem k17_apply (d : Fin 2) (b : Fin 4) (hh : Fin 6) (p e : Fin 128) : val_main_v506 (F := Ideal) x0 (ix5 d b hh p e) =
    rope x0 768 (by decide) d b hh (17 : Fin 18) p e * Ideal.ofBits FTy.f32 1035273459#32 := by
  have e1 : val_main_v506 (F := Ideal) x0 (ix5 d b hh p e) = val_main_v505 (F := Ideal) x0 (ix6 0 d b hh p e) := by
    unfold val_main_v506
    pointwise
  have e2 : val_main_v505 (F := Ideal) x0 (ix6 0 d b hh p e) = val_main_v152 (F := Ideal) x0 (ix6 (17 : Fin 18) d b hh p e) :=
    (val_main_v505_apply x0 _).trans (congrArg _ (by blk_ext))
  exact e1.trans (e2.trans (k_apply x0 17 d b hh p e))

/-- Chunk 17's values. -/
theorem v17_apply (d : Fin 2) (b : Fin 4) (hh : Fin 6) (p e : Fin 128) : val_main_v508 (F := Ideal) x0 (ix5 d b hh p e) =
    x0 (ix2 (row d b (17 : Fin 18) p) ⟨1536 + (hh.val * 128 + e.val), by omega⟩) := by
  have e1 : val_main_v508 (F := Ideal) x0 (ix5 d b hh p e) = val_main_v507 (F := Ideal) x0 (ix6 0 d b hh p e) := by
    unfold val_main_v508
    pointwise
  have e2 : val_main_v507 (F := Ideal) x0 (ix6 0 d b hh p e) = val_main_v161 (F := Ideal) x0 (ix6 (17 : Fin 18) d b hh p e) :=
    (val_main_v507_apply x0 _).trans (congrArg _ (by blk_ext))
  exact e1.trans (e2.trans (v_apply x0 17 d b hh p e))

/-- What chunk 17 gives. -/
theorem o17_apply (d : Fin 2) (b : Fin 4) (hh : Fin 6) (p v : Fin 128) : val_main_v516 (F := Ideal) x0 x1 (ix5 d b hh p v) =
    oS x0 x1 17 d b hh (RR x0 x1 d b hh 17) p v := by
  refine (o_gen (val_main_v504 (F := Ideal) x0) (val_main_v506 (F := Ideal) x0) (val_main_v508 (F := Ideal) x0) (val_main_v502 (F := Ideal) x0 x1) (val_main_v112 (F := Ideal) x1) (val_main_v121 (F := Ideal) x1) d b hh p v).trans ?_
  simp only [q17_apply, k17_apply, v17_apply, r17_apply x0 x1, dec_apply, qd_apply]
  unfold oS
  with_reducible rfl

/-- The state after chunk 17. -/
theorem r18_apply (d : Fin 2) (b : Fin 4) (hh : Fin 6) (i v : Fin 128) : val_main_v522 (F := Ideal) x0 x1 (ix5 d b hh i v) =
    RR x0 x1 d b hh 18 i v := by
  rw [RR_succ x0 x1 d b hh 17 17 18 rfl rfl]
  refine (r_gen (val_main_v506 (F := Ideal) x0) (val_main_v508 (F := Ideal) x0) (val_main_v502 (F := Ideal) x0 x1) (val_main_v134 (F := Ideal) x1) (val_main_v130 (F := Ideal) x1) d b hh i v).trans ?_
  simp only [k17_apply, v17_apply, r17_apply x0 x1, kd_apply, cd_apply]
  unfold rS
  with_reducible rfl

end Cert.RetRefIdeal.Hand

end
-- ==== Proof.RetRefC.lean ====
module

public import proofs.«01_k».proof.Defs
public import proofs.«01_k».proof.Proof.Gen.RetRefIdeal.Read
public import proofs.«01_k».proof.Proof.RetRefB
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.RetRefIdeal.Hand

open Cert.RetRefIdeal Cert.RetRefIdeal.Read

variable (x0 : Vec Ideal S9216x7168 .f32) (x1 : Vec Ideal S2x6 .f32)

/-- Chunk 0 of the outputs. -/
theorem s0_apply (d : Fin 2) (b : Fin 4) (hh : Fin 6) (p v : Fin 128) : val_main_v543 (F := Ideal) x0 x1 (ix6 (0 : Fin 18) d b hh p v) =
    oS x0 x1 0 d b hh (RR x0 x1 d b hh 0) p v := by
  refine Eq.trans ?_ (o0_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 1 of the outputs. -/
theorem s1_apply (d : Fin 2) (b : Fin 4) (hh : Fin 6) (p v : Fin 128) : val_main_v543 (F := Ideal) x0 x1 (ix6 (1 : Fin 18) d b hh p v) =
    oS x0 x1 1 d b hh (RR x0 x1 d b hh 1) p v := by
  refine Eq.trans ?_ (o1_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 2 of the outputs. -/
theorem s2_apply (d : Fin 2) (b : Fin 4) (hh : Fin 6) (p v : Fin 128) : val_main_v543 (F := Ideal) x0 x1 (ix6 (2 : Fin 18) d b hh p v) =
    oS x0 x1 2 d b hh (RR x0 x1 d b hh 2) p v := by
  refine Eq.trans ?_ (o2_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 3 of the outputs. -/
theorem s3_apply (d : Fin 2) (b : Fin 4) (hh : Fin 6) (p v : Fin 128) : val_main_v543 (F := Ideal) x0 x1 (ix6 (3 : Fin 18) d b hh p v) =
    oS x0 x1 3 d b hh (RR x0 x1 d b hh 3) p v := by
  refine Eq.trans ?_ (o3_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 4 of the outputs. -/
theorem s4_apply (d : Fin 2) (b : Fin 4) (hh : Fin 6) (p v : Fin 128) : val_main_v543 (F := Ideal) x0 x1 (ix6 (4 : Fin 18) d b hh p v) =
    oS x0 x1 4 d b hh (RR x0 x1 d b hh 4) p v := by
  refine Eq.trans ?_ (o4_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 5 of the outputs. -/
theorem s5_apply (d : Fin 2) (b : Fin 4) (hh : Fin 6) (p v : Fin 128) : val_main_v543 (F := Ideal) x0 x1 (ix6 (5 : Fin 18) d b hh p v) =
    oS x0 x1 5 d b hh (RR x0 x1 d b hh 5) p v := by
  refine Eq.trans ?_ (o5_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 6 of the outputs. -/
theorem s6_apply (d : Fin 2) (b : Fin 4) (hh : Fin 6) (p v : Fin 128) : val_main_v543 (F := Ideal) x0 x1 (ix6 (6 : Fin 18) d b hh p v) =
    oS x0 x1 6 d b hh (RR x0 x1 d b hh 6) p v := by
  refine Eq.trans ?_ (o6_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 7 of the outputs. -/
theorem s7_apply (d : Fin 2) (b : Fin 4) (hh : Fin 6) (p v : Fin 128) : val_main_v543 (F := Ideal) x0 x1 (ix6 (7 : Fin 18) d b hh p v) =
    oS x0 x1 7 d b hh (RR x0 x1 d b hh 7) p v := by
  refine Eq.trans ?_ (o7_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 8 of the outputs. -/
theorem s8_apply (d : Fin 2) (b : Fin 4) (hh : Fin 6) (p v : Fin 128) : val_main_v543 (F := Ideal) x0 x1 (ix6 (8 : Fin 18) d b hh p v) =
    oS x0 x1 8 d b hh (RR x0 x1 d b hh 8) p v := by
  refine Eq.trans ?_ (o8_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 9 of the outputs. -/
theorem s9_apply (d : Fin 2) (b : Fin 4) (hh : Fin 6) (p v : Fin 128) : val_main_v543 (F := Ideal) x0 x1 (ix6 (9 : Fin 18) d b hh p v) =
    oS x0 x1 9 d b hh (RR x0 x1 d b hh 9) p v := by
  refine Eq.trans ?_ (o9_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 10 of the outputs. -/
theorem s10_apply (d : Fin 2) (b : Fin 4) (hh : Fin 6) (p v : Fin 128) : val_main_v543 (F := Ideal) x0 x1 (ix6 (10 : Fin 18) d b hh p v) =
    oS x0 x1 10 d b hh (RR x0 x1 d b hh 10) p v := by
  refine Eq.trans ?_ (o10_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 11 of the outputs. -/
theorem s11_apply (d : Fin 2) (b : Fin 4) (hh : Fin 6) (p v : Fin 128) : val_main_v543 (F := Ideal) x0 x1 (ix6 (11 : Fin 18) d b hh p v) =
    oS x0 x1 11 d b hh (RR x0 x1 d b hh 11) p v := by
  refine Eq.trans ?_ (o11_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 12 of the outputs. -/
theorem s12_apply (d : Fin 2) (b : Fin 4) (hh : Fin 6) (p v : Fin 128) : val_main_v543 (F := Ideal) x0 x1 (ix6 (12 : Fin 18) d b hh p v) =
    oS x0 x1 12 d b hh (RR x0 x1 d b hh 12) p v := by
  refine Eq.trans ?_ (o12_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 13 of the outputs. -/
theorem s13_apply (d : Fin 2) (b : Fin 4) (hh : Fin 6) (p v : Fin 128) : val_main_v543 (F := Ideal) x0 x1 (ix6 (13 : Fin 18) d b hh p v) =
    oS x0 x1 13 d b hh (RR x0 x1 d b hh 13) p v := by
  refine Eq.trans ?_ (o13_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 14 of the outputs. -/
theorem s14_apply (d : Fin 2) (b : Fin 4) (hh : Fin 6) (p v : Fin 128) : val_main_v543 (F := Ideal) x0 x1 (ix6 (14 : Fin 18) d b hh p v) =
    oS x0 x1 14 d b hh (RR x0 x1 d b hh 14) p v := by
  refine Eq.trans ?_ (o14_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 15 of the outputs. -/
theorem s15_apply (d : Fin 2) (b : Fin 4) (hh : Fin 6) (p v : Fin 128) : val_main_v543 (F := Ideal) x0 x1 (ix6 (15 : Fin 18) d b hh p v) =
    oS x0 x1 15 d b hh (RR x0 x1 d b hh 15) p v := by
  refine Eq.trans ?_ (o15_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 16 of the outputs. -/
theorem s16_apply (d : Fin 2) (b : Fin 4) (hh : Fin 6) (p v : Fin 128) : val_main_v543 (F := Ideal) x0 x1 (ix6 (16 : Fin 18) d b hh p v) =
    oS x0 x1 16 d b hh (RR x0 x1 d b hh 16) p v := by
  refine Eq.trans ?_ (o16_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- Chunk 17 of the outputs. -/
theorem s17_apply (d : Fin 2) (b : Fin 4) (hh : Fin 6) (p v : Fin 128) : val_main_v543 (F := Ideal) x0 x1 (ix6 (17 : Fin 18) d b hh p v) =
    oS x0 x1 17 d b hh (RR x0 x1 d b hh 17) p v := by
  refine Eq.trans ?_ (o17_apply x0 x1 d b hh p v)
  unfold val_main_v543 val_main_v542 val_main_v541 val_main_v540 val_main_v539 val_main_v538 val_main_v537 val_main_v536 val_main_v535 val_main_v534 val_main_v533 val_main_v532 val_main_v531 val_main_v530 val_main_v529 val_main_v528 val_main_v527 val_main_v526 val_main_v525 val_main_v524 val_main_v523
  pointwise

/-- A chunk of the outputs. -/
theorem stack_apply (n : Fin 18) (d : Fin 2) (b : Fin 4) (hh : Fin 6) (p v : Fin 128) : val_main_v543 (F := Ideal) x0 x1 (ix6 n d b hh p v) =
    oS x0 x1 n d b hh (RR x0 x1 d b hh n.val) p v :=
  match n with
  | ⟨0, _⟩ => s0_apply x0 x1 d b hh p v
  | ⟨1, _⟩ => s1_apply x0 x1 d b hh p v
  | ⟨2, _⟩ => s2_apply x0 x1 d b hh p v
  | ⟨3, _⟩ => s3_apply x0 x1 d b hh p v
  | ⟨4, _⟩ => s4_apply x0 x1 d b hh p v
  | ⟨5, _⟩ => s5_apply x0 x1 d b hh p v
  | ⟨6, _⟩ => s6_apply x0 x1 d b hh p v
  | ⟨7, _⟩ => s7_apply x0 x1 d b hh p v
  | ⟨8, _⟩ => s8_apply x0 x1 d b hh p v
  | ⟨9, _⟩ => s9_apply x0 x1 d b hh p v
  | ⟨10, _⟩ => s10_apply x0 x1 d b hh p v
  | ⟨11, _⟩ => s11_apply x0 x1 d b hh p v
  | ⟨12, _⟩ => s12_apply x0 x1 d b hh p v
  | ⟨13, _⟩ => s13_apply x0 x1 d b hh p v
  | ⟨14, _⟩ => s14_apply x0 x1 d b hh p v
  | ⟨15, _⟩ => s15_apply x0 x1 d b hh p v
  | ⟨16, _⟩ => s16_apply x0 x1 d b hh p v
  | ⟨17, _⟩ => s17_apply x0 x1 d b hh p v
  | ⟨k + 18, h⟩ => absurd h (by omega)

/-- The outputs along the sequence. -/
theorem v545_apply (d : Fin 2) (b : Fin 4) (hh : Fin 6) (n : Fin 2304) (v : Fin 128) : val_main_v545 (F := Ideal) x0 x1 (ix5 d b hh n v) =
    val_main_v543 (F := Ideal) x0 x1 (ix6 ⟨n.val / 128, by omega⟩ d b hh ⟨n.val % 128, by omega⟩ v) := by
  have e1 : val_main_v545 (F := Ideal) x0 x1 (ix5 d b hh n v) = val_main_v544 (F := Ideal) x0 x1 (ix6 d b hh ⟨n.val / 128, by omega⟩ ⟨n.val % 128, by omega⟩ v) := by
    unfold val_main_v545
    pointwise
  refine e1.trans ?_
  exact (val_main_v544_apply x0 x1 _).trans (congrArg _ (by blk_ext))

/-- The output at a place of a chunk. -/
theorem out_apply (n : Fin 18) (p : Fin 128) (t : Fin 2304) (ht : t.val = n.val * 128 + p.val) (d : Fin 2) (b : Fin 4) (hh : Fin 6) (v : Fin 128) :
    val_main_v545 (F := Ideal) x0 x1 (ix5 d b hh t v) = oS x0 x1 n d b hh (RR x0 x1 d b hh n.val) p v := by
  rw [v545_apply, stack_apply]
  have e1 : (⟨t.val / 128, by omega⟩ : Fin 18) = n := Fin.ext (by show t.val / 128 = n.val; omega)
  have e2 : (⟨t.val % 128, by omega⟩ : Fin 128) = p := Fin.ext (by show t.val % 128 = p.val; omega)
  rw [e1, e2]

/-- The forward context's outputs. -/
theorem v547_apply (b : Fin 4) (hh : Fin 6) (i : Fin 256) (v : Fin 128) : val_main_v547 (F := Ideal) x0 x1 (ix4 b hh i v) =
    val_main_v545 (F := Ideal) x0 x1 (ix5 0 b hh ⟨i.val, by omega⟩ v) := by
  have e1 : val_main_v547 (F := Ideal) x0 x1 (ix4 b hh i v) = val_main_v546 (F := Ideal) x0 x1 (ix5 0 b hh i v) := by
    unfold val_main_v547
    pointwise
  refine e1.trans ?_
  exact (val_main_v546_apply x0 x1 _).trans (congrArg _ (by blk_ext))

/-- The forward latent tokens' outputs. -/
theorem v549_apply (b : Fin 4) (hh : Fin 6) (i : Fin 2048) (v : Fin 128) : val_main_v549 (F := Ideal) x0 x1 (ix4 b hh i v) =
    val_main_v545 (F := Ideal) x0 x1 (ix5 0 b hh ⟨256 + i.val, by omega⟩ v) := by
  have e1 : val_main_v549 (F := Ideal) x0 x1 (ix4 b hh i v) = val_main_v548 (F := Ideal) x0 x1 (ix5 0 b hh i v) := by
    unfold val_main_v549
    pointwise
  refine e1.trans ?_
  exact (val_main_v548_apply x0 x1 _).trans (congrArg _ (by blk_ext))

/-- The backward context's outputs. -/
theorem v556_apply (b : Fin 4) (hh : Fin 6) (i : Fin 256) (v : Fin 128) : val_main_v556 (F := Ideal) x0 x1 (ix4 b hh i v) =
    val_main_v545 (F := Ideal) x0 x1 (ix5 1 b hh ⟨i.val, by omega⟩ v) := by
  have e1 : val_main_v556 (F := Ideal) x0 x1 (ix4 b hh i v) = val_main_v555 (F := Ideal) x0 x1 (ix5 0 b hh i v) := by
    unfold val_main_v556
    pointwise
  refine e1.trans ?_
  exact (val_main_v555_apply x0 x1 _).trans (congrArg _ (by blk_ext))

/-- The backward latent tokens' outputs. -/
theorem v558_apply (b : Fin 4) (hh : Fin 6) (i : Fin 2048) (v : Fin 128) : val_main_v558 (F := Ideal) x0 x1 (ix4 b hh i v) =
    val_main_v545 (F := Ideal) x0 x1 (ix5 1 b hh ⟨256 + i.val, by omega⟩ v) := by
  have e1 : val_main_v558 (F := Ideal) x0 x1 (ix4 b hh i v) = val_main_v557 (F := Ideal) x0 x1 (ix5 0 b hh i v) := by
    unfold val_main_v558
    pointwise
  refine e1.trans ?_
  exact (val_main_v557_apply x0 x1 _).trans (congrArg _ (by blk_ext))

/-- The part of the outputs read backwards. -/
theorem v559_apply (b : Fin 4) (hh : Fin 6) (i : Fin 256) (v : Fin 128) : val_main_v559 (F := Ideal) x0 x1 (ix4 b hh i v) =
    val_main_v556 (F := Ideal) x0 x1 (ix4 b hh ⟨255 - i.val, by omega⟩ v) := by
  unfold val_main_v559
  pointwise
  refine congrArg _ ?_
  blk_ext
  · rfl
  · rfl
  · show (Fin.rev i).val = 255 - i.val
    rw [Fin.val_rev]
    omega
  · rfl

/-- The part of the outputs read backwards. -/
theorem v560_apply (b : Fin 4) (hh : Fin 6) (i : Fin 2048) (v : Fin 128) : val_main_v560 (F := Ideal) x0 x1 (ix4 b hh i v) =
    val_main_v558 (F := Ideal) x0 x1 (ix4 b hh ⟨2047 - i.val, by omega⟩ v) := by
  unfold val_main_v560
  pointwise
  refine congrArg _ ?_
  blk_ext
  · rfl
  · rfl
  · show (Fin.rev i).val = 2047 - i.val
    rw [Fin.val_rev]
    omega
  · rfl

/-- The forward outputs at a latent token's row. -/
theorem v554_lat (r : Fin 9216) (b : Fin 4) (i : Fin 2048) (hr : r.val = b.val * 2048 + i.val) (c : Fin 768) : val_main_v554 (F := Ideal) x0 x1 (ix2 r c) =
    val_main_v549 (F := Ideal) x0 x1 (ix4 b ⟨c.val / 128, by omega⟩ i ⟨c.val % 128, by omega⟩) := by
  have h : r.val < 8192 := by omega
  have e : val_main_v554 (F := Ideal) x0 x1 (ix2 r c) = val_main_v551 (F := Ideal) x0 x1 (ix2 ⟨r.val, h⟩ c) := by
    unfold val_main_v554
    pointwise
    exact dif_pos h
  rw [e]
  unfold val_main_v551 val_main_v550
  pointwise
  refine congrArg _ ?_
  blk_ext

/-- The forward outputs at a context token's row. -/
theorem v554_ctx (r : Fin 9216) (b : Fin 4) (i : Fin 256) (hr : r.val = 8192 + (b.val * 256 + i.val)) (c : Fin 768) : val_main_v554 (F := Ideal) x0 x1 (ix2 r c) =
    val_main_v547 (F := Ideal) x0 x1 (ix4 b ⟨c.val / 128, by omega⟩ i ⟨c.val % 128, by omega⟩) := by
  have h : ¬ r.val < 8192 := by omega
  have e : val_main_v554 (F := Ideal) x0 x1 (ix2 r c) = val_main_v553 (F := Ideal) x0 x1 (ix2 ⟨r.val - 8192, by omega⟩ c) := by
    unfold val_main_v554
    pointwise
    exact dif_neg h
  have e1 : ∀ r : Fin 1024, val_main_v553 (F := Ideal) x0 x1 (ix2 r c) =
      val_main_v547 (F := Ideal) x0 x1 (ix4 ⟨r.val / 256, by omega⟩ ⟨c.val / 128, by omega⟩ ⟨r.val % 256, by omega⟩ ⟨c.val % 128, by omega⟩) := by
    intro r
    unfold val_main_v553 val_main_v552
    pointwise
  rw [e, e1]
  refine congrArg _ ?_
  blk_ext

/-- The backward outputs at a latent token's row. -/
theorem v565_lat (r : Fin 9216) (b : Fin 4) (i : Fin 2048) (hr : r.val = b.val * 2048 + i.val) (c : Fin 768) : val_main_v565 (F := Ideal) x0 x1 (ix2 r c) =
    val_main_v560 (F := Ideal) x0 x1 (ix4 b ⟨c.val / 128, by omega⟩ i ⟨c.val % 128, by omega⟩) := by
  have h : r.val < 8192 := by omega
  have e : val_main_v565 (F := Ideal) x0 x1 (ix2 r c) = val_main_v562 (F := Ideal) x0 x1 (ix2 ⟨r.val, h⟩ c) := by
    unfold val_main_v565
    pointwise
    exact dif_pos h
  rw [e]
  unfold val_main_v562 val_main_v561
  pointwise
  refine congrArg _ ?_
  blk_ext

/-- The backward outputs at a context token's row. -/
theorem v565_ctx (r : Fin 9216) (b : Fin 4) (i : Fin 256) (hr : r.val = 8192 + (b.val * 256 + i.val)) (c : Fin 768) : val_main_v565 (F := Ideal) x0 x1 (ix2 r c) =
    val_main_v559 (F := Ideal) x0 x1 (ix4 b ⟨c.val / 128, by omega⟩ i ⟨c.val % 128, by omega⟩) := by
  have h : ¬ r.val < 8192 := by omega
  have e : val_main_v565 (F := Ideal) x0 x1 (ix2 r c) = val_main_v564 (F := Ideal) x0 x1 (ix2 ⟨r.val - 8192, by omega⟩ c) := by
    unfold val_main_v565
    pointwise
    exact dif_neg h
  have e1 : ∀ r : Fin 1024, val_main_v564 (F := Ideal) x0 x1 (ix2 r c) =
      val_main_v559 (F := Ideal) x0 x1 (ix4 ⟨r.val / 256, by omega⟩ ⟨c.val / 128, by omega⟩ ⟨r.val % 256, by omega⟩ ⟨c.val % 128, by omega⟩) := by
    intro r
    unfold val_main_v564 val_main_v563
    pointwise
  rw [e, e1]
  refine congrArg _ ?_
  blk_ext

/-- The forward outputs at the row a chunk's place reads: the chunk's output there. -/
theorem v554_row (b : Fin 4) (n : Fin 18) (p : Fin 128) (c : Fin 768) : val_main_v554 (F := Ideal) x0 x1 (ix2 (row 0 b n p) c) =
    oS x0 x1 n 0 b ⟨c.val / 128, by omega⟩ (RR x0 x1 0 b ⟨c.val / 128, by omega⟩ n.val) p ⟨c.val % 128, by omega⟩ := by
  by_cases hn : n.val < 2
  · rw [v554_ctx x0 x1 _ b ⟨n.val * 128 + p.val, by omega⟩ (by rw [row_fc 0 b n p hn rfl]) c, v547_apply, out_apply x0 x1 n p _ rfl]
  · rw [v554_lat x0 x1 _ b (lat 0 n p) (by rw [row_l 0 b n p hn]) c, v549_apply, out_apply x0 x1 n p _ (by show 256 + (lat 0 n p).val = _; rw [lat_f 0 n p rfl]; show 256 + ((n.val - 2) * 128 + p.val) = _; omega)]

/-- The backward outputs at the row a chunk's place reads: the chunk's output there. -/
theorem v565_row (b : Fin 4) (n : Fin 18) (p : Fin 128) (c : Fin 768) : val_main_v565 (F := Ideal) x0 x1 (ix2 (row 1 b n p) c) =
    oS x0 x1 n 1 b ⟨c.val / 128, by omega⟩ (RR x0 x1 1 b ⟨c.val / 128, by omega⟩ n.val) p ⟨c.val % 128, by omega⟩ := by
  by_cases hn : n.val < 2
  · rw [v565_ctx x0 x1 _ b ⟨255 - (n.val * 128 + p.val), by omega⟩ (by rw [row_bc 1 b n p hn (by decide)]) c, v559_apply, v556_apply, out_apply x0 x1 n p _ (by show 255 - (255 - (n.val * 128 + p.val)) = _; omega)]
  · rw [v565_lat x0 x1 _ b (lat 1 n p) (by rw [row_l 1 b n p hn]) c, v560_apply, v558_apply, out_apply x0 x1 n p _ (by show 256 + (2047 - (lat 1 n p).val) = _; rw [lat_b 1 n p (by decide)]; show 256 + (2047 - (2047 - ((n.val - 2) * 128 + p.val))) = _; omega)]

end Cert.RetRefIdeal.Hand

end
-- ==== Proof.RetIdx.lean ====
module

public import proofs.«01_k».proof.Defs
public import proofs.«01_k».proof.Proof.Gen.RetIdeal.Value
public import proofs.«01_k».proof.Proof.RetBody
public import proofs.«01_k».proof.Proof.RetRefC
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

open Cert.RetRefIdeal.Hand (row lat cosT sinT lat_f lat_b)

/-- The forward row block of a point. -/
def tb0 (t : ℕ) : ℕ := if t % 18 < 2 then 64 + t / 18 * 2 + t % 18 else t / 18 * 16 + (t % 18 - 2)
/-- The backward row block of a point. -/
def tb1 (t : ℕ) : ℕ := if t % 18 < 2 then 64 + t / 18 * 2 + (1 - t % 18) else t / 18 * 16 + (17 - t % 18)
/-- The forward block of a point's position tables. -/
def rb0 (t : ℕ) : ℕ := if t % 18 < 2 then 16 + t % 18 else t % 18 - 2
/-- The backward block of a point's position tables. -/
def rb1 (t : ℕ) : ℕ := if t % 18 < 2 then 16 + (1 - t % 18) else 17 - t % 18

/-- The blocks a point stages. -/
theorem idx : ∀ t : Fin cfg0.N, win0_0.index t = ![0, 0, 0, 0] ∧ win0_1.index t = ![tb0 t.val, 0] ∧ win0_2.index t = ![tb0 t.val, 1]
  ∧ win0_3.index t = ![tb0 t.val, 2] ∧ win0_4.index t = ![rb0 t.val, 0] ∧ win0_5.index t = ![rb0 t.val, 0]
  ∧ win0_6.index t = ![tb1 t.val, 0] ∧ win0_7.index t = ![tb1 t.val, 1] ∧ win0_8.index t = ![tb1 t.val, 2]
  ∧ win0_9.index t = ![rb1 t.val, 0] ∧ win0_10.index t = ![rb1 t.val, 0] ∧ win0_11.index t = ![tb0 t.val, 0] ∧ win0_12.index t = ![tb1 t.val, 0] :=
  (by decide +kernel : ∀ t : Fin grid0.N, _)

/-- The projected rows as the region finds them. -/
abbrev AX (c : Dev nD) : Vec Ideal S9216x7168 .f32 := m ((c : Thread nD τ).loc main_arg0)
/-- The decay parameters as the region finds them. -/
abbrev DL (c : Dev nD) : Vec Ideal S2x6 .f32 := m ((c : Thread nD τ).loc main_arg1)

/-- The batch of a point. -/
def bt (t : Fin cfg0.N) : Fin 4 := ⟨t.val / 18, by have := lt_of_lt_of_eq t.isLt N_0; omega⟩
/-- The chunk of a point. -/
def st (t : Fin cfg0.N) : Fin 18 := ⟨t.val % 18, by omega⟩
/-- The place in reading order of a block's row. -/
def pl (d : Fin 2) (i : Fin 128) : Fin 128 := ⟨if d.val = 0 then i.val else 127 - i.val, by split_ifs <;> omega⟩

/-- The place in one direction. -/
theorem pl_0 (i : Fin 128) : pl 0 i = i := Fin.ext rfl
/-- The place in one direction. -/
theorem pl_1 (i : Fin 128) : pl 1 i = ⟨127 - i.val, by omega⟩ := Fin.ext rfl

/-- The forward row block begins at the row of the chunk's first place. -/
theorem row0 (t : Fin cfg0.N) (i : Fin 128) : (row 0 (bt t) (st t) (pl 0 i)).val = tb0 t.val * 128 + i.val := by
  have h1 := lt_of_lt_of_eq t.isLt N_0
  show (if t.val % 18 < 2 then 8192 + t.val / 18 * 256 + (if (0 : ℕ) = 0 then t.val % 18 * 128 + i.val else 255 - (t.val % 18 * 128 + i.val))
    else t.val / 18 * 2048 + (if (0 : ℕ) = 0 then (t.val % 18 - 2) * 128 + i.val else 2047 - ((t.val % 18 - 2) * 128 + i.val))) = _
  unfold tb0
  split_ifs <;> omega

/-- The backward row block's rows are read upwards. -/
theorem row1 (t : Fin cfg0.N) (i : Fin 128) : (row 1 (bt t) (st t) (pl 1 i)).val = tb1 t.val * 128 + i.val := by
  have h1 := lt_of_lt_of_eq t.isLt N_0
  show (if t.val % 18 < 2 then 8192 + t.val / 18 * 256 + (if (1 : ℕ) = 0 then t.val % 18 * 128 + (127 - i.val) else 255 - (t.val % 18 * 128 + (127 - i.val)))
    else t.val / 18 * 2048 + (if (1 : ℕ) = 0 then (t.val % 18 - 2) * 128 + (127 - i.val) else 2047 - ((t.val % 18 - 2) * 128 + (127 - i.val)))) = _
  rw [if_neg (show ¬ (1 : ℕ) = 0 by decide), if_neg (show ¬ (1 : ℕ) = 0 by decide)]
  unfold tb1
  split_ifs <;> omega

/-- The forward queries' block: the rows of the chunk's places. -/
theorem x1_eq (c : Dev nD) (t : Fin cfg0.N) (i : Fin 128) (e : Fin 768) :
    (X0_1 m c t : Vec Ideal S128x768 .f32) (ix2 i e) = AX m c (ix2 (row 0 (bt t) (st t) (pl 0 i)) ⟨0 + e.val, by omega⟩) := by
  have h := row0 t i
  unfold X0_1 Pipeline.Window.fill
  rw [dif_pos (moved0_1 t _)]
  blk_ext [iblk, V, idx t, h]

/-- The forward keys' block: the rows of the chunk's places. -/
theorem x2_eq (c : Dev nD) (t : Fin cfg0.N) (i : Fin 128) (e : Fin 768) :
    (X0_2 m c t : Vec Ideal S128x768 .f32) (ix2 i e) = AX m c (ix2 (row 0 (bt t) (st t) (pl 0 i)) ⟨768 + e.val, by omega⟩) := by
  have h := row0 t i
  unfold X0_2 Pipeline.Window.fill
  rw [dif_pos (moved0_2 t _)]
  blk_ext [iblk, V, idx t, h]

/-- The forward values' block: the rows of the chunk's places. -/
theorem x3_eq (c : Dev nD) (t : Fin cfg0.N) (i : Fin 128) (e : Fin 768) :
    (X0_3 m c t : Vec Ideal S128x768 .f32) (ix2 i e) = AX m c (ix2 (row 0 (bt t) (st t) (pl 0 i)) ⟨1536 + e.val, by omega⟩) := by
  have h := row0 t i
  unfold X0_3 Pipeline.Window.fill
  rw [dif_pos (moved0_3 t _)]
  blk_ext [iblk, V, idx t, h]

/-- The backward queries' block: the rows of the chunk's places. -/
theorem x6_eq (c : Dev nD) (t : Fin cfg0.N) (i : Fin 128) (e : Fin 768) :
    (X0_6 m c t : Vec Ideal S128x768 .f32) (ix2 i e) = AX m c (ix2 (row 1 (bt t) (st t) (pl 1 i)) ⟨0 + e.val, by omega⟩) := by
  have h := row1 t i
  unfold X0_6 Pipeline.Window.fill
  rw [dif_pos (moved0_6 t _)]
  blk_ext [iblk, V, idx t, h]

/-- The backward keys' block: the rows of the chunk's places. -/
theorem x7_eq (c : Dev nD) (t : Fin cfg0.N) (i : Fin 128) (e : Fin 768) :
    (X0_7 m c t : Vec Ideal S128x768 .f32) (ix2 i e) = AX m c (ix2 (row 1 (bt t) (st t) (pl 1 i)) ⟨768 + e.val, by omega⟩) := by
  have h := row1 t i
  unfold X0_7 Pipeline.Window.fill
  rw [dif_pos (moved0_7 t _)]
  blk_ext [iblk, V, idx t, h]

/-- The backward values' block: the rows of the chunk's places. -/
theorem x8_eq (c : Dev nD) (t : Fin cfg0.N) (i : Fin 128) (e : Fin 768) :
    (X0_8 m c t : Vec Ideal S128x768 .f32) (ix2 i e) = AX m c (ix2 (row 1 (bt t) (st t) (pl 1 i)) ⟨1536 + e.val, by omega⟩) := by
  have h := row1 t i
  unfold X0_8 Pipeline.Window.fill
  rw [dif_pos (moved0_8 t _)]
  blk_ext [iblk, V, idx t, h]

/-- The decay parameters' block: every entry of a head is the head's parameter. -/
theorem bd_eq (c : Dev nD) (t : Fin cfg0.N) (d : Fin 2) (h : Fin 6) (i : Fin 8) (k : Fin 128) :
    BD m c t (ix4 d h i k) = DL m c (ix2 d h) := by
  blk_simp [BD, iblk, idx t]
  unfold_abbrev_sides
  after_results
  pointwise
  blk_ext [idx t]

/-- A position table: two halves of columns, and one number below. -/
theorem tab_gen (A B : Vec Ideal S2048x64 .f32) (w : BitVec 32) (i : Fin 2304) (e : Fin 128) :
    concatenate S2304x128 0 [⟨S2048x128, concatenate S2048x128 1 [⟨S2048x64, A⟩, ⟨S2048x64, B⟩] concatenates_S2048x64_S2048x64_S2048x128_d1⟩,
      ⟨S256x128, broadcastInDim S256x128 ![] bcast_S_S256x128 (constant (F := Ideal) S_ .f32 w)⟩] concatenates_S2048x128_S256x128_S2304x128_d0 (ix2 i e) =
    if h : i.val < 2048 then (if g : e.val < 64 then A (ix2 ⟨i.val, h⟩ ⟨e.val, g⟩) else B (ix2 ⟨i.val, h⟩ ⟨e.val - 64, by omega⟩)) else Ideal.ofBits FTy.f32 w := by
  pointwise

/-- The cosine table as the host computes it. -/
theorem tab30 (c : Dev nD) (i : Fin 2304) (e : Fin 128) : (V m c main_v30 : Vec Ideal S2304x128 .f32) (ix2 i e) =
    if h : i.val < 2048 then Cert.RetRefIdeal.Read.val_main_v24 (F := Ideal) (ix2 ⟨i.val, h⟩ ⟨e.val % 64, by omega⟩) else 1 := by
  unfold V
  unfold_abbrev_sides
  after_results
  refine (tab_gen (Cert.RetRefIdeal.Read.val_main_v24 (F := Ideal)) (Cert.RetRefIdeal.Read.val_main_v24 (F := Ideal)) 1065353216#32 i e).trans ?_
  refine dite_congr rfl (fun h => ?_) (fun _ => by simp)
  split
  · blk_ext
  · blk_ext

/-- The signed sine table as the host computes it. -/
theorem tab32 (c : Dev nD) (i : Fin 2304) (e : Fin 128) : (V m c main_v32 : Vec Ideal S2304x128 .f32) (ix2 i e) =
    if h : i.val < 2048 then (if e.val < 64 then - Cert.RetRefIdeal.Read.val_main_v25 (F := Ideal) (ix2 ⟨i.val, h⟩ ⟨e.val % 64, by omega⟩)
      else Cert.RetRefIdeal.Read.val_main_v25 (F := Ideal) (ix2 ⟨i.val, h⟩ ⟨e.val % 64, by omega⟩)) else 0 := by
  unfold V
  unfold_abbrev_sides
  after_results
  refine (tab_gen (Host.negf (F := Ideal) (φ := .f32) (Cert.RetRefIdeal.Read.val_main_v25 (F := Ideal))) (Cert.RetRefIdeal.Read.val_main_v25 (F := Ideal)) 0#32 i e).trans ?_
  refine dite_congr rfl (fun h => ?_) (fun _ => Ideal.ofBits_zero FTy.f32)
  by_cases g : e.val < 64
  · rw [dif_pos g, if_pos g]
    show - Cert.RetRefIdeal.Read.val_main_v25 (F := Ideal) (ix2 ⟨i.val, h⟩ ⟨e.val, g⟩) = _
    refine congrArg (fun x => - Cert.RetRefIdeal.Read.val_main_v25 (F := Ideal) x) ?_
    blk_ext
  · rw [dif_neg g, if_neg g]
    blk_ext

/-- The forward cosine block of a point: the table of the chunk's places. -/
theorem t4_eq (c : Dev nD) (t : Fin cfg0.N) (i e : Fin 128) : (iblk m c 4 t : Vec Ideal S128x128 .f32) (ix2 i e) = cosT 0 (st t) (pl 0 i) e := by
  have h1 := lt_of_lt_of_eq t.isLt N_0
  have hr : rb0 t.val * 128 + i.val < 2304 := by unfold rb0; split_ifs <;> omega
  have e1 : (iblk m c 4 t : Vec Ideal S128x128 .f32) (ix2 i e) = (V m c main_v30 : Vec Ideal S2304x128 .f32) (ix2 ⟨rb0 t.val * 128 + i.val, hr⟩ e) := by
    blk_ext [iblk, idx t]
  rw [e1, tab30]
  unfold cosT
  by_cases hn : (st t).val < 2
  · have hn' : t.val % 18 < 2 := hn
    rw [if_pos hn, dif_neg (by show ¬ rb0 t.val * 128 + i.val < 2048; unfold rb0; rw [if_pos hn']; omega)]
  · have hn' : ¬ t.val % 18 < 2 := hn
    have hl : rb0 t.val * 128 + i.val = (lat 0 (st t) (pl 0 i)).val := by
      rw [lat_f 0 _ _ rfl, pl_0]
      show rb0 t.val * 128 + i.val = (t.val % 18 - 2) * 128 + i.val
      unfold rb0
      rw [if_neg hn']
    have hl2 : (⟨rb0 t.val * 128 + i.val, by rw [hl]; exact (lat 0 (st t) (pl 0 i)).isLt⟩ : Fin 2048) = lat 0 (st t) (pl 0 i) := Fin.ext hl
    rw [if_neg hn, dif_pos (by show rb0 t.val * 128 + i.val < 2048; rw [hl]; exact (lat 0 (st t) (pl 0 i)).isLt)]
    rw [hl2]

/-- The backward cosine block of a point: the table of the chunk's places. -/
theorem t9_eq (c : Dev nD) (t : Fin cfg0.N) (i e : Fin 128) : (iblk m c 9 t : Vec Ideal S128x128 .f32) (ix2 i e) = cosT 1 (st t) (pl 1 i) e := by
  have h1 := lt_of_lt_of_eq t.isLt N_0
  have hr : rb1 t.val * 128 + i.val < 2304 := by unfold rb1; split_ifs <;> omega
  have e1 : (iblk m c 9 t : Vec Ideal S128x128 .f32) (ix2 i e) = (V m c main_v30 : Vec Ideal S2304x128 .f32) (ix2 ⟨rb1 t.val * 128 + i.val, hr⟩ e) := by
    blk_ext [iblk, idx t]
  rw [e1, tab30]
  unfold cosT
  by_cases hn : (st t).val < 2
  · have hn' : t.val % 18 < 2 := hn
    rw [if_pos hn, dif_neg (by show ¬ rb1 t.val * 128 + i.val < 2048; unfold rb1; rw [if_pos hn']; omega)]
  · have hn' : ¬ t.val % 18 < 2 := hn
    have hl : rb1 t.val * 128 + i.val = (lat 1 (st t) (pl 1 i)).val := by
      rw [lat_b 1 _ _ (by decide), pl_1]
      show rb1 t.val * 128 + i.val = 2047 - ((t.val % 18 - 2) * 128 + (127 - i.val))
      unfold rb1
      rw [if_neg hn']
      omega
    have hl2 : (⟨rb1 t.val * 128 + i.val, by rw [hl]; exact (lat 1 (st t) (pl 1 i)).isLt⟩ : Fin 2048) = lat 1 (st t) (pl 1 i) := Fin.ext hl
    rw [if_neg hn, dif_pos (by show rb1 t.val * 128 + i.val < 2048; rw [hl]; exact (lat 1 (st t) (pl 1 i)).isLt)]
    rw [hl2]

/-- The forward sine block of a point: the table of the chunk's places. -/
theorem t5_eq (c : Dev nD) (t : Fin cfg0.N) (i e : Fin 128) : (iblk m c 5 t : Vec Ideal S128x128 .f32) (ix2 i e) = sinT 0 (st t) (pl 0 i) e := by
  have h1 := lt_of_lt_of_eq t.isLt N_0
  have hr : rb0 t.val * 128 + i.val < 2304 := by unfold rb0; split_ifs <;> omega
  have e1 : (iblk m c 5 t : Vec Ideal S128x128 .f32) (ix2 i e) = (V m c main_v32 : Vec Ideal S2304x128 .f32) (ix2 ⟨rb0 t.val * 128 + i.val, hr⟩ e) := by
    blk_ext [iblk, idx t]
  rw [e1, tab32]
  unfold sinT
  by_cases hn : (st t).val < 2
  · have hn' : t.val % 18 < 2 := hn
    rw [if_pos hn, dif_neg (by show ¬ rb0 t.val * 128 + i.val < 2048; unfold rb0; rw [if_pos hn']; omega)]
  · have hn' : ¬ t.val % 18 < 2 := hn
    have hl : rb0 t.val * 128 + i.val = (lat 0 (st t) (pl 0 i)).val := by
      rw [lat_f 0 _ _ rfl, pl_0]
      show rb0 t.val * 128 + i.val = (t.val % 18 - 2) * 128 + i.val
      unfold rb0
      rw [if_neg hn']
    have hl2 : (⟨rb0 t.val * 128 + i.val, by rw [hl]; exact (lat 0 (st t) (pl 0 i)).isLt⟩ : Fin 2048) = lat 0 (st t) (pl 0 i) := Fin.ext hl
    rw [if_neg hn, dif_pos (by show rb0 t.val * 128 + i.val < 2048; rw [hl]; exact (lat 0 (st t) (pl 0 i)).isLt)]
    rw [hl2]

/-- The backward sine block of a point: the table of the chunk's places. -/
theorem t10_eq (c : Dev nD) (t : Fin cfg0.N) (i e : Fin 128) : (iblk m c 10 t : Vec Ideal S128x128 .f32) (ix2 i e) = sinT 1 (st t) (pl 1 i) e := by
  have h1 := lt_of_lt_of_eq t.isLt N_0
  have hr : rb1 t.val * 128 + i.val < 2304 := by unfold rb1; split_ifs <;> omega
  have e1 : (iblk m c 10 t : Vec Ideal S128x128 .f32) (ix2 i e) = (V m c main_v32 : Vec Ideal S2304x128 .f32) (ix2 ⟨rb1 t.val * 128 + i.val, hr⟩ e) := by
    blk_ext [iblk, idx t]
  rw [e1, tab32]
  unfold sinT
  by_cases hn : (st t).val < 2
  · have hn' : t.val % 18 < 2 := hn
    rw [if_pos hn, dif_neg (by show ¬ rb1 t.val * 128 + i.val < 2048; unfold rb1; rw [if_pos hn']; omega)]
  · have hn' : ¬ t.val % 18 < 2 := hn
    have hl : rb1 t.val * 128 + i.val = (lat 1 (st t) (pl 1 i)).val := by
      rw [lat_b 1 _ _ (by decide), pl_1]
      show rb1 t.val * 128 + i.val = 2047 - ((t.val % 18 - 2) * 128 + (127 - i.val))
      unfold rb1
      rw [if_neg hn']
      omega
    have hl2 : (⟨rb1 t.val * 128 + i.val, by rw [hl]; exact (lat 1 (st t) (pl 1 i)).isLt⟩ : Fin 2048) = lat 1 (st t) (pl 1 i) := Fin.ext hl
    rw [if_neg hn, dif_pos (by show rb1 t.val * 128 + i.val < 2048; rw [hl]; exact (lat 1 (st t) (pl 1 i)).isLt)]
    rw [hl2]

end Cert.RetIdeal.Hand

end
-- ==== Proof.RetChunk.lean ====
module

public import proofs.«01_k».proof.Defs
public import proofs.«01_k».proof.Proof.Gen.RetIdeal.Value
public import proofs.«01_k».proof.Proof.RetIdx
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

open Cert.RetRefIdeal.Hand (row lat cosT sinT rope lgR fi decR oS rS RR RR_succ)

/-- A place's number in a chunk as the machine's integer. -/
theorem pos_eq : ∀ (d : Fin 2) (i : Fin 128), posK d i = BitVec.ofNat 32 (pl d i).val := by
  decide +kernel

/-- The difference of two places' numbers. -/
theorem sub_toInt (i k : Fin 128) : (BitVec.ofNat 32 i.val - BitVec.ofNat 32 k.val).toInt = (BitVec.ofNat 32 i.val).toInt - (BitVec.ofNat 32 k.val).toInt := by
  have h1 : ∀ i : Fin 128, (BitVec.ofNat 32 i.val).toInt = i.val := by decide +kernel
  rw [BitVec.toInt_sub, h1, h1]
  have := i.isLt
  have := k.isLt
  rw [Int.bmod_eq_of_le] <;> omega

/-- The difference of two places, over the reals. -/
theorem sub_fi (i k : Fin 128) : FloatOps.sitofp (F := Ideal) FTy.f32 (IntOp.subi (BitVec.ofNat 32 i.val) (BitVec.ofNat 32 k.val)) = fi i - fi k := by
  show (((BitVec.ofNat 32 i.val - BitVec.ofNat 32 k.val).toInt : ℝ) : EReal) = (((BitVec.ofNat 32 i.val).toInt : ℝ) : EReal) - (((BitVec.ofNat 32 k.val).toInt : ℝ) : EReal)
  rw [sub_toInt, ← EReal.coe_sub]
  push_cast
  rfl

/-- The decay between two rows is the decay between their places. -/
theorem decC_eq (g : EReal) (d : Fin 2) (i k : Fin 128) : decC g (posK d i) (posK d k) = decR g (pl d i) (pl d k) := by
  unfold decC decR
  rw [pos_eq, pos_eq, sub_fi]

/-- The decay to a row is the decay to its place. -/
theorem qdC_eq (g : EReal) (d : Fin 2) (i : Fin 128) : qdC g (posK d i) = Ideal.exp (g * (fi (pl d i) + 1)) := by
  unfold qdC
  rw [pos_eq]
  rfl

/-- The decay from a row is the decay from its place. -/
theorem kdC_eq (g : EReal) (d : Fin 2) (i : Fin 128) : kdC g (posK d i) = Ideal.exp (g * (Ideal.ofBits FTy.f32 1123942400#32 - fi (pl d i))) := by
  unfold kdC
  rw [pos_eq]
  rfl

/-- An exponential is not negative. -/
theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-- The log of one plus an exponential is not minus infinity. -/
theorem log1p_exp_ne_bot (x : EReal) : Ideal.log1p (Ideal.exp x) ≠ ⊥ := by
  have h := exp_nonneg x
  unfold Ideal.log1p
  generalize Ideal.exp x = y at h
  induction y using EReal.rec with
  | bot => exact absurd h (by decide)
  | top =>
    have e : (1 : EReal) + ⊤ = ⊤ := EReal.coe_add_top 1
    rw [e]
    exact top_ne_bot
  | coe r =>
    have hr : 0 ≤ r := by exact_mod_cast h
    have e : (1 : EReal) + (r : EReal) = ((1 + r : ℝ) : EReal) := by push_cast; rfl
    rw [e]
    show (if 1 + r ≤ 0 then ⊥ else (Real.log (1 + r) : EReal)) ≠ ⊥
    rw [if_neg (by linarith)]
    exact EReal.coe_ne_bot _

/-- The log of the sigmoid in the two ways it is written. -/
theorem lsig (x L : EReal) (hL : L ≠ ⊥) : min x 0 - L = -(max (-x) 0 + L) := by
  have h0 : max (-x) 0 ≠ ⊥ := ne_of_gt (lt_of_lt_of_le (by decide) (le_max_right (-x) 0))
  rw [EReal.neg_add (Or.inl h0) (Or.inr hL)]
  have e : -(max (-x) 0) = min x 0 := by
    rcases le_total x 0 with h | h
    · rw [min_eq_left h, max_eq_left (by rw [← neg_zero]; exact EReal.neg_le_neg_iff.mpr h), neg_neg]
    · rw [min_eq_right h, max_eq_right (by rw [← neg_zero]; exact EReal.neg_le_neg_iff.mpr h), neg_zero]
  rw [e]

/-- The logarithm of a head's decay, as the reference writes it. -/
theorem lg_eq (c : Dev nD) (t : Fin cfg0.N) (d : Fin 2) (h : Fin 6) (k : Fin 128) : lgK (BD m c t) d h k = lgR (DL m c) d h := by
  unfold lgK lgR
  rw [bd_eq, zero_sub]
  exact lsig _ _ (log1p_exp_ne_bot _)

/-- Reading a block's rows in the other order twice. -/
theorem pl_pl (d : Fin 2) : Function.Involutive (pl d) := fun i => Fin.ext (by
  show (if d.val = 0 then (if d.val = 0 then i.val else 127 - i.val) else 127 - (if d.val = 0 then i.val else 127 - i.val)) = i.val
  split_ifs <;> omega)

/-- A sum over the rows of a block is the sum over their places. -/
theorem sum_pl (d : Fin 2) (f : Fin 128 → EReal) : ∑ y, f (pl d y) = ∑ y, f y := (pl_pl d).bijective.sum_comp f

/-- The query blocks. -/
theorem BQ_eq (c : Dev nD) (t : Fin cfg0.N) : ∀ (d : Fin 2) (i : Fin 128) (e : Fin 768),
    BQ m c t d (ix2 i e) = AX m c (ix2 (row d (bt t) (st t) (pl d i)) ⟨0 + e.val, by omega⟩) :=
  Fin.forall_fin_two.mpr ⟨x1_eq m c t, x6_eq m c t⟩
/-- The key blocks. -/
theorem BK_eq (c : Dev nD) (t : Fin cfg0.N) : ∀ (d : Fin 2) (i : Fin 128) (e : Fin 768),
    BK m c t d (ix2 i e) = AX m c (ix2 (row d (bt t) (st t) (pl d i)) ⟨768 + e.val, by omega⟩) :=
  Fin.forall_fin_two.mpr ⟨x2_eq m c t, x7_eq m c t⟩
/-- The value blocks. -/
theorem BV_eq (c : Dev nD) (t : Fin cfg0.N) : ∀ (d : Fin 2) (i : Fin 128) (e : Fin 768),
    BV m c t d (ix2 i e) = AX m c (ix2 (row d (bt t) (st t) (pl d i)) ⟨1536 + e.val, by omega⟩) :=
  Fin.forall_fin_two.mpr ⟨x3_eq m c t, x8_eq m c t⟩
/-- The cosine blocks. -/
theorem BC_eq (c : Dev nD) (t : Fin cfg0.N) : ∀ (d : Fin 2) (i e : Fin 128), BC m c t d (ix2 i e) = cosT d (st t) (pl d i) e :=
  Fin.forall_fin_two.mpr ⟨t4_eq m c t, t9_eq m c t⟩
/-- The sine blocks. -/
theorem BS_eq (c : Dev nD) (t : Fin cfg0.N) : ∀ (d : Fin 2) (i e : Fin 128), BS m c t d (ix2 i e) = sinT d (st t) (pl d i) e :=
  Fin.forall_fin_two.mpr ⟨t5_eq m c t, t10_eq m c t⟩

/-- A rotated head of a block is the rotated head at the rows' places. -/
theorem rot_eq (c : Dev nD) (t : Fin cfg0.N) (d : Fin 2) (X : Vec Ideal S128x768 .f32) (col : ℕ) (hc : col ≤ 1536)
    (hX : ∀ (i : Fin 128) (e : Fin 768), X (ix2 i e) = AX m c (ix2 (row d (bt t) (st t) (pl d i)) ⟨col + e.val, by omega⟩)) (h : Fin 6) (hn : h.val * 128 + 128 ≤ 768) (i e : Fin 128) :
    rotK X (BC m c t d) (BS m c t d) (h.val * 128) hn i e = rope (AX m c) col hc d (bt t) h (st t) (pl d i) e := by
  unfold rotK rope
  rw [hX, hX, BC_eq, BS_eq]
  have e1 : (e.val + 128 - 64) % 128 = (e.val + 64) % 128 := by omega
  simp only [e1]

/-- The state a point leaves in a chain. -/
theorem rC_eq (c : Dev nD) (t : Fin cfg0.N) (d : Fin 2) (h : Fin 6) (hn : h.val * 128 + 128 ≤ 768) (r rr kd : Fin 128 → Fin 128 → EReal) (cd : Fin 128 → EReal)
    (hr : ∀ i v, r i v = rr i v) (hk : ∀ y i, kd y i = Ideal.exp (lgR (DL m c) d h * (Ideal.ofBits FTy.f32 1123942400#32 - fi (pl d y))))
    (hcd : ∀ v, cd v = Ideal.exp (lgR (DL m c) d h * Ideal.ofBits FTy.f32 1124073472#32)) (i v : Fin 128) :
    rC (BK m c t d) (BV m c t d) (BC m c t d) (BS m c t d) (h.val * 128) hn r kd cd i v = rS (AX m c) (DL m c) (st t) d (bt t) h rr i v := by
  unfold rC rS
  rw [hr, hcd]
  refine congrArg₂ (· + ·) rfl (Eq.trans (Finset.sum_congr rfl fun y _ => ?_) (sum_pl d _))
  rw [rot_eq m c t d (BK m c t d) 768 (by decide) (BK_eq m c t d) h hn, hk, BV_eq]

/-- What a point gives in a chain. -/
theorem oC_eq (c : Dev nD) (t : Fin cfg0.N) (d : Fin 2) (h : Fin 6) (hn : h.val * 128 + 128 ≤ 768) (r rr dec qd : Fin 128 → Fin 128 → EReal)
    (hr : ∀ i v, r i v = rr i v) (hd : ∀ i y, dec i y = decR (lgR (DL m c) d h) (pl d i) (pl d y))
    (hq : ∀ i x, qd i x = Ideal.exp (lgR (DL m c) d h * (fi (pl d i) + 1))) (i v : Fin 128) :
    oC (BQ m c t d) (BK m c t d) (BV m c t d) (BC m c t d) (BS m c t d) (h.val * 128) hn r dec qd i v
      = oS (AX m c) (DL m c) (st t) d (bt t) h rr (pl d i) v := by
  unfold oC oS
  refine congrArg₂ (· + ·) (Eq.trans (Finset.sum_congr rfl fun y _ => ?_) (sum_pl d _)) (Finset.sum_congr rfl fun x _ => ?_)
  · rw [hd, BV_eq]
    refine congrArg₂ (· * ·) (congrArg₂ (· * ·) (Finset.sum_congr rfl fun x _ => ?_) rfl) rfl
    rw [rot_eq m c t d (BQ m c t d) 0 (by decide) (BQ_eq m c t d) h hn, rot_eq m c t d (BK m c t d) 768 (by decide) (BK_eq m c t d) h hn]
  · rw [rot_eq m c t d (BQ m c t d) 0 (by decide) (BQ_eq m c t d) h hn, hq, hr]

/-- What the carried buffers hold: the tables of the decays, and the states before chunk `k` of batch `b`. -/
structure Inv (c : Dev nD) (b : Fin 4) (k : ℕ) (r dec qd kd : Vec Ideal S12x128x128 .f32) (cd : Vec Ideal S12x8x128 .f32) : Prop where
  r : ∀ (d : Fin 2) (h : Fin 6) (i v : Fin 128), r (ix3 (chain d h) i v) = RR (AX m c) (DL m c) d b h k i v
  dec : ∀ (d : Fin 2) (h : Fin 6) (i v : Fin 128), dec (ix3 (chain d h) i v) = decR (lgR (DL m c) d h) (pl d i) (pl d v)
  qd : ∀ (d : Fin 2) (h : Fin 6) (i v : Fin 128), qd (ix3 (chain d h) i v) = Ideal.exp (lgR (DL m c) d h * (fi (pl d i) + 1))
  kd : ∀ (d : Fin 2) (h : Fin 6) (i v : Fin 128), kd (ix3 (chain d h) i v) = Ideal.exp (lgR (DL m c) d h * (Ideal.ofBits FTy.f32 1123942400#32 - fi (pl d i)))
  cd : ∀ (d : Fin 2) (h : Fin 6) (v : Fin 128), cd (ix3 (chain d h) 0 v) = Ideal.exp (lgR (DL m c) d h * Ideal.ofBits FTy.f32 1124073472#32)

/-- The buffers a batch begins with. -/
theorem inv0 (c : Dev nD) (t : Fin cfg0.N) (b : Fin 4) :
    Inv m c b 0 (fun _ => (0 : EReal)) (decK (BD m c t)) (qdK (BD m c t)) (kdK (BD m c t)) (cdK (BD m c t)) where
  r _ _ _ _ := rfl
  dec d h i v := by rw [decK_apply _ (chain d h) d h rfl, decC_eq, lg_eq]
  qd d h i v := by rw [qdK_apply _ (chain d h) d h rfl, qdC_eq, lg_eq]
  kd d h i v := by rw [kdK_apply _ (chain d h) d h rfl, kdC_eq, lg_eq]
  cd d h v := by rw [cdK_apply _ (chain d h) d h rfl, lg_eq]; rfl

/-- A point's states. -/
theorem step (c : Dev nD) (t : Fin cfg0.N) (r dec qd kd : Vec Ideal S12x128x128 .f32) (cd : Vec Ideal S12x8x128 .f32)
    (H : Inv m c (bt t) (st t).val r dec qd kd cd) :
    Inv m c (bt t) ((st t).val + 1) (rK (BK m c t) (BV m c t) (BC m c t) (BS m c t) r kd cd) dec qd kd cd where
  r d h i v := by
    rw [rK_apply _ _ _ _ _ _ _ (chain d h) d h rfl (h.val * 128) rfl (BK m c t d) (BV m c t d) (BC m c t d) (BS m c t d) rfl rfl rfl rfl,
      RR_succ _ _ d (bt t) h (st t) (st t).val _ rfl rfl]
    exact rC_eq m c t d h _ _ _ _ _ (H.r d h) (H.kd d h) (H.cd d h) i v
  dec := H.dec
  qd := H.qd
  kd := H.kd
  cd := H.cd

/-- A point's outputs in one direction, from the blocks of that direction. -/
theorem outs (c : Dev nD) (t : Fin cfg0.N) (r dec qd kd : Vec Ideal S12x128x128 .f32) (cd : Vec Ideal S12x8x128 .f32)
    (H : Inv m c (bt t) (st t).val r dec qd kd cd) (d : Fin 2) (i : Fin 128) (k : Fin 768) :
    oK (BQ m c t d) (BK m c t d) (BV m c t d) (BC m c t d) (BS m c t d) r dec qd d (ix2 i k) =
      oS (AX m c) (DL m c) (st t) d (bt t) ⟨k.val / 128, by omega⟩ (RR (AX m c) (DL m c) d (bt t) ⟨k.val / 128, by omega⟩ (st t).val) (pl d i) ⟨k.val % 128, by omega⟩ := by
  have e := oK_apply (BQ m c t d) (BK m c t d) (BV m c t d) (BC m c t d) (BS m c t d) r dec qd d ⟨k.val / 128, by omega⟩ (chain d ⟨k.val / 128, by omega⟩) rfl (k.val / 128 * 128) rfl i
    ⟨k.val % 128, by omega⟩ k.val k.isLt (by show k.val = k.val / 128 * 128 + k.val % 128; omega)
  refine e.trans ?_
  exact oC_eq m c t d ⟨k.val / 128, by omega⟩ _ _ _ _ _ (H.r d _) (H.dec d _) (H.qd d _) i _

end Cert.RetIdeal.Hand

end
-- ==== Proof.RetStepA.lean ====
module

public import proofs.«01_k».proof.Defs
public import proofs.«01_k».proof.Proof.Gen.RetIdeal.Value
public import proofs.«01_k».proof.Proof.RetBody
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

set_option maxHeartbeats 4000000 in
/-- The carried states after a batch's first chunk. -/
theorem rA (c : Dev nD) (t : Fin cfg0.N) (h0 : t.val % 18 = 0) : (outsAt0 m c t.val t.isLt).2.2.1 =
    rK (BK m c t) (BV m c t) (BC m c t) (BS m c t) (fun _ => (0 : EReal)) (kdK (BD m c t)) (cdK (BD m c t)) := by
  rw [outsAt0_A m c t h0]
  dsimp only
  frame_out
  try simp only [read_unread_whole]
  refine canon_eq_over (S := S12x128x128) (e := .f32) _ [_] [_, _, _, _, _, _, _, _, _, _, _, _] ?_ (fun y => View.cover_of_tiledL (s := S12x128x128) _ S1x128x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![11, 0, 0] ![1, 128, 128] inb_S12x128x128_S1x128x128_11_0_0).emb (ix3 x0 x1 x2) = ix3 11 x1 x2 := by
      blk_ext
    refine Eq.trans ?_ (congrArg _ e).symm
    refine Eq.trans ?_ (rK_apply _ _ _ _ _ _ _ 11 1 5 rfl 640 rfl (X0_7 m c t) (X0_8 m c t) (iblk m c 9 t) (iblk m c 10 t) rfl rfl rfl rfl x1 x2).symm
    simp only [kdK_apply _ 11 1 5 rfl, cdK_apply _ 11 1 5 rfl, posK_1, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![10, 0, 0] ![1, 128, 128] inb_S12x128x128_S1x128x128_10_0_0).emb (ix3 x0 x1 x2) = ix3 10 x1 x2 := by
      blk_ext
    refine Eq.trans ?_ (congrArg _ e).symm
    refine Eq.trans ?_ (rK_apply _ _ _ _ _ _ _ 10 1 4 rfl 512 rfl (X0_7 m c t) (X0_8 m c t) (iblk m c 9 t) (iblk m c 10 t) rfl rfl rfl rfl x1 x2).symm
    simp only [kdK_apply _ 10 1 4 rfl, cdK_apply _ 10 1 4 rfl, posK_1, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![9, 0, 0] ![1, 128, 128] inb_S12x128x128_S1x128x128_9_0_0).emb (ix3 x0 x1 x2) = ix3 9 x1 x2 := by
      blk_ext
    refine Eq.trans ?_ (congrArg _ e).symm
    refine Eq.trans ?_ (rK_apply _ _ _ _ _ _ _ 9 1 3 rfl 384 rfl (X0_7 m c t) (X0_8 m c t) (iblk m c 9 t) (iblk m c 10 t) rfl rfl rfl rfl x1 x2).symm
    simp only [kdK_apply _ 9 1 3 rfl, cdK_apply _ 9 1 3 rfl, posK_1, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![8, 0, 0] ![1, 128, 128] inb_S12x128x128_S1x128x128_8_0_0).emb (ix3 x0 x1 x2) = ix3 8 x1 x2 := by
      blk_ext
    refine Eq.trans ?_ (congrArg _ e).symm
    refine Eq.trans ?_ (rK_apply _ _ _ _ _ _ _ 8 1 2 rfl 256 rfl (X0_7 m c t) (X0_8 m c t) (iblk m c 9 t) (iblk m c 10 t) rfl rfl rfl rfl x1 x2).symm
    simp only [kdK_apply _ 8 1 2 rfl, cdK_apply _ 8 1 2 rfl, posK_1, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![7, 0, 0] ![1, 128, 128] inb_S12x128x128_S1x128x128_7_0_0).emb (ix3 x0 x1 x2) = ix3 7 x1 x2 := by
      blk_ext
    refine Eq.trans ?_ (congrArg _ e).symm
    refine Eq.trans ?_ (rK_apply _ _ _ _ _ _ _ 7 1 1 rfl 128 rfl (X0_7 m c t) (X0_8 m c t) (iblk m c 9 t) (iblk m c 10 t) rfl rfl rfl rfl x1 x2).symm
    simp only [kdK_apply _ 7 1 1 rfl, cdK_apply _ 7 1 1 rfl, posK_1, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![6, 0, 0] ![1, 128, 128] inb_S12x128x128_S1x128x128_6_0_0).emb (ix3 x0 x1 x2) = ix3 6 x1 x2 := by
      blk_ext
    refine Eq.trans ?_ (congrArg _ e).symm
    refine Eq.trans ?_ (rK_apply _ _ _ _ _ _ _ 6 1 0 rfl 0 rfl (X0_7 m c t) (X0_8 m c t) (iblk m c 9 t) (iblk m c 10 t) rfl rfl rfl rfl x1 x2).symm
    simp only [kdK_apply _ 6 1 0 rfl, cdK_apply _ 6 1 0 rfl, posK_1, kdC, cdC, lgK]
    unfold rC rotK
    beta_reduce
    simp only [Nat.zero_add]
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![5, 0, 0] ![1, 128, 128] inb_S12x128x128_S1x128x128_5_0_0).emb (ix3 x0 x1 x2) = ix3 5 x1 x2 := by
      blk_ext
    refine Eq.trans ?_ (congrArg _ e).symm
    refine Eq.trans ?_ (rK_apply _ _ _ _ _ _ _ 5 0 5 rfl 640 rfl (X0_2 m c t) (X0_3 m c t) (iblk m c 4 t) (iblk m c 5 t) rfl rfl rfl rfl x1 x2).symm
    simp only [kdK_apply _ 5 0 5 rfl, cdK_apply _ 5 0 5 rfl, posK_0, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![4, 0, 0] ![1, 128, 128] inb_S12x128x128_S1x128x128_4_0_0).emb (ix3 x0 x1 x2) = ix3 4 x1 x2 := by
      blk_ext
    refine Eq.trans ?_ (congrArg _ e).symm
    refine Eq.trans ?_ (rK_apply _ _ _ _ _ _ _ 4 0 4 rfl 512 rfl (X0_2 m c t) (X0_3 m c t) (iblk m c 4 t) (iblk m c 5 t) rfl rfl rfl rfl x1 x2).symm
    simp only [kdK_apply _ 4 0 4 rfl, cdK_apply _ 4 0 4 rfl, posK_0, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![3, 0, 0] ![1, 128, 128] inb_S12x128x128_S1x128x128_3_0_0).emb (ix3 x0 x1 x2) = ix3 3 x1 x2 := by
      blk_ext
    refine Eq.trans ?_ (congrArg _ e).symm
    refine Eq.trans ?_ (rK_apply _ _ _ _ _ _ _ 3 0 3 rfl 384 rfl (X0_2 m c t) (X0_3 m c t) (iblk m c 4 t) (iblk m c 5 t) rfl rfl rfl rfl x1 x2).symm
    simp only [kdK_apply _ 3 0 3 rfl, cdK_apply _ 3 0 3 rfl, posK_0, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![2, 0, 0] ![1, 128, 128] inb_S12x128x128_S1x128x128_2_0_0).emb (ix3 x0 x1 x2) = ix3 2 x1 x2 := by
      blk_ext
    refine Eq.trans ?_ (congrArg _ e).symm
    refine Eq.trans ?_ (rK_apply _ _ _ _ _ _ _ 2 0 2 rfl 256 rfl (X0_2 m c t) (X0_3 m c t) (iblk m c 4 t) (iblk m c 5 t) rfl rfl rfl rfl x1 x2).symm
    simp only [kdK_apply _ 2 0 2 rfl, cdK_apply _ 2 0 2 rfl, posK_0, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![1, 0, 0] ![1, 128, 128] inb_S12x128x128_S1x128x128_1_0_0).emb (ix3 x0 x1 x2) = ix3 1 x1 x2 := by
      blk_ext
    refine Eq.trans ?_ (congrArg _ e).symm
    refine Eq.trans ?_ (rK_apply _ _ _ _ _ _ _ 1 0 1 rfl 128 rfl (X0_2 m c t) (X0_3 m c t) (iblk m c 4 t) (iblk m c 5 t) rfl rfl rfl rfl x1 x2).symm
    simp only [kdK_apply _ 1 0 1 rfl, cdK_apply _ 1 0 1 rfl, posK_0, kdC, cdC, lgK]
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 0, 0] ![1, 128, 128] inb_S12x128x128_S1x128x128_0_0_0).emb (ix3 x0 x1 x2) = ix3 0 x1 x2 := by
      blk_ext
    refine Eq.trans ?_ (congrArg _ e).symm
    refine Eq.trans ?_ (rK_apply _ _ _ _ _ _ _ 0 0 0 rfl 0 rfl (X0_2 m c t) (X0_3 m c t) (iblk m c 4 t) (iblk m c 5 t) rfl rfl rfl rfl x1 x2).symm
    simp only [kdK_apply _ 0 0 0 rfl, cdK_apply _ 0 0 0 rfl, posK_0, kdC, cdC, lgK]
    unfold rC rotK
    beta_reduce
    simp only [Nat.zero_add]

set_option maxHeartbeats 4000000 in
/-- The forward outputs of a batch's first chunk. -/
theorem o0A (c : Dev nD) (t : Fin cfg0.N) (h0 : t.val % 18 = 0) : (outsAt0 m c t.val t.isLt).1 =
    oK (X0_1 m c t) (X0_2 m c t) (X0_3 m c t) (iblk m c 4 t) (iblk m c 5 t) (fun _ => (0 : EReal)) (decK (BD m c t)) (qdK (BD m c t)) 0 := by
  rw [outsAt0_A m c t h0]
  dsimp only
  frame_out
  try simp only [read_unread_whole]
  refine canon_eq (S := S128x768) (e := .f32) _ _ ?_ (fun y => View.cover_of_tiledL (s := S128x768) _ S128x128.size (by sl_kernel_rfl) y)
  refine ⟨?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 640] ![128, 128] inb_S128x768_S128x128_0_640).emb (ix2 x0 x1) = ix2 x0 ⟨640 + x1.val, by omega⟩ := by
      blk_ext
    refine Eq.trans ?_ (congrArg _ e).symm
    refine Eq.trans ?_ (oK_apply _ _ _ _ _ _ _ _ 0 5 5 rfl 640 rfl x0 x1 _ _ rfl).symm
    simp only [decK_apply _ 5 0 5 rfl, qdK_apply _ 5 0 5 rfl, posK_0, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 512] ![128, 128] inb_S128x768_S128x128_0_512).emb (ix2 x0 x1) = ix2 x0 ⟨512 + x1.val, by omega⟩ := by
      blk_ext
    refine Eq.trans ?_ (congrArg _ e).symm
    refine Eq.trans ?_ (oK_apply _ _ _ _ _ _ _ _ 0 4 4 rfl 512 rfl x0 x1 _ _ rfl).symm
    simp only [decK_apply _ 4 0 4 rfl, qdK_apply _ 4 0 4 rfl, posK_0, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 384] ![128, 128] inb_S128x768_S128x128_0_384).emb (ix2 x0 x1) = ix2 x0 ⟨384 + x1.val, by omega⟩ := by
      blk_ext
    refine Eq.trans ?_ (congrArg _ e).symm
    refine Eq.trans ?_ (oK_apply _ _ _ _ _ _ _ _ 0 3 3 rfl 384 rfl x0 x1 _ _ rfl).symm
    simp only [decK_apply _ 3 0 3 rfl, qdK_apply _ 3 0 3 rfl, posK_0, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 256] ![128, 128] inb_S128x768_S128x128_0_256).emb (ix2 x0 x1) = ix2 x0 ⟨256 + x1.val, by omega⟩ := by
      blk_ext
    refine Eq.trans ?_ (congrArg _ e).symm
    refine Eq.trans ?_ (oK_apply _ _ _ _ _ _ _ _ 0 2 2 rfl 256 rfl x0 x1 _ _ rfl).symm
    simp only [decK_apply _ 2 0 2 rfl, qdK_apply _ 2 0 2 rfl, posK_0, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 128] ![128, 128] inb_S128x768_S128x128_0_128).emb (ix2 x0 x1) = ix2 x0 ⟨128 + x1.val, by omega⟩ := by
      blk_ext
    refine Eq.trans ?_ (congrArg _ e).symm
    refine Eq.trans ?_ (oK_apply _ _ _ _ _ _ _ _ 0 1 1 rfl 128 rfl x0 x1 _ _ rfl).symm
    simp only [decK_apply _ 1 0 1 rfl, qdK_apply _ 1 0 1 rfl, posK_0, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 0] ![128, 128] inb_S128x768_S128x128_0_0).emb (ix2 x0 x1) = ix2 x0 ⟨0 + x1.val, by omega⟩ := by
      blk_ext
    refine Eq.trans ?_ (congrArg _ e).symm
    refine Eq.trans ?_ (oK_apply _ _ _ _ _ _ _ _ 0 0 0 rfl 0 rfl x0 x1 _ _ rfl).symm
    simp only [decK_apply _ 0 0 0 rfl, qdK_apply _ 0 0 0 rfl, posK_0, decC, qdC, lgK]
    unfold oC rotK
    beta_reduce
    simp only [Nat.zero_add]
    refine congrArg₂ _ (Finset.sum_congr rfl fun y _ => congrArg₂ _ (congrArg₂ _ ?_ (if_congr Iff.rfl ?_ ?_)) ?_) ?_ <;> with_reducible rfl

set_option maxHeartbeats 4000000 in
/-- The backward outputs of a batch's first chunk. -/
theorem o1A (c : Dev nD) (t : Fin cfg0.N) (h0 : t.val % 18 = 0) : (outsAt0 m c t.val t.isLt).2.1 =
    oK (X0_6 m c t) (X0_7 m c t) (X0_8 m c t) (iblk m c 9 t) (iblk m c 10 t) (fun _ => (0 : EReal)) (decK (BD m c t)) (qdK (BD m c t)) 1 := by
  rw [outsAt0_A m c t h0]
  dsimp only
  frame_out
  try simp only [read_unread_whole]
  refine canon_eq (S := S128x768) (e := .f32) _ _ ?_ (fun y => View.cover_of_tiledL (s := S128x768) _ S128x128.size (by sl_kernel_rfl) y)
  refine ⟨?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 640] ![128, 128] inb_S128x768_S128x128_0_640).emb (ix2 x0 x1) = ix2 x0 ⟨640 + x1.val, by omega⟩ := by
      blk_ext
    refine Eq.trans ?_ (congrArg _ e).symm
    refine Eq.trans ?_ (oK_apply _ _ _ _ _ _ _ _ 1 5 11 rfl 640 rfl x0 x1 _ _ rfl).symm
    simp only [decK_apply _ 11 1 5 rfl, qdK_apply _ 11 1 5 rfl, posK_1, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 512] ![128, 128] inb_S128x768_S128x128_0_512).emb (ix2 x0 x1) = ix2 x0 ⟨512 + x1.val, by omega⟩ := by
      blk_ext
    refine Eq.trans ?_ (congrArg _ e).symm
    refine Eq.trans ?_ (oK_apply _ _ _ _ _ _ _ _ 1 4 10 rfl 512 rfl x0 x1 _ _ rfl).symm
    simp only [decK_apply _ 10 1 4 rfl, qdK_apply _ 10 1 4 rfl, posK_1, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 384] ![128, 128] inb_S128x768_S128x128_0_384).emb (ix2 x0 x1) = ix2 x0 ⟨384 + x1.val, by omega⟩ := by
      blk_ext
    refine Eq.trans ?_ (congrArg _ e).symm
    refine Eq.trans ?_ (oK_apply _ _ _ _ _ _ _ _ 1 3 9 rfl 384 rfl x0 x1 _ _ rfl).symm
    simp only [decK_apply _ 9 1 3 rfl, qdK_apply _ 9 1 3 rfl, posK_1, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 256] ![128, 128] inb_S128x768_S128x128_0_256).emb (ix2 x0 x1) = ix2 x0 ⟨256 + x1.val, by omega⟩ := by
      blk_ext
    refine Eq.trans ?_ (congrArg _ e).symm
    refine Eq.trans ?_ (oK_apply _ _ _ _ _ _ _ _ 1 2 8 rfl 256 rfl x0 x1 _ _ rfl).symm
    simp only [decK_apply _ 8 1 2 rfl, qdK_apply _ 8 1 2 rfl, posK_1, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 128] ![128, 128] inb_S128x768_S128x128_0_128).emb (ix2 x0 x1) = ix2 x0 ⟨128 + x1.val, by omega⟩ := by
      blk_ext
    refine Eq.trans ?_ (congrArg _ e).symm
    refine Eq.trans ?_ (oK_apply _ _ _ _ _ _ _ _ 1 1 7 rfl 128 rfl x0 x1 _ _ rfl).symm
    simp only [decK_apply _ 7 1 1 rfl, qdK_apply _ 7 1 1 rfl, posK_1, decC, qdC, lgK]
    unfold oC rotK
    beta_reduce
    refine congrArg₂ _ (Finset.sum_congr rfl fun y _ => congrArg₂ _ (congrArg₂ _ ?_ (if_congr Iff.rfl ?_ ?_)) ?_) ?_ <;> with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    simp (disch := decide) only [↓ View.readCov_skip, ↓ View.readCov_cons_toLoadRect, ↓ View.readCov_fill]
    pointwise
    have e : (Rect.unit ![0, 0] ![128, 128] inb_S128x768_S128x128_0_0).emb (ix2 x0 x1) = ix2 x0 ⟨0 + x1.val, by omega⟩ := by
      blk_ext
    refine Eq.trans ?_ (congrArg _ e).symm
    refine Eq.trans ?_ (oK_apply _ _ _ _ _ _ _ _ 1 0 6 rfl 0 rfl x0 x1 _ _ rfl).symm
    simp only [decK_apply _ 6 1 0 rfl, qdK_apply _ 6 1 0 rfl, posK_1, decC, qdC, lgK]
    unfold oC rotK
    beta_reduce
    simp only [Nat.zero_add]
    refine congrArg₂ _ (Finset.sum_congr rfl fun y _ => congrArg₂ _ (congrArg₂ _ ?_ (if_congr Iff.rfl ?_ ?_)) ?_) ?_ <;> with_reducible rfl

end Cert.RetIdeal.Hand

end
-- ==== Proof.RetStepB.lean ====
module

public import proofs.«01_k».proof.Defs
public import proofs.«01_k».proof.Proof.Gen.RetIdeal.Value
public import proofs.«01_k».proof.Proof.RetBody
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

set_option maxHeartbeats 4000000 in
/-- The carried states after a later chunk. -/
theorem rB (c : Dev nD) (t : Fin cfg0.N) (h0 : ¬ t.val % 18 = 0) : (outsAt0 m c t.val t.isLt).2.2.1 =
    rK (BK m c t) (BV m c t) (BC m c t) (BS m c t) (prev m c t).2.2.1 (prev m c t).2.2.2.2.2.1 (prev m c t).2.2.2.2.2.2 := by
  rw [outsAt0_B m c t h0]
  dsimp only
  frame_out
  try simp only [read_unread_whole]
  refine canon_eq (S := S12x128x128) (e := .f32) _ _ ?_ (fun y => View.cover_of_tiledL (s := S12x128x128) _ S1x128x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![11, 0, 0] ![1, 128, 128] inb_S12x128x128_S1x128x128_11_0_0).emb (ix3 x0 x1 x2) = ix3 11 x1 x2 := by
      blk_ext
    refine Eq.trans ?_ (congrArg _ e).symm
    refine Eq.trans ?_ (rK_apply _ _ _ _ _ _ _ 11 1 5 rfl 640 rfl (X0_7 m c t) (X0_8 m c t) (iblk m c 9 t) (iblk m c 10 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![10, 0, 0] ![1, 128, 128] inb_S12x128x128_S1x128x128_10_0_0).emb (ix3 x0 x1 x2) = ix3 10 x1 x2 := by
      blk_ext
    refine Eq.trans ?_ (congrArg _ e).symm
    refine Eq.trans ?_ (rK_apply _ _ _ _ _ _ _ 10 1 4 rfl 512 rfl (X0_7 m c t) (X0_8 m c t) (iblk m c 9 t) (iblk m c 10 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![9, 0, 0] ![1, 128, 128] inb_S12x128x128_S1x128x128_9_0_0).emb (ix3 x0 x1 x2) = ix3 9 x1 x2 := by
      blk_ext
    refine Eq.trans ?_ (congrArg _ e).symm
    refine Eq.trans ?_ (rK_apply _ _ _ _ _ _ _ 9 1 3 rfl 384 rfl (X0_7 m c t) (X0_8 m c t) (iblk m c 9 t) (iblk m c 10 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![8, 0, 0] ![1, 128, 128] inb_S12x128x128_S1x128x128_8_0_0).emb (ix3 x0 x1 x2) = ix3 8 x1 x2 := by
      blk_ext
    refine Eq.trans ?_ (congrArg _ e).symm
    refine Eq.trans ?_ (rK_apply _ _ _ _ _ _ _ 8 1 2 rfl 256 rfl (X0_7 m c t) (X0_8 m c t) (iblk m c 9 t) (iblk m c 10 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![7, 0, 0] ![1, 128, 128] inb_S12x128x128_S1x128x128_7_0_0).emb (ix3 x0 x1 x2) = ix3 7 x1 x2 := by
      blk_ext
    refine Eq.trans ?_ (congrArg _ e).symm
    refine Eq.trans ?_ (rK_apply _ _ _ _ _ _ _ 7 1 1 rfl 128 rfl (X0_7 m c t) (X0_8 m c t) (iblk m c 9 t) (iblk m c 10 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![6, 0, 0] ![1, 128, 128] inb_S12x128x128_S1x128x128_6_0_0).emb (ix3 x0 x1 x2) = ix3 6 x1 x2 := by
      blk_ext
    refine Eq.trans ?_ (congrArg _ e).symm
    refine Eq.trans ?_ (rK_apply _ _ _ _ _ _ _ 6 1 0 rfl 0 rfl (X0_7 m c t) (X0_8 m c t) (iblk m c 9 t) (iblk m c 10 t) rfl rfl rfl rfl x1 x2).symm
    unfold rC rotK
    beta_reduce
    simp only [Nat.zero_add]
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![5, 0, 0] ![1, 128, 128] inb_S12x128x128_S1x128x128_5_0_0).emb (ix3 x0 x1 x2) = ix3 5 x1 x2 := by
      blk_ext
    refine Eq.trans ?_ (congrArg _ e).symm
    refine Eq.trans ?_ (rK_apply _ _ _ _ _ _ _ 5 0 5 rfl 640 rfl (X0_2 m c t) (X0_3 m c t) (iblk m c 4 t) (iblk m c 5 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![4, 0, 0] ![1, 128, 128] inb_S12x128x128_S1x128x128_4_0_0).emb (ix3 x0 x1 x2) = ix3 4 x1 x2 := by
      blk_ext
    refine Eq.trans ?_ (congrArg _ e).symm
    refine Eq.trans ?_ (rK_apply _ _ _ _ _ _ _ 4 0 4 rfl 512 rfl (X0_2 m c t) (X0_3 m c t) (iblk m c 4 t) (iblk m c 5 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![3, 0, 0] ![1, 128, 128] inb_S12x128x128_S1x128x128_3_0_0).emb (ix3 x0 x1 x2) = ix3 3 x1 x2 := by
      blk_ext
    refine Eq.trans ?_ (congrArg _ e).symm
    refine Eq.trans ?_ (rK_apply _ _ _ _ _ _ _ 3 0 3 rfl 384 rfl (X0_2 m c t) (X0_3 m c t) (iblk m c 4 t) (iblk m c 5 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![2, 0, 0] ![1, 128, 128] inb_S12x128x128_S1x128x128_2_0_0).emb (ix3 x0 x1 x2) = ix3 2 x1 x2 := by
      blk_ext
    refine Eq.trans ?_ (congrArg _ e).symm
    refine Eq.trans ?_ (rK_apply _ _ _ _ _ _ _ 2 0 2 rfl 256 rfl (X0_2 m c t) (X0_3 m c t) (iblk m c 4 t) (iblk m c 5 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![1, 0, 0] ![1, 128, 128] inb_S12x128x128_S1x128x128_1_0_0).emb (ix3 x0 x1 x2) = ix3 1 x1 x2 := by
      blk_ext
    refine Eq.trans ?_ (congrArg _ e).symm
    refine Eq.trans ?_ (rK_apply _ _ _ _ _ _ _ 1 0 1 rfl 128 rfl (X0_2 m c t) (X0_3 m c t) (iblk m c 4 t) (iblk m c 5 t) rfl rfl rfl rfl x1 x2).symm
    unfold rC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0, 0] ![1, 128, 128] inb_S12x128x128_S1x128x128_0_0_0).emb (ix3 x0 x1 x2) = ix3 0 x1 x2 := by
      blk_ext
    refine Eq.trans ?_ (congrArg _ e).symm
    refine Eq.trans ?_ (rK_apply _ _ _ _ _ _ _ 0 0 0 rfl 0 rfl (X0_2 m c t) (X0_3 m c t) (iblk m c 4 t) (iblk m c 5 t) rfl rfl rfl rfl x1 x2).symm
    unfold rC rotK
    beta_reduce
    simp only [Nat.zero_add]

set_option maxHeartbeats 4000000 in
/-- The forward outputs of a later chunk. -/
theorem o0B (c : Dev nD) (t : Fin cfg0.N) (h0 : ¬ t.val % 18 = 0) : (outsAt0 m c t.val t.isLt).1 =
    oK (X0_1 m c t) (X0_2 m c t) (X0_3 m c t) (iblk m c 4 t) (iblk m c 5 t) (prev m c t).2.2.1 (prev m c t).2.2.2.1 (prev m c t).2.2.2.2.1 0 := by
  rw [outsAt0_B m c t h0]
  dsimp only
  frame_out
  try simp only [read_unread_whole]
  refine canon_eq (S := S128x768) (e := .f32) _ _ ?_ (fun y => View.cover_of_tiledL (s := S128x768) _ S128x128.size (by sl_kernel_rfl) y)
  refine ⟨?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 640] ![128, 128] inb_S128x768_S128x128_0_640).emb (ix2 x0 x1) = ix2 x0 ⟨640 + x1.val, by omega⟩ := by
      blk_ext
    refine Eq.trans ?_ (congrArg _ e).symm
    refine Eq.trans ?_ (oK_apply _ _ _ _ _ _ _ _ 0 5 5 rfl 640 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 512] ![128, 128] inb_S128x768_S128x128_0_512).emb (ix2 x0 x1) = ix2 x0 ⟨512 + x1.val, by omega⟩ := by
      blk_ext
    refine Eq.trans ?_ (congrArg _ e).symm
    refine Eq.trans ?_ (oK_apply _ _ _ _ _ _ _ _ 0 4 4 rfl 512 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 384] ![128, 128] inb_S128x768_S128x128_0_384).emb (ix2 x0 x1) = ix2 x0 ⟨384 + x1.val, by omega⟩ := by
      blk_ext
    refine Eq.trans ?_ (congrArg _ e).symm
    refine Eq.trans ?_ (oK_apply _ _ _ _ _ _ _ _ 0 3 3 rfl 384 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 256] ![128, 128] inb_S128x768_S128x128_0_256).emb (ix2 x0 x1) = ix2 x0 ⟨256 + x1.val, by omega⟩ := by
      blk_ext
    refine Eq.trans ?_ (congrArg _ e).symm
    refine Eq.trans ?_ (oK_apply _ _ _ _ _ _ _ _ 0 2 2 rfl 256 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 128] ![128, 128] inb_S128x768_S128x128_0_128).emb (ix2 x0 x1) = ix2 x0 ⟨128 + x1.val, by omega⟩ := by
      blk_ext
    refine Eq.trans ?_ (congrArg _ e).symm
    refine Eq.trans ?_ (oK_apply _ _ _ _ _ _ _ _ 0 1 1 rfl 128 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0] ![128, 128] inb_S128x768_S128x128_0_0).emb (ix2 x0 x1) = ix2 x0 ⟨0 + x1.val, by omega⟩ := by
      blk_ext
    refine Eq.trans ?_ (congrArg _ e).symm
    refine Eq.trans ?_ (oK_apply _ _ _ _ _ _ _ _ 0 0 0 rfl 0 rfl x0 x1 _ _ rfl).symm
    unfold oC rotK
    beta_reduce
    simp only [Nat.zero_add]

set_option maxHeartbeats 4000000 in
/-- The backward outputs of a later chunk. -/
theorem o1B (c : Dev nD) (t : Fin cfg0.N) (h0 : ¬ t.val % 18 = 0) : (outsAt0 m c t.val t.isLt).2.1 =
    oK (X0_6 m c t) (X0_7 m c t) (X0_8 m c t) (iblk m c 9 t) (iblk m c 10 t) (prev m c t).2.2.1 (prev m c t).2.2.2.1 (prev m c t).2.2.2.2.1 1 := by
  rw [outsAt0_B m c t h0]
  dsimp only
  frame_out
  try simp only [read_unread_whole]
  refine canon_eq (S := S128x768) (e := .f32) _ _ ?_ (fun y => View.cover_of_tiledL (s := S128x768) _ S128x128.size (by sl_kernel_rfl) y)
  refine ⟨?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 640] ![128, 128] inb_S128x768_S128x128_0_640).emb (ix2 x0 x1) = ix2 x0 ⟨640 + x1.val, by omega⟩ := by
      blk_ext
    refine Eq.trans ?_ (congrArg _ e).symm
    refine Eq.trans ?_ (oK_apply _ _ _ _ _ _ _ _ 1 5 11 rfl 640 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 512] ![128, 128] inb_S128x768_S128x128_0_512).emb (ix2 x0 x1) = ix2 x0 ⟨512 + x1.val, by omega⟩ := by
      blk_ext
    refine Eq.trans ?_ (congrArg _ e).symm
    refine Eq.trans ?_ (oK_apply _ _ _ _ _ _ _ _ 1 4 10 rfl 512 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 384] ![128, 128] inb_S128x768_S128x128_0_384).emb (ix2 x0 x1) = ix2 x0 ⟨384 + x1.val, by omega⟩ := by
      blk_ext
    refine Eq.trans ?_ (congrArg _ e).symm
    refine Eq.trans ?_ (oK_apply _ _ _ _ _ _ _ _ 1 3 9 rfl 384 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 256] ![128, 128] inb_S128x768_S128x128_0_256).emb (ix2 x0 x1) = ix2 x0 ⟨256 + x1.val, by omega⟩ := by
      blk_ext
    refine Eq.trans ?_ (congrArg _ e).symm
    refine Eq.trans ?_ (oK_apply _ _ _ _ _ _ _ _ 1 2 8 rfl 256 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 128] ![128, 128] inb_S128x768_S128x128_0_128).emb (ix2 x0 x1) = ix2 x0 ⟨128 + x1.val, by omega⟩ := by
      blk_ext
    refine Eq.trans ?_ (congrArg _ e).symm
    refine Eq.trans ?_ (oK_apply _ _ _ _ _ _ _ _ 1 1 7 rfl 128 rfl x0 x1 _ _ rfl).symm
    unfold oC rotK
    beta_reduce
    with_reducible rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0] ![128, 128] inb_S128x768_S128x128_0_0).emb (ix2 x0 x1) = ix2 x0 ⟨0 + x1.val, by omega⟩ := by
      blk_ext
    refine Eq.trans ?_ (congrArg _ e).symm
    refine Eq.trans ?_ (oK_apply _ _ _ _ _ _ _ _ 1 0 6 rfl 0 rfl x0 x1 _ _ rfl).symm
    unfold oC rotK
    beta_reduce
    simp only [Nat.zero_add]

/-- The table filled at a batch's first chunk is kept by the later ones. -/
theorem decB (c : Dev nD) (t : Fin cfg0.N) (h0 : ¬ t.val % 18 = 0) : (outsAt0 m c t.val t.isLt).2.2.2.1 = (prev m c t).2.2.2.1 := by
  rw [outsAt0_B m c t h0]
  rfl

/-- The table filled at a batch's first chunk is kept by the later ones. -/
theorem qdB (c : Dev nD) (t : Fin cfg0.N) (h0 : ¬ t.val % 18 = 0) : (outsAt0 m c t.val t.isLt).2.2.2.2.1 = (prev m c t).2.2.2.2.1 := by
  rw [outsAt0_B m c t h0]
  rfl

/-- The table filled at a batch's first chunk is kept by the later ones. -/
theorem kdB (c : Dev nD) (t : Fin cfg0.N) (h0 : ¬ t.val % 18 = 0) : (outsAt0 m c t.val t.isLt).2.2.2.2.2.1 = (prev m c t).2.2.2.2.2.1 := by
  rw [outsAt0_B m c t h0]
  rfl

/-- The table filled at a batch's first chunk is kept by the later ones. -/
theorem cdB (c : Dev nD) (t : Fin cfg0.N) (h0 : ¬ t.val % 18 = 0) : (outsAt0 m c t.val t.isLt).2.2.2.2.2.2 = (prev m c t).2.2.2.2.2.2 := by
  rw [outsAt0_B m c t h0]
  rfl

end Cert.RetIdeal.Hand

end
-- ==== Proof.RetStepT.lean ====
module

public import proofs.«01_k».proof.Defs
public import proofs.«01_k».proof.Proof.Gen.RetIdeal.Value
public import proofs.«01_k».proof.Proof.RetBody
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

set_option maxHeartbeats 4000000 in
/-- The decays between rows, filled at a batch's first chunk. -/
theorem decA (c : Dev nD) (t : Fin cfg0.N) (h0 : t.val % 18 = 0) : (outsAt0 m c t.val t.isLt).2.2.2.1 =
    decK (BD m c t) := by
  rw [outsAt0_A m c t h0]
  dsimp only
  frame_out
  try simp only [read_unread_whole]
  refine canon_eq (S := S12x128x128) (e := .f32) _ _ ?_ (fun y => View.cover_of_tiledL (s := S12x128x128) _ S1x128x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![11, 0, 0] ![1, 128, 128] inb_S12x128x128_S1x128x128_11_0_0).emb (ix3 x0 x1 x2) = ix3 11 x1 x2 := by
      blk_ext
    refine Eq.trans ?_ (congrArg _ e).symm
    refine Eq.trans ?_ (decK_apply _ 11 1 5 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![10, 0, 0] ![1, 128, 128] inb_S12x128x128_S1x128x128_10_0_0).emb (ix3 x0 x1 x2) = ix3 10 x1 x2 := by
      blk_ext
    refine Eq.trans ?_ (congrArg _ e).symm
    refine Eq.trans ?_ (decK_apply _ 10 1 4 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![9, 0, 0] ![1, 128, 128] inb_S12x128x128_S1x128x128_9_0_0).emb (ix3 x0 x1 x2) = ix3 9 x1 x2 := by
      blk_ext
    refine Eq.trans ?_ (congrArg _ e).symm
    refine Eq.trans ?_ (decK_apply _ 9 1 3 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![8, 0, 0] ![1, 128, 128] inb_S12x128x128_S1x128x128_8_0_0).emb (ix3 x0 x1 x2) = ix3 8 x1 x2 := by
      blk_ext
    refine Eq.trans ?_ (congrArg _ e).symm
    refine Eq.trans ?_ (decK_apply _ 8 1 2 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![7, 0, 0] ![1, 128, 128] inb_S12x128x128_S1x128x128_7_0_0).emb (ix3 x0 x1 x2) = ix3 7 x1 x2 := by
      blk_ext
    refine Eq.trans ?_ (congrArg _ e).symm
    refine Eq.trans ?_ (decK_apply _ 7 1 1 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![6, 0, 0] ![1, 128, 128] inb_S12x128x128_S1x128x128_6_0_0).emb (ix3 x0 x1 x2) = ix3 6 x1 x2 := by
      blk_ext
    refine Eq.trans ?_ (congrArg _ e).symm
    refine Eq.trans ?_ (decK_apply _ 6 1 0 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![5, 0, 0] ![1, 128, 128] inb_S12x128x128_S1x128x128_5_0_0).emb (ix3 x0 x1 x2) = ix3 5 x1 x2 := by
      blk_ext
    refine Eq.trans ?_ (congrArg _ e).symm
    refine Eq.trans ?_ (decK_apply _ 5 0 5 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![4, 0, 0] ![1, 128, 128] inb_S12x128x128_S1x128x128_4_0_0).emb (ix3 x0 x1 x2) = ix3 4 x1 x2 := by
      blk_ext
    refine Eq.trans ?_ (congrArg _ e).symm
    refine Eq.trans ?_ (decK_apply _ 4 0 4 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![3, 0, 0] ![1, 128, 128] inb_S12x128x128_S1x128x128_3_0_0).emb (ix3 x0 x1 x2) = ix3 3 x1 x2 := by
      blk_ext
    refine Eq.trans ?_ (congrArg _ e).symm
    refine Eq.trans ?_ (decK_apply _ 3 0 3 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![2, 0, 0] ![1, 128, 128] inb_S12x128x128_S1x128x128_2_0_0).emb (ix3 x0 x1 x2) = ix3 2 x1 x2 := by
      blk_ext
    refine Eq.trans ?_ (congrArg _ e).symm
    refine Eq.trans ?_ (decK_apply _ 2 0 2 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![1, 0, 0] ![1, 128, 128] inb_S12x128x128_S1x128x128_1_0_0).emb (ix3 x0 x1 x2) = ix3 1 x1 x2 := by
      blk_ext
    refine Eq.trans ?_ (congrArg _ e).symm
    refine Eq.trans ?_ (decK_apply _ 1 0 1 rfl x1 x2).symm
    unfold decC lgK
    exact if_congr Iff.rfl rfl rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0, 0] ![1, 128, 128] inb_S12x128x128_S1x128x128_0_0_0).emb (ix3 x0 x1 x2) = ix3 0 x1 x2 := by
      blk_ext
    refine Eq.trans ?_ (congrArg _ e).symm
    refine Eq.trans ?_ (decK_apply _ 0 0 0 rfl x1 x2).symm
    unfold decC lgK
    exact if_congr Iff.rfl rfl rfl

set_option maxHeartbeats 4000000 in
/-- The decays from the chunk's start, filled at a batch's first chunk. -/
theorem qdA (c : Dev nD) (t : Fin cfg0.N) (h0 : t.val % 18 = 0) : (outsAt0 m c t.val t.isLt).2.2.2.2.1 =
    qdK (BD m c t) := by
  rw [outsAt0_A m c t h0]
  dsimp only
  frame_out
  try simp only [read_unread_whole]
  refine canon_eq (S := S12x128x128) (e := .f32) _ _ ?_ (fun y => View.cover_of_tiledL (s := S12x128x128) _ S1x128x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![11, 0, 0] ![1, 128, 128] inb_S12x128x128_S1x128x128_11_0_0).emb (ix3 x0 x1 x2) = ix3 11 x1 x2 := by
      blk_ext
    refine Eq.trans ?_ (congrArg _ e).symm
    refine Eq.trans ?_ (qdK_apply _ 11 1 5 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![10, 0, 0] ![1, 128, 128] inb_S12x128x128_S1x128x128_10_0_0).emb (ix3 x0 x1 x2) = ix3 10 x1 x2 := by
      blk_ext
    refine Eq.trans ?_ (congrArg _ e).symm
    refine Eq.trans ?_ (qdK_apply _ 10 1 4 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![9, 0, 0] ![1, 128, 128] inb_S12x128x128_S1x128x128_9_0_0).emb (ix3 x0 x1 x2) = ix3 9 x1 x2 := by
      blk_ext
    refine Eq.trans ?_ (congrArg _ e).symm
    refine Eq.trans ?_ (qdK_apply _ 9 1 3 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![8, 0, 0] ![1, 128, 128] inb_S12x128x128_S1x128x128_8_0_0).emb (ix3 x0 x1 x2) = ix3 8 x1 x2 := by
      blk_ext
    refine Eq.trans ?_ (congrArg _ e).symm
    refine Eq.trans ?_ (qdK_apply _ 8 1 2 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![7, 0, 0] ![1, 128, 128] inb_S12x128x128_S1x128x128_7_0_0).emb (ix3 x0 x1 x2) = ix3 7 x1 x2 := by
      blk_ext
    refine Eq.trans ?_ (congrArg _ e).symm
    refine Eq.trans ?_ (qdK_apply _ 7 1 1 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![6, 0, 0] ![1, 128, 128] inb_S12x128x128_S1x128x128_6_0_0).emb (ix3 x0 x1 x2) = ix3 6 x1 x2 := by
      blk_ext
    refine Eq.trans ?_ (congrArg _ e).symm
    refine Eq.trans ?_ (qdK_apply _ 6 1 0 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![5, 0, 0] ![1, 128, 128] inb_S12x128x128_S1x128x128_5_0_0).emb (ix3 x0 x1 x2) = ix3 5 x1 x2 := by
      blk_ext
    refine Eq.trans ?_ (congrArg _ e).symm
    refine Eq.trans ?_ (qdK_apply _ 5 0 5 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![4, 0, 0] ![1, 128, 128] inb_S12x128x128_S1x128x128_4_0_0).emb (ix3 x0 x1 x2) = ix3 4 x1 x2 := by
      blk_ext
    refine Eq.trans ?_ (congrArg _ e).symm
    refine Eq.trans ?_ (qdK_apply _ 4 0 4 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![3, 0, 0] ![1, 128, 128] inb_S12x128x128_S1x128x128_3_0_0).emb (ix3 x0 x1 x2) = ix3 3 x1 x2 := by
      blk_ext
    refine Eq.trans ?_ (congrArg _ e).symm
    refine Eq.trans ?_ (qdK_apply _ 3 0 3 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![2, 0, 0] ![1, 128, 128] inb_S12x128x128_S1x128x128_2_0_0).emb (ix3 x0 x1 x2) = ix3 2 x1 x2 := by
      blk_ext
    refine Eq.trans ?_ (congrArg _ e).symm
    refine Eq.trans ?_ (qdK_apply _ 2 0 2 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![1, 0, 0] ![1, 128, 128] inb_S12x128x128_S1x128x128_1_0_0).emb (ix3 x0 x1 x2) = ix3 1 x1 x2 := by
      blk_ext
    refine Eq.trans ?_ (congrArg _ e).symm
    refine Eq.trans ?_ (qdK_apply _ 1 0 1 rfl x1 x2).symm
    unfold qdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0, 0] ![1, 128, 128] inb_S12x128x128_S1x128x128_0_0_0).emb (ix3 x0 x1 x2) = ix3 0 x1 x2 := by
      blk_ext
    refine Eq.trans ?_ (congrArg _ e).symm
    refine Eq.trans ?_ (qdK_apply _ 0 0 0 rfl x1 x2).symm
    unfold qdC lgK
    rfl

set_option maxHeartbeats 4000000 in
/-- The decays to the chunk's end, filled at a batch's first chunk. -/
theorem kdA (c : Dev nD) (t : Fin cfg0.N) (h0 : t.val % 18 = 0) : (outsAt0 m c t.val t.isLt).2.2.2.2.2.1 =
    kdK (BD m c t) := by
  rw [outsAt0_A m c t h0]
  dsimp only
  frame_out
  try simp only [read_unread_whole]
  refine canon_eq (S := S12x128x128) (e := .f32) _ _ ?_ (fun y => View.cover_of_tiledL (s := S12x128x128) _ S1x128x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![11, 0, 0] ![1, 128, 128] inb_S12x128x128_S1x128x128_11_0_0).emb (ix3 x0 x1 x2) = ix3 11 x1 x2 := by
      blk_ext
    refine Eq.trans ?_ (congrArg _ e).symm
    refine Eq.trans ?_ (kdK_apply _ 11 1 5 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![10, 0, 0] ![1, 128, 128] inb_S12x128x128_S1x128x128_10_0_0).emb (ix3 x0 x1 x2) = ix3 10 x1 x2 := by
      blk_ext
    refine Eq.trans ?_ (congrArg _ e).symm
    refine Eq.trans ?_ (kdK_apply _ 10 1 4 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![9, 0, 0] ![1, 128, 128] inb_S12x128x128_S1x128x128_9_0_0).emb (ix3 x0 x1 x2) = ix3 9 x1 x2 := by
      blk_ext
    refine Eq.trans ?_ (congrArg _ e).symm
    refine Eq.trans ?_ (kdK_apply _ 9 1 3 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![8, 0, 0] ![1, 128, 128] inb_S12x128x128_S1x128x128_8_0_0).emb (ix3 x0 x1 x2) = ix3 8 x1 x2 := by
      blk_ext
    refine Eq.trans ?_ (congrArg _ e).symm
    refine Eq.trans ?_ (kdK_apply _ 8 1 2 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![7, 0, 0] ![1, 128, 128] inb_S12x128x128_S1x128x128_7_0_0).emb (ix3 x0 x1 x2) = ix3 7 x1 x2 := by
      blk_ext
    refine Eq.trans ?_ (congrArg _ e).symm
    refine Eq.trans ?_ (kdK_apply _ 7 1 1 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![6, 0, 0] ![1, 128, 128] inb_S12x128x128_S1x128x128_6_0_0).emb (ix3 x0 x1 x2) = ix3 6 x1 x2 := by
      blk_ext
    refine Eq.trans ?_ (congrArg _ e).symm
    refine Eq.trans ?_ (kdK_apply _ 6 1 0 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![5, 0, 0] ![1, 128, 128] inb_S12x128x128_S1x128x128_5_0_0).emb (ix3 x0 x1 x2) = ix3 5 x1 x2 := by
      blk_ext
    refine Eq.trans ?_ (congrArg _ e).symm
    refine Eq.trans ?_ (kdK_apply _ 5 0 5 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![4, 0, 0] ![1, 128, 128] inb_S12x128x128_S1x128x128_4_0_0).emb (ix3 x0 x1 x2) = ix3 4 x1 x2 := by
      blk_ext
    refine Eq.trans ?_ (congrArg _ e).symm
    refine Eq.trans ?_ (kdK_apply _ 4 0 4 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![3, 0, 0] ![1, 128, 128] inb_S12x128x128_S1x128x128_3_0_0).emb (ix3 x0 x1 x2) = ix3 3 x1 x2 := by
      blk_ext
    refine Eq.trans ?_ (congrArg _ e).symm
    refine Eq.trans ?_ (kdK_apply _ 3 0 3 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![2, 0, 0] ![1, 128, 128] inb_S12x128x128_S1x128x128_2_0_0).emb (ix3 x0 x1 x2) = ix3 2 x1 x2 := by
      blk_ext
    refine Eq.trans ?_ (congrArg _ e).symm
    refine Eq.trans ?_ (kdK_apply _ 2 0 2 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![1, 0, 0] ![1, 128, 128] inb_S12x128x128_S1x128x128_1_0_0).emb (ix3 x0 x1 x2) = ix3 1 x1 x2 := by
      blk_ext
    refine Eq.trans ?_ (congrArg _ e).symm
    refine Eq.trans ?_ (kdK_apply _ 1 0 1 rfl x1 x2).symm
    unfold kdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0, 0] ![1, 128, 128] inb_S12x128x128_S1x128x128_0_0_0).emb (ix3 x0 x1 x2) = ix3 0 x1 x2 := by
      blk_ext
    refine Eq.trans ?_ (congrArg _ e).symm
    refine Eq.trans ?_ (kdK_apply _ 0 0 0 rfl x1 x2).symm
    unfold kdC lgK
    rfl

set_option maxHeartbeats 4000000 in
/-- The decays over a chunk, filled at a batch's first chunk. -/
theorem cdA (c : Dev nD) (t : Fin cfg0.N) (h0 : t.val % 18 = 0) : (outsAt0 m c t.val t.isLt).2.2.2.2.2.2 =
    cdK (BD m c t) := by
  rw [outsAt0_A m c t h0]
  dsimp only
  frame_out
  try simp only [read_unread_whole]
  refine canon_eq (S := S12x8x128) (e := .f32) _ _ ?_ (fun y => View.cover_of_tiledL (s := S12x8x128) _ S1x8x128.size (by sl_kernel_rfl) y)
  refine ⟨?_, ?_, ?_, ?_, ?_, ?_, ?_, ?_, ?_, ?_, ?_, ?_, trivial⟩
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![11, 0, 0] ![1, 8, 128] inb_S12x8x128_S1x8x128_11_0_0).emb (ix3 x0 x1 x2) = ix3 11 x1 x2 := by
      blk_ext
    refine Eq.trans ?_ (congrArg _ e).symm
    refine Eq.trans ?_ (cdK_apply _ 11 1 5 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![10, 0, 0] ![1, 8, 128] inb_S12x8x128_S1x8x128_10_0_0).emb (ix3 x0 x1 x2) = ix3 10 x1 x2 := by
      blk_ext
    refine Eq.trans ?_ (congrArg _ e).symm
    refine Eq.trans ?_ (cdK_apply _ 10 1 4 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![9, 0, 0] ![1, 8, 128] inb_S12x8x128_S1x8x128_9_0_0).emb (ix3 x0 x1 x2) = ix3 9 x1 x2 := by
      blk_ext
    refine Eq.trans ?_ (congrArg _ e).symm
    refine Eq.trans ?_ (cdK_apply _ 9 1 3 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![8, 0, 0] ![1, 8, 128] inb_S12x8x128_S1x8x128_8_0_0).emb (ix3 x0 x1 x2) = ix3 8 x1 x2 := by
      blk_ext
    refine Eq.trans ?_ (congrArg _ e).symm
    refine Eq.trans ?_ (cdK_apply _ 8 1 2 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![7, 0, 0] ![1, 8, 128] inb_S12x8x128_S1x8x128_7_0_0).emb (ix3 x0 x1 x2) = ix3 7 x1 x2 := by
      blk_ext
    refine Eq.trans ?_ (congrArg _ e).symm
    refine Eq.trans ?_ (cdK_apply _ 7 1 1 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![6, 0, 0] ![1, 8, 128] inb_S12x8x128_S1x8x128_6_0_0).emb (ix3 x0 x1 x2) = ix3 6 x1 x2 := by
      blk_ext
    refine Eq.trans ?_ (congrArg _ e).symm
    refine Eq.trans ?_ (cdK_apply _ 6 1 0 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![5, 0, 0] ![1, 8, 128] inb_S12x8x128_S1x8x128_5_0_0).emb (ix3 x0 x1 x2) = ix3 5 x1 x2 := by
      blk_ext
    refine Eq.trans ?_ (congrArg _ e).symm
    refine Eq.trans ?_ (cdK_apply _ 5 0 5 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![4, 0, 0] ![1, 8, 128] inb_S12x8x128_S1x8x128_4_0_0).emb (ix3 x0 x1 x2) = ix3 4 x1 x2 := by
      blk_ext
    refine Eq.trans ?_ (congrArg _ e).symm
    refine Eq.trans ?_ (cdK_apply _ 4 0 4 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![3, 0, 0] ![1, 8, 128] inb_S12x8x128_S1x8x128_3_0_0).emb (ix3 x0 x1 x2) = ix3 3 x1 x2 := by
      blk_ext
    refine Eq.trans ?_ (congrArg _ e).symm
    refine Eq.trans ?_ (cdK_apply _ 3 0 3 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![2, 0, 0] ![1, 8, 128] inb_S12x8x128_S1x8x128_2_0_0).emb (ix3 x0 x1 x2) = ix3 2 x1 x2 := by
      blk_ext
    refine Eq.trans ?_ (congrArg _ e).symm
    refine Eq.trans ?_ (cdK_apply _ 2 0 2 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![1, 0, 0] ![1, 8, 128] inb_S12x8x128_S1x8x128_1_0_0).emb (ix3 x0 x1 x2) = ix3 1 x1 x2 := by
      blk_ext
    refine Eq.trans ?_ (congrArg _ e).symm
    refine Eq.trans ?_ (cdK_apply _ 1 0 1 rfl x1 x2).symm
    unfold cdC lgK
    rfl
  · intro x
    idx_vars x
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199]
    pointwise
    have e : (Rect.unit ![0, 0, 0] ![1, 8, 128] inb_S12x8x128_S1x8x128_0_0_0).emb (ix3 x0 x1 x2) = ix3 0 x1 x2 := by
      blk_ext
    refine Eq.trans ?_ (congrArg _ e).symm
    refine Eq.trans ?_ (cdK_apply _ 0 0 0 rfl x1 x2).symm
    unfold cdC lgK
    rfl

end Cert.RetIdeal.Hand

end
-- ==== Proof.RetValue.lean ====
module

public import proofs.«01_k».proof.Defs
public import proofs.«01_k».proof.Proof.Gen.RetIdeal.Value
public import proofs.«01_k».proof.Proof.RetChunk
public import proofs.«01_k».proof.Proof.RetStepA
public import proofs.«01_k».proof.Proof.RetStepB
public import proofs.«01_k».proof.Proof.RetStepT
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen Cert.RetIdeal.Value

variable (m : (ℓ : Loc nD τ sig) → Buf (Elt Ideal) ℓ)

open Cert.RetRefIdeal.Hand (row lat cosT sinT rope lgR fi decR oS rS RR RR_succ)

/-- What a later chunk's point leaves in the carried buffers. -/
theorem later (c : Dev nD) (t : Fin cfg0.N) (h0 : ¬ t.val % 18 = 0) (H : Inv m c (bt t) (st t).val (prev m c t).2.2.1 (prev m c t).2.2.2.1
    (prev m c t).2.2.2.2.1 (prev m c t).2.2.2.2.2.1 (prev m c t).2.2.2.2.2.2) :
    Inv m c (bt t) ((st t).val + 1) (outsAt0 m c t.val t.isLt).2.2.1 (outsAt0 m c t.val t.isLt).2.2.2.1
      (outsAt0 m c t.val t.isLt).2.2.2.2.1 (outsAt0 m c t.val t.isLt).2.2.2.2.2.1 (outsAt0 m c t.val t.isLt).2.2.2.2.2.2 := by
  rw [rB m c t h0, decB m c t h0, qdB m c t h0, kdB m c t h0, cdB m c t h0]
  exact step m c t _ _ _ _ _ H

/-- What a point leaves in the carried buffers. -/
theorem carried (c : Dev nD) : ∀ (n : ℕ) (h : n < cfg0.N), Inv m c (bt ⟨n, h⟩) ((st ⟨n, h⟩).val + 1) (outsAt0 m c n h).2.2.1 (outsAt0 m c n h).2.2.2.1
    (outsAt0 m c n h).2.2.2.2.1 (outsAt0 m c n h).2.2.2.2.2.1 (outsAt0 m c n h).2.2.2.2.2.2 := by
  intro n
  induction n with
  | zero =>
    intro h
    have h0 : (⟨0, h⟩ : Fin cfg0.N).val % 18 = 0 := rfl
    have e := step m c ⟨0, h⟩ _ _ _ _ _ (inv0 m c ⟨0, h⟩ (bt ⟨0, h⟩))
    rw [← rA m c ⟨0, h⟩ h0, ← decA m c ⟨0, h⟩ h0, ← qdA m c ⟨0, h⟩ h0, ← kdA m c ⟨0, h⟩ h0, ← cdA m c ⟨0, h⟩ h0] at e
    exact e
  | succ n ih =>
    intro h
    by_cases h0 : (n + 1) % 18 = 0
    · have hs : (st ⟨n + 1, h⟩).val = 0 := h0
      have H : Inv m c (bt ⟨n + 1, h⟩) (st ⟨n + 1, h⟩).val (fun _ => (0 : EReal)) (decK (BD m c ⟨n + 1, h⟩)) (qdK (BD m c ⟨n + 1, h⟩)) (kdK (BD m c ⟨n + 1, h⟩)) (cdK (BD m c ⟨n + 1, h⟩)) := by
        rw [hs]
        exact inv0 m c ⟨n + 1, h⟩ _
      have e := step m c ⟨n + 1, h⟩ _ _ _ _ _ H
      rw [← rA m c ⟨n + 1, h⟩ h0, ← decA m c ⟨n + 1, h⟩ h0, ← qdA m c ⟨n + 1, h⟩ h0, ← kdA m c ⟨n + 1, h⟩ h0, ← cdA m c ⟨n + 1, h⟩ h0] at e
      exact e
    · have hp : n < cfg0.N := Nat.lt_of_succ_lt h
      have H := ih hp
      have eb : bt ⟨n, hp⟩ = bt ⟨n + 1, h⟩ := Fin.ext (by show n / 18 = (n + 1) / 18; omega)
      have es : (st ⟨n, hp⟩).val + 1 = (st ⟨n + 1, h⟩).val := by show n % 18 + 1 = (n + 1) % 18; omega
      rw [eb, es] at H
      exact later m c ⟨n + 1, h⟩ h0 H

/-- What a later chunk's point finds in the carried buffers. -/
theorem found (c : Dev nD) (t : Fin cfg0.N) (h0 : ¬ t.val % 18 = 0) : Inv m c (bt t) (st t).val (prev m c t).2.2.1 (prev m c t).2.2.2.1
    (prev m c t).2.2.2.2.1 (prev m c t).2.2.2.2.2.1 (prev m c t).2.2.2.2.2.2 := by
  have hp : t.val - 1 < cfg0.N := Nat.lt_of_le_of_lt (Nat.sub_le _ _) t.isLt
  have H := carried m c (t.val - 1) hp
  have eb : bt ⟨t.val - 1, hp⟩ = bt t := Fin.ext (by show (t.val - 1) / 18 = t.val / 18; omega)
  have es : (st ⟨t.val - 1, hp⟩).val + 1 = (st t).val := by show (t.val - 1) % 18 + 1 = t.val % 18; omega
  rw [eb, es] at H
  exact H

/-- What a first chunk's point puts in the carried buffers before it reads them. -/
theorem begun (c : Dev nD) (t : Fin cfg0.N) (h0 : t.val % 18 = 0) : Inv m c (bt t) (st t).val (fun _ => (0 : EReal)) (decK (BD m c t))
    (qdK (BD m c t)) (kdK (BD m c t)) (cdK (BD m c t)) := by
  have hs : (st t).val = 0 := h0
  rw [hs]
  exact inv0 m c t _

/-- The forward outputs of a point. -/
theorem out0 (c : Dev nD) (t : Fin cfg0.N) (i : Fin 128) (k : Fin 768) : (outsAt0 m c t.val t.isLt).1 (ix2 i k) =
    oS (AX m c) (DL m c) (st t) 0 (bt t) ⟨k.val / 128, by omega⟩ (RR (AX m c) (DL m c) 0 (bt t) ⟨k.val / 128, by omega⟩ (st t).val) (pl 0 i) ⟨k.val % 128, by omega⟩ := by
  by_cases h0 : t.val % 18 = 0
  · rw [o0A m c t h0]
    exact outs m c t _ _ _ _ _ (begun m c t h0) 0 i k
  · rw [o0B m c t h0]
    exact outs m c t _ _ _ _ _ (found m c t h0) 0 i k

/-- The backward outputs of a point. -/
theorem out1 (c : Dev nD) (t : Fin cfg0.N) (i : Fin 128) (k : Fin 768) : (outsAt0 m c t.val t.isLt).2.1 (ix2 i k) =
    oS (AX m c) (DL m c) (st t) 1 (bt t) ⟨k.val / 128, by omega⟩ (RR (AX m c) (DL m c) 1 (bt t) ⟨k.val / 128, by omega⟩ (st t).val) (pl 1 i) ⟨k.val % 128, by omega⟩ := by
  by_cases h0 : t.val % 18 = 0
  · rw [o1A m c t h0]
    exact outs m c t _ _ _ _ _ (begun m c t h0) 1 i k
  · rw [o1B m c t h0]
    exact outs m c t _ _ _ _ _ (found m c t h0) 1 i k

/-- The forward output array is the reference's. -/
theorem final11 (c : Dev nD) : (dats m 0 c).arrAt 11 cfg0.N = Cert.RetRefIdeal.Read.val_main_v554 (F := Ideal) (AX m c) (DL m c) := by
  refine (dats m 0 c).arrAt_eq_of_covers 11 _ (by decide +kernel) fun t hf y => ?_
  have y0 : (y 0).val < 128 := (y 0).isLt
  have h := row0 t ⟨(y 0).val, y0⟩
  have e : (((cfg0.win 11).blk t).view.emb y : S9216x768.Idx) = ix2 (row 0 (bt t) (st t) (pl 0 ⟨(y 0).val, y0⟩)) (y 1) := by
    blk_ext [idx t, h]
  refine Eq.trans ?_ (congrArg (Cert.RetRefIdeal.Read.val_main_v554 (F := Ideal) (AX m c) (DL m c)) e).symm
  blk_simp
  rw [after0_11]
  refine Eq.trans ?_ (Cert.RetRefIdeal.Hand.v554_row (AX m c) (DL m c) (bt t) (st t) (pl 0 ⟨(y 0).val, y0⟩) (y 1)).symm
  refine Eq.trans ?_ (out0 m c t ⟨(y 0).val, y0⟩ (y 1))
  blk_ext

/-- The backward output array is the reference's. -/
theorem final12 (c : Dev nD) : (dats m 0 c).arrAt 12 cfg0.N = Cert.RetRefIdeal.Read.val_main_v565 (F := Ideal) (AX m c) (DL m c) := by
  refine (dats m 0 c).arrAt_eq_of_covers 12 _ (by decide +kernel) fun t hf y => ?_
  have y0 : (y 0).val < 128 := (y 0).isLt
  have h := row1 t ⟨(y 0).val, y0⟩
  have e : (((cfg0.win 12).blk t).view.emb y : S9216x768.Idx) = ix2 (row 1 (bt t) (st t) (pl 1 ⟨(y 0).val, y0⟩)) (y 1) := by
    blk_ext [idx t, h]
  refine Eq.trans ?_ (congrArg (Cert.RetRefIdeal.Read.val_main_v565 (F := Ideal) (AX m c) (DL m c)) e).symm
  blk_simp
  rw [after0_12]
  refine Eq.trans ?_ (Cert.RetRefIdeal.Hand.v565_row (AX m c) (DL m c) (bt t) (st t) (pl 1 ⟨(y 0).val, y0⟩) (y 1)).symm
  refine Eq.trans ?_ (out1 m c t ⟨(y 0).val, y0⟩ (y 1))
  blk_ext

end Cert.RetIdeal.Hand

namespace Cert.Proof.RetClaims

/-- Over the extended reals the retention and its reference end with equal results. -/
theorem algebraic : Cert.algebraic_RetIdeal_RetRefIdeal := by
  pair_intro
  · run_from Cert.RetIdeal.Value.run_blocks m g
  · run_from Cert.RetRefIdeal.Value.run m' g'
    · rw [Cert.RetIdeal.Hand.final11 m c, Cert.RetRefIdeal.Read.val_main_v554_eq]
      obtain ⟨h0, h1⟩ := hagree c
      exact congrArg₂ _ h0 h1
    · rw [Cert.RetIdeal.Hand.final12 m c, Cert.RetRefIdeal.Read.val_main_v565_eq]
      obtain ⟨h0, h1⟩ := hagree c
      exact congrArg₂ _ h0 h1

end Cert.Proof.RetClaims

end
-- ==== Proof.MlpValue.lean ====
module

public import proofs.«01_k».proof.Defs
public import proofs.«01_k».proof.Proof.Gen.MlpIdeal.Value
public import proofs.«01_k».proof.Proof.Gen.MlpRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.MlpIdeal.Value

variable (m : (ℓ : Loc nD τ sig) → Buf (Elt Ideal) ℓ)

/-- Row `r`, column `k` of the normalised and modulated input of the feed-forward block. -/
def lhs (x : Vec Ideal S8192x2048 .f32) (nw : Vec Ideal S2048 .f32) (md : Vec Ideal S8x1x12288 .f32) (r : Fin 8192) (k : Fin 2048) : EReal :=
  x (ix2 r k) * Ideal.rsqrt (Ideal.div (∑ l : Fin 2048, x (ix2 r l) * x (ix2 r l)) (Ideal.ofBits FTy.f32 1157627904#32)
        + Ideal.ofBits FTy.f32 897988541#32) * nw (ix1 k)
      * (1 + md (ix3 ⟨r.val / 2048, by omega⟩ 0 ⟨8192 + k.val, by omega⟩)) + md (ix3 ⟨r.val / 2048, by omega⟩ 0 ⟨6144 + k.val, by omega⟩)

/-- The hidden layer before its activation. -/
def hid (x : Vec Ideal S8192x2048 .f32) (nw : Vec Ideal S2048 .f32) (md : Vec Ideal S8x1x12288 .f32) (w1 : Vec Ideal S2x2048x8192 .f32)
    (r : Fin 8192) (h : Fin 8192) : EReal :=
  ∑ k : Fin 2048, lhs x nw md r k * w1 (ix3 1 k h)

/-- One summand of the second product: the squared rectified hidden value times its weight. -/
def term (x : Vec Ideal S8192x2048 .f32) (nw : Vec Ideal S2048 .f32) (md : Vec Ideal S8x1x12288 .f32) (w1 : Vec Ideal S2x2048x8192 .f32)
    (w2 : Vec Ideal S2x8192x2048 .f32) (r : Fin 8192) (n : Fin 2048) (h : Fin 8192) : EReal :=
  max (hid x nw md w1 r h) 0 * max (hid x nw md w1 r h) 0 * w2 (ix3 1 h n)

/-- The residual stream after the block. -/
def res (x : Vec Ideal S8192x2048 .f32) (nw : Vec Ideal S2048 .f32) (md : Vec Ideal S8x1x12288 .f32) (w1 : Vec Ideal S2x2048x8192 .f32)
    (w2 : Vec Ideal S2x8192x2048 .f32) (r : Fin 8192) (n : Fin 2048) : EReal :=
  x (ix2 r n) + md (ix3 ⟨r.val / 2048, by omega⟩ 0 ⟨10240 + n.val, by omega⟩) * ∑ h : Fin 8192, term x nw md w1 w2 r n h

/-- The final normalisation of the residual stream after the block. -/
def out (x : Vec Ideal S8192x2048 .f32) (nw : Vec Ideal S2048 .f32) (md : Vec Ideal S8x1x12288 .f32) (w1 : Vec Ideal S2x2048x8192 .f32)
    (w2 : Vec Ideal S2x8192x2048 .f32) (nf : Vec Ideal S2048 .f32) : Vec Ideal S8192x2048 .f32 := fun i =>
  res x nw md w1 w2 (i 0) (i 1) * Ideal.rsqrt (Ideal.div (∑ l : Fin 2048, res x nw md w1 w2 (i 0) l * res x nw md w1 w2 (i 0) l)
    (Ideal.ofBits FTy.f32 1157627904#32) + Ideal.ofBits FTy.f32 897988541#32) * nf (ix1 (i 1))

/-- The modulated rows a fresh row block computes, at an element. -/
theorem pay1_apply (v7 : Vec Ideal S1024x2048 .f32) (v8 : Vec Ideal S1x2048 .f32) (v10 v12 : Vec Ideal S1x1x2048 .f32) (j : S1024x2048.Idx) :
    k0_pay1 (F := Ideal) v7 v8 v10 v12 j = v7 (ix2 (j 0) (j 1)) * Ideal.rsqrt
        (Ideal.div (∑ x, v7 (ix2 (j 0) x) * v7 (ix2 (j 0) x)) (Ideal.ofBits FTy.f32 1157627904#32) + Ideal.ofBits FTy.f32 897988541#32)
        * v8 (ix2 0 (j 1)) * (1 + v12 (ix3 0 0 (j 1))) + v10 (ix3 0 0 (j 1)) := by
  unfold k0_pay1
  idx_vars j
  pointwise

/-- The accumulator starts at zero. -/
theorem pay2_apply (j : S1024x2048.Idx) : k0_pay2 (F := Ideal) j = 0 := by
  unfold k0_pay2
  idx_vars j
  pointwise

/-- One step of the accumulation, at an element. -/
theorem pay3_apply (v3 : Vec Ideal S1024x2048 .bf16) (v4 : Vec Ideal S1x2048x512 .f32) (v12 : Vec Ideal S1024x2048 .f32) (v14 : Vec Ideal S1x512x2048 .f32) (j : S1024x2048.Idx) :
    k0_pay3 (F := Ideal) v3 v4 v12 v14 j = v12 (ix2 (j 0) (j 1)) + ∑ h : Fin 512,
      max (∑ k : Fin 2048, v3 (ix2 (j 0) k) * v4 (ix3 0 k h)) 0 * max (∑ k : Fin 2048, v3 (ix2 (j 0) k) * v4 (ix3 0 k h)) 0 * v14 (ix3 0 h (j 1)) := by
  unfold k0_pay3
  idx_vars j
  pointwise

/-- The last step's residual and normalisation, at an element. -/
theorem pay4_apply (v23 : Vec Ideal S1024x2048 .f32) (v24 : Vec Ideal S1x1x2048 .f32) (v26 : Vec Ideal S1024x2048 .f32) (v41 : Vec Ideal S1x2048 .f32) (j : S1024x2048.Idx) :
    k0_pay4 (F := Ideal) v23 v24 v26 v41 j
      = (v23 (ix2 (j 0) (j 1)) + v24 (ix3 0 0 (j 1)) * v26 (ix2 (j 0) (j 1))) * Ideal.rsqrt (Ideal.div
          (∑ x, (v23 (ix2 (j 0) x) + v24 (ix3 0 0 x) * v26 (ix2 (j 0) x)) * (v23 (ix2 (j 0) x) + v24 (ix3 0 0 x) * v26 (ix2 (j 0) x)))
          (Ideal.ofBits FTy.f32 1157627904#32) + Ideal.ofBits FTy.f32 897988541#32) * v41 (ix2 0 (j 1)) := by
  unfold k0_pay4
  idx_vars j
  pointwise

/-- The block indices of every window at a point. -/
theorem idx : ∀ t : Fin cfg0.N, win0_0.index t = ![t.val / 16, 0] ∧ win0_1.index t = ![0, 0] ∧ win0_2.index t = ![t.val / 32, 0, 3]
    ∧ win0_3.index t = ![t.val / 32, 0, 4] ∧ win0_4.index t = ![t.val / 32, 0, 5] ∧ win0_5.index t = ![1, 0, t.val % 16]
    ∧ win0_6.index t = ![1, t.val % 16, 0] ∧ win0_7.index t = ![0, 0] ∧ win0_8.index t = ![t.val / 16, 0] :=
  (by decide +kernel : ∀ t : Fin grid0.N, _)

/-- The argument arrays as the region finds them. -/
abbrev X (c : Dev nD) : Vec Ideal S8192x2048 .f32 := m ((c : Thread nD τ).loc main_arg0)
abbrev NW (c : Dev nD) : Vec Ideal S2048 .f32 := m ((c : Thread nD τ).loc main_arg1)
abbrev MD (c : Dev nD) : Vec Ideal S8x1x12288 .f32 := m ((c : Thread nD τ).loc main_arg2)
abbrev W1 (c : Dev nD) : Vec Ideal S2x2048x8192 .f32 := m ((c : Thread nD τ).loc main_arg3)
abbrev W2 (c : Dev nD) : Vec Ideal S2x8192x2048 .f32 := m ((c : Thread nD τ).loc main_arg4)
abbrev NF (c : Dev nD) : Vec Ideal S2048 .f32 := m ((c : Thread nD τ).loc main_arg5)

/-- The array's row that a row of point `n`'s row block is. -/
abbrev row (n : ℕ) (h : n < cfg0.N) (a : Fin 1024) : Fin 8192 := ⟨n / 16 * 1024 + a.val, by have := lt_of_lt_of_eq h N_0; omega⟩

/-- Input block 0: the rows of the point's row block. -/
theorem iblk0_eq (c : Dev nD) (t : Fin cfg0.N) :
    (iblk m c 0 t : Vec Ideal S1024x2048 .f32) = fun j => X m c (ix2 (row t.val t.isLt (j 0)) (j 1)) := by
  funext j
  blk_ext [iblk, V, idx t]

/-- Input block 1: the norm's weights. -/
theorem iblk1_eq (c : Dev nD) (t : Fin cfg0.N) :
    (iblk m c 1 t : Vec Ideal S1x2048 .f32) = fun j => NW m c (ix1 (j 1)) := by
  funext j
  blk_simp [iblk, idx t]
  unfold_abbrev_sides
  after_results
  pointwise
  blk_ext [idx t]

/-- Input blocks 2, 3, 4: the shift, scale and gate of the row block's batch. -/
theorem iblk2_eq (c : Dev nD) (t : Fin cfg0.N) :
    (iblk m c 2 t : Vec Ideal S1x1x2048 .f32) = fun j => MD m c (ix3 ⟨t.val / 32, by have := lt_of_lt_of_eq t.isLt N_0; omega⟩ 0 ⟨6144 + (j 2).val, by
      have : (j 2).val < 2048 := (j 2).isLt; omega⟩) := by
  funext j
  blk_ext [iblk, V, idx t]
theorem iblk3_eq (c : Dev nD) (t : Fin cfg0.N) :
    (iblk m c 3 t : Vec Ideal S1x1x2048 .f32) = fun j => MD m c (ix3 ⟨t.val / 32, by have := lt_of_lt_of_eq t.isLt N_0; omega⟩ 0 ⟨8192 + (j 2).val, by
      have : (j 2).val < 2048 := (j 2).isLt; omega⟩) := by
  funext j
  blk_ext [iblk, V, idx t]
theorem iblk4_eq (c : Dev nD) (t : Fin cfg0.N) :
    (iblk m c 4 t : Vec Ideal S1x1x2048 .f32) = fun j => MD m c (ix3 ⟨t.val / 32, by have := lt_of_lt_of_eq t.isLt N_0; omega⟩ 0 ⟨10240 + (j 2).val, by
      have : (j 2).val < 2048 := (j 2).isLt; omega⟩) := by
  funext j
  blk_ext [iblk, V, idx t]

/-- Input blocks 5 and 6: the hidden columns of the two weight matrices. -/
theorem iblk5_eq (c : Dev nD) (t : Fin cfg0.N) :
    (iblk m c 5 t : Vec Ideal S1x2048x512 .f32) = fun j => W1 m c (ix3 1 (j 1) ⟨t.val % 16 * 512 + (j 2).val, by
      have : (j 2).val < 512 := (j 2).isLt; omega⟩) := by
  funext j
  blk_ext [iblk, V, idx t]
theorem iblk6_eq (c : Dev nD) (t : Fin cfg0.N) :
    (iblk m c 6 t : Vec Ideal S1x512x2048 .f32) = fun j => W2 m c (ix3 1 ⟨t.val % 16 * 512 + (j 1).val, by
      have : (j 1).val < 512 := (j 1).isLt; omega⟩ (j 2)) := by
  funext j
  blk_ext [iblk, V, idx t]

/-- Input block 7: the final norm's weights. -/
theorem iblk7_eq (c : Dev nD) (t : Fin cfg0.N) :
    (iblk m c 7 t : Vec Ideal S1x2048 .f32) = fun j => NF m c (ix1 (j 1)) := by
  funext j
  blk_simp [iblk, idx t]
  unfold_abbrev_sides
  after_results
  pointwise
  blk_ext [idx t]

/-- What the hidden columns of tile `g` add to an element of the second product. -/
def part (c : Dev nD) (r : Fin 8192) (n : Fin 2048) (g : ℕ) : EReal :=
  if hg : g < 16 then ∑ h : Fin 512, term (X m c) (NW m c) (MD m c) (W1 m c) (W2 m c) r n ⟨g * 512 + h.val, by omega⟩ else 0

/-- The rows computed at a point are the modulated rows of its row block. -/
theorem rows_eq (c : Dev nD) (t : Fin cfg0.N) :
    k0_pay1 (F := Ideal) (iblk m c 0 t) (iblk m c 1 t) (iblk m c 2 t) (iblk m c 3 t)
      = fun j => lhs (X m c) (NW m c) (MD m c) (row t.val t.isLt (j 0)) (j 1) := by
  funext j
  rw [iblk0_eq, iblk1_eq, iblk2_eq, iblk3_eq, pay1_apply]
  unfold lhs
  have h1 := lt_of_lt_of_eq t.isLt N_0
  have h2 : (j 0).val < 1024 := (j 0).isLt
  have e : t.val / 32 = (t.val / 16 * 1024 + (j 0).val) / 2048 := by omega
  simp only [e]
  rfl

/-- One accumulation step adds the point's tile. -/
theorem acc_step (c : Dev nD) (t : Fin cfg0.N) (A : Vec Ideal S1024x2048 .f32) (j : S1024x2048.Idx) :
    k0_pay3 (F := Ideal) (fun j => lhs (X m c) (NW m c) (MD m c) (row t.val t.isLt (j 0)) (j 1)) (iblk m c 5 t) A (iblk m c 6 t) j
      = A (ix2 (j 0) (j 1)) + part m c (row t.val t.isLt (j 0)) (j 1) (t.val % 16) := by
  rw [iblk5_eq, iblk6_eq, pay3_apply]
  unfold part
  rw [dif_pos (Nat.mod_lt _ (by decide))]
  rfl

/-- A sum up to an index that is zero has one term. -/
theorem sum_first (k : ℕ) (hk : k = 0) (f : ℕ → EReal) : f k = ∑ g ∈ Finset.range (k + 1), f g := by
  subst hk
  exact (Finset.sum_range_one f).symm

/-- What a point leaves, case by case: the rows carried, and the accumulation over the tiles so far;
    at the last tile the finished block. -/
theorem state (c : Dev nD) : ∀ (n : ℕ) (h : n < cfg0.N),
    ((outsAt0 m c n h).2 = fun j => lhs (X m c) (NW m c) (MD m c) (row n h (j 0)) (j 1))
    ∧ (¬ n % 16 = 15 → (outsAt0 m c n h).1 = fun j => ∑ g ∈ Finset.range (n % 16 + 1), part m c (row n h (j 0)) (j 1) g)
    ∧ (n % 16 = 15 → (outsAt0 m c n h).1 = fun j => out (X m c) (NW m c) (MD m c) (W1 m c) (W2 m c) (NF m c) (ix2 (row n h (j 0)) (j 1))) := by
  intro n
  induction n with
  | zero =>
    intro h
    have h0 : (0 : ℕ) % 16 = 0 := rfl
    have h1 : ¬ (0 : ℕ) % 16 = 15 := by decide
    rw [outsAt0_A m c ⟨0, h⟩ h0 h1]
    frame_out
    rw [rows_eq]
    refine ⟨rfl, fun _ => ?_, fun hc => absurd hc h1⟩
    funext j
    rw [acc_step, pay2_apply, zero_add]
    exact (Finset.sum_range_one _).symm
  | succ n ih =>
    intro h
    obtain ⟨ih1, ih2, -⟩ := ih (Nat.lt_of_succ_lt h)
    by_cases h0 : (n + 1) % 16 = 0
    · have h1 : ¬ (n + 1) % 16 = 15 := by omega
      rw [outsAt0_A m c ⟨n + 1, h⟩ h0 h1]
      frame_out
      rw [rows_eq]
      refine ⟨rfl, fun _ => ?_, fun hc => absurd hc h1⟩
      funext j
      rw [acc_step, pay2_apply, zero_add]
      exact sum_first _ h0 _
    · have hr : row n (Nat.lt_of_succ_lt h) = row (n + 1) h := by
        funext a
        have e : (n + 1) / 16 = n / 16 := by omega
        simp only [row, e]
      have hn : ¬ n % 16 = 15 := by omega
      have e : (n + 1) % 16 = n % 16 + 1 := by omega
      have ih2 := ih2 hn
      rw [hr] at ih1 ih2
      have hacc : k0_pay3 (F := Ideal) (outsAt0 m c n (Nat.lt_of_succ_lt h)).2 (iblk m c 5 ⟨n + 1, h⟩) (outsAt0 m c n (Nat.lt_of_succ_lt h)).1 (iblk m c 6 ⟨n + 1, h⟩)
          = fun j => ∑ g ∈ Finset.range ((n + 1) % 16 + 1), part m c (row (n + 1) h (j 0)) (j 1) g := by
        funext j
        rw [ih1, ih2, acc_step m c ⟨n + 1, h⟩, e]
        exact (Finset.sum_range_succ _ _).symm
      by_cases h1 : (n + 1) % 16 = 15
      · rw [outsAt0_C m c ⟨n + 1, h⟩ h0 h1]
        frame_out
        unfold sout0_C_0
        simp only [read_unread_whole]
        refine ⟨ih1, fun hc => absurd h1 hc, fun _ => ?_⟩
        have hs : ∀ (r : Fin 8192) (k : Fin 2048), ∑ g ∈ Finset.range ((n + 1) % 16 + 1), part m c r k g
            = ∑ h : Fin 8192, term (X m c) (NW m c) (MD m c) (W1 m c) (W2 m c) r k h := by
          intro r k
          rw [h1, Fin.sum_univ_tiles 16 512 rfl, Finset.sum_range]
          refine Finset.sum_congr rfl fun g _ => ?_
          unfold part
          rw [dif_pos g.isLt]
        have hacc := hacc.trans (funext fun j => hs (row (n + 1) h (j 0)) (j 1))
        refine Eq.trans (b := k0_pay4 (F := Ideal) (iblk m c 0 ⟨n + 1, h⟩) (iblk m c 4 ⟨n + 1, h⟩) _ (iblk m c 7 ⟨n + 1, h⟩)) (congrArg (fun z => k0_pay4 (F := Ideal) (iblk m c 0 ⟨n + 1, h⟩) (iblk m c 4 ⟨n + 1, h⟩) z (iblk m c 7 ⟨n + 1, h⟩)) hacc) ?_
        funext j
        rw [iblk0_eq, iblk4_eq, iblk7_eq, pay4_apply]
        have h2 : (j 0).val < 1024 := (j 0).isLt
        have hN := lt_of_lt_of_eq h N_0
        have e2 : (n + 1) / 32 = ((n + 1) / 16 * 1024 + (j 0).val) / 2048 := by omega
        unfold out res
        simp only [e2]
        rfl
      · rw [outsAt0_B m c ⟨n + 1, h⟩ h0 h1]
        frame_out
        unfold sout0_B_0
        simp only [read_unread_whole]
        exact ⟨ih1, fun _ => hacc, fun hc => absurd hc h1⟩

/-- The output array is the block applied to every row. -/
theorem final (c : Dev nD) : (dats m 0 c).arrAt 8 cfg0.N = out (X m c) (NW m c) (MD m c) (W1 m c) (W2 m c) (NF m c) := by
  refine (dats m 0 c).arrAt_eq_of_covers 8 _ (by decide +kernel) fun t hf y => ?_
  have h1 := lt_of_lt_of_eq t.isLt N_0
  have y0 : (y 0).val < 1024 := (y 0).isLt
  have e : (((cfg0.win 8).blk t).view.emb y : S8192x2048.Idx) = ix2 (row t.val t.isLt (y 0)) (y 1) := by
    blk_ext [idx t]
  refine Eq.trans ?_ (congrArg (out (X m c) (NW m c) (MD m c) (W1 m c) (W2 m c) (NF m c)) e).symm
  blk_simp
  rw [after0_8]
  rw [(state m c t.val t.isLt).2.2 ((flush0_8 t).mp hf)]
  rfl

end Cert.MlpIdeal.Hand

namespace Cert.MlpRefIdeal.Hand

open Cert.MlpRefIdeal Cert.MlpRefIdeal.Gen Cert.MlpRefIdeal.Read

/-- The reference's modulated rows. -/
theorem lhs_apply (x0 : Vec Ideal S8192x2048 .f32) (x1 : Vec Ideal S2048 .f32) (x2 : Vec Ideal S8x1x12288 .f32) (b : Fin 4) (r k : Fin 2048) :
    val_main_v30 (F := Ideal) x0 x1 x2 (ix3 b r k) = Cert.MlpIdeal.Hand.lhs x0 x1 x2 ⟨b.val * 2048 + r.val, by omega⟩ k := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v6 val_main_v5 val_main_v1 val_main_v0 val_main_cst val_main_cst_0 val_main_cst_1 val_main_cst_2
  pointwise
  unfold Cert.MlpIdeal.Hand.lhs
  have e : (b.val * 2048 + r.val) / 2048 = b.val := by omega
  simp only [e]

/-- The reference's residual stream after the block. -/
theorem res_apply (x0 : Vec Ideal S8192x2048 .f32) (x1 : Vec Ideal S2048 .f32) (x2 : Vec Ideal S8x1x12288 .f32) (x3 : Vec Ideal S2x2048x8192 .f32) (x4 : Vec Ideal S2x8192x2048 .f32) (b : Fin 4) (r k : Fin 2048) :
    val_main_v37 (F := Ideal) x0 x1 x2 x3 x4 (ix3 b r k) = Cert.MlpIdeal.Hand.res x0 x1 x2 x3 x4 ⟨b.val * 2048 + r.val, by omega⟩ k := by
  unfold val_main_v37 val_main_v36 val_main_v35 val_main_v34 val_main_v33 val_main_v32 val_main_v31 val_main_call0_v0 val_main_call0_cst val_main_v11 val_main_v10 val_main_v9 val_main_v8 val_main_v7 val_main_v1 val_main_v0
  pointwise
  unfold Cert.MlpIdeal.Hand.res Cert.MlpIdeal.Hand.term Cert.MlpIdeal.Hand.hid
  have e : (b.val * 2048 + r.val) / 2048 = b.val := by omega
  simp only [e, lhs_apply]

/-- The reference's result. -/
theorem result_eq (x0 : Vec Ideal S8192x2048 .f32) (x1 : Vec Ideal S2048 .f32) (x2 : Vec Ideal S8x1x12288 .f32) (x3 : Vec Ideal S2x2048x8192 .f32) (x4 : Vec Ideal S2x8192x2048 .f32) (x5 : Vec Ideal S2048 .f32) :
    val_main_v51 (F := Ideal) x0 x1 x2 x3 x4 x5 = Cert.MlpIdeal.Hand.out x0 x1 x2 x3 x4 x5 := by
  funext i
  idx_vars i
  unfold val_main_v51 val_main_v50 val_main_v49 val_main_v48 val_main_v47 val_main_v46 val_main_v45 val_main_v44 val_main_v43 val_main_v42 val_main_v41 val_main_v40 val_main_v39 val_main_v38 val_main_cst_3 val_main_cst_4 val_main_cst_5
  pointwise
  unfold Cert.MlpIdeal.Hand.out
  have e : i0.val / 2048 * 2048 + i0.val % 2048 = i0.val := by omega
  simp only [res_apply, e]
  rfl

end Cert.MlpRefIdeal.Hand

namespace Cert.Proof.MlpClaims

/-- Over the extended reals the feed-forward block and its reference end with equal results. -/
theorem algebraic : Cert.algebraic_MlpIdeal_MlpRefIdeal := by
  pair_intro
  · run_from Cert.MlpIdeal.Value.run_blocks m g
  · run_from Cert.MlpRefIdeal.Value.run m' g'
    rw [Cert.MlpIdeal.Hand.final m c, Cert.MlpRefIdeal.Read.val_main_v51_eq]
    rw [Cert.MlpRefIdeal.Hand.result_eq]
    obtain ⟨h0, h1, h2, h3, h4, h5⟩ := hagree c
    rw [h0, h1, h2, h3, h4, h5]

end Cert.Proof.MlpClaims

end
-- ==== Proof.InValue.lean ====
module

public import proofs.«01_k».proof.Defs
public import proofs.«01_k».proof.Proof.Gen.InIdeal.Value
public import proofs.«01_k».proof.Proof.Gen.InRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InIdeal.Hand

open Cert.InIdeal Cert.InIdeal.Gen Cert.InIdeal.Value

variable (m : (ℓ : Loc nD τ sig) → Buf (Elt Ideal) ℓ)

/-- Row `r`, column `k` of the normalised and modulated left operand of the projection. -/
def lhs (x : Vec Ideal S9216x2048 .f32) (nw : Vec Ideal S2048 .f32) (md : Vec Ideal S8x1x12288 .f32) (r : Fin 9216) (k : Fin 2048) : EReal :=
  x (ix2 r k) * Ideal.rsqrt (Ideal.div (∑ l : Fin 2048, x (ix2 r l) * x (ix2 r l)) (Ideal.ofBits FTy.f32 1157627904#32)
        + Ideal.ofBits FTy.f32 897988541#32) * nw (ix1 k)
      * (1 + md (ix3 ⟨min (r.val / 2048) 4, by omega⟩ 0 ⟨2048 + k.val, by omega⟩)) + md (ix3 ⟨min (r.val / 2048) 4, by omega⟩ 0 ⟨k.val, by omega⟩)

/-- The projection of the modulated rows by the weight matrix. -/
def proj (x : Vec Ideal S9216x2048 .f32) (nw : Vec Ideal S2048 .f32) (md : Vec Ideal S8x1x12288 .f32) (w : Vec Ideal S2048x7168 .bf16) : Vec Ideal S9216x7168 .f32 :=
  fun i => ∑ k : Fin 2048, lhs x nw md (i 0) k * w (ix2 k (i 1))

/-- The block of modulated rows that a point with a fresh row block computes, at an element. -/
theorem pay1_apply (v7 : Vec Ideal S1024x2048 .f32) (v8 : Vec Ideal S1x2048 .f32) (v10 v12 : Vec Ideal S1x1x2048 .f32) (j : S1024x2048.Idx) :
    k0_pay1 (F := Ideal) v7 v8 v10 v12 j = v7 (ix2 (j 0) (j 1)) * Ideal.rsqrt
        (Ideal.div (∑ x, v7 (ix2 (j 0) x) * v7 (ix2 (j 0) x)) (Ideal.ofBits FTy.f32 1157627904#32) + Ideal.ofBits FTy.f32 897988541#32)
        * v8 (ix2 0 (j 1)) * (1 + v12 (ix3 0 0 (j 1))) + v10 (ix3 0 0 (j 1)) := by
  unfold k0_pay1
  idx_vars j
  pointwise

/-- The product of the carried rows and a column block of the weights, at an element. -/
theorem pay2_apply (v7 : Vec Ideal S1024x2048 .bf16) (v8 : Vec Ideal S2048x1024 .bf16) (j : S1024x1024.Idx) :
    k0_pay2 (F := Ideal) v7 v8 j = ∑ k, v7 (ix2 (j 0) k) * v8 (ix2 k (j 1)) := by
  unfold k0_pay2
  pointwise

theorem idx : ∀ t : Fin cfg0.N, win0_0.index t = ![t.val / 7, 0] ∧ win0_1.index t = ![0, 0] ∧ win0_2.index t = ![min (t.val/14) 4, 0, 0]
  ∧ win0_3.index t = ![min (t.val / 14) 4, 0, 1] ∧ win0_4.index t = ![0, t.val % 7] ∧ win0_5.index t = ![t.val / 7, t.val % 7] :=
  (by decide +kernel : ∀ t : Fin grid0.N, _)

/-- The argument arrays as the region finds them. -/
abbrev X (c : Dev nD) : Vec Ideal S9216x2048 .f32 := m ((c : Thread nD τ).loc main_arg0)
abbrev NW (c : Dev nD) : Vec Ideal S2048 .f32 := m ((c : Thread nD τ).loc main_arg1)
abbrev MD (c : Dev nD) : Vec Ideal S8x1x12288 .f32 := m ((c : Thread nD τ).loc main_arg2)
abbrev WI (c : Dev nD) : Vec Ideal S2048x7168 .bf16 := m ((c : Thread nD τ).loc main_arg3)

/-- Input block 0 at a point: the rows of its row block. -/
theorem iblk0_eq (c : Dev nD) (t : Fin cfg0.N) :
    (iblk m c 0 t : Vec Ideal S1024x2048 .f32) = fun j => X m c (ix2 ⟨t.val / 7 * 1024 + (j 0).val, by
      have := lt_of_lt_of_eq t.isLt N_0; have : (j 0).val < 1024 := (j 0).isLt; omega⟩ (j 1)) := by
  funext j
  blk_ext [iblk, V, idx t]

/-- Input block 1: the norm's weights. -/
theorem iblk1_eq (c : Dev nD) (t : Fin cfg0.N) :
    (iblk m c 1 t : Vec Ideal S1x2048 .f32) = fun j => NW m c (ix1 (j 1)) := by
  funext j
  blk_simp [iblk, idx t]
  unfold_abbrev_sides
  after_results
  pointwise
  blk_ext [idx t]

/-- Input block 2: the shift of the row block's batch. -/
theorem iblk2_eq (c : Dev nD) (t : Fin cfg0.N) :
    (iblk m c 2 t : Vec Ideal S1x1x2048 .f32) = fun j => MD m c (ix3 ⟨min (t.val / 14) 4, by omega⟩ 0 ⟨(j 2).val, by
      have : (j 2).val < 2048 := (j 2).isLt; omega⟩) := by
  funext j
  blk_ext [iblk, V, idx t]

/-- Input block 3: the scale of the row block's batch. -/
theorem iblk3_eq (c : Dev nD) (t : Fin cfg0.N) :
    (iblk m c 3 t : Vec Ideal S1x1x2048 .f32) = fun j => MD m c (ix3 ⟨min (t.val / 14) 4, by omega⟩ 0 ⟨2048 + (j 2).val, by
      have : (j 2).val < 2048 := (j 2).isLt; omega⟩) := by
  funext j
  blk_ext [iblk, V, idx t]

/-- Input block 4: the column block of the weights. -/
theorem iblk4_eq (c : Dev nD) (t : Fin cfg0.N) :
    (iblk m c 4 t : Vec Ideal S2048x1024 .bf16) = fun j => WI m c (ix2 (j 0) ⟨t.val % 7 * 1024 + (j 1).val, by
      have : (j 1).val < 1024 := (j 1).isLt; omega⟩) := by
  funext j
  blk_ext [iblk, V, idx t]

/-- The rows computed at a point are the modulated rows of its row block. -/
theorem rows_apply (c : Dev nD) (t : Fin cfg0.N) (j : S1024x2048.Idx) :
    k0_pay1 (F := Ideal) (iblk m c 0 t) (iblk m c 1 t) (iblk m c 2 t) (iblk m c 3 t) j
      = lhs (X m c) (NW m c) (MD m c) ⟨t.val / 7 * 1024 + (j 0).val, by have := lt_of_lt_of_eq t.isLt N_0; have : (j 0).val < 1024 := (j 0).isLt; omega⟩ (j 1) := by
  rw [iblk0_eq, iblk1_eq, iblk2_eq, iblk3_eq, pay1_apply]
  unfold lhs
  have h1 := lt_of_lt_of_eq t.isLt N_0
  have h2 : (j 0).val < 1024 := (j 0).isLt
  have e : min (t.val / 14) 4 = min ((t.val / 7 * 1024 + (j 0).val) / 2048) 4 := by omega
  simp only [e]
  rfl

/-- What the carried rows hold after point `n`: the modulated rows of the point's row block. -/
theorem carried (c : Dev nD) : ∀ (n : ℕ) (h : n < cfg0.N) (j : S1024x2048.Idx),
    (outsAt0 m c n h).2 j = lhs (X m c) (NW m c) (MD m c) ⟨n / 7 * 1024 + (j 0).val, by have := lt_of_lt_of_eq h N_0; have : (j 0).val < 1024 := (j 0).isLt; omega⟩ (j 1) := by
  intro n
  induction n with
  | zero =>
    intro h j
    rw [outsAt0_A m c ⟨0, h⟩ rfl]
    frame_out
    exact rows_apply m c ⟨0, h⟩ j
  | succ n ih =>
    intro h j
    by_cases h0 : (n + 1) % 7 = 0
    · rw [outsAt0_A m c ⟨n + 1, h⟩ h0]
      frame_out
      exact rows_apply m c ⟨n + 1, h⟩ j
    · rw [outsAt0_B m c ⟨n + 1, h⟩ h0]
      frame_out
      unfold sout0_B_0
      have e : (n + 1) / 7 = n / 7 := by omega
      simp only [e]
      exact ih _ j

/-- The output array is the projection. -/
theorem final (c : Dev nD) : (dats m 0 c).arrAt 5 cfg0.N = proj (X m c) (NW m c) (MD m c) (WI m c) := by
  refine (dats m 0 c).arrAt_eq_of_covers 5 _ (by decide +kernel) fun t hf y => ?_
  have h1 := lt_of_lt_of_eq t.isLt N_0
  have y0 : (y 0).val < 1024 := (y 0).isLt
  have y1 : (y 1).val < 1024 := (y 1).isLt
  have e : (((cfg0.win 5).blk t).view.emb y : S9216x7168.Idx)
      = ix2 ⟨t.val / 7 * 1024 + (y 0).val, by omega⟩ ⟨t.val % 7 * 1024 + (y 1).val, by omega⟩ := by
    blk_ext [idx t]
  refine Eq.trans ?_ (congrArg (proj (X m c) (NW m c) (MD m c) (WI m c)) e).symm
  blk_simp
  rw [after0_5]
  have key : ∀ j : S1024x1024.Idx, (outsAt0 m c t.val t.isLt).1 j
      = ∑ k, (outsAt0 m c t.val t.isLt).2 (ix2 (j 0) k) * (iblk m c 4 t : Vec Ideal S2048x1024 .bf16) (ix2 k (j 1)) := by
    intro j
    by_cases h0 : t.val % 7 = 0
    · rw [outsAt0_A m c t h0]
      frame_out
      exact pay2_apply _ _ j
    · rw [outsAt0_B m c t h0]
      frame_out
      unfold sout0_B_0
      simp only [read_unread_whole]
      exact pay2_apply _ _ j
  have e2 : proj (X m c) (NW m c) (MD m c) (WI m c) (ix2 ⟨t.val / 7 * 1024 + (y 0).val, by omega⟩ ⟨t.val % 7 * 1024 + (y 1).val, by omega⟩)
      = ∑ k : Fin 2048, lhs (X m c) (NW m c) (MD m c) ⟨t.val / 7 * 1024 + (y 0).val, by omega⟩ k
          * WI m c (ix2 k ⟨t.val % 7 * 1024 + (y 1).val, by omega⟩) := rfl
  refine (key y).trans ((Finset.sum_congr rfl fun k _ => ?_).trans e2.symm)
  rw [carried, iblk4_eq]
  rfl

end Cert.InIdeal.Hand

namespace Cert.InRefIdeal.Hand

open Cert.InRefIdeal Cert.InRefIdeal.Gen Cert.InRefIdeal.Read

/-- The reference's modulated latent rows. -/
theorem lat_apply (x0 : Vec Ideal S9216x2048 .f32) (x1 : Vec Ideal S2048 .f32) (x2 : Vec Ideal S8x1x12288 .f32) (b : Fin 4) (r k : Fin 2048) :
    val_main_v37 (F := Ideal) x0 x1 x2 (ix3 b r k) = Cert.InIdeal.Hand.lhs x0 x1 x2 ⟨b.val * 2048 + r.val, by omega⟩ k := by
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v6 val_main_v5 val_main_v4 val_main_v1 val_main_v0 val_main_cst val_main_cst_0 val_main_cst_1 val_main_cst_2
  pointwise
  unfold Cert.InIdeal.Hand.lhs
  have e : min ((b.val * 2048 + r.val) / 2048) 4 = b.val := by omega
  simp only [e]

/-- The reference's modulated context rows. -/
theorem ctx_apply (x0 : Vec Ideal S9216x2048 .f32) (x1 : Vec Ideal S2048 .f32) (x2 : Vec Ideal S8x1x12288 .f32) (b : Fin 4) (r : Fin 256) (k : Fin 2048) :
    val_main_v57 (F := Ideal) x0 x1 x2 (ix3 b r k) = Cert.InIdeal.Hand.lhs x0 x1 x2 ⟨8192 + (b.val * 256 + r.val), by omega⟩ k := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v13 val_main_v12 val_main_v11 val_main_v3 val_main_v2 val_main_cst_3 val_main_cst_4 val_main_cst_5 val_main_cst_6
  pointwise
  unfold Cert.InIdeal.Hand.lhs
  have e : min ((8192 + (b.val * 256 + r.val)) / 2048) 4 = 4 := by omega
  simp only [e]
  rfl

/-- The reference's result is the projection of the modulated rows. -/
theorem result_eq (x0 : Vec Ideal S9216x2048 .f32) (x1 : Vec Ideal S2048 .f32) (x2 : Vec Ideal S8x1x12288 .f32) (x3 : Vec Ideal S2048x7168 .bf16) :
    val_main_v61 (F := Ideal) x0 x1 x2 x3 = Cert.InIdeal.Hand.proj x0 x1 x2 x3 := by
  funext i
  idx_vars i
  unfold val_main_v61 val_main_v59 val_main_v60 val_main_v38 val_main_v58 val_main_v18
  pointwise
  unfold Cert.InIdeal.Hand.proj
  split
  · refine Finset.sum_congr rfl fun k _ => ?_
    rw [lat_apply]
    have e : i0.val / 2048 * 2048 + i0.val % 2048 = i0.val := by omega
    simp only [e]
    rfl
  · refine Finset.sum_congr rfl fun k _ => ?_
    rw [ctx_apply]
    have e : 8192 + ((i0.val - 8192) / 256 * 256 + (i0.val - 8192) % 256) = i0.val := by omega
    simp only [e]
    rfl

end Cert.InRefIdeal.Hand

namespace Cert.Proof.InClaims

/-- Over the extended reals the input projection and its reference end with equal results. -/
theorem algebraic : Cert.algebraic_InIdeal_InRefIdeal := by
  pair_intro
  · run_from Cert.InIdeal.Value.run_blocks m g
  · run_from Cert.InRefIdeal.Value.run m' g'
    rw [Cert.InIdeal.Hand.final m c, Cert.InRefIdeal.Read.val_main_v61_eq]
    rw [Cert.InRefIdeal.Hand.result_eq]
    obtain ⟨h0, h1, h2, h3⟩ := hagree c
    rw [h0, h1, h2, h3]

end Cert.Proof.InClaims

end
-- ==== Proof.OutBody.lean ====
module

public import proofs.«01_k».proof.Defs
public import proofs.«01_k».proof.Proof.Gen.OutIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen Cert.OutIdeal.Value

variable (m : (ℓ : Loc nD τ sig) → Buf (Elt Ideal) ℓ)

/-- The accumulator with a pair of 128 wide heads, side by side, times 256 rows of the weights added. -/
def pdv (acc : FVec Ideal S256x2048 .f32) (a b : FVec Ideal S256x128 .bf16) (w : Vec Ideal S1x256x2048 .bf16) : FVec Ideal S256x2048 .f32 :=
  addf acc (matmul dot_S256x256_S256x2048_S256x2048_1_0_0_1_n_n none
    (concatenate S256x256 1 [⟨S256x128, a⟩, ⟨S256x128, b⟩] concatenates_S256x128_S256x128_S256x256_d1)
    (shapeCast S256x2048 w shapeCasts_S1x256x2048_S256x2048 : FVec Ideal S256x2048 .bf16) (constant S256x2048 .f32 0x00000000#32))

/-- The retention head's normalised and gated rows, as stored for the product. -/
abbrev rh (f g : Vec Ideal S256x128 .f32) (w : Vec Ideal S1x128 .f32) (gt : Vec Ideal S256x128 .f32) : FVec Ideal S256x128 .bf16 :=
  k0_pay7 (k0_pay6 f g w gt)

/-- `pdv` at an element. -/
theorem pdv_apply (acc : FVec Ideal S256x2048 .f32) (a b : FVec Ideal S256x128 .bf16) (w : Vec Ideal S1x256x2048 .bf16) (j : S256x2048.Idx) :
    pdv acc a b w j = acc j + ∑ q : Fin 256, (if h : q.val < 128 then a (ix2 (j 0) ⟨q.val, h⟩) else b (ix2 (j 0) ⟨q.val - 128, by omega⟩)) * w (ix3 0 q (j 1)) := by
  unfold pdv
  idx_vars j
  pointwise

/-- The step over the heads 0 and 1: the retention pair, then the mLSTM pair. -/
theorem pay16_eq (acc : FVec Ideal S256x2048 .f32) (r0 m0 : FVec Ideal S256x128 .bf16) (f1 g1 : Vec Ideal S256x128 .f32) (w1 : Vec Ideal S1x128 .f32) (t1 : Vec Ideal S256x128 .f32)
    (f2 g2 : Vec Ideal S256x128 .f32) (w2 : Vec Ideal S1x128 .f32) (t2 : Vec Ideal S256x128 .f32) (wa wb : Vec Ideal S1x256x2048 .bf16) :
    k0_pay16 acc r0 m0 (k0_pay12 (k0_pay9 f1 g1) (k0_pay10 f1 g1) k0_pay11 w1 t1) (k0_pay13 f2 g2 w2) (k0_pay14 t2) k0_pay15 wa wb
      = pdv (pdv acc r0 (rh f1 g1 w1 t1) wa) m0 (k0_pay8 f2 g2 w2 t2) wb := rfl

/-- The third retention head's rows. -/
theorem pay18_eq (f g : Vec Ideal S256x128 .f32) (w : Vec Ideal S1x128 .f32) (gt : Vec Ideal S256x128 .f32) :
    k0_pay18 (k0_pay17 f g w) gt = rh f g w gt := rfl

/-- The third mLSTM head's rows. -/
theorem pay19_eq (f g : Vec Ideal S256x128 .f32) (w : Vec Ideal S1x128 .f32) (gt : Vec Ideal S256x128 .f32) :
    k0_pay19 f g w gt = k0_pay8 f g w gt := rfl

/-- The step over the heads 2 and 3: the retention pair, then the mLSTM pair. -/
theorem pay23_eq (acc : FVec Ideal S256x2048 .f32) (r0 m0 : FVec Ideal S256x128 .bf16) (f1 g1 : Vec Ideal S256x128 .f32) (w1 : Vec Ideal S1x128 .f32) (t1 : Vec Ideal S256x128 .f32)
    (f2 g2 : Vec Ideal S256x128 .f32) (w2 : Vec Ideal S1x128 .f32) (t2 : Vec Ideal S256x128 .f32) (wa wb : Vec Ideal S1x256x2048 .bf16) :
    k0_pay23 acc r0 m0 (k0_pay20 f1 g1 w1 t1) (k0_pay21 f2 g2) (k0_pay22 f2 g2) (FloatOps.ofBits FTy.f32 897988541#32) w2 t2 wa wb
      = pdv (pdv acc r0 (rh f1 g1 w1 t1) wa) m0 (k0_pay8 f2 g2 w2 t2) wb := rfl

/-- The fifth retention head's rows. -/
theorem pay27_eq (f g : Vec Ideal S256x128 .f32) (w : Vec Ideal S1x128 .f32) (gt : Vec Ideal S256x128 .f32) :
    k0_pay27 (k0_pay25 (k0_pay24 f g) w gt) = rh f g w gt := rfl

/-- The fifth mLSTM head's rows. -/
theorem pay28_eq (f g : Vec Ideal S256x128 .f32) (w : Vec Ideal S1x128 .f32) (gt : Vec Ideal S256x128 .f32) :
    k0_pay28 (k0_pay26 f g w) gt = k0_pay8 f g w gt := rfl

/-- The step over the retention heads 4 and 5. -/
theorem pay31_eq (acc : FVec Ideal S256x2048 .f32) (r0 : FVec Ideal S256x128 .bf16) (f1 g1 : Vec Ideal S256x128 .f32) (w1 : Vec Ideal S1x128 .f32) (t1 : Vec Ideal S256x128 .f32)
    (wa : Vec Ideal S1x256x2048 .bf16) :
    k0_pay31 acc r0 (k0_pay29 f1 g1 w1) t1 (k0_pay30 t1) wa = pdv acc r0 (rh f1 g1 w1 t1) wa := rfl

/-- The last step: the mLSTM heads 4 and 5, the gate and the residual stream. -/
theorem pay1_eq (acc : FVec Ideal S256x2048 .f32) (m0 : FVec Ideal S256x128 .bf16)
    (f2 g2 : Vec Ideal S256x128 .f32) (w2 : Vec Ideal S1x128 .f32) (t2 : Vec Ideal S256x128 .f32) (wb : Vec Ideal S1x256x2048 .bf16)
    (x : Vec Ideal S256x2048 .f32) (md : Vec Ideal S1x1x2048 .f32) (j : S256x2048.Idx) :
    k0_pay1 acc (k0_pay32 m0 f2 g2 w2 t2) wb x md j = x j + md (ix3 0 0 (j 1)) * pdv acc m0 (k0_pay8 f2 g2 w2 t2) wb j := by
  have e : k0_pay32 m0 f2 g2 w2 t2 = concatenate S256x256 1 [⟨S256x128, m0⟩, ⟨S256x128, k0_pay8 f2 g2 w2 t2⟩] concatenates_S256x128_S256x128_S256x256_d1 := rfl
  rw [e, pdv_apply]
  unfold k0_pay1
  idx_vars j
  pointwise

/-- The product of the gated state‑space rows with their 512 rows of the weights. -/
theorem pay5_apply (v0 : Vec Ideal S256x512 .f32) (v15 : Vec Ideal S512x1024 .bf16) (v18 : Vec Ideal S1x1024 .f32) (wa wb : Vec Ideal S1x256x2048 .bf16) (j : S256x2048.Idx) :
    k0_pay5 (k0_pay3 v0 v15 v18 wa) (k0_pay4 v0 v15 v18) wb j
      = (∑ q : Fin 256, k0_pay2 v0 v15 v18 (ix2 (j 0) ⟨q.val, by omega⟩) * wa (ix3 0 q (j 1)))
        + ∑ q : Fin 256, k0_pay2 v0 v15 v18 (ix2 (j 0) ⟨256 + q.val, by omega⟩) * wb (ix3 0 q (j 1)) := by
  unfold k0_pay5 k0_pay3 k0_pay4
  idx_vars j
  pointwise

/-- A head's columns read from a row block. -/
theorem ldA (v : Vec Ideal S256x768 .f32) (o : ℕ) (h : _) (ho : o + 128 ≤ 768) (j : S256x128.Idx) :
    View.ld v (Rect.unit ![0, o] ![256, 128] h) j = v (ix2 (j 0) ⟨o + (j 1).val, by have : (j 1).val < 128 := (j 1).isLt; omega⟩) := by
  pointwise

/-- A head's columns read from a row of weights. -/
theorem ldN (v : Vec Ideal S1x768 .f32) (o : ℕ) (h : _) (ho : o + 128 ≤ 768) (j : S1x128.Idx) :
    View.ld v (Rect.unit ![0, o] ![1, 128] h) j = v (ix2 0 ⟨o + (j 1).val, by have : (j 1).val < 128 := (j 1).isLt; omega⟩) := by
  pointwise

/-- 256 rows read from the weights' block. -/
theorem ldW (v : Vec Ideal S1x2048x2048 .bf16) (o : ℕ) (h : _) (ho : o + 256 ≤ 2048) (j : S1x256x2048.Idx) :
    View.ld v (Rect.unit ![0, o, 0] ![1, 256, 2048] h) j = v (ix3 0 ⟨o + (j 1).val, by have : (j 1).val < 256 := (j 1).isLt; omega⟩ (j 2)) := by
  pointwise

/-- One head of the mLSTM's output, normalised over its 128 columns, scaled and gated. -/
def mlF (u w gt : Fin 128 → EReal) (k : Fin 128) : EReal :=
  u k * Ideal.rsqrt (Ideal.div (∑ x, u x * u x) (Ideal.ofBits FTy.f32 1124073472#32) + Ideal.ofBits FTy.f32 897988541#32) * w k
    * Ideal.div 1 (1 + Ideal.exp (-(gt k)))

/-- One head of the retention's output, centred and normalised over its 128 columns, scaled and gated. -/
def rtF (u w gt : Fin 128 → EReal) (k : Fin 128) : EReal :=
  (u k - Ideal.div (∑ x, u x) (Ideal.ofBits FTy.f32 1124073472#32))
    * Ideal.rsqrt (Ideal.div (∑ x, (u x - Ideal.div (∑ y, u y) (Ideal.ofBits FTy.f32 1124073472#32)) * (u x - Ideal.div (∑ y, u y) (Ideal.ofBits FTy.f32 1124073472#32))) (Ideal.ofBits FTy.f32 1124073472#32) + Ideal.ofBits FTy.f32 897988541#32) * w k
    * (gt k * Ideal.div 1 (1 + Ideal.exp (-(gt k))))

/-- The smooth rectifier of one entry. -/
def gelu (v : EReal) : EReal :=
  Ideal.ofBits FTy.f32 1056964608#32 * v * (1 + Ideal.tanh (Ideal.ofBits FTy.f32 1061962282#32 * (v + Ideal.ofBits FTy.f32 1027024659#32 * (v * v * v))))

/-- The state-space rows' gated linear unit at an element. -/
def gluF (v : Fin 512 → EReal) (W : Fin 512 → Fin 1024 → EReal) (b : Fin 1024 → EReal) (k : Fin 512) : EReal :=
  (∑ x, gelu (v x) * W x ⟨k.val, by omega⟩ + b ⟨k.val, by omega⟩)
    * Ideal.div 1 (1 + Ideal.exp (-(∑ x, gelu (v x) * W x ⟨512 + k.val, by omega⟩ + b ⟨512 + k.val, by omega⟩)))

/-- An mLSTM head's rows at an element. -/
theorem pay8_apply (f g : Vec Ideal S256x128 .f32) (w : Vec Ideal S1x128 .f32) (gt : Vec Ideal S256x128 .f32) (j : S256x128.Idx) :
    k0_pay8 f g w gt j = mlF (fun x => f (ix2 (j 0) x) + g (ix2 (j 0) x)) (fun x => w (ix2 0 x)) (fun x => gt (ix2 (j 0) x)) (j 1) := by
  unfold k0_pay8 mlF
  idx_vars j
  pointwise
  simp only [zero_sub]

/-- A retention head's rows at an element. -/
theorem rh_apply (f g : Vec Ideal S256x128 .f32) (w : Vec Ideal S1x128 .f32) (gt : Vec Ideal S256x128 .f32) (j : S256x128.Idx) :
    rh f g w gt j = rtF (fun x => f (ix2 (j 0) x) + g (ix2 (j 0) x)) (fun x => w (ix2 0 x)) (fun x => gt (ix2 (j 0) x)) (j 1) := by
  unfold rh k0_pay7 k0_pay6 rtF
  idx_vars j
  pointwise
  simp only [zero_sub]

/-- The gated state-space rows at an element. -/
theorem pay2_apply (v0 : Vec Ideal S256x512 .f32) (v15 : Vec Ideal S512x1024 .bf16) (v18 : Vec Ideal S1x1024 .f32) (j : S256x512.Idx) :
    k0_pay2 v0 v15 v18 j = gluF (fun x => v0 (ix2 (j 0) x)) (fun x y => v15 (ix2 x y)) (fun x => v18 (ix2 0 x)) (j 1) := by
  unfold k0_pay2 gluF gelu
  idx_vars j
  pointwise
  simp only [zero_sub]

/-- Column `k` of one retention head's rows, the head's columns starting at `o`. -/
def rtO (p q : Vec Ideal S9216x768 .f32) (a : Vec Ideal S9216x7168 .f32) (w : Vec Ideal S768 .f32) (r : Fin 8192) (o : ℕ) (ho : o + 128 ≤ 768) (k : Fin 128) : EReal :=
  rtF (fun x => p (ix2 ⟨r.val, by omega⟩ ⟨o + x.val, by omega⟩) + q (ix2 ⟨r.val, by omega⟩ ⟨o + x.val, by omega⟩))
    (fun x => w (ix1 ⟨o + x.val, by omega⟩)) (fun x => a (ix2 ⟨r.val, by omega⟩ ⟨2304 + (o + x.val), by omega⟩)) k

/-- Column `k` of one mLSTM head's rows, the head's columns starting at `o`. -/
def mlO (p q : Vec Ideal S9216x768 .f32) (a : Vec Ideal S9216x7168 .f32) (w : Vec Ideal S768 .f32) (r : Fin 8192) (o : ℕ) (ho : o + 128 ≤ 768) (k : Fin 128) : EReal :=
  mlF (fun x => p (ix2 ⟨r.val, by omega⟩ ⟨o + x.val, by omega⟩) + q (ix2 ⟨r.val, by omega⟩ ⟨o + x.val, by omega⟩))
    (fun x => w (ix1 ⟨o + x.val, by omega⟩)) (fun x => a (ix2 ⟨r.val, by omega⟩ ⟨5376 + (o + x.val), by omega⟩)) k

/-- The retention head's entry depends on the offset and the column only. -/
theorem rtO_congr (p q : Vec Ideal S9216x768 .f32) (a : Vec Ideal S9216x7168 .f32) (w : Vec Ideal S768 .f32) (r : Fin 8192) (o o' : ℕ) (ho : o + 128 ≤ 768) (ho' : o' + 128 ≤ 768)
    (k k' : Fin 128) (e : o = o') (ek : k.val = k'.val) : rtO p q a w r o ho k = rtO p q a w r o' ho' k' := by
  obtain rfl := e
  obtain rfl := Fin.ext ek
  rfl

/-- The mLSTM head's entry depends on the offset and the column only. -/
theorem mlO_congr (p q : Vec Ideal S9216x768 .f32) (a : Vec Ideal S9216x7168 .f32) (w : Vec Ideal S768 .f32) (r : Fin 8192) (o o' : ℕ) (ho : o + 128 ≤ 768) (ho' : o' + 128 ≤ 768)
    (k k' : Fin 128) (e : o = o') (ek : k.val = k'.val) : mlO p q a w r o ho k = mlO p q a w r o' ho' k' := by
  obtain rfl := e
  obtain rfl := Fin.ext ek
  rfl

/-- The thirteen argument arrays. -/
structure Args where
  s : Vec Ideal S9216x512 .f32
  wg : Vec Ideal S512x1024 .f32
  bg : Vec Ideal S1024 .f32
  rf : Vec Ideal S9216x768 .f32
  rb : Vec Ideal S9216x768 .f32
  mf : Vec Ideal S9216x768 .f32
  mb : Vec Ideal S9216x768 .f32
  a : Vec Ideal S9216x7168 .f32
  rn : Vec Ideal S768 .f32
  mn : Vec Ideal S768 .f32
  x : Vec Ideal S9216x2048 .f32
  md : Vec Ideal S8x1x12288 .f32
  w : Vec Ideal S2x2048x2048 .f32

/-- Column `k` of row `r` of the concatenated branches: the gated state-space rows, the retention heads, the mLSTM heads. -/
def feat (A : Args) (r : Fin 8192) (k : Fin 2048) : EReal :=
  if h1 : k.val < 512 then gluF (fun x => A.s (ix2 ⟨r.val, by omega⟩ x)) (fun x y => A.wg (ix2 x y)) (fun x => A.bg (ix1 x)) ⟨k.val, h1⟩
  else if h2 : k.val < 1280 then rtO A.rf A.rb A.a A.rn r ((k.val - 512) / 128 * 128) (by omega) ⟨(k.val - 512) % 128, by omega⟩
  else mlO A.mf A.mb A.a A.mn r ((k.val - 1280) / 128 * 128) (by omega) ⟨(k.val - 1280) % 128, by omega⟩

/-- The residual stream plus the gated projection of the branches. -/
def outp (A : Args) : Vec Ideal S8192x2048 .f32 :=
  fun i => A.x (ix2 ⟨(i 0).val, by have : (i 0).val < 8192 := (i 0).isLt; omega⟩ (i 1))
    + A.md (ix3 ⟨(i 0).val / 2048, by have : (i 0).val < 8192 := (i 0).isLt; omega⟩ 0 ⟨4096 + (i 1).val, by have : (i 1).val < 2048 := (i 1).isLt; omega⟩)
      * ∑ k : Fin 2048, feat A (i 0) k * A.w (ix3 1 k (i 1))

/-- A sum over 2048 columns as the eight sums of 256 in the order the kernel adds them. -/
theorem sum_eight (g : Fin 2048 → EReal) (s : ℕ → EReal) (hs : ∀ (o : ℕ) (ho : o + 256 ≤ 2048), s o = ∑ q : Fin 256, g ⟨o + q.val, by omega⟩) :
    ∑ k, g k = s 0 + s 256 + s 512 + s 1280 + s 768 + s 1536 + s 1024 + s 1792 := by
  rw [Fin.sum_univ_tiles 8 256 rfl, Fin.sum_univ_eight]
  have e : s 0 + s 256 + s 512 + s 1280 + s 768 + s 1536 + s 1024 + s 1792
      = s 0 + s 256 + s 512 + s 768 + s 1024 + s 1280 + s 1536 + s 1792 := by ac_rfl
  rw [e, hs 0 (by omega), hs 256 (by omega), hs 512 (by omega), hs 768 (by omega), hs 1024 (by omega), hs 1280 (by omega), hs 1536 (by omega), hs 1792 (by omega)]
  rfl

end Cert.OutIdeal.Hand

end
-- ==== Proof.OutBlk.lean ====
module

public import proofs.«01_k».proof.Defs
public import proofs.«01_k».proof.Proof.OutBody
public import proofs.«01_k».proof.Proof.Gen.OutIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen Cert.OutIdeal.Value

variable (m : (ℓ : Loc nD τ sig) → Buf (Elt Ideal) ℓ)

/-- The block every window takes at a point. -/
theorem idx : ∀ t : Fin cfg0.N, win0_0.index t = ![t.val, 0] ∧ win0_1.index t = ![0, 0] ∧ win0_2.index t = ![0, 0]
  ∧ win0_3.index t = ![t.val, 0] ∧ win0_4.index t = ![t.val, 0] ∧ win0_5.index t = ![t.val, 3] ∧ win0_6.index t = ![0, 0]
  ∧ win0_7.index t = ![t.val, 0] ∧ win0_8.index t = ![t.val, 0] ∧ win0_9.index t = ![t.val, 7] ∧ win0_10.index t = ![0, 0]
  ∧ win0_11.index t = ![t.val, 0] ∧ win0_12.index t = ![t.val / 8, 0, 2] ∧ win0_13.index t = ![1, 0, 0] ∧ win0_14.index t = ![t.val, 0] :=
  (by decide +kernel : ∀ t : Fin grid0.N, _)

/-- The argument arrays as the region finds them. -/
abbrev AR (c : Dev nD) : Args where
  s := m ((c : Thread nD τ).loc main_arg0)
  wg := m ((c : Thread nD τ).loc main_arg1)
  bg := m ((c : Thread nD τ).loc main_arg2)
  rf := m ((c : Thread nD τ).loc main_arg3)
  rb := m ((c : Thread nD τ).loc main_arg4)
  mf := m ((c : Thread nD τ).loc main_arg5)
  mb := m ((c : Thread nD τ).loc main_arg6)
  a := m ((c : Thread nD τ).loc main_arg7)
  rn := m ((c : Thread nD τ).loc main_arg8)
  mn := m ((c : Thread nD τ).loc main_arg9)
  x := m ((c : Thread nD τ).loc main_arg10)
  md := m ((c : Thread nD τ).loc main_arg11)
  w := m ((c : Thread nD τ).loc main_arg12)

/-- The row of the arrays that row `i` of a point's blocks holds. -/
abbrev rw' (t : Fin cfg0.N) (i : Fin 256) : Fin 8192 := ⟨t.val * 256 + i.val, by have := lt_of_lt_of_eq t.isLt N_0; omega⟩

/-- Input block 0 at a point: its rows. -/
theorem iblk0_eq (c : Dev nD) (t : Fin cfg0.N) (i : Fin 256) (k : Fin 512) :
    (iblk m c 0 t : Vec Ideal S256x512 .f32) (ix2 i k) = (AR m c).s (ix2 ⟨(rw' t i).val, by omega⟩ k) := by
  blk_ext [iblk, V, idx t]

/-- Input block 3 at a point: its rows. -/
theorem iblk3_eq (c : Dev nD) (t : Fin cfg0.N) (i : Fin 256) (k : Fin 768) :
    (iblk m c 3 t : Vec Ideal S256x768 .f32) (ix2 i k) = (AR m c).rf (ix2 ⟨(rw' t i).val, by omega⟩ k) := by
  blk_ext [iblk, V, idx t]

/-- Input block 4 at a point: its rows. -/
theorem iblk4_eq (c : Dev nD) (t : Fin cfg0.N) (i : Fin 256) (k : Fin 768) :
    (iblk m c 4 t : Vec Ideal S256x768 .f32) (ix2 i k) = (AR m c).rb (ix2 ⟨(rw' t i).val, by omega⟩ k) := by
  blk_ext [iblk, V, idx t]

/-- Input block 7 at a point: its rows. -/
theorem iblk7_eq (c : Dev nD) (t : Fin cfg0.N) (i : Fin 256) (k : Fin 768) :
    (iblk m c 7 t : Vec Ideal S256x768 .f32) (ix2 i k) = (AR m c).mf (ix2 ⟨(rw' t i).val, by omega⟩ k) := by
  blk_ext [iblk, V, idx t]

/-- Input block 8 at a point: its rows. -/
theorem iblk8_eq (c : Dev nD) (t : Fin cfg0.N) (i : Fin 256) (k : Fin 768) :
    (iblk m c 8 t : Vec Ideal S256x768 .f32) (ix2 i k) = (AR m c).mb (ix2 ⟨(rw' t i).val, by omega⟩ k) := by
  blk_ext [iblk, V, idx t]

/-- Input block 11 at a point: its rows. -/
theorem iblk11_eq (c : Dev nD) (t : Fin cfg0.N) (i : Fin 256) (k : Fin 2048) :
    (iblk m c 11 t : Vec Ideal S256x2048 .f32) (ix2 i k) = (AR m c).x (ix2 ⟨(rw' t i).val, by omega⟩ k) := by
  blk_ext [iblk, V, idx t]

/-- Input block 5: the gate's columns. -/
theorem x5_eq (c : Dev nD) (t : Fin cfg0.N) (i : Fin 256) (k : Fin 768) :
    (X0_5 m c t : Vec Ideal S256x768 .f32) (ix2 i k) = (AR m c).a (ix2 ⟨(rw' t i).val, by omega⟩ ⟨2304 + k.val, by omega⟩) := by
  unfold X0_5 Pipeline.Window.fill
  rw [dif_pos (moved0_5 t _)]
  blk_ext [iblk, V, idx t]

/-- Input block 9: the gate's columns. -/
theorem x9_eq (c : Dev nD) (t : Fin cfg0.N) (i : Fin 256) (k : Fin 768) :
    (X0_9 m c t : Vec Ideal S256x768 .f32) (ix2 i k) = (AR m c).a (ix2 ⟨(rw' t i).val, by omega⟩ ⟨5376 + k.val, by omega⟩) := by
  unfold X0_9 Pipeline.Window.fill
  rw [dif_pos (moved0_9 t _)]
  blk_ext [iblk, V, idx t]

/-- Input block 2: a row of weights. -/
theorem iblk2_eq (c : Dev nD) (t : Fin cfg0.N) (k : Fin 1024) :
    (iblk m c 2 t : Vec Ideal S1x1024 .f32) (ix2 0 k) = (AR m c).bg (ix1 k) := by
  blk_simp [iblk, idx t]
  unfold_abbrev_sides
  after_results
  pointwise
  blk_ext [idx t]

/-- Input block 6: a row of weights. -/
theorem iblk6_eq (c : Dev nD) (t : Fin cfg0.N) (k : Fin 768) :
    (iblk m c 6 t : Vec Ideal S1x768 .f32) (ix2 0 k) = (AR m c).rn (ix1 k) := by
  blk_simp [iblk, idx t]
  unfold_abbrev_sides
  after_results
  pointwise
  blk_ext [idx t]

/-- Input block 10: a row of weights. -/
theorem iblk10_eq (c : Dev nD) (t : Fin cfg0.N) (k : Fin 768) :
    (iblk m c 10 t : Vec Ideal S1x768 .f32) (ix2 0 k) = (AR m c).mn (ix1 k) := by
  blk_simp [iblk, idx t]
  unfold_abbrev_sides
  after_results
  pointwise
  blk_ext [idx t]

/-- Input block 1: the gated linear unit's weights. -/
theorem iblk1_eq (c : Dev nD) (t : Fin cfg0.N) (x : Fin 512) (y : Fin 1024) :
    (iblk m c 1 t : Vec Ideal S512x1024 .bf16) (ix2 x y) = (AR m c).wg (ix2 x y) := by
  blk_simp [iblk, idx t]
  unfold_abbrev_sides
  after_results
  pointwise
  blk_ext [idx t]

/-- Input block 12: the gate of the point's batch. -/
theorem iblk12_eq (c : Dev nD) (t : Fin cfg0.N) (k : Fin 2048) :
    (iblk m c 12 t : Vec Ideal S1x1x2048 .f32) (ix3 0 0 k) = (AR m c).md (ix3 ⟨t.val / 8, by have := lt_of_lt_of_eq t.isLt N_0; omega⟩ 0 ⟨4096 + k.val, by omega⟩) := by
  blk_ext [iblk, V, idx t]

/-- Input block 13: the last layer's weights. -/
theorem iblk13_eq (c : Dev nD) (t : Fin cfg0.N) (x y : Fin 2048) :
    (iblk m c 13 t : Vec Ideal S1x2048x2048 .bf16) (ix3 0 x y) = (AR m c).w (ix3 1 x y) := by
  blk_simp [iblk, idx t]
  unfold_abbrev_sides
  after_results
  pointwise
  blk_ext [idx t]

/-- A retention head's rows at a point, the head's columns starting at `o`. -/
theorem rh_eq (c : Dev nD) (t : Fin cfg0.N) (o : ℕ) (h : _) (h' : _) (ho : o + 128 ≤ 768) (i : Fin 256) (k : Fin 128) :
    rh (View.ld (iblk m c 3 t : Vec Ideal S256x768 .f32) (Rect.unit ![0, o] ![256, 128] h)) (View.ld (iblk m c 4 t : Vec Ideal S256x768 .f32) (Rect.unit ![0, o] ![256, 128] h))
      (View.ld (iblk m c 6 t : Vec Ideal S1x768 .f32) (Rect.unit ![0, o] ![1, 128] h')) (View.ld (X0_5 m c t : Vec Ideal S256x768 .f32) (Rect.unit ![0, o] ![256, 128] h)) (ix2 i k)
      = rtO (AR m c).rf (AR m c).rb (AR m c).a (AR m c).rn (rw' t i) o ho k := by
  rw [rh_apply]
  unfold rtO
  congr 1
  · funext x
    rw [ldA _ o h ho, ldA _ o h ho]
    exact congrArg₂ _ (iblk3_eq m c t i _) (iblk4_eq m c t i _)
  · funext x
    rw [ldN _ o h' ho]
    exact iblk6_eq m c t _
  · funext x
    rw [ldA _ o h ho]
    exact x5_eq m c t i _

/-- An mLSTM head's rows at a point, the head's columns starting at `o`. -/
theorem mh_eq (c : Dev nD) (t : Fin cfg0.N) (o : ℕ) (h : _) (h' : _) (ho : o + 128 ≤ 768) (i : Fin 256) (k : Fin 128) :
    k0_pay8 (View.ld (iblk m c 7 t : Vec Ideal S256x768 .f32) (Rect.unit ![0, o] ![256, 128] h)) (View.ld (iblk m c 8 t : Vec Ideal S256x768 .f32) (Rect.unit ![0, o] ![256, 128] h))
      (View.ld (iblk m c 10 t : Vec Ideal S1x768 .f32) (Rect.unit ![0, o] ![1, 128] h')) (View.ld (X0_9 m c t : Vec Ideal S256x768 .f32) (Rect.unit ![0, o] ![256, 128] h)) (ix2 i k)
      = mlO (AR m c).mf (AR m c).mb (AR m c).a (AR m c).mn (rw' t i) o ho k := by
  rw [pay8_apply]
  unfold mlO
  congr 1
  · funext x
    rw [ldA _ o h ho, ldA _ o h ho]
    exact congrArg₂ _ (iblk7_eq m c t i _) (iblk8_eq m c t i _)
  · funext x
    rw [ldN _ o h' ho]
    exact iblk10_eq m c t _
  · funext x
    rw [ldA _ o h ho]
    exact x9_eq m c t i _

/-- The products of 256 columns of the branches with their rows of the weights, summed. -/
def part (A : Args) (r : Fin 8192) (n : Fin 2048) (o : ℕ) : EReal :=
  if ho : o + 256 ≤ 2048 then ∑ q : Fin 256, feat A r ⟨o + q.val, by omega⟩ * A.w (ix3 1 ⟨o + q.val, by omega⟩ n) else 0

/-- A pair of retention heads adds its part of the sum. -/
theorem pair_rt (c : Dev nD) (t : Fin cfg0.N) (o o2 ow : ℕ) (h : _) (h' : _) (h2 : _) (h2' : _) (hw : _) (ho : o % 256 = 0) (ho2 : o + 256 ≤ 768)
    (e2 : o2 = o + 128) (ew : ow = 512 + o) (acc : FVec Ideal S256x2048 .f32) (i : Fin 256) (n : Fin 2048) :
    pdv acc
      (rh (View.ld (iblk m c 3 t : Vec Ideal S256x768 .f32) (Rect.unit ![0, o] ![256, 128] h)) (View.ld (iblk m c 4 t : Vec Ideal S256x768 .f32) (Rect.unit ![0, o] ![256, 128] h))
        (View.ld (iblk m c 6 t : Vec Ideal S1x768 .f32) (Rect.unit ![0, o] ![1, 128] h')) (View.ld (X0_5 m c t : Vec Ideal S256x768 .f32) (Rect.unit ![0, o] ![256, 128] h)))
      (rh (View.ld (iblk m c 3 t : Vec Ideal S256x768 .f32) (Rect.unit ![0, o2] ![256, 128] h2)) (View.ld (iblk m c 4 t : Vec Ideal S256x768 .f32) (Rect.unit ![0, o2] ![256, 128] h2))
        (View.ld (iblk m c 6 t : Vec Ideal S1x768 .f32) (Rect.unit ![0, o2] ![1, 128] h2')) (View.ld (X0_5 m c t : Vec Ideal S256x768 .f32) (Rect.unit ![0, o2] ![256, 128] h2)))
      (View.ld (iblk m c 13 t : Vec Ideal S1x2048x2048 .bf16) (Rect.unit ![0, ow, 0] ![1, 256, 2048] hw)) (ix2 i n)
      = acc (ix2 i n) + part (AR m c) (rw' t i) n ow := by
  rw [pdv_apply]
  unfold part
  rw [dif_pos (by omega)]
  refine congrArg _ (Finset.sum_congr rfl fun q _ => ?_)
  rw [ldW _ ow hw (by omega)]
  refine congrArg₂ _ ?_ (iblk13_eq m c t _ n)
  unfold feat
  rw [dif_neg (show ¬ (ow + q.val < 512) by omega), dif_pos (show ow + q.val < 1280 by omega)]
  split
  · refine (rh_eq m c t o h h' (by omega) i _).trans (rtO_congr _ _ _ _ _ _ _ _ _ _ _ ?_ ?_)
    · show o = (ow + q.val - 512) / 128 * 128
      omega
    · show q.val = (ow + q.val - 512) % 128
      omega
  · refine (rh_eq m c t o2 h2 h2' (by omega) i _).trans (rtO_congr _ _ _ _ _ _ _ _ _ _ _ ?_ ?_)
    · show o2 = (ow + q.val - 512) / 128 * 128
      omega
    · show q.val - 128 = (ow + q.val - 512) % 128
      omega

/-- A pair of mLSTM heads adds its part of the sum. -/
theorem pair_ml (c : Dev nD) (t : Fin cfg0.N) (o o2 ow : ℕ) (h : _) (h' : _) (h2 : _) (h2' : _) (hw : _) (ho : o % 256 = 0) (ho2 : o + 256 ≤ 768)
    (e2 : o2 = o + 128) (ew : ow = 1280 + o) (acc : FVec Ideal S256x2048 .f32) (i : Fin 256) (n : Fin 2048) :
    pdv acc
      (k0_pay8 (View.ld (iblk m c 7 t : Vec Ideal S256x768 .f32) (Rect.unit ![0, o] ![256, 128] h)) (View.ld (iblk m c 8 t : Vec Ideal S256x768 .f32) (Rect.unit ![0, o] ![256, 128] h))
        (View.ld (iblk m c 10 t : Vec Ideal S1x768 .f32) (Rect.unit ![0, o] ![1, 128] h')) (View.ld (X0_9 m c t : Vec Ideal S256x768 .f32) (Rect.unit ![0, o] ![256, 128] h)))
      (k0_pay8 (View.ld (iblk m c 7 t : Vec Ideal S256x768 .f32) (Rect.unit ![0, o2] ![256, 128] h2)) (View.ld (iblk m c 8 t : Vec Ideal S256x768 .f32) (Rect.unit ![0, o2] ![256, 128] h2))
        (View.ld (iblk m c 10 t : Vec Ideal S1x768 .f32) (Rect.unit ![0, o2] ![1, 128] h2')) (View.ld (X0_9 m c t : Vec Ideal S256x768 .f32) (Rect.unit ![0, o2] ![256, 128] h2)))
      (View.ld (iblk m c 13 t : Vec Ideal S1x2048x2048 .bf16) (Rect.unit ![0, ow, 0] ![1, 256, 2048] hw)) (ix2 i n)
      = acc (ix2 i n) + part (AR m c) (rw' t i) n ow := by
  rw [pdv_apply]
  unfold part
  rw [dif_pos (by omega)]
  refine congrArg _ (Finset.sum_congr rfl fun q _ => ?_)
  rw [ldW _ ow hw (by omega)]
  refine congrArg₂ _ ?_ (iblk13_eq m c t _ n)
  unfold feat
  rw [dif_neg (show ¬ (ow + q.val < 512) by omega), dif_neg (show ¬ (ow + q.val < 1280) by omega)]
  split
  · refine (mh_eq m c t o h h' (by omega) i _).trans (mlO_congr _ _ _ _ _ _ _ _ _ _ _ ?_ ?_)
    · show o = (ow + q.val - 1280) / 128 * 128
      omega
    · show q.val = (ow + q.val - 1280) % 128
      omega
  · refine (mh_eq m c t o2 h2 h2' (by omega) i _).trans (mlO_congr _ _ _ _ _ _ _ _ _ _ _ ?_ ?_)
    · show o2 = (ow + q.val - 1280) / 128 * 128
      omega
    · show q.val - 128 = (ow + q.val - 1280) % 128
      omega

/-- The gated state-space rows at a point. -/
theorem glu_eq (c : Dev nD) (t : Fin cfg0.N) (i : Fin 256) (k : Fin 512) (n : Fin 2048) (e : n.val = k.val) :
    k0_pay2 (iblk m c 0 t : Vec Ideal S256x512 .f32) (iblk m c 1 t : Vec Ideal S512x1024 .bf16) (iblk m c 2 t : Vec Ideal S1x1024 .f32) (ix2 i k) = feat (AR m c) (rw' t i) n := by
  rw [pay2_apply]
  unfold feat
  rw [dif_pos (show n.val < 512 by omega)]
  obtain ⟨k, hk⟩ := k
  obtain ⟨n, hn⟩ := n
  obtain rfl : n = k := e
  show gluF _ _ _ _ = _
  congr 1
  · funext x
    exact iblk0_eq m c t i x
  · funext x y
    exact iblk1_eq m c t x y
  · funext x
    exact iblk2_eq m c t x

/-- The gated state-space rows' two parts of the sum. -/
theorem pair_glu (c : Dev nD) (t : Fin cfg0.N) (ha : _) (hb : _) (i : Fin 256) (n : Fin 2048) :
    k0_pay5 (k0_pay3 (iblk m c 0 t : Vec Ideal S256x512 .f32) (iblk m c 1 t : Vec Ideal S512x1024 .bf16) (iblk m c 2 t : Vec Ideal S1x1024 .f32)
        (View.ld (iblk m c 13 t : Vec Ideal S1x2048x2048 .bf16) (Rect.unit ![0, 0, 0] ![1, 256, 2048] ha)))
      (k0_pay4 (iblk m c 0 t : Vec Ideal S256x512 .f32) (iblk m c 1 t : Vec Ideal S512x1024 .bf16) (iblk m c 2 t : Vec Ideal S1x1024 .f32))
      (View.ld (iblk m c 13 t : Vec Ideal S1x2048x2048 .bf16) (Rect.unit ![0, 256, 0] ![1, 256, 2048] hb)) (ix2 i n)
      = part (AR m c) (rw' t i) n 0 + part (AR m c) (rw' t i) n 256 := by
  rw [pay5_apply]
  unfold part
  rw [dif_pos (by omega), dif_pos (by omega)]
  refine congrArg₂ _ (Finset.sum_congr rfl fun q _ => ?_) (Finset.sum_congr rfl fun q _ => ?_)
  · rw [ldW _ 0 ha (by omega)]
    refine congrArg₂ _ (glu_eq m c t i _ _ ?_) (iblk13_eq m c t _ n)
    show 0 + q.val = q.val
    omega
  · rw [ldW _ 256 hb (by omega)]
    exact congrArg₂ _ (glu_eq m c t i _ _ rfl) (iblk13_eq m c t _ n)

/-- The block a point stores: its rows of the output. -/
theorem out_val (c : Dev nD) (t : Fin cfg0.N) (i : Fin 256) (n : Fin 2048) : outsAt0 m c t (ix2 i n) = outp (AR m c) (ix2 (rw' t i) n) := by
  unfold outsAt0
  frame_out
  rw [pay16_eq, pay18_eq, pay19_eq, pay23_eq, pay27_eq, pay28_eq, pay31_eq, pay1_eq]
  have e : ∑ k : Fin 2048, feat (AR m c) (rw' t i) k * (AR m c).w (ix3 1 k n) = _ :=
    sum_eight (fun k => feat (AR m c) (rw' t i) k * (AR m c).w (ix3 1 k n)) (part (AR m c) (rw' t i) n) (fun o ho => by unfold part; rw [dif_pos ho])
  have e8 : (rw' t i).val / 2048 = t.val / 8 := by
    show (t.val * 256 + i.val) / 2048 = _
    omega
  show _ = (AR m c).x (ix2 ⟨(rw' t i).val, _⟩ n) + (AR m c).md (ix3 ⟨(rw' t i).val / 2048, _⟩ 0 ⟨4096 + n.val, _⟩) * ∑ k : Fin 2048, feat (AR m c) (rw' t i) k * (AR m c).w (ix3 1 k n)
  rw [e]
  simp only [e8]
  refine congrArg₂ _ (iblk11_eq m c t i n) (congrArg₂ _ (iblk12_eq m c t n) ?_)
  refine (pair_ml m c t 512 640 1792 _ _ _ _ _ rfl (by omega) rfl rfl _ i n).trans (congrArg (· + _) ?_)
  refine (pair_rt m c t 512 640 1024 _ _ _ _ _ rfl (by omega) rfl rfl _ i n).trans (congrArg (· + _) ?_)
  refine (pair_ml m c t 256 384 1536 _ _ _ _ _ rfl (by omega) rfl rfl _ i n).trans (congrArg (· + _) ?_)
  refine (pair_rt m c t 256 384 768 _ _ _ _ _ rfl (by omega) rfl rfl _ i n).trans (congrArg (· + _) ?_)
  refine (pair_ml m c t 0 128 1280 _ _ _ _ _ rfl (by omega) rfl rfl _ i n).trans (congrArg (· + _) ?_)
  refine (pair_rt m c t 0 128 512 _ _ _ _ _ rfl (by omega) rfl rfl _ i n).trans (congrArg (· + _) ?_)
  exact pair_glu m c t _ _ i n

/-- The same at an index. -/
theorem out_val' (c : Dev nD) (t : Fin cfg0.N) (j : S256x2048.Idx) : outsAt0 m c t j = outp (AR m c) (ix2 (rw' t ⟨(j 0).val, (j 0).isLt⟩) ⟨(j 1).val, (j 1).isLt⟩) := by
  idx_vars j
  exact out_val m c t j0 j1

/-- The output array is the residual stream plus the gated projection. -/
theorem final (c : Dev nD) : (dats m 0 c).arrAt 14 cfg0.N = outp (AR m c) := by
  refine (dats m 0 c).arrAt_eq_of_covers 14 _ (by decide +kernel) fun t hf y => ?_
  have h1 := lt_of_lt_of_eq t.isLt N_0
  have y0 : (y 0).val < 256 := (y 0).isLt
  have y1 : (y 1).val < 2048 := (y 1).isLt
  have e : (((cfg0.win 14).blk t).view.emb y : S8192x2048.Idx) = ix2 (rw' t ⟨(y 0).val, y0⟩) ⟨(y 1).val, y1⟩ := by
    blk_ext [idx t]
  refine Eq.trans ?_ (congrArg (outp (AR m c)) e).symm
  blk_simp
  rw [after0_14]
  exact out_val' m c t y

end Cert.OutIdeal.Hand

end
-- ==== Proof.OutValue.lean ====
module

public import proofs.«01_k».proof.Defs
public import proofs.«01_k».proof.Proof.OutBlk
public import proofs.«01_k».proof.Proof.Gen.OutRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutRefIdeal.Hand

open Cert.OutRefIdeal Cert.OutRefIdeal.Gen Cert.OutRefIdeal.Read
open Cert.OutIdeal.Hand (gluF gelu rtF mlF rtO mlO feat outp Args)

/-- The reference's rectified state-space rows. -/
theorem gelu_apply (x0 : Vec Ideal S9216x512 .f32) (r : Fin 8192) (k : Fin 512) :
    val_main_v16 (F := Ideal) x0 (ix2 r k) = gelu (x0 (ix2 ⟨r.val, by omega⟩ k)) := by
  unfold val_main_v16 val_main_v15 val_main_v14 val_main_v13 val_main_v12 val_main_v11 val_main_v10 val_main_v9 val_main_v8 val_main_v7 val_main_v6 val_main_v5 val_main_v4 val_main_v3 val_main_cst val_main_cst_0 val_main_cst_1 val_main_cst_2
  pointwise
  unfold gelu
  rw [← mul_assoc, mul_comm (x0 _) (Ideal.ofBits FTy.f32 1056964608#32)]

/-- The reference's gated state-space rows. -/
theorem glu_apply (x0 : Vec Ideal S9216x512 .f32) (x1 : Vec Ideal S512x1024 .f32) (x2 : Vec Ideal S1024 .f32) (r : Fin 8192) (k : Fin 512) :
    val_main_v29 (F := Ideal) x0 x1 x2 (ix2 r k) = gluF (fun x => x0 (ix2 ⟨r.val, by omega⟩ x)) (fun x y => x1 (ix2 x y)) (fun x => x2 (ix1 x)) k := by
  unfold val_main_v29 val_main_v28 val_main_v27 val_main_v26 val_main_v25 val_main_v24 val_main_v23 val_main_v22 val_main_v21 val_main_v20 val_main_v19 val_main_v18 val_main_v17 val_main_cst_3 val_main_cst_4
  pointwise
  simp only [gelu_apply]
  unfold gluF
  rfl

/-- The reference's retention rows. -/
theorem rt_apply (x3 x4 : Vec Ideal S9216x768 .f32) (x7 : Vec Ideal S9216x7168 .f32) (x8 : Vec Ideal S768 .f32) (r : Fin 8192) (k : Fin 768) :
    val_main_v61 (F := Ideal) x3 x4 x7 x8 (ix2 r k) = rtO x3 x4 x7 x8 r (k.val / 128 * 128) (by omega) ⟨k.val % 128, by omega⟩ := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_cst_5 val_main_cst_6 val_main_cst_7 val_main_cst_8 val_main_cst_9 val_main_cst_10 val_main_cst_11 val_main_v1
  pointwise
  unfold rtO rtF
  have e : k.val / 128 * 128 + k.val % 128 = k.val := by omega
  simp only [e]

/-- The reference's mLSTM rows. -/
theorem ml_apply (x5 x6 : Vec Ideal S9216x768 .f32) (x7 : Vec Ideal S9216x7168 .f32) (x9 : Vec Ideal S768 .f32) (r : Fin 8192) (k : Fin 768) :
    val_main_v86 (F := Ideal) x5 x6 x7 x9 (ix2 r k) = mlO x5 x6 x7 x9 r (k.val / 128 * 128) (by omega) ⟨k.val % 128, by omega⟩ := by
  unfold val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_cst_12 val_main_cst_13 val_main_cst_14 val_main_cst_15 val_main_cst_16 val_main_v2
  pointwise
  unfold mlO mlF
  have e : k.val / 128 * 128 + k.val % 128 = k.val := by omega
  simp only [e]

/-- The reference's concatenated branches. -/
theorem feat_apply (A : Args) (r : Fin 8192) (k : Fin 2048) :
    val_main_v87 (F := Ideal) A.s A.wg A.bg A.rf A.rb A.mf A.mb A.a A.rn A.mn (ix2 r k) = feat A r k := by
  unfold val_main_v87
  pointwise
  unfold feat
  by_cases h1 : k.val < 512
  · rw [dif_pos h1, dif_pos h1, glu_apply]
  · rw [dif_neg h1, dif_neg h1]
    by_cases h2 : k.val < 1280
    · rw [dif_pos (show k.val - 512 < 768 by omega), dif_pos h2, rt_apply]
    · rw [dif_neg (show ¬ (k.val - 512 < 768) by omega), dif_neg h2, ml_apply]
      exact Cert.OutIdeal.Hand.mlO_congr _ _ _ _ _ _ _ _ _ _ _ (show (k.val - 512 - 768) / 128 * 128 = (k.val - 1280) / 128 * 128 by omega)
        (show (k.val - 512 - 768) % 128 = (k.val - 1280) % 128 by omega)

/-- The reference's result is the residual stream plus the gated projection. -/
theorem result_eq (A : Args) :
    val_main_v96 (F := Ideal) A.s A.wg A.bg A.rf A.rb A.mf A.mb A.a A.rn A.mn A.x A.md A.w = outp A := by
  funext i
  idx_vars i
  unfold val_main_v96 val_main_v95 val_main_v94 val_main_v93 val_main_v92 val_main_v91 val_main_v90 val_main_v89 val_main_v88 val_main_v0
  pointwise
  simp only [feat_apply]
  rfl

end Cert.OutRefIdeal.Hand

namespace Cert.Proof.OutClaims

/-- Over the extended reals the output projection and its reference end with equal results. -/
theorem algebraic : Cert.algebraic_OutIdeal_OutRefIdeal := by
  pair_intro
  · run_from Cert.OutIdeal.Value.run_blocks m g
  · run_from Cert.OutRefIdeal.Value.run m' g'
    rw [Cert.OutIdeal.Hand.final m c, Cert.OutRefIdeal.Read.val_main_v96_eq]
    obtain ⟨h0, h1, h2, h3, h4, h5, h6, h7, h8, h9, h10, h11, h12⟩ := hagree c
    rw [h0, h1, h2, h3, h4, h5, h6, h7, h8, h9, h10, h11, h12]
    exact Cert.OutRefIdeal.Hand.result_eq (Cert.OutIdeal.Hand.AR m c)

end Cert.Proof.OutClaims

end
-- ==== Proof.MlpFValue.lean ====
module

public import proofs.«01_k».proof.Defs
public import proofs.«01_k».proof.Proof.Gen.MlpFIdeal.Value
public import proofs.«01_k».proof.Proof.Gen.MlpFRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpFIdeal.Hand

open Cert.MlpFIdeal Cert.MlpFIdeal.Gen Cert.MlpFIdeal.Value

variable (m : (ℓ : Loc nD τ sig) → Buf (Elt Ideal) ℓ)

/-- Row `r`, column `k` of the normalised and modulated input of the feed-forward block. -/
def lhs (x : Vec Ideal S9216x2048 .f32) (nw : Vec Ideal S2048 .f32) (md : Vec Ideal S8x1x12288 .f32) (r : Fin 9216) (k : Fin 2048) : EReal :=
  x (ix2 r k) * Ideal.rsqrt (Ideal.div (∑ l : Fin 2048, x (ix2 r l) * x (ix2 r l)) (Ideal.ofBits FTy.f32 1157627904#32)
        + Ideal.ofBits FTy.f32 897988541#32) * nw (ix1 k)
      * (1 + md (ix3 ⟨min (r.val / 2048) 4, by omega⟩ 0 ⟨8192 + k.val, by omega⟩)) + md (ix3 ⟨min (r.val / 2048) 4, by omega⟩ 0 ⟨6144 + k.val, by omega⟩)

/-- The hidden layer before its activation. -/
def hid (x : Vec Ideal S9216x2048 .f32) (nw : Vec Ideal S2048 .f32) (md : Vec Ideal S8x1x12288 .f32) (w1 : Vec Ideal S2x2048x8192 .f32)
    (r : Fin 9216) (h : Fin 8192) : EReal :=
  ∑ k : Fin 2048, lhs x nw md r k * w1 (ix3 0 k h)

/-- One summand of the second product: the squared rectified hidden value times its weight. -/
def term (x : Vec Ideal S9216x2048 .f32) (nw : Vec Ideal S2048 .f32) (md : Vec Ideal S8x1x12288 .f32) (w1 : Vec Ideal S2x2048x8192 .f32)
    (w2 : Vec Ideal S2x8192x2048 .f32) (r : Fin 9216) (n : Fin 2048) (h : Fin 8192) : EReal :=
  max (hid x nw md w1 r h) 0 * max (hid x nw md w1 r h) 0 * w2 (ix3 0 h n)

/-- The residual stream after the block. -/
def res (x : Vec Ideal S9216x2048 .f32) (nw : Vec Ideal S2048 .f32) (md : Vec Ideal S8x1x12288 .f32) (w1 : Vec Ideal S2x2048x8192 .f32)
    (w2 : Vec Ideal S2x8192x2048 .f32) (r : Fin 9216) (n : Fin 2048) : EReal :=
  x (ix2 r n) + md (ix3 ⟨min (r.val / 2048) 4, by omega⟩ 0 ⟨10240 + n.val, by omega⟩) * ∑ h : Fin 8192, term x nw md w1 w2 r n h

/-- The block applied to every row. -/
def out (x : Vec Ideal S9216x2048 .f32) (nw : Vec Ideal S2048 .f32) (md : Vec Ideal S8x1x12288 .f32) (w1 : Vec Ideal S2x2048x8192 .f32)
    (w2 : Vec Ideal S2x8192x2048 .f32) : Vec Ideal S9216x2048 .f32 := fun i => res x nw md w1 w2 (i 0) (i 1)

/-- The modulated rows a fresh row block computes, at an element. -/
theorem pay1_apply (v7 : Vec Ideal S1024x2048 .f32) (v8 : Vec Ideal S1x2048 .f32) (v10 v12 : Vec Ideal S1x1x2048 .f32) (j : S1024x2048.Idx) :
    k0_pay1 (F := Ideal) v7 v8 v10 v12 j = v7 (ix2 (j 0) (j 1)) * Ideal.rsqrt
        (Ideal.div (∑ x, v7 (ix2 (j 0) x) * v7 (ix2 (j 0) x)) (Ideal.ofBits FTy.f32 1157627904#32) + Ideal.ofBits FTy.f32 897988541#32)
        * v8 (ix2 0 (j 1)) * (1 + v12 (ix3 0 0 (j 1))) + v10 (ix3 0 0 (j 1)) := by
  unfold k0_pay1
  idx_vars j
  pointwise

/-- The accumulator starts at zero. -/
theorem pay2_apply (j : S1024x2048.Idx) : k0_pay2 (F := Ideal) j = 0 := by
  unfold k0_pay2
  idx_vars j
  pointwise

/-- One step of the accumulation, at an element. -/
theorem pay3_apply (v3 : Vec Ideal S1024x2048 .bf16) (v4 : Vec Ideal S1x2048x512 .f32) (v12 : Vec Ideal S1024x2048 .f32) (v14 : Vec Ideal S1x512x2048 .f32) (j : S1024x2048.Idx) :
    k0_pay3 (F := Ideal) v3 v4 v12 v14 j = v12 (ix2 (j 0) (j 1)) + ∑ h : Fin 512,
      max (∑ k : Fin 2048, v3 (ix2 (j 0) k) * v4 (ix3 0 k h)) 0 * max (∑ k : Fin 2048, v3 (ix2 (j 0) k) * v4 (ix3 0 k h)) 0 * v14 (ix3 0 h (j 1)) := by
  unfold k0_pay3
  idx_vars j
  pointwise

/-- The last step's residual, at an element. -/
theorem pay4_apply (v23 : Vec Ideal S1024x2048 .f32) (v24 : Vec Ideal S1x1x2048 .f32) (v26 : Vec Ideal S1024x2048 .f32) (j : S1024x2048.Idx) :
    k0_pay4 (F := Ideal) v23 v24 v26 j = v23 (ix2 (j 0) (j 1)) + v24 (ix3 0 0 (j 1)) * v26 (ix2 (j 0) (j 1)) := by
  unfold k0_pay4
  idx_vars j
  pointwise

/-- The block indices of every window at a point. -/
theorem idx : ∀ t : Fin cfg0.N, win0_0.index t = ![t.val / 16, 0] ∧ win0_1.index t = ![0, 0] ∧ win0_2.index t = ![min (t.val / 32) 4, 0, 3]
    ∧ win0_3.index t = ![min (t.val / 32) 4, 0, 4] ∧ win0_4.index t = ![min (t.val / 32) 4, 0, 5] ∧ win0_5.index t = ![0, 0, t.val % 16]
    ∧ win0_6.index t = ![0, t.val % 16, 0] ∧ win0_7.index t = ![0, 0] ∧ win0_8.index t = ![t.val / 16, 0] :=
  (by decide +kernel : ∀ t : Fin grid0.N, _)

/-- The argument arrays as the region finds them. -/
abbrev X (c : Dev nD) : Vec Ideal S9216x2048 .f32 := m ((c : Thread nD τ).loc main_arg0)
abbrev NW (c : Dev nD) : Vec Ideal S2048 .f32 := m ((c : Thread nD τ).loc main_arg1)
abbrev MD (c : Dev nD) : Vec Ideal S8x1x12288 .f32 := m ((c : Thread nD τ).loc main_arg2)
abbrev W1 (c : Dev nD) : Vec Ideal S2x2048x8192 .f32 := m ((c : Thread nD τ).loc main_arg3)
abbrev W2 (c : Dev nD) : Vec Ideal S2x8192x2048 .f32 := m ((c : Thread nD τ).loc main_arg4)

/-- The array's row that a row of point `n`'s row block is. -/
abbrev row (n : ℕ) (h : n < cfg0.N) (a : Fin 1024) : Fin 9216 := ⟨n / 16 * 1024 + a.val, by have := lt_of_lt_of_eq h N_0; omega⟩

/-- Input block 0: the rows of the point's row block. -/
theorem iblk0_eq (c : Dev nD) (t : Fin cfg0.N) :
    (iblk m c 0 t : Vec Ideal S1024x2048 .f32) = fun j => X m c (ix2 (row t.val t.isLt (j 0)) (j 1)) := by
  funext j
  blk_ext [iblk, V, idx t]

/-- Input block 1: the norm's weights. -/
theorem iblk1_eq (c : Dev nD) (t : Fin cfg0.N) :
    (iblk m c 1 t : Vec Ideal S1x2048 .f32) = fun j => NW m c (ix1 (j 1)) := by
  funext j
  blk_simp [iblk, idx t]
  unfold_abbrev_sides
  after_results
  pointwise
  blk_ext [idx t]

/-- Input blocks 2, 3, 4: the shift, scale and gate of the row block's batch. -/
theorem iblk2_eq (c : Dev nD) (t : Fin cfg0.N) :
    (iblk m c 2 t : Vec Ideal S1x1x2048 .f32) = fun j => MD m c (ix3 ⟨min (t.val / 32) 4, by omega⟩ 0 ⟨6144 + (j 2).val, by
      have : (j 2).val < 2048 := (j 2).isLt; omega⟩) := by
  funext j
  blk_ext [iblk, V, idx t]
theorem iblk3_eq (c : Dev nD) (t : Fin cfg0.N) :
    (iblk m c 3 t : Vec Ideal S1x1x2048 .f32) = fun j => MD m c (ix3 ⟨min (t.val / 32) 4, by omega⟩ 0 ⟨8192 + (j 2).val, by
      have : (j 2).val < 2048 := (j 2).isLt; omega⟩) := by
  funext j
  blk_ext [iblk, V, idx t]
theorem iblk4_eq (c : Dev nD) (t : Fin cfg0.N) :
    (iblk m c 4 t : Vec Ideal S1x1x2048 .f32) = fun j => MD m c (ix3 ⟨min (t.val / 32) 4, by omega⟩ 0 ⟨10240 + (j 2).val, by
      have : (j 2).val < 2048 := (j 2).isLt; omega⟩) := by
  funext j
  blk_ext [iblk, V, idx t]

/-- Input blocks 5 and 6: the hidden columns of the two weight matrices. -/
theorem iblk5_eq (c : Dev nD) (t : Fin cfg0.N) :
    (iblk m c 5 t : Vec Ideal S1x2048x512 .f32) = fun j => W1 m c (ix3 0 (j 1) ⟨t.val % 16 * 512 + (j 2).val, by
      have : (j 2).val < 512 := (j 2).isLt; omega⟩) := by
  funext j
  blk_ext [iblk, V, idx t]
theorem iblk6_eq (c : Dev nD) (t : Fin cfg0.N) :
    (iblk m c 6 t : Vec Ideal S1x512x2048 .f32) = fun j => W2 m c (ix3 0 ⟨t.val % 16 * 512 + (j 1).val, by
      have : (j 1).val < 512 := (j 1).isLt; omega⟩ (j 2)) := by
  funext j
  blk_ext [iblk, V, idx t]

/-- What the hidden columns of tile `g` add to an element of the second product. -/
def part (c : Dev nD) (r : Fin 9216) (n : Fin 2048) (g : ℕ) : EReal :=
  if hg : g < 16 then ∑ h : Fin 512, term (X m c) (NW m c) (MD m c) (W1 m c) (W2 m c) r n ⟨g * 512 + h.val, by omega⟩ else 0

/-- The rows computed at a point are the modulated rows of its row block. -/
theorem rows_eq (c : Dev nD) (t : Fin cfg0.N) :
    k0_pay1 (F := Ideal) (iblk m c 0 t) (iblk m c 1 t) (iblk m c 2 t) (iblk m c 3 t)
      = fun j => lhs (X m c) (NW m c) (MD m c) (row t.val t.isLt (j 0)) (j 1) := by
  funext j
  rw [iblk0_eq, iblk1_eq, iblk2_eq, iblk3_eq, pay1_apply]
  unfold lhs
  have h1 := lt_of_lt_of_eq t.isLt N_0
  have h2 : (j 0).val < 1024 := (j 0).isLt
  have e : min (t.val / 32) 4 = min ((t.val / 16 * 1024 + (j 0).val) / 2048) 4 := by omega
  simp only [e]
  rfl

/-- One accumulation step adds the point's tile. -/
theorem acc_step (c : Dev nD) (t : Fin cfg0.N) (A : Vec Ideal S1024x2048 .f32) (j : S1024x2048.Idx) :
    k0_pay3 (F := Ideal) (fun j => lhs (X m c) (NW m c) (MD m c) (row t.val t.isLt (j 0)) (j 1)) (iblk m c 5 t) A (iblk m c 6 t) j
      = A (ix2 (j 0) (j 1)) + part m c (row t.val t.isLt (j 0)) (j 1) (t.val % 16) := by
  rw [iblk5_eq, iblk6_eq, pay3_apply]
  unfold part
  rw [dif_pos (Nat.mod_lt _ (by decide))]
  rfl

/-- A sum up to an index that is zero has one term. -/
theorem sum_first (k : ℕ) (hk : k = 0) (f : ℕ → EReal) : f k = ∑ g ∈ Finset.range (k + 1), f g := by
  subst hk
  exact (Finset.sum_range_one f).symm

/-- What a point leaves, case by case: the rows carried, and the accumulation over the tiles so far;
    at the last tile the finished block. -/
theorem state (c : Dev nD) : ∀ (n : ℕ) (h : n < cfg0.N),
    ((outsAt0 m c n h).2 = fun j => lhs (X m c) (NW m c) (MD m c) (row n h (j 0)) (j 1))
    ∧ (¬ n % 16 = 15 → (outsAt0 m c n h).1 = fun j => ∑ g ∈ Finset.range (n % 16 + 1), part m c (row n h (j 0)) (j 1) g)
    ∧ (n % 16 = 15 → (outsAt0 m c n h).1 = fun j => out (X m c) (NW m c) (MD m c) (W1 m c) (W2 m c) (ix2 (row n h (j 0)) (j 1))) := by
  intro n
  induction n with
  | zero =>
    intro h
    have h0 : (0 : ℕ) % 16 = 0 := rfl
    have h1 : ¬ (0 : ℕ) % 16 = 15 := by decide
    rw [outsAt0_A m c ⟨0, h⟩ h0 h1]
    frame_out
    rw [rows_eq]
    refine ⟨rfl, fun _ => ?_, fun hc => absurd hc h1⟩
    funext j
    rw [acc_step, pay2_apply, zero_add]
    exact (Finset.sum_range_one _).symm
  | succ n ih =>
    intro h
    obtain ⟨ih1, ih2, -⟩ := ih (Nat.lt_of_succ_lt h)
    by_cases h0 : (n + 1) % 16 = 0
    · have h1 : ¬ (n + 1) % 16 = 15 := by omega
      rw [outsAt0_A m c ⟨n + 1, h⟩ h0 h1]
      frame_out
      rw [rows_eq]
      refine ⟨rfl, fun _ => ?_, fun hc => absurd hc h1⟩
      funext j
      rw [acc_step, pay2_apply, zero_add]
      exact sum_first _ h0 _
    · have hr : row n (Nat.lt_of_succ_lt h) = row (n + 1) h := by
        funext a
        have e : (n + 1) / 16 = n / 16 := by omega
        simp only [row, e]
      have hn : ¬ n % 16 = 15 := by omega
      have e : (n + 1) % 16 = n % 16 + 1 := by omega
      have ih2 := ih2 hn
      rw [hr] at ih1 ih2
      have hacc : k0_pay3 (F := Ideal) (outsAt0 m c n (Nat.lt_of_succ_lt h)).2 (iblk m c 5 ⟨n + 1, h⟩) (outsAt0 m c n (Nat.lt_of_succ_lt h)).1 (iblk m c 6 ⟨n + 1, h⟩)
          = fun j => ∑ g ∈ Finset.range ((n + 1) % 16 + 1), part m c (row (n + 1) h (j 0)) (j 1) g := by
        funext j
        rw [ih1, ih2, acc_step m c ⟨n + 1, h⟩, e]
        exact (Finset.sum_range_succ _ _).symm
      by_cases h1 : (n + 1) % 16 = 15
      · rw [outsAt0_C m c ⟨n + 1, h⟩ h0 h1]
        frame_out
        unfold sout0_C_0
        simp only [read_unread_whole]
        refine ⟨ih1, fun hc => absurd h1 hc, fun _ => ?_⟩
        have hs : ∀ (r : Fin 9216) (k : Fin 2048), ∑ g ∈ Finset.range ((n + 1) % 16 + 1), part m c r k g
            = ∑ h : Fin 8192, term (X m c) (NW m c) (MD m c) (W1 m c) (W2 m c) r k h := by
          intro r k
          rw [h1, Fin.sum_univ_tiles 16 512 rfl, Finset.sum_range]
          refine Finset.sum_congr rfl fun g _ => ?_
          unfold part
          rw [dif_pos g.isLt]
        have hacc := hacc.trans (funext fun j => hs (row (n + 1) h (j 0)) (j 1))
        refine Eq.trans (b := k0_pay4 (F := Ideal) (iblk m c 0 ⟨n + 1, h⟩) (iblk m c 4 ⟨n + 1, h⟩) _) (congrArg (fun z => k0_pay4 (F := Ideal) (iblk m c 0 ⟨n + 1, h⟩) (iblk m c 4 ⟨n + 1, h⟩) z) hacc) ?_
        funext j
        rw [iblk0_eq, iblk4_eq, pay4_apply]
        have h2 : (j 0).val < 1024 := (j 0).isLt
        have hN := lt_of_lt_of_eq h N_0
        have e2 : min ((n + 1) / 32) 4 = min (((n + 1) / 16 * 1024 + (j 0).val) / 2048) 4 := by omega
        unfold out res
        simp only [e2]
        rfl
      · rw [outsAt0_B m c ⟨n + 1, h⟩ h0 h1]
        frame_out
        unfold sout0_B_0
        simp only [read_unread_whole]
        exact ⟨ih1, fun _ => hacc, fun hc => absurd hc h1⟩

/-- The output array is the block applied to every row. -/
theorem final (c : Dev nD) : (dats m 0 c).arrAt 8 cfg0.N = out (X m c) (NW m c) (MD m c) (W1 m c) (W2 m c) := by
  refine (dats m 0 c).arrAt_eq_of_covers 8 _ (by decide +kernel) fun t hf y => ?_
  have h1 := lt_of_lt_of_eq t.isLt N_0
  have y0 : (y 0).val < 1024 := (y 0).isLt
  have e : (((cfg0.win 8).blk t).view.emb y : S9216x2048.Idx) = ix2 (row t.val t.isLt (y 0)) (y 1) := by
    blk_ext [idx t]
  refine Eq.trans ?_ (congrArg (out (X m c) (NW m c) (MD m c) (W1 m c) (W2 m c)) e).symm
  blk_simp
  rw [after0_8]
  rw [(state m c t.val t.isLt).2.2 ((flush0_8 t).mp hf)]
  rfl

end Cert.MlpFIdeal.Hand

namespace Cert.MlpFRefIdeal.Hand

open Cert.MlpFRefIdeal Cert.MlpFRefIdeal.Gen Cert.MlpFRefIdeal.Read

/-- The reference's modulated latent rows. -/
theorem lat_lhs (x0 : Vec Ideal S9216x2048 .f32) (x1 : Vec Ideal S2048 .f32) (x2 : Vec Ideal S8x1x12288 .f32) (b : Fin 4) (r k : Fin 2048) :
    val_main_v40 (F := Ideal) x0 x1 x2 (ix3 b r k) = Cert.MlpFIdeal.Hand.lhs x0 x1 x2 ⟨b.val * 2048 + r.val, by omega⟩ k := by
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v9 val_main_v8 val_main_v4 val_main_v1 val_main_v0 val_main_cst val_main_cst_0 val_main_cst_1 val_main_cst_2
  pointwise
  unfold Cert.MlpFIdeal.Hand.lhs
  have e : min ((b.val * 2048 + r.val) / 2048) 4 = b.val := by omega
  simp only [e]

/-- The reference's latent rows after the block. -/
theorem lat_res (x0 : Vec Ideal S9216x2048 .f32) (x1 : Vec Ideal S2048 .f32) (x2 : Vec Ideal S8x1x12288 .f32) (x3 : Vec Ideal S2x2048x8192 .f32) (x4 : Vec Ideal S2x8192x2048 .f32) (b : Fin 4) (r k : Fin 2048) :
    val_main_v47 (F := Ideal) x0 x1 x2 x3 x4 (ix3 b r k) = Cert.MlpFIdeal.Hand.res x0 x1 x2 x3 x4 ⟨b.val * 2048 + r.val, by omega⟩ k := by
  unfold val_main_v47 val_main_v46 val_main_v45 val_main_v44 val_main_v43 val_main_v42 val_main_v41 val_main_call0_v0 val_main_call0_cst val_main_v21 val_main_v20 val_main_v19 val_main_v18 val_main_v10 val_main_v4 val_main_v1 val_main_v0
  pointwise
  unfold Cert.MlpFIdeal.Hand.res Cert.MlpFIdeal.Hand.term Cert.MlpFIdeal.Hand.hid
  have e : min ((b.val * 2048 + r.val) / 2048) 4 = b.val := by omega
  simp only [e, lat_lhs]

/-- The reference's modulated context rows. -/
theorem ctx_lhs (x0 : Vec Ideal S9216x2048 .f32) (x1 : Vec Ideal S2048 .f32) (x2 : Vec Ideal S8x1x12288 .f32) (b : Fin 4) (r : Fin 256) (k : Fin 2048) :
    val_main_v66 (F := Ideal) x0 x1 x2 (ix3 b r k) = Cert.MlpFIdeal.Hand.lhs x0 x1 x2 ⟨8192 + (b.val * 256 + r.val), by omega⟩ k := by
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v16 val_main_v15 val_main_v11 val_main_v3 val_main_v2 val_main_cst_3 val_main_cst_4 val_main_cst_5 val_main_cst_6
  pointwise
  unfold Cert.MlpFIdeal.Hand.lhs
  have e : min ((8192 + (b.val * 256 + r.val)) / 2048) 4 = 4 := by omega
  simp only [e]
  rfl

/-- The reference's context rows after the block. -/
theorem ctx_res (x0 : Vec Ideal S9216x2048 .f32) (x1 : Vec Ideal S2048 .f32) (x2 : Vec Ideal S8x1x12288 .f32) (x3 : Vec Ideal S2x2048x8192 .f32) (x4 : Vec Ideal S2x8192x2048 .f32) (b : Fin 4) (r : Fin 256) (k : Fin 2048) :
    val_main_v73 (F := Ideal) x0 x1 x2 x3 x4 (ix3 b r k) = Cert.MlpFIdeal.Hand.res x0 x1 x2 x3 x4 ⟨8192 + (b.val * 256 + r.val), by omega⟩ k := by
  unfold val_main_v73 val_main_v72 val_main_v71 val_main_v70 val_main_v69 val_main_v68 val_main_v67 val_main_call1_v0 val_main_call1_cst val_main_v21 val_main_v20 val_main_v19 val_main_v18 val_main_v17 val_main_v11 val_main_v3 val_main_v2
  pointwise
  unfold Cert.MlpFIdeal.Hand.res Cert.MlpFIdeal.Hand.term Cert.MlpFIdeal.Hand.hid
  have e : min ((8192 + (b.val * 256 + r.val)) / 2048) 4 = 4 := by omega
  simp only [e, ctx_lhs]
  rfl

/-- The reference's result. -/
theorem result_eq (x0 : Vec Ideal S9216x2048 .f32) (x1 : Vec Ideal S2048 .f32) (x2 : Vec Ideal S8x1x12288 .f32) (x3 : Vec Ideal S2x2048x8192 .f32) (x4 : Vec Ideal S2x8192x2048 .f32) :
    val_main_v76 (F := Ideal) x0 x1 x2 x3 x4 = Cert.MlpFIdeal.Hand.out x0 x1 x2 x3 x4 := by
  funext i
  idx_vars i
  unfold val_main_v76 val_main_v75 val_main_v74
  pointwise
  unfold Cert.MlpFIdeal.Hand.out
  split
  · rw [lat_res]
    have e : i0.val / 2048 * 2048 + i0.val % 2048 = i0.val := by omega
    simp only [e]
    rfl
  · rw [ctx_res]
    have e : 8192 + ((i0.val - 8192) / 256 * 256 + (i0.val - 8192) % 256) = i0.val := by omega
    simp only [e]
    rfl

end Cert.MlpFRefIdeal.Hand

namespace Cert.Proof.MlpFClaims

/-- Over the extended reals the first layer's feed-forward block and its reference end with equal results. -/
theorem algebraic : Cert.algebraic_MlpFIdeal_MlpFRefIdeal := by
  pair_intro
  · run_from Cert.MlpFIdeal.Value.run_blocks m g
  · run_from Cert.MlpFRefIdeal.Value.run m' g'
    rw [Cert.MlpFIdeal.Hand.final m c, Cert.MlpFRefIdeal.Read.val_main_v76_eq]
    rw [Cert.MlpFRefIdeal.Hand.result_eq]
    obtain ⟨h0, h1, h2, h3, h4, -⟩ := hagree c
    rw [h0, h1, h2, h3, h4]

end Cert.Proof.MlpFClaims

end
-- ==== Proof.OutFBody.lean ====
module

public import proofs.«01_k».proof.Defs
public import proofs.«01_k».proof.Proof.Gen.OutFIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutFIdeal.Hand

open Cert.OutFIdeal Cert.OutFIdeal.Gen Cert.OutFIdeal.Value

variable (m : (ℓ : Loc nD τ sig) → Buf (Elt Ideal) ℓ)

/-- The accumulator with a pair of 128 wide heads, side by side, times 256 rows of the weights added. -/
def pdv (acc : FVec Ideal S256x2048 .f32) (a b : FVec Ideal S256x128 .bf16) (w : Vec Ideal S1x256x2048 .bf16) : FVec Ideal S256x2048 .f32 :=
  addf acc (matmul dot_S256x256_S256x2048_S256x2048_1_0_0_1_n_n none
    (concatenate S256x256 1 [⟨S256x128, a⟩, ⟨S256x128, b⟩] concatenates_S256x128_S256x128_S256x256_d1)
    (shapeCast S256x2048 w shapeCasts_S1x256x2048_S256x2048 : FVec Ideal S256x2048 .bf16) (constant S256x2048 .f32 0x00000000#32))

/-- The retention head's normalised and gated rows, as stored for the product. -/
abbrev rh (f g : Vec Ideal S256x128 .f32) (w : Vec Ideal S1x128 .f32) (gt : Vec Ideal S256x128 .f32) : FVec Ideal S256x128 .bf16 :=
  k0_pay7 (k0_pay6 f g w gt)

/-- `pdv` at an element. -/
theorem pdv_apply (acc : FVec Ideal S256x2048 .f32) (a b : FVec Ideal S256x128 .bf16) (w : Vec Ideal S1x256x2048 .bf16) (j : S256x2048.Idx) :
    pdv acc a b w j = acc j + ∑ q : Fin 256, (if h : q.val < 128 then a (ix2 (j 0) ⟨q.val, h⟩) else b (ix2 (j 0) ⟨q.val - 128, by omega⟩)) * w (ix3 0 q (j 1)) := by
  unfold pdv
  idx_vars j
  pointwise

/-- The step over the heads 0 and 1: the retention pair, then the mLSTM pair. -/
theorem pay16_eq (acc : FVec Ideal S256x2048 .f32) (r0 m0 : FVec Ideal S256x128 .bf16) (f1 g1 : Vec Ideal S256x128 .f32) (w1 : Vec Ideal S1x128 .f32) (t1 : Vec Ideal S256x128 .f32)
    (f2 g2 : Vec Ideal S256x128 .f32) (w2 : Vec Ideal S1x128 .f32) (t2 : Vec Ideal S256x128 .f32) (wa wb : Vec Ideal S1x256x2048 .bf16) :
    k0_pay16 acc r0 m0 (k0_pay12 (k0_pay9 f1 g1) (k0_pay10 f1 g1) k0_pay11 w1 t1) (k0_pay13 f2 g2 w2) (k0_pay14 t2) k0_pay15 wa wb
      = pdv (pdv acc r0 (rh f1 g1 w1 t1) wa) m0 (k0_pay8 f2 g2 w2 t2) wb := rfl

/-- The third retention head's rows. -/
theorem pay18_eq (f g : Vec Ideal S256x128 .f32) (w : Vec Ideal S1x128 .f32) (gt : Vec Ideal S256x128 .f32) :
    k0_pay18 (k0_pay17 f g w) gt = rh f g w gt := rfl

/-- The third mLSTM head's rows. -/
theorem pay19_eq (f g : Vec Ideal S256x128 .f32) (w : Vec Ideal S1x128 .f32) (gt : Vec Ideal S256x128 .f32) :
    k0_pay19 f g w gt = k0_pay8 f g w gt := rfl

/-- The step over the heads 2 and 3: the retention pair, then the mLSTM pair. -/
theorem pay23_eq (acc : FVec Ideal S256x2048 .f32) (r0 m0 : FVec Ideal S256x128 .bf16) (f1 g1 : Vec Ideal S256x128 .f32) (w1 : Vec Ideal S1x128 .f32) (t1 : Vec Ideal S256x128 .f32)
    (f2 g2 : Vec Ideal S256x128 .f32) (w2 : Vec Ideal S1x128 .f32) (t2 : Vec Ideal S256x128 .f32) (wa wb : Vec Ideal S1x256x2048 .bf16) :
    k0_pay23 acc r0 m0 (k0_pay20 f1 g1 w1 t1) (k0_pay21 f2 g2) (k0_pay22 f2 g2) (FloatOps.ofBits FTy.f32 897988541#32) w2 t2 wa wb
      = pdv (pdv acc r0 (rh f1 g1 w1 t1) wa) m0 (k0_pay8 f2 g2 w2 t2) wb := rfl

/-- The fifth retention head's rows. -/
theorem pay27_eq (f g : Vec Ideal S256x128 .f32) (w : Vec Ideal S1x128 .f32) (gt : Vec Ideal S256x128 .f32) :
    k0_pay27 (k0_pay25 (k0_pay24 f g) w gt) = rh f g w gt := rfl

/-- The fifth mLSTM head's rows. -/
theorem pay28_eq (f g : Vec Ideal S256x128 .f32) (w : Vec Ideal S1x128 .f32) (gt : Vec Ideal S256x128 .f32) :
    k0_pay28 (k0_pay26 f g w) gt = k0_pay8 f g w gt := rfl

/-- The step over the retention heads 4 and 5. -/
theorem pay31_eq (acc : FVec Ideal S256x2048 .f32) (r0 : FVec Ideal S256x128 .bf16) (f1 g1 : Vec Ideal S256x128 .f32) (w1 : Vec Ideal S1x128 .f32) (t1 : Vec Ideal S256x128 .f32)
    (wa : Vec Ideal S1x256x2048 .bf16) :
    k0_pay31 acc r0 (k0_pay29 f1 g1 w1) t1 (k0_pay30 t1) wa = pdv acc r0 (rh f1 g1 w1 t1) wa := rfl

/-- The last step: the mLSTM heads 4 and 5, the gate and the residual stream. -/
theorem pay1_eq (acc : FVec Ideal S256x2048 .f32) (m0 : FVec Ideal S256x128 .bf16)
    (f2 g2 : Vec Ideal S256x128 .f32) (w2 : Vec Ideal S1x128 .f32) (t2 : Vec Ideal S256x128 .f32) (wb : Vec Ideal S1x256x2048 .bf16)
    (x : Vec Ideal S256x2048 .f32) (md : Vec Ideal S1x1x2048 .f32) (j : S256x2048.Idx) :
    k0_pay1 acc (k0_pay32 m0 f2 g2 w2 t2) wb x md j = x j + md (ix3 0 0 (j 1)) * pdv acc m0 (k0_pay8 f2 g2 w2 t2) wb j := by
  have e : k0_pay32 m0 f2 g2 w2 t2 = concatenate S256x256 1 [⟨S256x128, m0⟩, ⟨S256x128, k0_pay8 f2 g2 w2 t2⟩] concatenates_S256x128_S256x128_S256x256_d1 := rfl
  rw [e, pdv_apply]
  unfold k0_pay1
  idx_vars j
  pointwise

/-- The product of the gated state‑space rows with their 512 rows of the weights. -/
theorem pay5_apply (v0 : Vec Ideal S256x512 .f32) (v15 : Vec Ideal S512x1024 .bf16) (v18 : Vec Ideal S1x1024 .f32) (wa wb : Vec Ideal S1x256x2048 .bf16) (j : S256x2048.Idx) :
    k0_pay5 (k0_pay3 v0 v15 v18 wa) (k0_pay4 v0 v15 v18) wb j
      = (∑ q : Fin 256, k0_pay2 v0 v15 v18 (ix2 (j 0) ⟨q.val, by omega⟩) * wa (ix3 0 q (j 1)))
        + ∑ q : Fin 256, k0_pay2 v0 v15 v18 (ix2 (j 0) ⟨256 + q.val, by omega⟩) * wb (ix3 0 q (j 1)) := by
  unfold k0_pay5 k0_pay3 k0_pay4
  idx_vars j
  pointwise

/-- A head's columns read from a row block. -/
theorem ldA (v : Vec Ideal S256x768 .f32) (o : ℕ) (h : _) (ho : o + 128 ≤ 768) (j : S256x128.Idx) :
    View.ld v (Rect.unit ![0, o] ![256, 128] h) j = v (ix2 (j 0) ⟨o + (j 1).val, by have : (j 1).val < 128 := (j 1).isLt; omega⟩) := by
  pointwise

/-- A head's columns read from a row of weights. -/
theorem ldN (v : Vec Ideal S1x768 .f32) (o : ℕ) (h : _) (ho : o + 128 ≤ 768) (j : S1x128.Idx) :
    View.ld v (Rect.unit ![0, o] ![1, 128] h) j = v (ix2 0 ⟨o + (j 1).val, by have : (j 1).val < 128 := (j 1).isLt; omega⟩) := by
  pointwise

/-- 256 rows read from the weights' block. -/
theorem ldW (v : Vec Ideal S1x2048x2048 .bf16) (o : ℕ) (h : _) (ho : o + 256 ≤ 2048) (j : S1x256x2048.Idx) :
    View.ld v (Rect.unit ![0, o, 0] ![1, 256, 2048] h) j = v (ix3 0 ⟨o + (j 1).val, by have : (j 1).val < 256 := (j 1).isLt; omega⟩ (j 2)) := by
  pointwise

/-- One head of the mLSTM's output, normalised over its 128 columns, scaled and gated. -/
def mlF (u w gt : Fin 128 → EReal) (k : Fin 128) : EReal :=
  u k * Ideal.rsqrt (Ideal.div (∑ x, u x * u x) (Ideal.ofBits FTy.f32 1124073472#32) + Ideal.ofBits FTy.f32 897988541#32) * w k
    * Ideal.div 1 (1 + Ideal.exp (-(gt k)))

/-- One head of the retention's output, centred and normalised over its 128 columns, scaled and gated. -/
def rtF (u w gt : Fin 128 → EReal) (k : Fin 128) : EReal :=
  (u k - Ideal.div (∑ x, u x) (Ideal.ofBits FTy.f32 1124073472#32))
    * Ideal.rsqrt (Ideal.div (∑ x, (u x - Ideal.div (∑ y, u y) (Ideal.ofBits FTy.f32 1124073472#32)) * (u x - Ideal.div (∑ y, u y) (Ideal.ofBits FTy.f32 1124073472#32))) (Ideal.ofBits FTy.f32 1124073472#32) + Ideal.ofBits FTy.f32 897988541#32) * w k
    * (gt k * Ideal.div 1 (1 + Ideal.exp (-(gt k))))

/-- The smooth rectifier of one entry. -/
def gelu (v : EReal) : EReal :=
  Ideal.ofBits FTy.f32 1056964608#32 * v * (1 + Ideal.tanh (Ideal.ofBits FTy.f32 1061962282#32 * (v + Ideal.ofBits FTy.f32 1027024659#32 * (v * v * v))))

/-- The state-space rows' gated linear unit at an element. -/
def gluF (v : Fin 512 → EReal) (W : Fin 512 → Fin 1024 → EReal) (b : Fin 1024 → EReal) (k : Fin 512) : EReal :=
  (∑ x, gelu (v x) * W x ⟨k.val, by omega⟩ + b ⟨k.val, by omega⟩)
    * Ideal.div 1 (1 + Ideal.exp (-(∑ x, gelu (v x) * W x ⟨512 + k.val, by omega⟩ + b ⟨512 + k.val, by omega⟩)))

/-- An mLSTM head's rows at an element. -/
theorem pay8_apply (f g : Vec Ideal S256x128 .f32) (w : Vec Ideal S1x128 .f32) (gt : Vec Ideal S256x128 .f32) (j : S256x128.Idx) :
    k0_pay8 f g w gt j = mlF (fun x => f (ix2 (j 0) x) + g (ix2 (j 0) x)) (fun x => w (ix2 0 x)) (fun x => gt (ix2 (j 0) x)) (j 1) := by
  unfold k0_pay8 mlF
  idx_vars j
  pointwise
  simp only [zero_sub]

/-- A retention head's rows at an element. -/
theorem rh_apply (f g : Vec Ideal S256x128 .f32) (w : Vec Ideal S1x128 .f32) (gt : Vec Ideal S256x128 .f32) (j : S256x128.Idx) :
    rh f g w gt j = rtF (fun x => f (ix2 (j 0) x) + g (ix2 (j 0) x)) (fun x => w (ix2 0 x)) (fun x => gt (ix2 (j 0) x)) (j 1) := by
  unfold rh k0_pay7 k0_pay6 rtF
  idx_vars j
  pointwise
  simp only [zero_sub]

/-- The gated state-space rows at an element. -/
theorem pay2_apply (v0 : Vec Ideal S256x512 .f32) (v15 : Vec Ideal S512x1024 .bf16) (v18 : Vec Ideal S1x1024 .f32) (j : S256x512.Idx) :
    k0_pay2 v0 v15 v18 j = gluF (fun x => v0 (ix2 (j 0) x)) (fun x y => v15 (ix2 x y)) (fun x => v18 (ix2 0 x)) (j 1) := by
  unfold k0_pay2 gluF gelu
  idx_vars j
  pointwise
  simp only [zero_sub]

/-- Column `k` of one retention head's rows, the head's columns starting at `o`. -/
def rtO (p q : Vec Ideal S9216x768 .f32) (a : Vec Ideal S9216x7168 .f32) (w : Vec Ideal S768 .f32) (r : Fin 9216) (o : ℕ) (ho : o + 128 ≤ 768) (k : Fin 128) : EReal :=
  rtF (fun x => p (ix2 ⟨r.val, by omega⟩ ⟨o + x.val, by omega⟩) + q (ix2 ⟨r.val, by omega⟩ ⟨o + x.val, by omega⟩))
    (fun x => w (ix1 ⟨o + x.val, by omega⟩)) (fun x => a (ix2 ⟨r.val, by omega⟩ ⟨2304 + (o + x.val), by omega⟩)) k

/-- Column `k` of one mLSTM head's rows, the head's columns starting at `o`. -/
def mlO (p q : Vec Ideal S9216x768 .f32) (a : Vec Ideal S9216x7168 .f32) (w : Vec Ideal S768 .f32) (r : Fin 9216) (o : ℕ) (ho : o + 128 ≤ 768) (k : Fin 128) : EReal :=
  mlF (fun x => p (ix2 ⟨r.val, by omega⟩ ⟨o + x.val, by omega⟩) + q (ix2 ⟨r.val, by omega⟩ ⟨o + x.val, by omega⟩))
    (fun x => w (ix1 ⟨o + x.val, by omega⟩)) (fun x => a (ix2 ⟨r.val, by omega⟩ ⟨5376 + (o + x.val), by omega⟩)) k

/-- The retention head's entry depends on the offset and the column only. -/
theorem rtO_congr (p q : Vec Ideal S9216x768 .f32) (a : Vec Ideal S9216x7168 .f32) (w : Vec Ideal S768 .f32) (r : Fin 9216) (o o' : ℕ) (ho : o + 128 ≤ 768) (ho' : o' + 128 ≤ 768)
    (k k' : Fin 128) (e : o = o') (ek : k.val = k'.val) : rtO p q a w r o ho k = rtO p q a w r o' ho' k' := by
  obtain rfl := e
  obtain rfl := Fin.ext ek
  rfl

/-- The mLSTM head's entry depends on the offset and the column only. -/
theorem mlO_congr (p q : Vec Ideal S9216x768 .f32) (a : Vec Ideal S9216x7168 .f32) (w : Vec Ideal S768 .f32) (r : Fin 9216) (o o' : ℕ) (ho : o + 128 ≤ 768) (ho' : o' + 128 ≤ 768)
    (k k' : Fin 128) (e : o = o') (ek : k.val = k'.val) : mlO p q a w r o ho k = mlO p q a w r o' ho' k' := by
  obtain rfl := e
  obtain rfl := Fin.ext ek
  rfl

/-- The thirteen argument arrays. -/
structure Args where
  s : Vec Ideal S9216x512 .f32
  wg : Vec Ideal S512x1024 .f32
  bg : Vec Ideal S1024 .f32
  rf : Vec Ideal S9216x768 .f32
  rb : Vec Ideal S9216x768 .f32
  mf : Vec Ideal S9216x768 .f32
  mb : Vec Ideal S9216x768 .f32
  a : Vec Ideal S9216x7168 .f32
  rn : Vec Ideal S768 .f32
  mn : Vec Ideal S768 .f32
  x : Vec Ideal S9216x2048 .f32
  md : Vec Ideal S8x1x12288 .f32
  w : Vec Ideal S2x2048x2048 .f32

/-- Column `k` of row `r` of the concatenated branches: the gated state-space rows, the retention heads, the mLSTM heads. -/
def feat (A : Args) (r : Fin 9216) (k : Fin 2048) : EReal :=
  if h1 : k.val < 512 then gluF (fun x => A.s (ix2 ⟨r.val, by omega⟩ x)) (fun x y => A.wg (ix2 x y)) (fun x => A.bg (ix1 x)) ⟨k.val, h1⟩
  else if h2 : k.val < 1280 then rtO A.rf A.rb A.a A.rn r ((k.val - 512) / 128 * 128) (by omega) ⟨(k.val - 512) % 128, by omega⟩
  else mlO A.mf A.mb A.a A.mn r ((k.val - 1280) / 128 * 128) (by omega) ⟨(k.val - 1280) % 128, by omega⟩

/-- The residual stream plus the gated projection of the branches. -/
def outp (A : Args) : Vec Ideal S9216x2048 .f32 :=
  fun i => A.x (ix2 ⟨(i 0).val, by have : (i 0).val < 9216 := (i 0).isLt; omega⟩ (i 1))
    + A.md (ix3 ⟨min ((i 0).val / 2048) 4, by have : (i 0).val < 9216 := (i 0).isLt; omega⟩ 0 ⟨4096 + (i 1).val, by have : (i 1).val < 2048 := (i 1).isLt; omega⟩)
      * ∑ k : Fin 2048, feat A (i 0) k * A.w (ix3 0 k (i 1))

/-- A sum over 2048 columns as the eight sums of 256 in the order the kernel adds them. -/
theorem sum_eight (g : Fin 2048 → EReal) (s : ℕ → EReal) (hs : ∀ (o : ℕ) (ho : o + 256 ≤ 2048), s o = ∑ q : Fin 256, g ⟨o + q.val, by omega⟩) :
    ∑ k, g k = s 0 + s 256 + s 512 + s 1280 + s 768 + s 1536 + s 1024 + s 1792 := by
  rw [Fin.sum_univ_tiles 8 256 rfl, Fin.sum_univ_eight]
  have e : s 0 + s 256 + s 512 + s 1280 + s 768 + s 1536 + s 1024 + s 1792
      = s 0 + s 256 + s 512 + s 768 + s 1024 + s 1280 + s 1536 + s 1792 := by ac_rfl
  rw [e, hs 0 (by omega), hs 256 (by omega), hs 512 (by omega), hs 768 (by omega), hs 1024 (by omega), hs 1280 (by omega), hs 1536 (by omega), hs 1792 (by omega)]
  rfl

end Cert.OutFIdeal.Hand

end
-- ==== Proof.OutFBlk.lean ====
module

public import proofs.«01_k».proof.Defs
public import proofs.«01_k».proof.Proof.OutFBody
public import proofs.«01_k».proof.Proof.Gen.OutFIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutFIdeal.Hand

open Cert.OutFIdeal Cert.OutFIdeal.Gen Cert.OutFIdeal.Value

variable (m : (ℓ : Loc nD τ sig) → Buf (Elt Ideal) ℓ)

/-- The block every window takes at a point. -/
theorem idx : ∀ t : Fin cfg0.N, win0_0.index t = ![t.val, 0] ∧ win0_1.index t = ![0, 0] ∧ win0_2.index t = ![0, 0]
  ∧ win0_3.index t = ![t.val, 0] ∧ win0_4.index t = ![t.val, 0] ∧ win0_5.index t = ![t.val, 3] ∧ win0_6.index t = ![0, 0]
  ∧ win0_7.index t = ![t.val, 0] ∧ win0_8.index t = ![t.val, 0] ∧ win0_9.index t = ![t.val, 7] ∧ win0_10.index t = ![0, 0]
  ∧ win0_11.index t = ![t.val, 0] ∧ win0_12.index t = ![min (t.val / 8) 4, 0, 2] ∧ win0_13.index t = ![0, 0, 0] ∧ win0_14.index t = ![t.val, 0] :=
  (by decide +kernel : ∀ t : Fin grid0.N, _)

/-- The argument arrays as the region finds them. -/
abbrev AR (c : Dev nD) : Args where
  s := m ((c : Thread nD τ).loc main_arg0)
  wg := m ((c : Thread nD τ).loc main_arg1)
  bg := m ((c : Thread nD τ).loc main_arg2)
  rf := m ((c : Thread nD τ).loc main_arg3)
  rb := m ((c : Thread nD τ).loc main_arg4)
  mf := m ((c : Thread nD τ).loc main_arg5)
  mb := m ((c : Thread nD τ).loc main_arg6)
  a := m ((c : Thread nD τ).loc main_arg7)
  rn := m ((c : Thread nD τ).loc main_arg8)
  mn := m ((c : Thread nD τ).loc main_arg9)
  x := m ((c : Thread nD τ).loc main_arg10)
  md := m ((c : Thread nD τ).loc main_arg11)
  w := m ((c : Thread nD τ).loc main_arg12)

/-- The row of the arrays that row `i` of a point's blocks holds. -/
abbrev rw' (t : Fin cfg0.N) (i : Fin 256) : Fin 9216 := ⟨t.val * 256 + i.val, by have := lt_of_lt_of_eq t.isLt N_0; omega⟩

/-- Input block 0 at a point: its rows. -/
theorem iblk0_eq (c : Dev nD) (t : Fin cfg0.N) (i : Fin 256) (k : Fin 512) :
    (iblk m c 0 t : Vec Ideal S256x512 .f32) (ix2 i k) = (AR m c).s (ix2 ⟨(rw' t i).val, by omega⟩ k) := by
  blk_ext [iblk, V, idx t]

/-- Input block 3 at a point: its rows. -/
theorem iblk3_eq (c : Dev nD) (t : Fin cfg0.N) (i : Fin 256) (k : Fin 768) :
    (iblk m c 3 t : Vec Ideal S256x768 .f32) (ix2 i k) = (AR m c).rf (ix2 ⟨(rw' t i).val, by omega⟩ k) := by
  blk_ext [iblk, V, idx t]

/-- Input block 4 at a point: its rows. -/
theorem iblk4_eq (c : Dev nD) (t : Fin cfg0.N) (i : Fin 256) (k : Fin 768) :
    (iblk m c 4 t : Vec Ideal S256x768 .f32) (ix2 i k) = (AR m c).rb (ix2 ⟨(rw' t i).val, by omega⟩ k) := by
  blk_ext [iblk, V, idx t]

/-- Input block 7 at a point: its rows. -/
theorem iblk7_eq (c : Dev nD) (t : Fin cfg0.N) (i : Fin 256) (k : Fin 768) :
    (iblk m c 7 t : Vec Ideal S256x768 .f32) (ix2 i k) = (AR m c).mf (ix2 ⟨(rw' t i).val, by omega⟩ k) := by
  blk_ext [iblk, V, idx t]

/-- Input block 8 at a point: its rows. -/
theorem iblk8_eq (c : Dev nD) (t : Fin cfg0.N) (i : Fin 256) (k : Fin 768) :
    (iblk m c 8 t : Vec Ideal S256x768 .f32) (ix2 i k) = (AR m c).mb (ix2 ⟨(rw' t i).val, by omega⟩ k) := by
  blk_ext [iblk, V, idx t]

/-- Input block 11 at a point: its rows. -/
theorem iblk11_eq (c : Dev nD) (t : Fin cfg0.N) (i : Fin 256) (k : Fin 2048) :
    (iblk m c 11 t : Vec Ideal S256x2048 .f32) (ix2 i k) = (AR m c).x (ix2 ⟨(rw' t i).val, by omega⟩ k) := by
  blk_ext [iblk, V, idx t]

/-- Input block 5: the gate's columns. -/
theorem x5_eq (c : Dev nD) (t : Fin cfg0.N) (i : Fin 256) (k : Fin 768) :
    (X0_5 m c t : Vec Ideal S256x768 .f32) (ix2 i k) = (AR m c).a (ix2 ⟨(rw' t i).val, by omega⟩ ⟨2304 + k.val, by omega⟩) := by
  unfold X0_5 Pipeline.Window.fill
  rw [dif_pos (moved0_5 t _)]
  blk_ext [iblk, V, idx t]

/-- Input block 9: the gate's columns. -/
theorem x9_eq (c : Dev nD) (t : Fin cfg0.N) (i : Fin 256) (k : Fin 768) :
    (X0_9 m c t : Vec Ideal S256x768 .f32) (ix2 i k) = (AR m c).a (ix2 ⟨(rw' t i).val, by omega⟩ ⟨5376 + k.val, by omega⟩) := by
  unfold X0_9 Pipeline.Window.fill
  rw [dif_pos (moved0_9 t _)]
  blk_ext [iblk, V, idx t]

/-- Input block 2: a row of weights. -/
theorem iblk2_eq (c : Dev nD) (t : Fin cfg0.N) (k : Fin 1024) :
    (iblk m c 2 t : Vec Ideal S1x1024 .f32) (ix2 0 k) = (AR m c).bg (ix1 k) := by
  blk_simp [iblk, idx t]
  unfold_abbrev_sides
  after_results
  pointwise
  blk_ext [idx t]

/-- Input block 6: a row of weights. -/
theorem iblk6_eq (c : Dev nD) (t : Fin cfg0.N) (k : Fin 768) :
    (iblk m c 6 t : Vec Ideal S1x768 .f32) (ix2 0 k) = (AR m c).rn (ix1 k) := by
  blk_simp [iblk, idx t]
  unfold_abbrev_sides
  after_results
  pointwise
  blk_ext [idx t]

/-- Input block 10: a row of weights. -/
theorem iblk10_eq (c : Dev nD) (t : Fin cfg0.N) (k : Fin 768) :
    (iblk m c 10 t : Vec Ideal S1x768 .f32) (ix2 0 k) = (AR m c).mn (ix1 k) := by
  blk_simp [iblk, idx t]
  unfold_abbrev_sides
  after_results
  pointwise
  blk_ext [idx t]

/-- Input block 1: the gated linear unit's weights. -/
theorem iblk1_eq (c : Dev nD) (t : Fin cfg0.N) (x : Fin 512) (y : Fin 1024) :
    (iblk m c 1 t : Vec Ideal S512x1024 .bf16) (ix2 x y) = (AR m c).wg (ix2 x y) := by
  blk_simp [iblk, idx t]
  unfold_abbrev_sides
  after_results
  pointwise
  blk_ext [idx t]

/-- Input block 12: the gate of the point's batch. -/
theorem iblk12_eq (c : Dev nD) (t : Fin cfg0.N) (k : Fin 2048) :
    (iblk m c 12 t : Vec Ideal S1x1x2048 .f32) (ix3 0 0 k) = (AR m c).md (ix3 ⟨min (t.val / 8) 4, by omega⟩ 0 ⟨4096 + k.val, by omega⟩) := by
  blk_ext [iblk, V, idx t]

/-- Input block 13: the first layer's weights. -/
theorem iblk13_eq (c : Dev nD) (t : Fin cfg0.N) (x y : Fin 2048) :
    (iblk m c 13 t : Vec Ideal S1x2048x2048 .bf16) (ix3 0 x y) = (AR m c).w (ix3 0 x y) := by
  blk_simp [iblk, idx t]
  unfold_abbrev_sides
  after_results
  pointwise
  blk_ext [idx t]

/-- A retention head's rows at a point, the head's columns starting at `o`. -/
theorem rh_eq (c : Dev nD) (t : Fin cfg0.N) (o : ℕ) (h : _) (h' : _) (ho : o + 128 ≤ 768) (i : Fin 256) (k : Fin 128) :
    rh (View.ld (iblk m c 3 t : Vec Ideal S256x768 .f32) (Rect.unit ![0, o] ![256, 128] h)) (View.ld (iblk m c 4 t : Vec Ideal S256x768 .f32) (Rect.unit ![0, o] ![256, 128] h))
      (View.ld (iblk m c 6 t : Vec Ideal S1x768 .f32) (Rect.unit ![0, o] ![1, 128] h')) (View.ld (X0_5 m c t : Vec Ideal S256x768 .f32) (Rect.unit ![0, o] ![256, 128] h)) (ix2 i k)
      = rtO (AR m c).rf (AR m c).rb (AR m c).a (AR m c).rn (rw' t i) o ho k := by
  rw [rh_apply]
  unfold rtO
  congr 1
  · funext x
    rw [ldA _ o h ho, ldA _ o h ho]
    exact congrArg₂ _ (iblk3_eq m c t i _) (iblk4_eq m c t i _)
  · funext x
    rw [ldN _ o h' ho]
    exact iblk6_eq m c t _
  · funext x
    rw [ldA _ o h ho]
    exact x5_eq m c t i _

/-- An mLSTM head's rows at a point, the head's columns starting at `o`. -/
theorem mh_eq (c : Dev nD) (t : Fin cfg0.N) (o : ℕ) (h : _) (h' : _) (ho : o + 128 ≤ 768) (i : Fin 256) (k : Fin 128) :
    k0_pay8 (View.ld (iblk m c 7 t : Vec Ideal S256x768 .f32) (Rect.unit ![0, o] ![256, 128] h)) (View.ld (iblk m c 8 t : Vec Ideal S256x768 .f32) (Rect.unit ![0, o] ![256, 128] h))
      (View.ld (iblk m c 10 t : Vec Ideal S1x768 .f32) (Rect.unit ![0, o] ![1, 128] h')) (View.ld (X0_9 m c t : Vec Ideal S256x768 .f32) (Rect.unit ![0, o] ![256, 128] h)) (ix2 i k)
      = mlO (AR m c).mf (AR m c).mb (AR m c).a (AR m c).mn (rw' t i) o ho k := by
  rw [pay8_apply]
  unfold mlO
  congr 1
  · funext x
    rw [ldA _ o h ho, ldA _ o h ho]
    exact congrArg₂ _ (iblk7_eq m c t i _) (iblk8_eq m c t i _)
  · funext x
    rw [ldN _ o h' ho]
    exact iblk10_eq m c t _
  · funext x
    rw [ldA _ o h ho]
    exact x9_eq m c t i _

/-- The products of 256 columns of the branches with their rows of the weights, summed. -/
def part (A : Args) (r : Fin 9216) (n : Fin 2048) (o : ℕ) : EReal :=
  if ho : o + 256 ≤ 2048 then ∑ q : Fin 256, feat A r ⟨o + q.val, by omega⟩ * A.w (ix3 0 ⟨o + q.val, by omega⟩ n) else 0

/-- A pair of retention heads adds its part of the sum. -/
theorem pair_rt (c : Dev nD) (t : Fin cfg0.N) (o o2 ow : ℕ) (h : _) (h' : _) (h2 : _) (h2' : _) (hw : _) (ho : o % 256 = 0) (ho2 : o + 256 ≤ 768)
    (e2 : o2 = o + 128) (ew : ow = 512 + o) (acc : FVec Ideal S256x2048 .f32) (i : Fin 256) (n : Fin 2048) :
    pdv acc
      (rh (View.ld (iblk m c 3 t : Vec Ideal S256x768 .f32) (Rect.unit ![0, o] ![256, 128] h)) (View.ld (iblk m c 4 t : Vec Ideal S256x768 .f32) (Rect.unit ![0, o] ![256, 128] h))
        (View.ld (iblk m c 6 t : Vec Ideal S1x768 .f32) (Rect.unit ![0, o] ![1, 128] h')) (View.ld (X0_5 m c t : Vec Ideal S256x768 .f32) (Rect.unit ![0, o] ![256, 128] h)))
      (rh (View.ld (iblk m c 3 t : Vec Ideal S256x768 .f32) (Rect.unit ![0, o2] ![256, 128] h2)) (View.ld (iblk m c 4 t : Vec Ideal S256x768 .f32) (Rect.unit ![0, o2] ![256, 128] h2))
        (View.ld (iblk m c 6 t : Vec Ideal S1x768 .f32) (Rect.unit ![0, o2] ![1, 128] h2')) (View.ld (X0_5 m c t : Vec Ideal S256x768 .f32) (Rect.unit ![0, o2] ![256, 128] h2)))
      (View.ld (iblk m c 13 t : Vec Ideal S1x2048x2048 .bf16) (Rect.unit ![0, ow, 0] ![1, 256, 2048] hw)) (ix2 i n)
      = acc (ix2 i n) + part (AR m c) (rw' t i) n ow := by
  rw [pdv_apply]
  unfold part
  rw [dif_pos (by omega)]
  refine congrArg _ (Finset.sum_congr rfl fun q _ => ?_)
  rw [ldW _ ow hw (by omega)]
  refine congrArg₂ _ ?_ (iblk13_eq m c t _ n)
  unfold feat
  rw [dif_neg (show ¬ (ow + q.val < 512) by omega), dif_pos (show ow + q.val < 1280 by omega)]
  split
  · refine (rh_eq m c t o h h' (by omega) i _).trans (rtO_congr _ _ _ _ _ _ _ _ _ _ _ ?_ ?_)
    · show o = (ow + q.val - 512) / 128 * 128
      omega
    · show q.val = (ow + q.val - 512) % 128
      omega
  · refine (rh_eq m c t o2 h2 h2' (by omega) i _).trans (rtO_congr _ _ _ _ _ _ _ _ _ _ _ ?_ ?_)
    · show o2 = (ow + q.val - 512) / 128 * 128
      omega
    · show q.val - 128 = (ow + q.val - 512) % 128
      omega

/-- A pair of mLSTM heads adds its part of the sum. -/
theorem pair_ml (c : Dev nD) (t : Fin cfg0.N) (o o2 ow : ℕ) (h : _) (h' : _) (h2 : _) (h2' : _) (hw : _) (ho : o % 256 = 0) (ho2 : o + 256 ≤ 768)
    (e2 : o2 = o + 128) (ew : ow = 1280 + o) (acc : FVec Ideal S256x2048 .f32) (i : Fin 256) (n : Fin 2048) :
    pdv acc
      (k0_pay8 (View.ld (iblk m c 7 t : Vec Ideal S256x768 .f32) (Rect.unit ![0, o] ![256, 128] h)) (View.ld (iblk m c 8 t : Vec Ideal S256x768 .f32) (Rect.unit ![0, o] ![256, 128] h))
        (View.ld (iblk m c 10 t : Vec Ideal S1x768 .f32) (Rect.unit ![0, o] ![1, 128] h')) (View.ld (X0_9 m c t : Vec Ideal S256x768 .f32) (Rect.unit ![0, o] ![256, 128] h)))
      (k0_pay8 (View.ld (iblk m c 7 t : Vec Ideal S256x768 .f32) (Rect.unit ![0, o2] ![256, 128] h2)) (View.ld (iblk m c 8 t : Vec Ideal S256x768 .f32) (Rect.unit ![0, o2] ![256, 128] h2))
        (View.ld (iblk m c 10 t : Vec Ideal S1x768 .f32) (Rect.unit ![0, o2] ![1, 128] h2')) (View.ld (X0_9 m c t : Vec Ideal S256x768 .f32) (Rect.unit ![0, o2] ![256, 128] h2)))
      (View.ld (iblk m c 13 t : Vec Ideal S1x2048x2048 .bf16) (Rect.unit ![0, ow, 0] ![1, 256, 2048] hw)) (ix2 i n)
      = acc (ix2 i n) + part (AR m c) (rw' t i) n ow := by
  rw [pdv_apply]
  unfold part
  rw [dif_pos (by omega)]
  refine congrArg _ (Finset.sum_congr rfl fun q _ => ?_)
  rw [ldW _ ow hw (by omega)]
  refine congrArg₂ _ ?_ (iblk13_eq m c t _ n)
  unfold feat
  rw [dif_neg (show ¬ (ow + q.val < 512) by omega), dif_neg (show ¬ (ow + q.val < 1280) by omega)]
  split
  · refine (mh_eq m c t o h h' (by omega) i _).trans (mlO_congr _ _ _ _ _ _ _ _ _ _ _ ?_ ?_)
    · show o = (ow + q.val - 1280) / 128 * 128
      omega
    · show q.val = (ow + q.val - 1280) % 128
      omega
  · refine (mh_eq m c t o2 h2 h2' (by omega) i _).trans (mlO_congr _ _ _ _ _ _ _ _ _ _ _ ?_ ?_)
    · show o2 = (ow + q.val - 1280) / 128 * 128
      omega
    · show q.val - 128 = (ow + q.val - 1280) % 128
      omega

/-- The gated state-space rows at a point. -/
theorem glu_eq (c : Dev nD) (t : Fin cfg0.N) (i : Fin 256) (k : Fin 512) (n : Fin 2048) (e : n.val = k.val) :
    k0_pay2 (iblk m c 0 t : Vec Ideal S256x512 .f32) (iblk m c 1 t : Vec Ideal S512x1024 .bf16) (iblk m c 2 t : Vec Ideal S1x1024 .f32) (ix2 i k) = feat (AR m c) (rw' t i) n := by
  rw [pay2_apply]
  unfold feat
  rw [dif_pos (show n.val < 512 by omega)]
  obtain ⟨k, hk⟩ := k
  obtain ⟨n, hn⟩ := n
  obtain rfl : n = k := e
  show gluF _ _ _ _ = _
  congr 1
  · funext x
    exact iblk0_eq m c t i x
  · funext x y
    exact iblk1_eq m c t x y
  · funext x
    exact iblk2_eq m c t x

/-- The gated state-space rows' two parts of the sum. -/
theorem pair_glu (c : Dev nD) (t : Fin cfg0.N) (ha : _) (hb : _) (i : Fin 256) (n : Fin 2048) :
    k0_pay5 (k0_pay3 (iblk m c 0 t : Vec Ideal S256x512 .f32) (iblk m c 1 t : Vec Ideal S512x1024 .bf16) (iblk m c 2 t : Vec Ideal S1x1024 .f32)
        (View.ld (iblk m c 13 t : Vec Ideal S1x2048x2048 .bf16) (Rect.unit ![0, 0, 0] ![1, 256, 2048] ha)))
      (k0_pay4 (iblk m c 0 t : Vec Ideal S256x512 .f32) (iblk m c 1 t : Vec Ideal S512x1024 .bf16) (iblk m c 2 t : Vec Ideal S1x1024 .f32))
      (View.ld (iblk m c 13 t : Vec Ideal S1x2048x2048 .bf16) (Rect.unit ![0, 256, 0] ![1, 256, 2048] hb)) (ix2 i n)
      = part (AR m c) (rw' t i) n 0 + part (AR m c) (rw' t i) n 256 := by
  rw [pay5_apply]
  unfold part
  rw [dif_pos (by omega), dif_pos (by omega)]
  refine congrArg₂ _ (Finset.sum_congr rfl fun q _ => ?_) (Finset.sum_congr rfl fun q _ => ?_)
  · rw [ldW _ 0 ha (by omega)]
    refine congrArg₂ _ (glu_eq m c t i _ _ ?_) (iblk13_eq m c t _ n)
    show 0 + q.val = q.val
    omega
  · rw [ldW _ 256 hb (by omega)]
    exact congrArg₂ _ (glu_eq m c t i _ _ rfl) (iblk13_eq m c t _ n)

/-- The block a point stores: its rows of the output. -/
theorem out_val (c : Dev nD) (t : Fin cfg0.N) (i : Fin 256) (n : Fin 2048) : outsAt0 m c t (ix2 i n) = outp (AR m c) (ix2 (rw' t i) n) := by
  unfold outsAt0
  frame_out
  rw [pay16_eq, pay18_eq, pay19_eq, pay23_eq, pay27_eq, pay28_eq, pay31_eq, pay1_eq]
  have e : ∑ k : Fin 2048, feat (AR m c) (rw' t i) k * (AR m c).w (ix3 0 k n) = _ :=
    sum_eight (fun k => feat (AR m c) (rw' t i) k * (AR m c).w (ix3 0 k n)) (part (AR m c) (rw' t i) n) (fun o ho => by unfold part; rw [dif_pos ho])
  have e8 : min ((rw' t i).val / 2048) 4 = min (t.val / 8) 4 := by
    show min ((t.val * 256 + i.val) / 2048) 4 = _
    omega
  show _ = (AR m c).x (ix2 ⟨(rw' t i).val, _⟩ n) + (AR m c).md (ix3 ⟨min ((rw' t i).val / 2048) 4, _⟩ 0 ⟨4096 + n.val, _⟩) * ∑ k : Fin 2048, feat (AR m c) (rw' t i) k * (AR m c).w (ix3 0 k n)
  rw [e]
  simp only [e8]
  refine congrArg₂ _ (iblk11_eq m c t i n) (congrArg₂ _ (iblk12_eq m c t n) ?_)
  refine (pair_ml m c t 512 640 1792 _ _ _ _ _ rfl (by omega) rfl rfl _ i n).trans (congrArg (· + _) ?_)
  refine (pair_rt m c t 512 640 1024 _ _ _ _ _ rfl (by omega) rfl rfl _ i n).trans (congrArg (· + _) ?_)
  refine (pair_ml m c t 256 384 1536 _ _ _ _ _ rfl (by omega) rfl rfl _ i n).trans (congrArg (· + _) ?_)
  refine (pair_rt m c t 256 384 768 _ _ _ _ _ rfl (by omega) rfl rfl _ i n).trans (congrArg (· + _) ?_)
  refine (pair_ml m c t 0 128 1280 _ _ _ _ _ rfl (by omega) rfl rfl _ i n).trans (congrArg (· + _) ?_)
  refine (pair_rt m c t 0 128 512 _ _ _ _ _ rfl (by omega) rfl rfl _ i n).trans (congrArg (· + _) ?_)
  exact pair_glu m c t _ _ i n

/-- The same at an index. -/
theorem out_val' (c : Dev nD) (t : Fin cfg0.N) (j : S256x2048.Idx) : outsAt0 m c t j = outp (AR m c) (ix2 (rw' t ⟨(j 0).val, (j 0).isLt⟩) ⟨(j 1).val, (j 1).isLt⟩) := by
  idx_vars j
  exact out_val m c t j0 j1

/-- The output array is the residual stream plus the gated projection. -/
theorem final (c : Dev nD) : (dats m 0 c).arrAt 14 cfg0.N = outp (AR m c) := by
  refine (dats m 0 c).arrAt_eq_of_covers 14 _ (by decide +kernel) fun t hf y => ?_
  have h1 := lt_of_lt_of_eq t.isLt N_0
  have y0 : (y 0).val < 256 := (y 0).isLt
  have y1 : (y 1).val < 2048 := (y 1).isLt
  have e : (((cfg0.win 14).blk t).view.emb y : S9216x2048.Idx) = ix2 (rw' t ⟨(y 0).val, y0⟩) ⟨(y 1).val, y1⟩ := by
    blk_ext [idx t]
  refine Eq.trans ?_ (congrArg (outp (AR m c)) e).symm
  blk_simp
  rw [after0_14]
  exact out_val' m c t y

end Cert.OutFIdeal.Hand

end
-- ==== Proof.OutFValue.lean ====
module

public import proofs.«01_k».proof.Defs
public import proofs.«01_k».proof.Proof.OutFBlk
public import proofs.«01_k».proof.Proof.Gen.OutFRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutFRefIdeal.Hand

open Cert.OutFRefIdeal Cert.OutFRefIdeal.Gen Cert.OutFRefIdeal.Read
open Cert.OutFIdeal.Hand (gluF gelu rtF mlF rtO mlO feat outp Args)

/-- The reference's rectified state-space rows. -/
theorem gelu_apply (x0 : Vec Ideal S9216x512 .f32) (r : Fin 9216) (k : Fin 512) :
    val_main_v16 (F := Ideal) x0 (ix2 r k) = gelu (x0 (ix2 ⟨r.val, by omega⟩ k)) := by
  unfold val_main_v16 val_main_v15 val_main_v14 val_main_v13 val_main_v12 val_main_v11 val_main_v10 val_main_v9 val_main_v8 val_main_v7 val_main_v6 val_main_v5 val_main_v4 val_main_cst val_main_cst_0 val_main_cst_1 val_main_cst_2
  pointwise
  unfold gelu
  rw [← mul_assoc, mul_comm (x0 _) (Ideal.ofBits FTy.f32 1056964608#32)]

/-- The reference's gated state-space rows. -/
theorem glu_apply (x0 : Vec Ideal S9216x512 .f32) (x1 : Vec Ideal S512x1024 .f32) (x2 : Vec Ideal S1024 .f32) (r : Fin 9216) (k : Fin 512) :
    val_main_v29 (F := Ideal) x0 x1 x2 (ix2 r k) = gluF (fun x => x0 (ix2 ⟨r.val, by omega⟩ x)) (fun x y => x1 (ix2 x y)) (fun x => x2 (ix1 x)) k := by
  unfold val_main_v29 val_main_v28 val_main_v27 val_main_v26 val_main_v25 val_main_v24 val_main_v23 val_main_v22 val_main_v21 val_main_v20 val_main_v19 val_main_v18 val_main_v17 val_main_cst_3 val_main_cst_4
  pointwise
  simp only [gelu_apply]
  unfold gluF
  rfl

/-- The reference's retention rows. -/
theorem rt_apply (x3 x4 : Vec Ideal S9216x768 .f32) (x7 : Vec Ideal S9216x7168 .f32) (x8 : Vec Ideal S768 .f32) (r : Fin 9216) (k : Fin 768) :
    val_main_v59 (F := Ideal) x3 x4 x7 x8 (ix2 r k) = rtO x3 x4 x7 x8 r (k.val / 128 * 128) (by omega) ⟨k.val % 128, by omega⟩ := by
  unfold val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v2 val_main_cst_5 val_main_cst_6 val_main_cst_7 val_main_cst_8 val_main_cst_9 val_main_cst_10 val_main_cst_11
  pointwise
  unfold rtO rtF
  have e : k.val / 128 * 128 + k.val % 128 = k.val := by omega
  simp only [e]

/-- The reference's mLSTM rows. -/
theorem ml_apply (x5 x6 : Vec Ideal S9216x768 .f32) (x7 : Vec Ideal S9216x7168 .f32) (x9 : Vec Ideal S768 .f32) (r : Fin 9216) (k : Fin 768) :
    val_main_v82 (F := Ideal) x5 x6 x7 x9 (ix2 r k) = mlO x5 x6 x7 x9 r (k.val / 128 * 128) (by omega) ⟨k.val % 128, by omega⟩ := by
  unfold val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v3 val_main_cst_12 val_main_cst_13 val_main_cst_14 val_main_cst_15 val_main_cst_16
  pointwise
  unfold mlO mlF
  have e : k.val / 128 * 128 + k.val % 128 = k.val := by omega
  simp only [e]

/-- The reference's concatenated branches. -/
theorem feat_apply (A : Args) (r : Fin 9216) (k : Fin 2048) :
    val_main_v83 (F := Ideal) A.s A.wg A.bg A.rf A.rb A.mf A.mb A.a A.rn A.mn (ix2 r k) = feat A r k := by
  unfold val_main_v83
  pointwise
  unfold feat
  by_cases h1 : k.val < 512
  · rw [dif_pos h1, dif_pos h1, glu_apply]
  · rw [dif_neg h1, dif_neg h1]
    by_cases h2 : k.val < 1280
    · rw [dif_pos (show k.val - 512 < 768 by omega), dif_pos h2, rt_apply]
    · rw [dif_neg (show ¬ (k.val - 512 < 768) by omega), dif_neg h2, ml_apply]
      exact Cert.OutFIdeal.Hand.mlO_congr _ _ _ _ _ _ _ _ _ _ _ (show (k.val - 512 - 768) / 128 * 128 = (k.val - 1280) / 128 * 128 by omega)
        (show (k.val - 512 - 768) % 128 = (k.val - 1280) % 128 by omega)

/-- The reference's result is the residual stream plus the gated projection. -/
theorem result_eq (A : Args) :
    val_main_v98 (F := Ideal) A.s A.wg A.bg A.rf A.rb A.mf A.mb A.a A.rn A.mn A.x A.md A.w = outp A := by
  funext i
  idx_vars i
  have key : outp A (ix2 i0 i1) = A.x (ix2 i0 i1) + A.md (ix3 ⟨min (i0.val / 2048) 4, by omega⟩ 0 ⟨4096 + i1.val, by omega⟩)
      * ∑ k : Fin 2048, feat A i0 k * A.w (ix3 0 k i1) := rfl
  rw [key]
  unfold val_main_v98 val_main_v97 val_main_v96 val_main_v95 val_main_v94 val_main_v93 val_main_v92 val_main_v91 val_main_v90 val_main_v89 val_main_v88 val_main_v87 val_main_v86 val_main_v85 val_main_v84 val_main_v1 val_main_v0
  pointwise
  split
  · have e : i0.val / 2048 * 2048 + i0.val % 2048 = i0.val := by omega
    have e2 : min (i0.val / 2048) 4 = i0.val / 2048 := by omega
    simp only [feat_apply, e, e2]
  · have e : 8192 + ((i0.val - 8192) / 256 * 256 + (i0.val - 8192) % 256) = i0.val := by omega
    have e2 : min (i0.val / 2048) 4 = 4 := by omega
    simp only [feat_apply, e, e2]
    rfl

end Cert.OutFRefIdeal.Hand

namespace Cert.Proof.OutFClaims

/-- Over the extended reals the output projection and its reference end with equal results. -/
theorem algebraic : Cert.algebraic_OutFIdeal_OutFRefIdeal := by
  pair_intro
  · run_from Cert.OutFIdeal.Value.run_blocks m g
  · run_from Cert.OutFRefIdeal.Value.run m' g'
    rw [Cert.OutFIdeal.Hand.final m c, Cert.OutFRefIdeal.Read.val_main_v98_eq]
    obtain ⟨h0, h1, h2, h3, h4, h5, h6, h7, h8, h9, h10, h11, h12⟩ := hagree c
    rw [h0, h1, h2, h3, h4, h5, h6, h7, h8, h9, h10, h11, h12]
    exact Cert.OutFRefIdeal.Hand.result_eq (Cert.OutFIdeal.Hand.AR m c)

end Cert.Proof.OutFClaims

end
-- ==== Proof.ModValue.lean ====
module

public import proofs.«01_k».proof.Defs
public import proofs.«01_k».proof.Proof.Gen.ModIdeal.Value
public import proofs.«01_k».proof.Proof.Gen.ModRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModIdeal.Hand

open Cert.ModIdeal Cert.ModIdeal.Gen Cert.ModIdeal.Value

variable (m : (ℓ : Loc nD τ sig) → Buf (Elt Ideal) ℓ)

/-- The sigmoid linear unit. -/
def silu (v : EReal) : EReal := v * Ideal.div 1 (1 + Ideal.exp (-v))

/-- The modulation rows of both layers: the product with the layer's weights and its bias. -/
def out (x : Vec Ideal S8x2048 .f32) (w : Vec Ideal S2x2048x12288 .f32) (b : Vec Ideal S2x12288 .f32) : Vec Ideal S2x8x12288 .f32 := fun i =>
  (∑ k : Fin 2048, silu (x (ix2 (i 1) k)) * w (ix3 (i 0) k (i 2))) + b (ix2 (i 0) (i 2))

/-- The block a point stores, at an element. -/
theorem pay1_apply (v0 : Vec Ideal S8x2048 .f32) (v1 : Vec Ideal S1x2048x512 .f32) (v2 : Vec Ideal S1x1x512 .f32) (j : S1x8x512.Idx) :
    k0_pay1 (F := Ideal) v0 v1 v2 j = (∑ k : Fin 2048, silu (v0 (ix2 (j 1) k)) * v1 (ix3 0 k (j 2))) + v2 (ix3 0 0 (j 2)) := by
  unfold k0_pay1
  idx_vars j
  pointwise
  unfold silu
  simp only [zero_sub]

/-- The block every window takes at a point. -/
theorem idx : ∀ t : Fin cfg0.N, win0_0.index t = ![0, 0] ∧ win0_1.index t = ![t.val / 24, 0, t.val % 24]
    ∧ win0_2.index t = ![t.val / 24, 0, t.val % 24] ∧ win0_3.index t = ![t.val / 24, 0, t.val % 24] :=
  (by decide +kernel : ∀ t : Fin grid0.N, _)

/-- The argument arrays as the region finds them. -/
abbrev X (c : Dev nD) : Vec Ideal S8x2048 .f32 := m ((c : Thread nD τ).loc main_arg0)
abbrev W (c : Dev nD) : Vec Ideal S2x2048x12288 .f32 := m ((c : Thread nD τ).loc main_arg1)
abbrev B (c : Dev nD) : Vec Ideal S2x12288 .f32 := m ((c : Thread nD τ).loc main_arg2)

/-- The layer and the column of the arrays that a point's block holds. -/
abbrev lay (t : Fin cfg0.N) : Fin 2 := ⟨t.val / 24, by have := lt_of_lt_of_eq t.isLt N_0; omega⟩
abbrev col (t : Fin cfg0.N) (k : Fin 512) : Fin 12288 := ⟨t.val % 24 * 512 + k.val, by omega⟩

/-- Input block 0: all the rows. -/
theorem iblk0_eq (c : Dev nD) (t : Fin cfg0.N) : (iblk m c 0 t : Vec Ideal S8x2048 .f32) = fun j => X m c (ix2 (j 0) (j 1)) := by
  funext j
  blk_ext [iblk, V, idx t]

/-- Input block 1: the columns of the layer's weights. -/
theorem iblk1_eq (c : Dev nD) (t : Fin cfg0.N) : (iblk m c 1 t : Vec Ideal S1x2048x512 .f32) = fun j => W m c (ix3 (lay t) (j 1) (col t (j 2))) := by
  funext j
  blk_ext [iblk, V, idx t]

/-- Input block 2: the columns of the layer's bias. -/
theorem iblk2_eq (c : Dev nD) (t : Fin cfg0.N) (k : Fin 512) : (iblk m c 2 t : Vec Ideal S1x1x512 .f32) (ix3 0 0 k) = B m c (ix2 (lay t) (col t k)) := by
  blk_simp [iblk, idx t]
  unfold_abbrev_sides
  after_results
  pointwise
  blk_ext [idx t]

/-- The output array is the modulation rows. -/
theorem final (c : Dev nD) : (dats m 0 c).arrAt 3 cfg0.N = out (X m c) (W m c) (B m c) := by
  refine (dats m 0 c).arrAt_eq_of_covers 3 _ (by decide +kernel) fun t hf y => ?_
  have h1 := lt_of_lt_of_eq t.isLt N_0
  have y0 : (y 0).val < 1 := (y 0).isLt
  have y1 : (y 1).val < 8 := (y 1).isLt
  have y2 : (y 2).val < 512 := (y 2).isLt
  have e : (((cfg0.win 3).blk t).view.emb y : S2x8x12288.Idx) = ix3 (lay t) ⟨(y 1).val, y1⟩ (col t ⟨(y 2).val, y2⟩) := by
    blk_ext [idx t]
  refine Eq.trans ?_ (congrArg (out (X m c) (W m c) (B m c)) e).symm
  blk_simp
  rw [after0_3]
  frame_out
  refine (pay1_apply _ _ _ y).trans ?_
  rw [iblk0_eq, iblk1_eq]
  exact congrArg₂ _ rfl (iblk2_eq m c t _)

end Cert.ModIdeal.Hand

namespace Cert.ModRefIdeal.Hand

open Cert.ModRefIdeal Cert.ModRefIdeal.Gen Cert.ModRefIdeal.Read

/-- The reference's result. -/
theorem result_eq (x0 : Vec Ideal S8x2048 .f32) (x1 : Vec Ideal S2x2048x12288 .f32) (x2 : Vec Ideal S2x12288 .f32) :
    val_main_v25 (F := Ideal) x0 x1 x2 = Cert.ModIdeal.Hand.out x0 x1 x2 := by
  funext i
  idx_vars i
  have key : Cert.ModIdeal.Hand.out x0 x1 x2 (ix3 i0 i1 i2) = (∑ k : Fin 2048, Cert.ModIdeal.Hand.silu (x0 (ix2 i1 k)) * x1 (ix3 i0 k i2)) + x2 (ix2 i0 i2) := rfl
  rw [key]
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 Cert.ModIdeal.Hand.silu
  pointwise
  split
  · obtain rfl : i0 = 0 := Fin.ext (by show i0.val = 0; omega)
    rfl
  · obtain rfl : i0 = 1 := Fin.ext (by show i0.val = 1; omega)
    rfl

end Cert.ModRefIdeal.Hand

namespace Cert.Proof.ModClaims

/-- Over the extended reals the modulation and its reference end with equal results. -/
theorem algebraic : Cert.algebraic_ModIdeal_ModRefIdeal := by
  pair_intro
  · run_from Cert.ModIdeal.Value.run_blocks m g
  · run_from Cert.ModRefIdeal.Value.run m' g'
    rw [Cert.ModIdeal.Hand.final m c, Cert.ModRefIdeal.Read.val_main_v25_eq]
    rw [Cert.ModRefIdeal.Hand.result_eq]
    obtain ⟨h0, h1, h2⟩ := hagree c
    rw [h2]

end Cert.Proof.ModClaims

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.MlpIdeal.Value
public import proofs.«01_k».proof.Proof.Gen.InIdeal.Value
public import proofs.«01_k».proof.Proof.Gen.MlpRefIdeal.Run
public import proofs.«01_k».proof.Proof.Gen.InRefIdeal.Run
public import proofs.«01_k».proof.Proof.Gen.InRefIdeal.Read
public import proofs.«01_k».proof.Proof.Gen.MlpRefIdeal.Read
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetIdeal.Value
public import proofs.«01_k».proof.Proof.Gen.RetRefIdeal.Run
public import proofs.«01_k».proof.Proof.Gen.RetRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.Gen.MlpF
public import proofs.«01_k».proof.Proof.Gen.MlpF.Skeleton
public import proofs.«01_k».proof.Proof.Gen.MlpF.Launch
public import proofs.«01_k».proof.Proof.Gen.MlpF.Points
public import proofs.«01_k».proof.Proof.Gen.MlpF.Frame
public import proofs.«01_k».proof.Proof.Gen.MlpFIdeal
public import proofs.«01_k».proof.Proof.Gen.MlpFIdeal.Skeleton
public import proofs.«01_k».proof.Proof.Gen.MlpFIdeal.Launch
public import proofs.«01_k».proof.Proof.Gen.MlpFIdeal.Points
public import proofs.«01_k».proof.Proof.Gen.MlpFIdeal.Frame
public import proofs.«01_k».proof.Proof.Gen.MlpFRefIdeal
public import proofs.«01_k».proof.Proof.Gen.MlpFIdeal.Value
public import proofs.«01_k».proof.Proof.Gen.MlpFRefIdeal.Run
public import proofs.«01_k».proof.Proof.Gen.MlpFRefIdeal.Read
public import proofs.«01_k».proof.Proof.Gen.OutF
public import proofs.«01_k».proof.Proof.Gen.OutF.Skeleton
public import proofs.«01_k».proof.Proof.Gen.OutF.Launch
public import proofs.«01_k».proof.Proof.Gen.OutF.Points
public import proofs.«01_k».proof.Proof.Gen.OutF.Frame
public import proofs.«01_k».proof.Proof.Gen.OutFIdeal
public import proofs.«01_k».proof.Proof.Gen.OutFIdeal.Skeleton
public import proofs.«01_k».proof.Proof.Gen.OutFIdeal.Launch
public import proofs.«01_k».proof.Proof.Gen.OutFIdeal.Points
public import proofs.«01_k».proof.Proof.Gen.OutFIdeal.Frame
public import proofs.«01_k».proof.Proof.Gen.OutFRefIdeal
public import proofs.«01_k».proof.Proof.Gen.OutFIdeal.Value
public import proofs.«01_k».proof.Proof.Gen.OutFRefIdeal.Run
public import proofs.«01_k».proof.Proof.Gen.OutFRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModIdeal.Value
public import proofs.«01_k».proof.Proof.Gen.ModRefIdeal.Run
public import proofs.«01_k».proof.Proof.Gen.ModRefIdeal.Read
public import proofs.«01_k».proof.Proof.RetValue
public import proofs.«01_k».proof.Proof.MlpValue
public import proofs.«01_k».proof.Proof.InValue
public import proofs.«01_k».proof.Proof.OutValue
public import proofs.«01_k».proof.Proof.MlpFValue
public import proofs.«01_k».proof.Proof.OutFValue
public import proofs.«01_k».proof.Proof.ModValue
public import Idealize.ShloMosaic.Adequacy
public import Idealize.ShloMosaic.Init

@[expose] public section

noncomputable section

namespace Cert.Proof

open Idealize.ShloMosaic Idealize.SL.Sem

/-- A run of the retention's reference ends quiescent. -/
theorem quiescent_RetRefIdeal : Cert.quiescent_RetRefIdeal := fun m g _ =>
  (θ_run Cert.RetRefIdeal.defs _ _).mono (fun r h => ⟨fun c => (h c).2.2, sem_eq_zero_of_no_sems (by decide) r.2⟩)
    (Cert.RetRefIdeal.Value.run m g)

/-- A run of the feed-forward block's reference ends quiescent. -/
theorem quiescent_MlpRefIdeal : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run m g)

/-- A run of the input projection's reference ends quiescent. -/
theorem quiescent_InRefIdeal : Cert.quiescent_InRefIdeal := fun m g _ =>
  (θ_run Cert.InRefIdeal.defs _ _).mono (fun r h => ⟨fun c => (h c).2, sem_eq_zero_of_no_sems (by decide) r.2⟩)
    (Cert.InRefIdeal.Value.run m g)

/-- A run of the output projection's reference ends quiescent. -/
theorem quiescent_OutRefIdeal : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)

/-- A run of the reference of the first layer's feed-forward block ends quiescent. -/
theorem quiescent_MlpFRefIdeal : Cert.quiescent_MlpFRefIdeal := fun m g _ =>
  (θ_run Cert.MlpFRefIdeal.defs _ _).mono (fun r h => ⟨fun c => (h c).2, sem_eq_zero_of_no_sems (by decide) r.2⟩)
    (Cert.MlpFRefIdeal.Value.run m g)

/-- A run of the reference of the first layer's output projection ends quiescent. -/
theorem quiescent_OutFRefIdeal : Cert.quiescent_OutFRefIdeal := fun m g _ =>
  (θ_run Cert.OutFRefIdeal.defs _ _).mono (fun r h => ⟨fun c => (h c).2, sem_eq_zero_of_no_sems (by decide) r.2⟩)
    (Cert.OutFRefIdeal.Value.run m g)

/-- A run of the modulation's reference ends quiescent. -/
theorem quiescent_ModRefIdeal : Cert.quiescent_ModRefIdeal := fun m g _ =>
  (θ_run Cert.ModRefIdeal.defs _ _).mono (fun r h => ⟨fun c => (h c).2, sem_eq_zero_of_no_sems (by decide) r.2⟩)
    (Cert.ModRefIdeal.Value.run m g)

/-- Every claim of the certificate. -/
theorem claim : Cert.Claim := ⟨Cert.Ret.Gen.facts, Cert.RetIdeal.Gen.facts, Cert.RetRefIdeal.Gen.facts,
  Cert.Mlp.Gen.facts, Cert.MlpIdeal.Gen.facts, Cert.MlpRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.MlpF.Gen.facts, Cert.MlpFIdeal.Gen.facts, Cert.MlpFRefIdeal.Gen.facts,
  Cert.OutF.Gen.facts, Cert.OutFIdeal.Gen.facts, Cert.OutFRefIdeal.Gen.facts,
  Cert.Mod.Gen.facts, Cert.ModIdeal.Gen.facts, Cert.ModRefIdeal.Gen.facts,
  fun m g _ => Cert.Ret.Gen.frame m g, fun m g _ => Cert.RetIdeal.Gen.frame m g, quiescent_RetRefIdeal,
  fun m g _ => Cert.Mlp.Gen.frame m g, fun m g _ => Cert.MlpIdeal.Gen.frame m g, quiescent_MlpRefIdeal,
  fun m g _ => Cert.In.Gen.frame m g, fun m g _ => Cert.InIdeal.Gen.frame m g, quiescent_InRefIdeal,
  fun m g _ => Cert.Out.Gen.frame m g, fun m g _ => Cert.OutIdeal.Gen.frame m g, quiescent_OutRefIdeal,
  fun m g _ => Cert.MlpF.Gen.frame m g, fun m g _ => Cert.MlpFIdeal.Gen.frame m g, quiescent_MlpFRefIdeal,
  fun m g _ => Cert.OutF.Gen.frame m g, fun m g _ => Cert.OutFIdeal.Gen.frame m g, quiescent_OutFRefIdeal,
  fun m g _ => Cert.Mod.Gen.frame m g, fun m g _ => Cert.ModIdeal.Gen.frame m g, quiescent_ModRefIdeal,
  trivial, RetClaims.algebraic, trivial, MlpClaims.algebraic, trivial, InClaims.algebraic, trivial, OutClaims.algebraic,
  trivial, MlpFClaims.algebraic, trivial, OutFClaims.algebraic,
  trivial, ModClaims.algebraic⟩

end Cert.Proof

end
